-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)) (v3 : (c : Dev Cert.Kernel2Ideal.nD) → Buf (Elt Ideal) ((c.tc : Thread Cert.Kernel2Ideal.nD Cert.Kernel2Ideal.τ).loc Cert.Kernel2Ideal.main_v15_3)) (v4 : (c : Dev Cert.Kernel2Ideal.nD) → Buf (Elt Ideal) ((c.tc : Thread Cert.Kernel2Ideal.nD Cert.Kernel2Ideal.τ).loc Cert.Kernel2Ideal.main_v15_4)) (v5 : (c : Dev Cert.Kernel2Ideal.nD) → Buf (Elt Ideal) ((c.tc : Thread Cert.Kernel2Ideal.nD Cert.Kernel2Ideal.τ).loc Cert.Kernel2Ideal.main_v15_5)) (v6 : (c : Dev Cert.Kernel2Ideal.nD) → Buf (Elt Ideal) ((c.tc : Thread Cert.Kernel2Ideal.nD Cert.Kernel2Ideal.τ).loc Cert.Kernel2Ideal.main_v15_6)) (v7 : (c : Dev Cert.Kernel2Ideal.nD) → Buf (Elt Ideal) ((c.tc : Thread Cert.Kernel2Ideal.nD Cert.Kernel2Ideal.τ).loc Cert.Kernel2Ideal.main_v15_7)) (v8 : (c : Dev Cert.Kernel2Ideal.nD) → Buf (Elt Ideal) ((c.tc : Thread Cert.Kernel2Ideal.nD Cert.Kernel2Ideal.τ).loc Cert.Kernel2Ideal.main_v15_8)) (v9 : (c : Dev Cert.Kernel2Ideal.nD) → Buf (Elt Ideal) ((c.tc : Thread Cert.Kernel2Ideal.nD Cert.Kernel2Ideal.τ).loc Cert.Kernel2Ideal.main_v15_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_v15_3) = v3 c
          ∧ r.2.mem ((c.tc : Thread Cert.Kernel2Ideal.nD Cert.Kernel2Ideal.τ).loc Cert.Kernel2Ideal.main_v15_4) = v4 c
          ∧ r.2.mem ((c.tc : Thread Cert.Kernel2Ideal.nD Cert.Kernel2Ideal.τ).loc Cert.Kernel2Ideal.main_v15_5) = v5 c
          ∧ r.2.mem ((c.tc : Thread Cert.Kernel2Ideal.nD Cert.Kernel2Ideal.τ).loc Cert.Kernel2Ideal.main_v15_6) = v6 c
          ∧ r.2.mem ((c.tc : Thread Cert.Kernel2Ideal.nD Cert.Kernel2Ideal.τ).loc Cert.Kernel2Ideal.main_v15_7) = v7 c
          ∧ r.2.mem ((c.tc : Thread Cert.Kernel2Ideal.nD Cert.Kernel2Ideal.τ).loc Cert.Kernel2Ideal.main_v15_8) = v8 c
          ∧ r.2.mem ((c.tc : Thread Cert.Kernel2Ideal.nD Cert.Kernel2Ideal.τ).loc Cert.Kernel2Ideal.main_v15_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v177) = v0 c
          ∧ r.2.mem ((c.tc : Thread Cert.Reference2Ideal.nD Cert.Reference2Ideal.τ).loc Cert.Reference2Ideal.main_v171) = v1 c
          ∧ r.2.mem ((c.tc : Thread Cert.Reference2Ideal.nD Cert.Reference2Ideal.τ).loc Cert.Reference2Ideal.main_v185) = v2 c
          ∧ r.2.mem ((c.tc : Thread Cert.Reference2Ideal.nD Cert.Reference2Ideal.τ).loc Cert.Reference2Ideal.main_v162) = v3 c
          ∧ r.2.mem ((c.tc : Thread Cert.Reference2Ideal.nD Cert.Reference2Ideal.τ).loc Cert.Reference2Ideal.main_v186) = v4 c
          ∧ r.2.mem ((c.tc : Thread Cert.Reference2Ideal.nD Cert.Reference2Ideal.τ).loc Cert.Reference2Ideal.main_v188) = v5 c
          ∧ r.2.mem ((c.tc : Thread Cert.Reference2Ideal.nD Cert.Reference2Ideal.τ).loc Cert.Reference2Ideal.main_v189) = v6 c
          ∧ r.2.mem ((c.tc : Thread Cert.Reference2Ideal.nD Cert.Reference2Ideal.τ).loc Cert.Reference2Ideal.main_v190) = v7 c
          ∧ r.2.mem ((c.tc : Thread Cert.Reference2Ideal.nD Cert.Reference2Ideal.τ).loc Cert.Reference2Ideal.main_v192) = v8 c
          ∧ r.2.mem ((c.tc : Thread Cert.Reference2Ideal.nD Cert.Reference2Ideal.τ).loc Cert.Reference2Ideal.main_v183) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v408)) (v1 : (c : Dev Cert.Kernel3Ideal.nD) → Buf (Elt Ideal) ((c.tc : Thread Cert.Kernel3Ideal.nD Cert.Kernel3Ideal.τ).loc Cert.Kernel3Ideal.main_v409)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v408) = v0 c
          ∧ r.2.mem ((c.tc : Thread Cert.Kernel3Ideal.nD Cert.Kernel3Ideal.τ).loc Cert.Kernel3Ideal.main_v409) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_v79) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)) (v3 : (c : Dev Cert.Kernel5Ideal.nD) → Buf (Elt Ideal) ((c.tc : Thread Cert.Kernel5Ideal.nD Cert.Kernel5Ideal.τ).loc Cert.Kernel5Ideal.main_v1_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_v1_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v31) = v1 c
          ∧ r.2.mem ((c.tc : Thread Cert.Reference5Ideal.nD Cert.Reference5Ideal.τ).loc Cert.Reference5Ideal.main_v12) = v2 c
          ∧ r.2.mem ((c.tc : Thread Cert.Reference5Ideal.nD Cert.Reference5Ideal.τ).loc Cert.Reference5Ideal.main_v18) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S4096x5120 : Shape := ⟨2, ![4096, 5120]⟩
abbrev S4096x1024 : Shape := ⟨2, ![4096, 1024]⟩
abbrev S1024x5120 : Shape := ⟨2, ![1024, 5120]⟩
abbrev S1x1024 : Shape := ⟨2, ![1, 1024]⟩
abbrev S8x128 : Shape := ⟨2, ![8, 128]⟩
abbrev S256x5120 : Shape := ⟨2, ![256, 5120]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S1024 : Shape := ⟨1, ![1024]⟩
abbrev S1x128 : Shape := ⟨2, ![1, 128]⟩

abbrev nBuf : Space → Nat
  | .hbm => 7
  | .vmem => 11
  | .smem => 0
  | _ => 0

abbrev bufTy : (tb : Table) → Fin (tcTables nBuf tb) → BufTy
  | .hbm, ⟨0, _⟩ => ⟨S4096x5120, .bf16⟩
  | .hbm, ⟨1, _⟩ => ⟨S4096x1024, .f32⟩
  | .hbm, ⟨2, _⟩ => ⟨S4096x1024, .f32⟩
  | .hbm, ⟨3, _⟩ => ⟨S1024x5120, .bf16⟩
  | .hbm, ⟨4, _⟩ => ⟨S1x1024, .f32⟩
  | .hbm, ⟨5, _⟩ => ⟨S4096x1024, .f32⟩
  | .hbm, ⟨6, _⟩ => ⟨S8x128, .f32⟩
  | .local _ .vmem, ⟨0, _⟩ => ⟨S256x5120, .bf16⟩
  | .local _ .vmem, ⟨1, _⟩ => ⟨S256x5120, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x5120, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S8x128, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x5120 : Shape := ⟨2, ![4096, 5120]⟩
abbrev S4096x1024 : Shape := ⟨2, ![4096, 1024]⟩
abbrev S1024x5120 : Shape := ⟨2, ![1024, 5120]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 58
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S4096x1024, .f32⟩
  | .hbm, ⟨2, _⟩ => ⟨S4096x1024, .f32⟩
  | .hbm, ⟨3, _⟩ => ⟨S1024x5120, .bf16⟩
  | .hbm, ⟨4, _⟩ => ⟨S1x1024, .f32⟩
  | .hbm, ⟨5, _⟩ => ⟨S1024x5120, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x5120, .f32⟩
  | .hbm, ⟨28, _⟩ => ⟨S4096x5120, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S8x128, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel2.lean ====
abbrev S4096x1024 : Shape := ⟨2, ![4096, 1024]⟩
abbrev S4096x512 : Shape := ⟨2, ![4096, 512]⟩
abbrev S1x1024 : Shape := ⟨2, ![1, 1024]⟩
abbrev S1024x5120 : Shape := ⟨2, ![1024, 5120]⟩
abbrev S4096x256 : Shape := ⟨2, ![4096, 256]⟩
abbrev S1024x1024 : Shape := ⟨2, ![1024, 1024]⟩
abbrev S512x1024 : Shape := ⟨2, ![512, 1024]⟩
abbrev S256x1024 : Shape := ⟨2, ![256, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S8x128x1024 : Shape := ⟨3, ![8, 128, 1024]⟩
abbrev S8x512x128 : Shape := ⟨3, ![8, 512, 128]⟩
abbrev S8x256x128 : Shape := ⟨3, ![8, 256, 128]⟩
abbrev S24x128 : Shape := ⟨2, ![24, 128]⟩
abbrev S256x512 : Shape := ⟨2, ![256, 512]⟩
abbrev S256x256 : Shape := ⟨2, ![256, 256]⟩
abbrev S256x2048 : Shape := ⟨2, ![256, 2048]⟩
abbrev S20 : Shape := ⟨1, ![20]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x128 : Shape := ⟨2, ![1, 128]⟩
abbrev S1x128x1024 : Shape := ⟨3, ![1, 128, 1024]⟩
abbrev S128x1024 : Shape := ⟨2, ![128, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩

abbrev nBuf : Space → Nat
  | .hbm => 42
  | .vmem => 35
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .f32⟩
  | .hbm, ⟨3, _⟩ => ⟨S1x1024, .f32⟩
  | .hbm, ⟨4, _⟩ => ⟨S1024x5120, .bf16⟩
  | .hbm, ⟨5, _⟩ => ⟨S4096x256, .f32⟩
  | .hbm, ⟨6, _⟩ => ⟨S4096x1024, .f32⟩
  | .hbm, ⟨7, _⟩ => ⟨S1024x1024, .bf16⟩
  | .hbm, ⟨8, _⟩ => ⟨S512x1024, .bf16⟩
  | .hbm, ⟨9, _⟩ => ⟨S1024x1024, .bf16⟩
  | .hbm, ⟨10, _⟩ => ⟨S1024x1024, .bf16⟩
  | .hbm, ⟨11, _⟩ => ⟨S256x1024, .bf16⟩
  | .hbm, ⟨12, _⟩ => ⟨S1x1024, .f32⟩
  | .hbm, ⟨13, _⟩ => ⟨S1x1024, .f32⟩
  | .hbm, ⟨14, _⟩ => ⟨S1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S4096x1024, .f32⟩
  | .hbm, ⟨33, _⟩ => ⟨S4096x512, .f32⟩
  | .hbm, ⟨34, _⟩ => ⟨S4096x2048, .bf16⟩
  | .hbm, ⟨35, _⟩ => ⟨S4096x1024, .f32⟩
  | .hbm, ⟨36, _⟩ => ⟨S8x128x1024, .f32⟩
  | .hbm, ⟨37, _⟩ => ⟨S8x512x128, .f32⟩
  | .hbm, ⟨38, _⟩ => ⟨S8x128x1024, .f32⟩
  | .hbm, ⟨39, _⟩ => ⟨S8x128x1024, .f32⟩
  | .hbm, ⟨40, _⟩ => ⟨S8x256x128, .f32⟩
  | .hbm, ⟨41, _⟩ => ⟨S24x128, .f32⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x256, .f32⟩
  | .local _ .vmem, ⟨11, _⟩ => ⟨S256x256, .f32⟩
  | .local _ .vmem, ⟨12, _⟩ => ⟨S256x1024, .f32⟩
  | .local _ .vmem, ⟨13, _⟩ => ⟨S256x1024, .f32⟩
  | .local _ .vmem, ⟨14, _⟩ => ⟨S1024x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024x1024, .bf16⟩
  | .local _ .vmem, ⟨18, _⟩ => ⟨S256x1024, .bf16⟩
  | .local _ .vmem, ⟨19, _⟩ => ⟨S1x1024, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S256x512, .f32⟩
  | .local _ .vmem, ⟨24, _⟩ => ⟨S256x512, .f32⟩
  | .local _ .vmem, ⟨25, _⟩ => ⟨S256x2048, .bf16⟩
  | .local _ .vmem, ⟨26, _⟩ => ⟨S256x2048, .bf16⟩
  | .local _ .vmem, ⟨27, _⟩ => ⟨S256x1024, .f32⟩
  | .local _ .vmem, ⟨28, _⟩ => ⟨S256x1024, .f32⟩
  | .local _ .vmem, ⟨29, _⟩ => ⟨S24x128, .f32⟩
  | .local _ .vmem, ⟨30, _⟩ => ⟨S1024x1024, .f32⟩
  | .local _ .vmem, ⟨31, _⟩ => ⟨S512x1024, .f32⟩
  | .local _ .vmem, ⟨32, _⟩ => ⟨S1024x1024, .f32⟩
  | .local _ .vmem, ⟨33, _⟩ => ⟨S1024x1024, .f32⟩
  | .local _ .vmem, ⟨34, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev main_v15_2 : Ref sig .tc := ⟨.hbm, 34, rfl⟩
abbrev main_v15_3 : Ref sig .tc := ⟨.hbm, 35, rfl⟩
abbrev main_v15_4 : Ref sig .tc := ⟨.hbm, 36, rfl⟩
abbrev main_v15_5 : Ref sig .tc := ⟨.hbm, 37, rfl⟩
abbrev main_v15_6 : Ref sig .tc := ⟨.hbm, 38, rfl⟩
abbrev main_v15_7 : Ref sig .tc := ⟨.hbm, 39, rfl⟩
abbrev main_v15_8 : Ref sig .tc := ⟨.hbm, 40, rfl⟩
abbrev main_v15_9 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_4 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S24x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference2Ideal.lean ====
abbrev S4096x1024 : Shape := ⟨2, ![4096, 1024]⟩
abbrev S4096x512 : Shape := ⟨2, ![4096, 512]⟩
abbrev S1x1024 : Shape := ⟨2, ![1, 1024]⟩
abbrev S1024x5120 : Shape := ⟨2, ![1024, 5120]⟩
abbrev S4096x256 : Shape := ⟨2, ![4096, 256]⟩
abbrev S1024x1024 : Shape := ⟨2, ![1024, 1024]⟩
abbrev S512x1024 : Shape := ⟨2, ![512, 1024]⟩
abbrev S256x1024 : Shape := ⟨2, ![256, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2048 : Shape := ⟨2, ![1024, 2048]⟩
abbrev S4096x2048 : Shape := ⟨2, ![4096, 2048]⟩
abbrev S1024x256 : Shape := ⟨2, ![1024, 256]⟩
abbrev S1024x512 : Shape := ⟨2, ![1024, 512]⟩
abbrev S8x128 : Shape := ⟨2, ![8, 128]⟩
abbrev S1x128 : Shape := ⟨2, ![1, 128]⟩
abbrev S7x128 : Shape := ⟨2, ![7, 128]⟩
abbrev S24x128 : Shape := ⟨2, ![24, 128]⟩
abbrev S8x128x1024 : Shape := ⟨3, ![8, 128, 1024]⟩
abbrev S512x8x128 : Shape := ⟨3, ![512, 8, 128]⟩
abbrev S8x512x128 : Shape := ⟨3, ![8, 512, 128]⟩
abbrev S256x8x128 : Shape := ⟨3, ![256, 8, 128]⟩
abbrev S8x256x128 : Shape := ⟨3, ![8, 256, 128]⟩

abbrev nBuf : Space → Nat
  | .hbm => 246
  | .vmem => 0
  | .smem => 0
  | _ => 0

abbrev hbmTy0_0 (i : Nat) : BufTy := match i % 128 with
  | 0 => ⟨S4096x1024, .bf16⟩
  | 1 => ⟨S4096x512, .bf16⟩
  | 2 => ⟨S4096x1024, .f32⟩
  | 3 => ⟨S1x1024, .f32⟩
  | 4 => ⟨S1024x5120, .bf16⟩
  | 5 => ⟨S4096x256, .f32⟩
  | 6 => ⟨S4096x1024, .f32⟩
  | 7 => ⟨S1024x1024, .bf16⟩
  | 8 => ⟨S512x1024, .bf16⟩
  | 9 => ⟨S1024x1024, .bf16⟩
  | 10 => ⟨S1024x1024, .bf16⟩
  | 11 => ⟨S256x1024, .bf16⟩
  | 12 => ⟨S1x1024, .f32⟩
  | 13 => ⟨S1x1024, .f32⟩
  | 14 => ⟨S1024, .f32⟩
  | 15 => ⟨S4096x1024, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1, .f32⟩
  | 26 => ⟨S4096x1024, .f32⟩
  | 27 => ⟨S4096x1024, .f32⟩
  | 28 => ⟨S1x1024, .f32⟩
  | 29 => ⟨S4096x1024, .f32⟩
  | 30 => ⟨S4096x1024, .f32⟩
  | 31 => ⟨S1024x5120, .f32⟩
  | 32 => ⟨S1024x2048, .f32⟩
  | 33 => ⟨S4096x2048, .f32⟩
  | 34 => ⟨S1024x1024, .f32⟩
  | 35 => ⟨S512x1024, .f32⟩
  | 36 => ⟨S1024x1024, .f32⟩
  | 37 => ⟨S1024x1024, .f32⟩
  | 38 => ⟨S256x1024, .f32⟩
  | 39 => ⟨S4096x1024, .f32⟩
  | 40 => ⟨S4096x512, .f32⟩
  | 41 => ⟨S4096x1024, .f32⟩
  | 42 => ⟨S4096x1024, .f32⟩
  | 43 => ⟨S4096x1024, .f32⟩
  | 44 => ⟨S4096x1024, .f32⟩
  | 45 => ⟨S_, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S_, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S1024, .f32⟩
  | 75 => ⟨S4096x1024, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096x1, .f32⟩
  | 84 => ⟨S4096x1, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x1024, .f32⟩
  | 91 => ⟨S4096x1024, .f32⟩
  | 92 => ⟨S1x1024, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S_, .f32⟩
  | 99 => ⟨S4096x1024, .f32⟩
  | 100 => ⟨S4096x1024, .f32⟩
  | 101 => ⟨S_, .f32⟩
  | 102 => ⟨S4096x1024, .f32⟩
  | 103 => ⟨S4096x1024, .f32⟩
  | 104 => ⟨S_, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S1024, .f32⟩
  | 112 => ⟨S4096x1024, .f32⟩
  | 113 => ⟨S_, .f32⟩
  | 114 => ⟨S4096, .f32⟩
  | 115 => ⟨S4096x1, .f32⟩
  | 116 => ⟨S_, .f32⟩
  | 117 => ⟨S4096x1, .f32⟩
  | 118 => ⟨S4096x1, .f32⟩
  | 119 => ⟨S_, .f32⟩
  | 120 => ⟨S4096x1, .f32⟩
  | 121 => ⟨S4096x1, .f32⟩
  | 122 => ⟨S4096x1, .f32⟩
  | 123 => ⟨S4096x1, .f32⟩
  | 124 => ⟨S_, .f32⟩
  | 125 => ⟨S4096x1, .f32⟩
  | 126 => ⟨S4096x1, .f32⟩
  | 127 => ⟨S4096x1024, .f32⟩
  | _ => ⟨S4096x1024, .bf16⟩

abbrev hbmTy0_1 (i : Nat) : BufTy := match i % 128 with
  | 0 => ⟨S4096x1024, .f32⟩
  | 1 => ⟨S1x1024, .f32⟩
  | 2 => ⟨S4096x1024, .f32⟩
  | 3 => ⟨S4096x1024, .f32⟩
  | 4 => ⟨S4096x1024, .f32⟩
  | 5 => ⟨S4096x1024, .f32⟩
  | 6 => ⟨S_, .f32⟩
  | 7 => ⟨S4096x1024, .f32⟩
  | 8 => ⟨S4096x1024, .f32⟩
  | 9 => ⟨S_, .f32⟩
  | 10 => ⟨S4096, .f32⟩
  | 11 => ⟨S_, .f32⟩
  | 12 => ⟨S4096, .f32⟩
  | 13 => ⟨S4096, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S4096, .f32⟩
  | 22 => ⟨S_, .f32⟩
  | 23 => ⟨S4096, .f32⟩
  | 24 => ⟨S4096, .f32⟩
  | 25 => ⟨S4096x1024, .f32⟩
  | 26 => ⟨S4096x1024, .f32⟩
  | 27 => ⟨S4096x1024, .f32⟩
  | 28 => ⟨S_, .f32⟩
  | 29 => ⟨S1024, .f32⟩
  | 30 => ⟨S1x1024, .f32⟩
  | 31 => ⟨S4096x1024, .f32⟩
  | 32 => ⟨S4096x1024, .f32⟩
  | 33 => ⟨S_, .f32⟩
  | 34 => ⟨S1024, .f32⟩
  | 35 => ⟨S4096x1024, .f32⟩
  | 36 => ⟨S_, .f32⟩
  | 37 => ⟨S4096, .f32⟩
  | 38 => ⟨S4096x1, .f32⟩
  | 39 => ⟨S4096x1024, .f32⟩
  | 40 => ⟨S4096x1024, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S4096, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S1x1024, .f32⟩
  | 53 => ⟨S4096x1024, .f32⟩
  | 54 => ⟨S4096x1024, .f32⟩
  | 55 => ⟨S1024x256, .f32⟩
  | 56 => ⟨S256x1024, .f32⟩
  | 57 => ⟨S4096x1024, .f32⟩
  | 58 => ⟨S1024x1024, .f32⟩
  | 59 => ⟨S1024x1024, .f32⟩
  | 60 => ⟨S4096x1024, .f32⟩
  | 61 => ⟨S4096x1024, .f32⟩
  | 62 => ⟨S_, .f32⟩
  | 63 => ⟨S1024, .f32⟩
  | 64 => ⟨S1x1024, .f32⟩
  | 65 => ⟨S4096x1024, .f32⟩
  | 66 => ⟨S4096x1024, .f32⟩
  | 67 => ⟨S_, .f32⟩
  | 68 => ⟨S1024, .f32⟩
  | 69 => ⟨S4096x1024, .f32⟩
  | 70 => ⟨S_, .f32⟩
  | 71 => ⟨S4096, .f32⟩
  | 72 => ⟨S4096x1, .f32⟩
  | 73 => ⟨S4096x1024, .f32⟩
  | 74 => ⟨S4096x1024, .f32⟩
  | 75 => ⟨S4096x1024, .f32⟩
  | 76 => ⟨S4096x1, .f32⟩
  | 77 => ⟨S_, .f32⟩
  | 78 => ⟨S4096x1, .f32⟩
  | 79 => ⟨S4096x1, .f32⟩
  | 80 => ⟨S_, .f32⟩
  | 81 => ⟨S4096, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S1x1024, .f32⟩
  | 88 => ⟨S1024x1024, .f32⟩
  | 89 => ⟨S1024x1024, .f32⟩
  | 90 => ⟨S4096x1024, .f32⟩
  | 91 => ⟨S4096x1024, .f32⟩
  | 92 => ⟨S4096x1024, .f32⟩
  | 93 => ⟨S1024x512, .f32⟩
  | 94 => ⟨S512x1024, .f32⟩
  | 95 => ⟨S4096x512, .f32⟩
  | 96 => ⟨S4096x1024, .f32⟩
  | 97 => ⟨S4096x1024, .f32⟩
  | 98 => ⟨S4096x1024, .f32⟩
  | 99 => ⟨S1024x1024, .f32⟩
  | 100 => ⟨S1024x1024, .f32⟩
  | 101 => ⟨S4096x1024, .f32⟩
  | 102 => ⟨S4096x1024, .f32⟩
  | 103 => ⟨S8x128, .f32⟩
  | 104 => ⟨S8x128, .f32⟩
  | 105 => ⟨S1x128, .f32⟩
  | 106 => ⟨S_, .f32⟩
  | 107 => ⟨S7x128, .f32⟩
  | 108 => ⟨S24x128, .f32⟩
  | 109 => ⟨S4096x2048, .f32⟩
  | 110 => ⟨S4096x2048, .bf16⟩
  | 111 => ⟨S8x128x1024, .f32⟩
  | 112 => ⟨S512x8x128, .f32⟩
  | 113 => ⟨S8x512x128, .f32⟩
  | 114 => ⟨S8x128x1024, .f32⟩
  | 115 => ⟨S8x128x1024, .f32⟩
  | 116 => ⟨S256x8x128, .f32⟩
  | 117 => ⟨S8x256x128, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_12 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_15 : Ref sig .tc := ⟨.hbm, 113, rfl⟩
abbrev main_v83 : Ref sig .tc := ⟨.hbm, 114, rfl⟩
abbrev main_v84 : Ref sig .tc := ⟨.hbm, 115, rfl⟩
abbrev main_cst_16 : Ref sig .tc := ⟨.hbm, 116, rfl⟩
abbrev main_v85 : Ref sig .tc := ⟨.hbm, 117, rfl⟩
abbrev main_v86 : Ref sig .tc := ⟨.hbm, 118, rfl⟩
abbrev main_cst_17 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_18 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_19 : Ref sig .tc := ⟨.hbm, 134, rfl⟩
abbrev main_v100 : Ref sig .tc := ⟨.hbm, 135, rfl⟩
abbrev main_v101 : Ref sig .tc := ⟨.hbm, 136, rfl⟩
abbrev main_cst_20 : Ref sig .tc := ⟨.hbm, 137, rfl⟩
abbrev main_v102 : Ref sig .tc := ⟨.hbm, 138, rfl⟩
abbrev main_cst_21 : Ref sig .tc := ⟨.hbm, 139, rfl⟩
abbrev main_v103 : Ref sig .tc := ⟨.hbm, 140, rfl⟩
abbrev main_v104 : Ref sig .tc := ⟨.hbm, 141, rfl⟩
abbrev main_cst_22 : Ref sig .tc := ⟨.hbm, 142, rfl⟩
abbrev main_v105 : Ref sig .tc := ⟨.hbm, 143, rfl⟩
abbrev main_cst_23 : Ref sig .tc := ⟨.hbm, 144, rfl⟩
abbrev main_v106 : Ref sig .tc := ⟨.hbm, 145, rfl⟩
abbrev main_cst_24 : Ref sig .tc := ⟨.hbm, 146, rfl⟩
abbrev main_cst_25 : Ref sig .tc := ⟨.hbm, 147, rfl⟩
abbrev main_v107 : Ref sig .tc := ⟨.hbm, 148, rfl⟩
abbrev main_v108 : Ref sig .tc := ⟨.hbm, 149, rfl⟩
abbrev main_cst_26 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_27 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_28 : Ref sig .tc := ⟨.hbm, 161, rfl⟩
abbrev main_v118 : Ref sig .tc := ⟨.hbm, 162, rfl⟩
abbrev main_v119 : Ref sig .tc := ⟨.hbm, 163, rfl⟩
abbrev main_cst_29 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_30 : Ref sig .tc := ⟨.hbm, 170, rfl⟩
abbrev main_v125 : Ref sig .tc := ⟨.hbm, 171, rfl⟩
abbrev main_v126 : Ref sig .tc := ⟨.hbm, 172, rfl⟩
abbrev main_cst_31 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_32 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_33 : Ref sig .tc := ⟨.hbm, 195, rfl⟩
abbrev main_v147 : Ref sig .tc := ⟨.hbm, 196, rfl⟩
abbrev main_v148 : Ref sig .tc := ⟨.hbm, 197, rfl⟩
abbrev main_cst_34 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_35 : Ref sig .tc := ⟨.hbm, 205, rfl⟩
abbrev main_v155 : Ref sig .tc := ⟨.hbm, 206, rfl⟩
abbrev main_v156 : Ref sig .tc := ⟨.hbm, 207, rfl⟩
abbrev main_cst_36 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_cst_37 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩

abbrev nD : Nat := 1
abbrev τ : Topo := Topo.v7x

variable {F : FTy → Type} [FloatOps F]
-- ==== Kernel3.lean ====
abbrev S2x2048x3072 : Shape := ⟨3, ![2, 2048, 3072]⟩
abbrev S4x1024 : Shape := ⟨2, ![4, 1024]⟩
abbrev S1x1024 : Shape := ⟨2, ![1, 1024]⟩
abbrev S8x128x128 : Shape := ⟨3, ![8, 128, 128]⟩
abbrev S8x128 : Shape := ⟨2, ![8, 128]⟩
abbrev S4x128x128 : Shape := ⟨3, ![4, 128, 128]⟩
abbrev S1x512 : Shape := ⟨2, ![1, 512]⟩
abbrev S2x2048x1024 : Shape := ⟨3, ![2, 2048, 1024]⟩
abbrev S2x2048x512 : Shape := ⟨3, ![2, 2048, 512]⟩
abbrev S2x2048x2048 : Shape := ⟨3, ![2, 2048, 2048]⟩
abbrev S24x128 : Shape := ⟨2, ![24, 128]⟩
abbrev S1024 : Shape := ⟨1, ![1024]⟩
abbrev S_ : Shape := ⟨0, ![]⟩
abbrev S2x3x1024 : Shape := ⟨3, ![2, 3, 1024]⟩
abbrev S2x2051x1024 : Shape := ⟨3, ![2, 2051, 1024]⟩
abbrev S1x1x1024 : Shape := ⟨3, ![1, 1, 1024]⟩
abbrev S2x2048x8x128 : Shape := ⟨4, ![2, 2048, 8, 128]⟩
abbrev S8x128x2x2048 : Shape := ⟨4, ![8, 128, 2, 2048]⟩
abbrev S1x1x8x128 : Shape := ⟨4, ![1, 1, 8, 128]⟩
abbrev S2x1024x1024 : Shape := ⟨3, ![2, 1024, 1024]⟩
abbrev S2x512x1024 : Shape := ⟨3, ![2, 512, 1024]⟩
abbrev S2x256x1024 : Shape := ⟨3, ![2, 256, 1024]⟩
abbrev S2x128x1024 : Shape := ⟨3, ![2, 128, 1024]⟩
abbrev S2x64x1024 : Shape := ⟨3, ![2, 64, 1024]⟩
abbrev S2x32x1024 : Shape := ⟨3, ![2, 32, 1024]⟩
abbrev S2x16x1024 : Shape := ⟨3, ![2, 16, 1024]⟩
abbrev S2x8x1024 : Shape := ⟨3, ![2, 8, 1024]⟩
abbrev S2x4x1024 : Shape := ⟨3, ![2, 4, 1024]⟩
abbrev S2x2x1024 : Shape := ⟨3, ![2, 2, 1024]⟩
abbrev S2x1x1024 : Shape := ⟨3, ![2, 1, 1024]⟩
abbrev S2x0x1024 : Shape := ⟨3, ![2, 0, 1024]⟩
abbrev S2x7x1024 : Shape := ⟨3, ![2, 7, 1024]⟩
abbrev S2x15x1024 : Shape := ⟨3, ![2, 15, 1024]⟩
abbrev S2x31x1024 : Shape := ⟨3, ![2, 31, 1024]⟩
abbrev S2x63x1024 : Shape := ⟨3, ![2, 63, 1024]⟩
abbrev S2x127x1024 : Shape := ⟨3, ![2, 127, 1024]⟩
abbrev S2x255x1024 : Shape := ⟨3, ![2, 255, 1024]⟩
abbrev S2x511x1024 : Shape := ⟨3, ![2, 511, 1024]⟩
abbrev S2x1023x1024 : Shape := ⟨3, ![2, 1023, 1024]⟩
abbrev S512 : Shape := ⟨1, ![512]⟩
abbrev S2x16x512 : Shape := ⟨3, ![2, 16, 512]⟩
abbrev S2x2064x512 : Shape := ⟨3, ![2, 2064, 512]⟩
abbrev S2048 : Shape := ⟨1, ![2048]⟩
abbrev S2x2064x128 : Shape := ⟨3, ![2, 2064, 128]⟩
abbrev S2x2048x128 : Shape := ⟨3, ![2, 2048, 128]⟩
abbrev S1x2048x1 : Shape := ⟨3, ![1, 2048, 1]⟩
abbrev S2x2048x4x128 : Shape := ⟨4, ![2, 2048, 4, 128]⟩
abbrev S4x128x2x2048 : Shape := ⟨4, ![4, 128, 2, 2048]⟩
abbrev S1x1x512 : Shape := ⟨3, ![1, 1, 512]⟩
abbrev S2x2048x5120 : Shape := ⟨3, ![2, 2048, 5120]⟩
abbrev S3072x128 : Shape := ⟨2, ![3072, 128]⟩
abbrev S1x256x1024 : Shape := ⟨3, ![1, 256, 1024]⟩
abbrev S1x8x1024 : Shape := ⟨3, ![1, 8, 1024]⟩
abbrev S1x256x512 : Shape := ⟨3, ![1, 256, 512]⟩
abbrev S1x256x2048 : Shape := ⟨3, ![1, 256, 2048]⟩
abbrev S1x256x5120 : Shape := ⟨3, ![1, 256, 5120]⟩
abbrev S264x1024 : Shape := ⟨2, ![264, 1024]⟩
abbrev S256x1024 : Shape := ⟨2, ![256, 1024]⟩
abbrev S272x1024 : Shape := ⟨2, ![272, 1024]⟩
abbrev S272x512 : Shape := ⟨2, ![272, 512]⟩
abbrev S8x1024 : Shape := ⟨2, ![8, 1024]⟩
abbrev S3x256x3072 : Shape := ⟨3, ![3, 256, 3072]⟩
abbrev S3 : Shape := ⟨1, ![3]⟩
abbrev S1 : Shape := ⟨1, ![1]⟩
abbrev S1x256x3072 : Shape := ⟨3, ![1, 256, 3072]⟩
abbrev S256x3072 : Shape := ⟨2, ![256, 3072]⟩
abbrev S256x2048 : Shape := ⟨2, ![256, 2048]⟩
abbrev S16x1024 : Shape := ⟨2, ![16, 1024]⟩
abbrev S16x512 : Shape := ⟨2, ![16, 512]⟩
abbrev S256x128 : Shape := ⟨2, ![256, 128]⟩
abbrev S1x256x128 : Shape := ⟨3, ![1, 256, 128]⟩
abbrev S1x128 : Shape := ⟨2, ![1, 128]⟩
abbrev S264x128 : Shape := ⟨2, ![264, 128]⟩
abbrev S128 : Shape := ⟨1, ![128]⟩
abbrev S1x128x128 : Shape := ⟨3, ![1, 128, 128]⟩
abbrev S128x128 : Shape := ⟨2, ![128, 128]⟩
abbrev S272x128 : Shape := ⟨2, ![272, 128]⟩
abbrev S512x128 : Shape := ⟨2, ![512, 128]⟩
abbrev S4x128 : Shape := ⟨2, ![4, 128]⟩

abbrev nBuf : Space → Nat
  | .hbm => 500
  | .vmem => 40
  | .smem => 0
  | _ => 0

abbrev hbmTy0_0 (i : Nat) : BufTy := match i % 128 with
  | 0 => ⟨S2x2048x3072, .f32⟩
  | 1 => ⟨S4x1024, .f32⟩
  | 2 => ⟨S1x1024, .f32⟩
  | 3 => ⟨S8x128x128, .bf16⟩
  | 4 => ⟨S8x128, .f32⟩
  | 5 => ⟨S8x128x128, .bf16⟩
  | 6 => ⟨S8x128, .f32⟩
  | 7 => ⟨S1x1024, .f32⟩
  | 8 => ⟨S4x128x128, .bf16⟩
  | 9 => ⟨S1x512, .f32⟩
  | 10 => ⟨S2x2048x1024, .f32⟩
  | 11 => ⟨S2x2048x512, .f32⟩
  | 12 => ⟨S2x2048x2048, .bf16⟩
  | 13 => ⟨S24x128, .f32⟩
  | 14 => ⟨S2x2048x1024, .f32⟩
  | 15 => ⟨S1024, .f32⟩
  | 16 => ⟨S_, .f32⟩
  | 17 => ⟨S2x3x1024, .f32⟩
  | 18 => ⟨S2x2051x1024, .f32⟩
  | 19 => ⟨S2x2048x1024, .f32⟩
  | 20 => ⟨S1x1024, .f32⟩
  | 21 => ⟨S1024, .f32⟩
  | 22 => ⟨S1x1x1024, .f32⟩
  | 23 => ⟨S2x2048x1024, .f32⟩
  | 24 => ⟨S2x2048x1024, .f32⟩
  | 25 => ⟨S1x1x1024, .f32⟩
  | 26 => ⟨S2x2048x1024, .f32⟩
  | 27 => ⟨S2x2048x1024, .f32⟩
  | 28 => ⟨S2x2048x1024, .f32⟩
  | 29 => ⟨S1x1024, .f32⟩
  | 30 => ⟨S1024, .f32⟩
  | 31 => ⟨S1x1x1024, .f32⟩
  | 32 => ⟨S2x2048x1024, .f32⟩
  | 33 => ⟨S2x2048x1024, .f32⟩
  | 34 => ⟨S2x2048x1024, .f32⟩
  | 35 => ⟨S2x2048x1024, .f32⟩
  | 36 => ⟨S1x1024, .f32⟩
  | 37 => ⟨S1024, .f32⟩
  | 38 => ⟨S1x1x1024, .f32⟩
  | 39 => ⟨S2x2048x1024, .f32⟩
  | 40 => ⟨S2x2048x1024, .f32⟩
  | 41 => ⟨S2x2048x1024, .f32⟩
  | 42 => ⟨S2x2048x1024, .f32⟩
  | 43 => ⟨S1x1024, .f32⟩
  | 44 => ⟨S1024, .f32⟩
  | 45 => ⟨S1x1x1024, .f32⟩
  | 46 => ⟨S2x2048x1024, .f32⟩
  | 47 => ⟨S2x2048x1024, .f32⟩
  | 48 => ⟨S2x2048x1024, .f32⟩
  | 49 => ⟨S8x128x128, .f32⟩
  | 50 => ⟨S8x128x128, .f32⟩
  | 51 => ⟨S1024, .f32⟩
  | 52 => ⟨S2x2048x8x128, .f32⟩
  | 53 => ⟨S8x128x2x2048, .f32⟩
  | 54 => ⟨S2x2048x8x128, .f32⟩
  | 55 => ⟨S1x1x8x128, .f32⟩
  | 56 => ⟨S2x2048x8x128, .f32⟩
  | 57 => ⟨S2x2048x8x128, .f32⟩
  | 58 => ⟨S2x2048x1024, .f32⟩
  | 59 => ⟨S2x2048x1024, .f32⟩
  | 60 => ⟨S2x2048x1024, .f32⟩
  | 61 => ⟨S_, .f32⟩
  | 62 => ⟨S2x2048x1024, .f32⟩
  | 63 => ⟨S2x2048x1024, .f32⟩
  | 64 => ⟨S_, .f32⟩
  | 65 => ⟨S2x2048x1024, .f32⟩
  | 66 => ⟨S2x2048x1024, .f32⟩
  | 67 => ⟨S2x2048x8x128, .f32⟩
  | 68 => ⟨S8x128x2x2048, .f32⟩
  | 69 => ⟨S2x2048x8x128, .f32⟩
  | 70 => ⟨S1x1x8x128, .f32⟩
  | 71 => ⟨S2x2048x8x128, .f32⟩
  | 72 => ⟨S2x2048x8x128, .f32⟩
  | 73 => ⟨S2x2048x1024, .f32⟩
  | 74 => ⟨S2x2048x1024, .f32⟩
  | 75 => ⟨S2x2048x1024, .f32⟩
  | 76 => ⟨S_, .f32⟩
  | 77 => ⟨S2x2048x1024, .f32⟩
  | 78 => ⟨S2x2048x1024, .f32⟩
  | 79 => ⟨S_, .f32⟩
  | 80 => ⟨S2x2048x1024, .f32⟩
  | 81 => ⟨S2x2048x1024, .f32⟩
  | 82 => ⟨S_, .f32⟩
  | 83 => ⟨S2x2048x1024, .f32⟩
  | 84 => ⟨S2x2048x1024, .f32⟩
  | 85 => ⟨S1024, .f32⟩
  | 86 => ⟨S_, .f32⟩
  | 87 => ⟨S1024, .f32⟩
  | 88 => ⟨S1024, .f32⟩
  | 89 => ⟨S1024, .f32⟩
  | 90 => ⟨S1024, .f32⟩
  | 91 => ⟨S1024, .i1⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1x1x1024, .f32⟩
  | 101 => ⟨S2x2048x1024, .f32⟩
  | 102 => ⟨S2x2048x1024, .f32⟩
  | 103 => ⟨S2x2048x1024, .f32⟩
  | 104 => ⟨S_, .f32⟩
  | 105 => ⟨S2x2048x1024, .f32⟩
  | 106 => ⟨S2x2048x1024, .f32⟩
  | 107 => ⟨S2x2048x1024, .f32⟩
  | 108 => ⟨S2x2048x1024, .f32⟩
  | 109 => ⟨S2x2048x1024, .f32⟩
  | 110 => ⟨S2x2048x1024, .f32⟩
  | 111 => ⟨S2x2048x1024, .f32⟩
  | 112 => ⟨S2x1024x1024, .f32⟩
  | 113 => ⟨S2x1024x1024, .f32⟩
  | 114 => ⟨S2x1024x1024, .f32⟩
  | 115 => ⟨S2x1024x1024, .f32⟩
  | 116 => ⟨S2x1024x1024, .f32⟩
  | 117 => ⟨S2x1024x1024, .f32⟩
  | 118 => ⟨S2x1024x1024, .f32⟩
  | 119 => ⟨S2x512x1024, .f32⟩
  | 120 => ⟨S2x512x1024, .f32⟩
  | 121 => ⟨S2x512x1024, .f32⟩
  | 122 => ⟨S2x512x1024, .f32⟩
  | 123 => ⟨S2x512x1024, .f32⟩
  | 124 => ⟨S2x512x1024, .f32⟩
  | 125 => ⟨S2x512x1024, .f32⟩
  | 126 => ⟨S2x256x1024, .f32⟩
  | 127 => ⟨S2x256x1024, .f32⟩
  | _ => ⟨S2x2048x3072, .f32⟩

abbrev hbmTy0_1 (i : Nat) : BufTy := match i % 128 with
  | 0 => ⟨S2x256x1024, .f32⟩
  | 1 => ⟨S2x256x1024, .f32⟩
  | 2 => ⟨S2x256x1024, .f32⟩
  | 3 => ⟨S2x256x1024, .f32⟩
  | 4 => ⟨S2x256x1024, .f32⟩
  | 5 => ⟨S2x128x1024, .f32⟩
  | 6 => ⟨S2x128x1024, .f32⟩
  | 7 => ⟨S2x128x1024, .f32⟩
  | 8 => ⟨S2x128x1024, .f32⟩
  | 9 => ⟨S2x128x1024, .f32⟩
  | 10 => ⟨S2x128x1024, .f32⟩
  | 11 => ⟨S2x128x1024, .f32⟩
  | 12 => ⟨S2x64x1024, .f32⟩
  | 13 => ⟨S2x64x1024, .f32⟩
  | 14 => ⟨S2x64x1024, .f32⟩
  | 15 => ⟨S2x64x1024, .f32⟩
  | 16 => ⟨S2x64x1024, .f32⟩
  | 17 => ⟨S2x64x1024, .f32⟩
  | 18 => ⟨S2x64x1024, .f32⟩
  | 19 => ⟨S2x32x1024, .f32⟩
  | 20 => ⟨S2x32x1024, .f32⟩
  | 21 => ⟨S2x32x1024, .f32⟩
  | 22 => ⟨S2x32x1024, .f32⟩
  | 23 => ⟨S2x32x1024, .f32⟩
  | 24 => ⟨S2x32x1024, .f32⟩
  | 25 => ⟨S2x32x1024, .f32⟩
  | 26 => ⟨S2x16x1024, .f32⟩
  | 27 => ⟨S2x16x1024, .f32⟩
  | 28 => ⟨S2x16x1024, .f32⟩
  | 29 => ⟨S2x16x1024, .f32⟩
  | 30 => ⟨S2x16x1024, .f32⟩
  | 31 => ⟨S2x16x1024, .f32⟩
  | 32 => ⟨S2x16x1024, .f32⟩
  | 33 => ⟨S2x8x1024, .f32⟩
  | 34 => ⟨S2x8x1024, .f32⟩
  | 35 => ⟨S2x8x1024, .f32⟩
  | 36 => ⟨S2x8x1024, .f32⟩
  | 37 => ⟨S2x8x1024, .f32⟩
  | 38 => ⟨S2x8x1024, .f32⟩
  | 39 => ⟨S2x8x1024, .f32⟩
  | 40 => ⟨S2x4x1024, .f32⟩
  | 41 => ⟨S2x4x1024, .f32⟩
  | 42 => ⟨S2x4x1024, .f32⟩
  | 43 => ⟨S2x4x1024, .f32⟩
  | 44 => ⟨S2x4x1024, .f32⟩
  | 45 => ⟨S2x4x1024, .f32⟩
  | 46 => ⟨S2x4x1024, .f32⟩
  | 47 => ⟨S2x2x1024, .f32⟩
  | 48 => ⟨S2x2x1024, .f32⟩
  | 49 => ⟨S2x2x1024, .f32⟩
  | 50 => ⟨S2x2x1024, .f32⟩
  | 51 => ⟨S2x2x1024, .f32⟩
  | 52 => ⟨S2x2x1024, .f32⟩
  | 53 => ⟨S2x2x1024, .f32⟩
  | 54 => ⟨S2x1x1024, .f32⟩
  | 55 => ⟨S2x1x1024, .f32⟩
  | 56 => ⟨S2x1x1024, .f32⟩
  | 57 => ⟨S2x1x1024, .f32⟩
  | 58 => ⟨S2x1x1024, .f32⟩
  | 59 => ⟨S2x1x1024, .f32⟩
  | 60 => ⟨S2x1x1024, .f32⟩
  | 61 => ⟨S2x0x1024, .f32⟩
  | 62 => ⟨S2x0x1024, .f32⟩
  | 63 => ⟨S2x0x1024, .f32⟩
  | 64 => ⟨S2x0x1024, .f32⟩
  | 65 => ⟨S2x0x1024, .f32⟩
  | 66 => ⟨S2x0x1024, .f32⟩
  | 67 => ⟨S2x0x1024, .f32⟩
  | 68 => ⟨S2x1x1024, .f32⟩
  | 69 => ⟨S2x1x1024, .f32⟩
  | 70 => ⟨S2x1x1024, .f32⟩
  | 71 => ⟨S2x1x1024, .f32⟩
  | 72 => ⟨S_, .f32⟩
  | 73 => ⟨S2x2x1024, .f32⟩
  | 74 => ⟨S_, .f32⟩
  | 75 => ⟨S2x2x1024, .f32⟩
  | 76 => ⟨S2x2x1024, .f32⟩
  | 77 => ⟨S_, .f32⟩
  | 78 => ⟨S2x2x1024, .f32⟩
  | 79 => ⟨S_, .f32⟩
  | 80 => ⟨S2x2x1024, .f32⟩
  | 81 => ⟨S2x2x1024, .f32⟩
  | 82 => ⟨S2x1x1024, .f32⟩
  | 83 => ⟨S2x1x1024, .f32⟩
  | 84 => ⟨S2x1x1024, .f32⟩
  | 85 => ⟨S2x1x1024, .f32⟩
  | 86 => ⟨S2x1x1024, .f32⟩
  | 87 => ⟨S2x1x1024, .f32⟩
  | 88 => ⟨S2x1x1024, .f32⟩
  | 89 => ⟨S2x1x1024, .f32⟩
  | 90 => ⟨S2x2x1024, .f32⟩
  | 91 => ⟨S2x1x1024, .f32⟩
  | 92 => ⟨S2x2x1024, .f32⟩
  | 93 => ⟨S_, .f32⟩
  | 94 => ⟨S2x4x1024, .f32⟩
  | 95 => ⟨S_, .f32⟩
  | 96 => ⟨S2x4x1024, .f32⟩
  | 97 => ⟨S2x4x1024, .f32⟩
  | 98 => ⟨S_, .f32⟩
  | 99 => ⟨S2x4x1024, .f32⟩
  | 100 => ⟨S_, .f32⟩
  | 101 => ⟨S2x4x1024, .f32⟩
  | 102 => ⟨S2x4x1024, .f32⟩
  | 103 => ⟨S2x3x1024, .f32⟩
  | 104 => ⟨S2x3x1024, .f32⟩
  | 105 => ⟨S2x3x1024, .f32⟩
  | 106 => ⟨S2x3x1024, .f32⟩
  | 107 => ⟨S2x3x1024, .f32⟩
  | 108 => ⟨S2x3x1024, .f32⟩
  | 109 => ⟨S2x3x1024, .f32⟩
  | 110 => ⟨S2x1x1024, .f32⟩
  | 111 => ⟨S2x4x1024, .f32⟩
  | 112 => ⟨S2x1x1024, .f32⟩
  | 113 => ⟨S2x4x1024, .f32⟩
  | 114 => ⟨S_, .f32⟩
  | 115 => ⟨S2x8x1024, .f32⟩
  | 116 => ⟨S_, .f32⟩
  | 117 => ⟨S2x8x1024, .f32⟩
  | 118 => ⟨S2x8x1024, .f32⟩
  | 119 => ⟨S_, .f32⟩
  | 120 => ⟨S2x8x1024, .f32⟩
  | 121 => ⟨S_, .f32⟩
  | 122 => ⟨S2x8x1024, .f32⟩
  | 123 => ⟨S2x8x1024, .f32⟩
  | 124 => ⟨S2x7x1024, .f32⟩
  | 125 => ⟨S2x7x1024, .f32⟩
  | 126 => ⟨S2x7x1024, .f32⟩
  | 127 => ⟨S2x7x1024, .f32⟩
  | _ => ⟨S2x2048x3072, .f32⟩

abbrev hbmTy0_2 (i : Nat) : BufTy := match i % 128 with
  | 0 => ⟨S2x7x1024, .f32⟩
  | 1 => ⟨S2x7x1024, .f32⟩
  | 2 => ⟨S2x7x1024, .f32⟩
  | 3 => ⟨S2x1x1024, .f32⟩
  | 4 => ⟨S2x8x1024, .f32⟩
  | 5 => ⟨S2x1x1024, .f32⟩
  | 6 => ⟨S2x8x1024, .f32⟩
  | 7 => ⟨S_, .f32⟩
  | 8 => ⟨S2x16x1024, .f32⟩
  | 9 => ⟨S_, .f32⟩
  | 10 => ⟨S2x16x1024, .f32⟩
  | 11 => ⟨S2x16x1024, .f32⟩
  | 12 => ⟨S_, .f32⟩
  | 13 => ⟨S2x16x1024, .f32⟩
  | 14 => ⟨S_, .f32⟩
  | 15 => ⟨S2x16x1024, .f32⟩
  | 16 => ⟨S2x16x1024, .f32⟩
  | 17 => ⟨S2x15x1024, .f32⟩
  | 18 => ⟨S2x15x1024, .f32⟩
  | 19 => ⟨S2x15x1024, .f32⟩
  | 20 => ⟨S2x15x1024, .f32⟩
  | 21 => ⟨S2x15x1024, .f32⟩
  | 22 => ⟨S2x15x1024, .f32⟩
  | 23 => ⟨S2x15x1024, .f32⟩
  | 24 => ⟨S2x1x1024, .f32⟩
  | 25 => ⟨S2x16x1024, .f32⟩
  | 26 => ⟨S2x1x1024, .f32⟩
  | 27 => ⟨S2x16x1024, .f32⟩
  | 28 => ⟨S_, .f32⟩
  | 29 => ⟨S2x32x1024, .f32⟩
  | 30 => ⟨S_, .f32⟩
  | 31 => ⟨S2x32x1024, .f32⟩
  | 32 => ⟨S2x32x1024, .f32⟩
  | 33 => ⟨S_, .f32⟩
  | 34 => ⟨S2x32x1024, .f32⟩
  | 35 => ⟨S_, .f32⟩
  | 36 => ⟨S2x32x1024, .f32⟩
  | 37 => ⟨S2x32x1024, .f32⟩
  | 38 => ⟨S2x31x1024, .f32⟩
  | 39 => ⟨S2x31x1024, .f32⟩
  | 40 => ⟨S2x31x1024, .f32⟩
  | 41 => ⟨S2x31x1024, .f32⟩
  | 42 => ⟨S2x31x1024, .f32⟩
  | 43 => ⟨S2x31x1024, .f32⟩
  | 44 => ⟨S2x31x1024, .f32⟩
  | 45 => ⟨S2x1x1024, .f32⟩
  | 46 => ⟨S2x32x1024, .f32⟩
  | 47 => ⟨S2x1x1024, .f32⟩
  | 48 => ⟨S2x32x1024, .f32⟩
  | 49 => ⟨S_, .f32⟩
  | 50 => ⟨S2x64x1024, .f32⟩
  | 51 => ⟨S_, .f32⟩
  | 52 => ⟨S2x64x1024, .f32⟩
  | 53 => ⟨S2x64x1024, .f32⟩
  | 54 => ⟨S_, .f32⟩
  | 55 => ⟨S2x64x1024, .f32⟩
  | 56 => ⟨S_, .f32⟩
  | 57 => ⟨S2x64x1024, .f32⟩
  | 58 => ⟨S2x64x1024, .f32⟩
  | 59 => ⟨S2x63x1024, .f32⟩
  | 60 => ⟨S2x63x1024, .f32⟩
  | 61 => ⟨S2x63x1024, .f32⟩
  | 62 => ⟨S2x63x1024, .f32⟩
  | 63 => ⟨S2x63x1024, .f32⟩
  | 64 => ⟨S2x63x1024, .f32⟩
  | 65 => ⟨S2x63x1024, .f32⟩
  | 66 => ⟨S2x1x1024, .f32⟩
  | 67 => ⟨S2x64x1024, .f32⟩
  | 68 => ⟨S2x1x1024, .f32⟩
  | 69 => ⟨S2x64x1024, .f32⟩
  | 70 => ⟨S_, .f32⟩
  | 71 => ⟨S2x128x1024, .f32⟩
  | 72 => ⟨S_, .f32⟩
  | 73 => ⟨S2x128x1024, .f32⟩
  | 74 => ⟨S2x128x1024, .f32⟩
  | 75 => ⟨S_, .f32⟩
  | 76 => ⟨S2x128x1024, .f32⟩
  | 77 => ⟨S_, .f32⟩
  | 78 => ⟨S2x128x1024, .f32⟩
  | 79 => ⟨S2x128x1024, .f32⟩
  | 80 => ⟨S2x127x1024, .f32⟩
  | 81 => ⟨S2x127x1024, .f32⟩
  | 82 => ⟨S2x127x1024, .f32⟩
  | 83 => ⟨S2x127x1024, .f32⟩
  | 84 => ⟨S2x127x1024, .f32⟩
  | 85 => ⟨S2x127x1024, .f32⟩
  | 86 => ⟨S2x127x1024, .f32⟩
  | 87 => ⟨S2x1x1024, .f32⟩
  | 88 => ⟨S2x128x1024, .f32⟩
  | 89 => ⟨S2x1x1024, .f32⟩
  | 90 => ⟨S2x128x1024, .f32⟩
  | 91 => ⟨S_, .f32⟩
  | 92 => ⟨S2x256x1024, .f32⟩
  | 93 => ⟨S_, .f32⟩
  | 94 => ⟨S2x256x1024, .f32⟩
  | 95 => ⟨S2x256x1024, .f32⟩
  | 96 => ⟨S_, .f32⟩
  | 97 => ⟨S2x256x1024, .f32⟩
  | 98 => ⟨S_, .f32⟩
  | 99 => ⟨S2x256x1024, .f32⟩
  | 100 => ⟨S2x256x1024, .f32⟩
  | 101 => ⟨S2x255x1024, .f32⟩
  | 102 => ⟨S2x255x1024, .f32⟩
  | 103 => ⟨S2x255x1024, .f32⟩
  | 104 => ⟨S2x255x1024, .f32⟩
  | 105 => ⟨S2x255x1024, .f32⟩
  | 106 => ⟨S2x255x1024, .f32⟩
  | 107 => ⟨S2x255x1024, .f32⟩
  | 108 => ⟨S2x1x1024, .f32⟩
  | 109 => ⟨S2x256x1024, .f32⟩
  | 110 => ⟨S2x1x1024, .f32⟩
  | 111 => ⟨S2x256x1024, .f32⟩
  | 112 => ⟨S_, .f32⟩
  | 113 => ⟨S2x512x1024, .f32⟩
  | 114 => ⟨S_, .f32⟩
  | 115 => ⟨S2x512x1024, .f32⟩
  | 116 => ⟨S2x512x1024, .f32⟩
  | 117 => ⟨S_, .f32⟩
  | 118 => ⟨S2x512x1024, .f32⟩
  | 119 => ⟨S_, .f32⟩
  | 120 => ⟨S2x512x1024, .f32⟩
  | 121 => ⟨S2x512x1024, .f32⟩
  | 122 => ⟨S2x511x1024, .f32⟩
  | 123 => ⟨S2x511x1024, .f32⟩
  | 124 => ⟨S2x511x1024, .f32⟩
  | 125 => ⟨S2x511x1024, .f32⟩
  | 126 => ⟨S2x511x1024, .f32⟩
  | 127 => ⟨S2x511x1024, .f32⟩
  | _ => ⟨S2x2048x3072, .f32⟩

abbrev hbmTy0_3 (i : Nat) : BufTy := match i % 128 with
  | 0 => ⟨S2x511x1024, .f32⟩
  | 1 => ⟨S2x1x1024, .f32⟩
  | 2 => ⟨S2x512x1024, .f32⟩
  | 3 => ⟨S2x1x1024, .f32⟩
  | 4 => ⟨S2x512x1024, .f32⟩
  | 5 => ⟨S_, .f32⟩
  | 6 => ⟨S2x1024x1024, .f32⟩
  | 7 => ⟨S_, .f32⟩
  | 8 => ⟨S2x1024x1024, .f32⟩
  | 9 => ⟨S2x1024x1024, .f32⟩
  | 10 => ⟨S_, .f32⟩
  | 11 => ⟨S2x1024x1024, .f32⟩
  | 12 => ⟨S_, .f32⟩
  | 13 => ⟨S2x1024x1024, .f32⟩
  | 14 => ⟨S2x1024x1024, .f32⟩
  | 15 => ⟨S2x1023x1024, .f32⟩
  | 16 => ⟨S2x1023x1024, .f32⟩
  | 17 => ⟨S2x1023x1024, .f32⟩
  | 18 => ⟨S2x1023x1024, .f32⟩
  | 19 => ⟨S2x1023x1024, .f32⟩
  | 20 => ⟨S2x1023x1024, .f32⟩
  | 21 => ⟨S2x1023x1024, .f32⟩
  | 22 => ⟨S2x1x1024, .f32⟩
  | 23 => ⟨S2x1024x1024, .f32⟩
  | 24 => ⟨S2x1x1024, .f32⟩
  | 25 => ⟨S2x1024x1024, .f32⟩
  | 26 => ⟨S_, .f32⟩
  | 27 => ⟨S2x2048x1024, .f32⟩
  | 28 => ⟨S_, .f32⟩
  | 29 => ⟨S2x2048x1024, .f32⟩
  | 30 => ⟨S2x2048x1024, .f32⟩
  | 31 => ⟨S_, .f32⟩
  | 32 => ⟨S2x2048x1024, .f32⟩
  | 33 => ⟨S_, .f32⟩
  | 34 => ⟨S2x2048x1024, .f32⟩
  | 35 => ⟨S2x2048x1024, .f32⟩
  | 36 => ⟨S2x2048x512, .f32⟩
  | 37 => ⟨S4x128x128, .f32⟩
  | 38 => ⟨S512, .f32⟩
  | 39 => ⟨S_, .f32⟩
  | 40 => ⟨S_, .f32⟩
  | 41 => ⟨S2x2048x512, .f32⟩
  | 42 => ⟨S_, .f32⟩
  | 43 => ⟨S2x16x512, .f32⟩
  | 44 => ⟨S2x2064x512, .f32⟩
  | 45 => ⟨S2048, .i32⟩
  | 46 => ⟨S2x2064x128, .f32⟩
  | 47 => ⟨S2x2048x128, .f32⟩
  | 48 => ⟨S2x2048x128, .f32⟩
  | 49 => ⟨S2x2048x128, .f32⟩
  | 50 => ⟨S_, .i32⟩
  | 51 => ⟨S2048, .i32⟩
  | 52 => ⟨S2048, .i32⟩
  | 53 => ⟨S_, .i32⟩
  | 54 => ⟨S2048, .i32⟩
  | 55 => ⟨S2048, .i32⟩
  | 56 => ⟨S2048, .f32⟩
  | 57 => ⟨S1x2048x1, .f32⟩
  | 58 => ⟨S2x2048x128, .f32⟩
  | 59 => ⟨S2x2048x128, .f32⟩
  | 60 => ⟨S2x2064x128, .f32⟩
  | 61 => ⟨S2x2048x128, .f32⟩
  | 62 => ⟨S2x2048x128, .f32⟩
  | 63 => ⟨S2x2048x128, .f32⟩
  | 64 => ⟨S_, .i32⟩
  | 65 => ⟨S2048, .i32⟩
  | 66 => ⟨S2048, .i32⟩
  | 67 => ⟨S_, .i32⟩
  | 68 => ⟨S2048, .i32⟩
  | 69 => ⟨S2048, .i32⟩
  | 70 => ⟨S2048, .f32⟩
  | 71 => ⟨S1x2048x1, .f32⟩
  | 72 => ⟨S2x2048x128, .f32⟩
  | 73 => ⟨S2x2048x128, .f32⟩
  | 74 => ⟨S2x2064x128, .f32⟩
  | 75 => ⟨S2x2048x128, .f32⟩
  | 76 => ⟨S2x2048x128, .f32⟩
  | 77 => ⟨S2x2048x128, .f32⟩
  | 78 => ⟨S_, .i32⟩
  | 79 => ⟨S2048, .i32⟩
  | 80 => ⟨S2048, .i32⟩
  | 81 => ⟨S_, .i32⟩
  | 82 => ⟨S2048, .i32⟩
  | 83 => ⟨S2048, .i32⟩
  | 84 => ⟨S2048, .f32⟩
  | 85 => ⟨S1x2048x1, .f32⟩
  | 86 => ⟨S2x2048x128, .f32⟩
  | 87 => ⟨S2x2048x128, .f32⟩
  | 88 => ⟨S2x2064x128, .f32⟩
  | 89 => ⟨S2x2048x128, .f32⟩
  | 90 => ⟨S2x2048x128, .f32⟩
  | 91 => ⟨S2x2048x128, .f32⟩
  | 92 => ⟨S_, .i32⟩
  | 93 => ⟨S2048, .i32⟩
  | 94 => ⟨S2048, .i32⟩
  | 95 => ⟨S_, .i32⟩
  | 96 => ⟨S2048, .i32⟩
  | 97 => ⟨S2048, .i32⟩
  | 98 => ⟨S2048, .f32⟩
  | 99 => ⟨S1x2048x1, .f32⟩
  | 100 => ⟨S2x2048x128, .f32⟩
  | 101 => ⟨S2x2048x128, .f32⟩
  | 102 => ⟨S2x2048x512, .f32⟩
  | 103 => ⟨S2x2048x512, .f32⟩
  | 104 => ⟨S2x2048x4x128, .f32⟩
  | 105 => ⟨S4x128x2x2048, .f32⟩
  | 106 => ⟨S2x2048x4x128, .f32⟩
  | 107 => ⟨S2x2048x512, .f32⟩
  | 108 => ⟨S1x1x512, .f32⟩
  | 109 => ⟨S2x2048x512, .f32⟩
  | 110 => ⟨S2x2048x512, .f32⟩
  | 111 => ⟨S2x2048x512, .bf16⟩
  | 112 => ⟨S2x2048x5120, .bf16⟩
  | 113 => ⟨S3072x128, .f32⟩
  | 114 => ⟨S512x128, .f32⟩
  | 115 => ⟨S4x128, .f32⟩
  | _ => ⟨S2x2048x3072, .f32⟩

abbrev hbmTy (i : Nat) : BufTy := match i / 128 with
  | 0 => hbmTy0_0 i
  | 1 => hbmTy0_1 i
  | 2 => hbmTy0_2 i
  | 3 => hbmTy0_3 i
  | _ => ⟨S2x2048x3072, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x512, .bf16⟩
  | .local _ .vmem, ⟨13, _⟩ => ⟨S1x256x512, .bf16⟩
  | .local _ .vmem, ⟨14, _⟩ => ⟨S1x256x512, .f32⟩
  | .local _ .vmem, ⟨15, _⟩ => ⟨S1x256x512, .f32⟩
  | .local _ .vmem, ⟨16, _⟩ => ⟨S1x256x1024, .f32⟩
  | .local _ .vmem, ⟨17, _⟩ => ⟨S1x256x1024, .f32⟩
  | .local _ .vmem, ⟨18, _⟩ => ⟨S1x256x512, .f32⟩
  | .local _ .vmem, ⟨19, _⟩ => ⟨S1x256x512, .f32⟩
  | .local _ .vmem, ⟨20, _⟩ => ⟨S1x256x2048, .bf16⟩
  | .local _ .vmem, ⟨21, _⟩ => ⟨S1x256x2048, .bf16⟩
  | .local _ .vmem, ⟨22, _⟩ => ⟨S4x1024, .f32⟩
  | .local _ .vmem, ⟨23, _⟩ => ⟨S8x128x128, .bf16⟩
  | .local _ .vmem, ⟨24, _⟩ => ⟨S8x128x128, .bf16⟩
  | .local _ .vmem, ⟨25, _⟩ => ⟨S1x1024, .f32⟩
  | .local _ .vmem, ⟨26, _⟩ => ⟨S4x128x128, .bf16⟩
  | .local _ .vmem, ⟨27, _⟩ => ⟨S1x512, .f32⟩
  | .local _ .vmem, ⟨28, _⟩ => ⟨S24x128, .f32⟩
  | .local _ .vmem, ⟨29, _⟩ => ⟨S1x256x5120, .bf16⟩
  | .local _ .vmem, ⟨30, _⟩ => ⟨S1x256x5120, .bf16⟩
  | .local _ .vmem, ⟨31, _⟩ => ⟨S3072x128, .f32⟩
  | .local _ .vmem, ⟨32, _⟩ => ⟨S264x1024, .f32⟩
  | .local _ .vmem, ⟨33, _⟩ => ⟨S256x1024, .f32⟩
  | .local _ .vmem, ⟨34, _⟩ => ⟨S264x1024, .f32⟩
  | .local _ .vmem, ⟨35, _⟩ => ⟨S256x1024, .f32⟩
  | .local _ .vmem, ⟨36, _⟩ => ⟨S272x1024, .f32⟩
  | .local _ .vmem, ⟨37, _⟩ => ⟨S272x512, .f32⟩
  | .local _ .vmem, ⟨38, _⟩ => ⟨S8x1024, .f32⟩
  | .local _ .vmem, ⟨39, _⟩ => ⟨S3x256x3072, .f32⟩
  | _, _ => ⟨S2x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_0 : Ref sig .tc := ⟨.hbm, 61, rfl⟩
abbrev main_v46 : Ref sig .tc := ⟨.hbm, 62, rfl⟩
abbrev main_v47 : Ref sig .tc := ⟨.hbm, 63, rfl⟩
abbrev main_cst_1 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_2 : Ref sig .tc := ⟨.hbm, 76, rfl⟩
abbrev main_v59 : Ref sig .tc := ⟨.hbm, 77, rfl⟩
abbrev main_v60 : Ref sig .tc := ⟨.hbm, 78, rfl⟩
abbrev main_cst_3 : Ref sig .tc := ⟨.hbm, 79, rfl⟩
abbrev main_v61 : Ref sig .tc := ⟨.hbm, 80, rfl⟩
abbrev main_v62 : Ref sig .tc := ⟨.hbm, 81, rfl⟩
abbrev main_cst_4 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_v5 : Ref sig .tc := ⟨.hbm, 92, rfl⟩
abbrev main_call0_v6 : Ref sig .tc := ⟨.hbm, 93, rfl⟩
abbrev main_call0_v7 : Ref sig .tc := ⟨.hbm, 94, rfl⟩
abbrev main_call0_v8 : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_5 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_cst_6 : Ref sig .tc := ⟨.hbm, 200, rfl⟩
abbrev main_v166 : Ref sig .tc := ⟨.hbm, 201, rfl⟩
abbrev main_cst_7 : Ref sig .tc := ⟨.hbm, 202, rfl⟩
abbrev main_v167 : Ref sig .tc := ⟨.hbm, 203, rfl⟩
abbrev main_v168 : Ref sig .tc := ⟨.hbm, 204, rfl⟩
abbrev main_cst_8 : Ref sig .tc := ⟨.hbm, 205, rfl⟩
abbrev main_v169 : Ref sig .tc := ⟨.hbm, 206, rfl⟩
abbrev main_cst_9 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_cst_10 : Ref sig .tc := ⟨.hbm, 221, rfl⟩
abbrev main_v183 : Ref sig .tc := ⟨.hbm, 222, rfl⟩
abbrev main_cst_11 : Ref sig .tc := ⟨.hbm, 223, rfl⟩
abbrev main_v184 : Ref sig .tc := ⟨.hbm, 224, rfl⟩
abbrev main_v185 : Ref sig .tc := ⟨.hbm, 225, rfl⟩
abbrev main_cst_12 : Ref sig .tc := ⟨.hbm, 226, rfl⟩
abbrev main_v186 : Ref sig .tc := ⟨.hbm, 227, rfl⟩
abbrev main_cst_13 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_cst_14 : Ref sig .tc := ⟨.hbm, 242, rfl⟩
abbrev main_v200 : Ref sig .tc := ⟨.hbm, 243, rfl⟩
abbrev main_cst_15 : Ref sig .tc := ⟨.hbm, 244, rfl⟩
abbrev main_v201 : Ref sig .tc := ⟨.hbm, 245, rfl⟩
abbrev main_v202 : Ref sig .tc := ⟨.hbm, 246, rfl⟩
abbrev main_cst_16 : Ref sig .tc := ⟨.hbm, 247, rfl⟩
abbrev main_v203 : Ref sig .tc := ⟨.hbm, 248, rfl⟩
abbrev main_cst_17 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_cst_18 : Ref sig .tc := ⟨.hbm, 263, rfl⟩
abbrev main_v217 : Ref sig .tc := ⟨.hbm, 264, rfl⟩
abbrev main_cst_19 : Ref sig .tc := ⟨.hbm, 265, rfl⟩
abbrev main_v218 : Ref sig .tc := ⟨.hbm, 266, rfl⟩
abbrev main_v219 : Ref sig .tc := ⟨.hbm, 267, rfl⟩
abbrev main_cst_20 : Ref sig .tc := ⟨.hbm, 268, rfl⟩
abbrev main_v220 : Ref sig .tc := ⟨.hbm, 269, rfl⟩
abbrev main_cst_21 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_cst_22 : Ref sig .tc := ⟨.hbm, 284, rfl⟩
abbrev main_v234 : Ref sig .tc := ⟨.hbm, 285, rfl⟩
abbrev main_cst_23 : Ref sig .tc := ⟨.hbm, 286, rfl⟩
abbrev main_v235 : Ref sig .tc := ⟨.hbm, 287, rfl⟩
abbrev main_v236 : Ref sig .tc := ⟨.hbm, 288, rfl⟩
abbrev main_cst_24 : Ref sig .tc := ⟨.hbm, 289, rfl⟩
abbrev main_v237 : Ref sig .tc := ⟨.hbm, 290, rfl⟩
abbrev main_cst_25 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_cst_26 : Ref sig .tc := ⟨.hbm, 305, rfl⟩
abbrev main_v251 : Ref sig .tc := ⟨.hbm, 306, rfl⟩
abbrev main_cst_27 : Ref sig .tc := ⟨.hbm, 307, rfl⟩
abbrev main_v252 : Ref sig .tc := ⟨.hbm, 308, rfl⟩
abbrev main_v253 : Ref sig .tc := ⟨.hbm, 309, rfl⟩
abbrev main_cst_28 : Ref sig .tc := ⟨.hbm, 310, rfl⟩
abbrev main_v254 : Ref sig .tc := ⟨.hbm, 311, rfl⟩
abbrev main_cst_29 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_cst_30 : Ref sig .tc := ⟨.hbm, 326, rfl⟩
abbrev main_v268 : Ref sig .tc := ⟨.hbm, 327, rfl⟩
abbrev main_cst_31 : Ref sig .tc := ⟨.hbm, 328, rfl⟩
abbrev main_v269 : Ref sig .tc := ⟨.hbm, 329, rfl⟩
abbrev main_v270 : Ref sig .tc := ⟨.hbm, 330, rfl⟩
abbrev main_cst_32 : Ref sig .tc := ⟨.hbm, 331, rfl⟩
abbrev main_v271 : Ref sig .tc := ⟨.hbm, 332, rfl⟩
abbrev main_cst_33 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_cst_34 : Ref sig .tc := ⟨.hbm, 347, rfl⟩
abbrev main_v285 : Ref sig .tc := ⟨.hbm, 348, rfl⟩
abbrev main_cst_35 : Ref sig .tc := ⟨.hbm, 349, rfl⟩
abbrev main_v286 : Ref sig .tc := ⟨.hbm, 350, rfl⟩
abbrev main_v287 : Ref sig .tc := ⟨.hbm, 351, rfl⟩
abbrev main_cst_36 : Ref sig .tc := ⟨.hbm, 352, rfl⟩
abbrev main_v288 : Ref sig .tc := ⟨.hbm, 353, rfl⟩
abbrev main_cst_37 : Ref sig .tc := ⟨.hbm, 354, rfl⟩
abbrev main_v289 : Ref sig .tc := ⟨.hbm, 355, rfl⟩
abbrev main_v290 : Ref sig .tc := ⟨.hbm, 356, rfl⟩
abbrev main_v291 : Ref sig .tc := ⟨.hbm, 357, rfl⟩
abbrev main_v292 : Ref sig .tc := ⟨.hbm, 358, rfl⟩
abbrev main_v293 : Ref sig .tc := ⟨.hbm, 359, rfl⟩
abbrev main_v294 : Ref sig .tc := ⟨.hbm, 360, rfl⟩
abbrev main_v295 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_v299 : Ref sig .tc := ⟨.hbm, 365, rfl⟩
abbrev main_v300 : Ref sig .tc := ⟨.hbm, 366, rfl⟩
abbrev main_v301 : Ref sig .tc := ⟨.hbm, 367, rfl⟩
abbrev main_cst_38 : Ref sig .tc := ⟨.hbm, 368, rfl⟩
abbrev main_v302 : Ref sig .tc := ⟨.hbm, 369, rfl⟩
abbrev main_cst_39 : Ref sig .tc := ⟨.hbm, 370, rfl⟩
abbrev main_v303 : Ref sig .tc := ⟨.hbm, 371, rfl⟩
abbrev main_v304 : Ref sig .tc := ⟨.hbm, 372, rfl⟩
abbrev main_cst_40 : Ref sig .tc := ⟨.hbm, 373, rfl⟩
abbrev main_v305 : Ref sig .tc := ⟨.hbm, 374, rfl⟩
abbrev main_cst_41 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_v312 : Ref sig .tc := ⟨.hbm, 382, rfl⟩
abbrev main_v313 : Ref sig .tc := ⟨.hbm, 383, rfl⟩
abbrev main_v314 : Ref sig .tc := ⟨.hbm, 384, rfl⟩
abbrev main_v315 : Ref sig .tc := ⟨.hbm, 385, rfl⟩
abbrev main_v316 : Ref sig .tc := ⟨.hbm, 386, rfl⟩
abbrev main_v317 : Ref sig .tc := ⟨.hbm, 387, rfl⟩
abbrev main_v318 : Ref sig .tc := ⟨.hbm, 388, rfl⟩
abbrev main_cst_42 : Ref sig .tc := ⟨.hbm, 389, rfl⟩
abbrev main_v319 : Ref sig .tc := ⟨.hbm, 390, rfl⟩
abbrev main_cst_43 : Ref sig .tc := ⟨.hbm, 391, rfl⟩
abbrev main_v320 : Ref sig .tc := ⟨.hbm, 392, rfl⟩
abbrev main_v321 : Ref sig .tc := ⟨.hbm, 393, rfl⟩
abbrev main_cst_44 : Ref sig .tc := ⟨.hbm, 394, rfl⟩
abbrev main_v322 : Ref sig .tc := ⟨.hbm, 395, rfl⟩
abbrev main_cst_45 : Ref sig .tc := ⟨.hbm, 396, rfl⟩
abbrev main_v323 : Ref sig .tc := ⟨.hbm, 397, rfl⟩
abbrev main_v324 : Ref sig .tc := ⟨.hbm, 398, rfl⟩
abbrev main_v325 : Ref sig .tc := ⟨.hbm, 399, rfl⟩
abbrev main_v326 : Ref sig .tc := ⟨.hbm, 400, rfl⟩
abbrev main_v327 : Ref sig .tc := ⟨.hbm, 401, rfl⟩
abbrev main_v328 : Ref sig .tc := ⟨.hbm, 402, rfl⟩
abbrev main_v329 : Ref sig .tc := ⟨.hbm, 403, rfl⟩
abbrev main_v330 : Ref sig .tc := ⟨.hbm, 404, rfl⟩
abbrev main_v331 : Ref sig .tc := ⟨.hbm, 405, rfl⟩
abbrev main_v332 : Ref sig .tc := ⟨.hbm, 406, rfl⟩
abbrev main_v333 : Ref sig .tc := ⟨.hbm, 407, rfl⟩
abbrev main_v334 : Ref sig .tc := ⟨.hbm, 408, rfl⟩
abbrev main_v335 : Ref sig .tc := ⟨.hbm, 409, rfl⟩
abbrev main_cst_46 : Ref sig .tc := ⟨.hbm, 410, rfl⟩
abbrev main_v336 : Ref sig .tc := ⟨.hbm, 411, rfl⟩
abbrev main_cst_47 : Ref sig .tc := ⟨.hbm, 412, rfl⟩
abbrev main_v337 : Ref sig .tc := ⟨.hbm, 413, rfl⟩
abbrev main_v338 : Ref sig .tc := ⟨.hbm, 414, rfl⟩
abbrev main_cst_48 : Ref sig .tc := ⟨.hbm, 415, rfl⟩
abbrev main_v339 : Ref sig .tc := ⟨.hbm, 416, rfl⟩
abbrev main_cst_49 : Ref sig .tc := ⟨.hbm, 417, rfl⟩
abbrev main_v340 : Ref sig .tc := ⟨.hbm, 418, rfl⟩
abbrev main_v341 : Ref sig .tc := ⟨.hbm, 419, rfl⟩
abbrev main_v342 : Ref sig .tc := ⟨.hbm, 420, rfl⟩
abbrev main_v343 : Ref sig .tc := ⟨.hbm, 421, rfl⟩
abbrev main_v344 : Ref sig .tc := ⟨.hbm, 422, rfl⟩
abbrev main_call1_call0_cst : Ref sig .tc := ⟨.hbm, 423, rfl⟩
abbrev main_call1_call0_v0 : Ref sig .tc := ⟨.hbm, 424, rfl⟩
abbrev main_v345 : Ref sig .tc := ⟨.hbm, 425, rfl⟩
abbrev main_cst_50 : Ref sig .tc := ⟨.hbm, 426, rfl⟩
abbrev main_v346 : Ref sig .tc := ⟨.hbm, 427, rfl⟩
abbrev main_v347 : Ref sig .tc := ⟨.hbm, 428, rfl⟩
abbrev main_v348 : Ref sig .tc := ⟨.hbm, 429, rfl⟩
abbrev main_v349 : Ref sig .tc := ⟨.hbm, 430, rfl⟩
abbrev main_v350 : Ref sig .tc := ⟨.hbm, 431, rfl⟩
abbrev main_v351 : Ref sig .tc := ⟨.hbm, 432, rfl⟩
abbrev main_v352 : Ref sig .tc := ⟨.hbm, 433, rfl⟩
abbrev main_c : Ref sig .tc := ⟨.hbm, 434, rfl⟩
abbrev main_v353 : Ref sig .tc := ⟨.hbm, 435, rfl⟩
abbrev main_v354 : Ref sig .tc := ⟨.hbm, 436, rfl⟩
abbrev main_c_51 : Ref sig .tc := ⟨.hbm, 437, rfl⟩
abbrev main_v355 : Ref sig .tc := ⟨.hbm, 438, rfl⟩
abbrev main_v356 : Ref sig .tc := ⟨.hbm, 439, rfl⟩
abbrev main_v357 : Ref sig .tc := ⟨.hbm, 440, rfl⟩
abbrev main_v358 : Ref sig .tc := ⟨.hbm, 441, rfl⟩
abbrev main_v359 : Ref sig .tc := ⟨.hbm, 442, rfl⟩
abbrev main_v360 : Ref sig .tc := ⟨.hbm, 443, rfl⟩
abbrev main_v361 : Ref sig .tc := ⟨.hbm, 444, rfl⟩
abbrev main_v362 : Ref sig .tc := ⟨.hbm, 445, rfl⟩
abbrev main_v363 : Ref sig .tc := ⟨.hbm, 446, rfl⟩
abbrev main_v364 : Ref sig .tc := ⟨.hbm, 447, rfl⟩
abbrev main_c_52 : Ref sig .tc := ⟨.hbm, 448, rfl⟩
abbrev main_v365 : Ref sig .tc := ⟨.hbm, 449, rfl⟩
abbrev main_v366 : Ref sig .tc := ⟨.hbm, 450, rfl⟩
abbrev main_c_53 : Ref sig .tc := ⟨.hbm, 451, rfl⟩
abbrev main_v367 : Ref sig .tc := ⟨.hbm, 452, rfl⟩
abbrev main_v368 : Ref sig .tc := ⟨.hbm, 453, rfl⟩
abbrev main_v369 : Ref sig .tc := ⟨.hbm, 454, rfl⟩
abbrev main_v370 : Ref sig .tc := ⟨.hbm, 455, rfl⟩
abbrev main_v371 : Ref sig .tc := ⟨.hbm, 456, rfl⟩
abbrev main_v372 : Ref sig .tc := ⟨.hbm, 457, rfl⟩
abbrev main_v373 : Ref sig .tc := ⟨.hbm, 458, rfl⟩
abbrev main_v374 : Ref sig .tc := ⟨.hbm, 459, rfl⟩
abbrev main_v375 : Ref sig .tc := ⟨.hbm, 460, rfl⟩
abbrev main_v376 : Ref sig .tc := ⟨.hbm, 461, rfl⟩
abbrev main_c_54 : Ref sig .tc := ⟨.hbm, 462, rfl⟩
abbrev main_v377 : Ref sig .tc := ⟨.hbm, 463, rfl⟩
abbrev main_v378 : Ref sig .tc := ⟨.hbm, 464, rfl⟩
abbrev main_c_55 : Ref sig .tc := ⟨.hbm, 465, rfl⟩
abbrev main_v379 : Ref sig .tc := ⟨.hbm, 466, rfl⟩
abbrev main_v380 : Ref sig .tc := ⟨.hbm, 467, rfl⟩
abbrev main_v381 : Ref sig .tc := ⟨.hbm, 468, rfl⟩
abbrev main_v382 : Ref sig .tc := ⟨.hbm, 469, rfl⟩
abbrev main_v383 : Ref sig .tc := ⟨.hbm, 470, rfl⟩
abbrev main_v384 : Ref sig .tc := ⟨.hbm, 471, rfl⟩
abbrev main_v385 : Ref sig .tc := ⟨.hbm, 472, rfl⟩
abbrev main_v386 : Ref sig .tc := ⟨.hbm, 473, rfl⟩
abbrev main_v387 : Ref sig .tc := ⟨.hbm, 474, rfl⟩
abbrev main_v388 : Ref sig .tc := ⟨.hbm, 475, rfl⟩
abbrev main_c_56 : Ref sig .tc := ⟨.hbm, 476, rfl⟩
abbrev main_v389 : Ref sig .tc := ⟨.hbm, 477, rfl⟩
abbrev main_v390 : Ref sig .tc := ⟨.hbm, 478, rfl⟩
abbrev main_c_57 : Ref sig .tc := ⟨.hbm, 479, rfl⟩
abbrev main_v391 : Ref sig .tc := ⟨.hbm, 480, rfl⟩
abbrev main_v392 : Ref sig .tc := ⟨.hbm, 481, rfl⟩
abbrev main_v393 : Ref sig .tc := ⟨.hbm, 482, rfl⟩
abbrev main_v394 : Ref sig .tc := ⟨.hbm, 483, rfl⟩
abbrev main_v395 : Ref sig .tc := ⟨.hbm, 484, rfl⟩
abbrev main_v396 : Ref sig .tc := ⟨.hbm, 485, rfl⟩
abbrev main_v397 : Ref sig .tc := ⟨.hbm, 486, rfl⟩
abbrev main_v398 : Ref sig .tc := ⟨.hbm, 487, rfl⟩
abbrev main_v399 : Ref sig .tc := ⟨.hbm, 488, rfl⟩
abbrev main_v400 : Ref sig .tc := ⟨.hbm, 489, rfl⟩
abbrev main_v401 : Ref sig .tc := ⟨.hbm, 490, rfl⟩
abbrev main_v402 : Ref sig .tc := ⟨.hbm, 491, rfl⟩
abbrev main_v403 : Ref sig .tc := ⟨.hbm, 492, rfl⟩
abbrev main_v404 : Ref sig .tc := ⟨.hbm, 493, rfl⟩
abbrev main_v405 : Ref sig .tc := ⟨.hbm, 494, rfl⟩
abbrev main_v406 : Ref sig .tc := ⟨.hbm, 495, rfl⟩
abbrev main_v407_0 : Ref sig .tc := ⟨.hbm, 496, rfl⟩
abbrev main_v407_1 : Ref sig .tc := ⟨.hbm, 497, rfl⟩
abbrev main_v408 : Ref sig .tc := ⟨.hbm, 498, rfl⟩
abbrev main_v409 : Ref sig .tc := ⟨.hbm, 499, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30
abbrev cc0_sem19_0 : DmaSem sig := 31

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c0_i32_0 : BitVec 32 := 0#32
  let v4 : BitVec 1 := Scalar.cmpi .eq v3 c0_i32_0
  let v5 : BitVec 32 := Scalar.extui v4
  let c0_i32_1 : BitVec 32 := 0#32
  let v6 : BitVec 1 := Scalar.cmpi .ne v5 c0_i32_1
  v6

def k0_mult1 (i : grid0.Coords) : BitVec 32 :=
  let c7_i32_1261 : BitVec 32 := 7#32
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c8_i32_1255 : BitVec 32 := 8#32
  let c0_i32_1256 : BitVec 32 := 0#32
  let v2163 : BitVec 1 := Scalar.cmpi .eq c8_i32_1255 c0_i32_1256
  let c1_i32_1257 : BitVec 32 := 1#32
  let v2164 : BitVec 32 := Scalar.select v2163 c1_i32_1257 c8_i32_1255
  let v2165 : BitVec 32 := Scalar.remsi v3 v2164
  let c0_i32_1259 : BitVec 32 := 0#32
  let v2167 : BitVec 1 := Scalar.cmpi .slt v2165 c0_i32_1259
  let c0_i32_1260 : BitVec 32 := 0#32
  let v2168 : BitVec 1 := Scalar.cmpi .slt v2164 c0_i32_1260
  let v2169 : BitVec 1 := Scalar.xori v2167 v2168
  let c0_i32_1258 : BitVec 32 := 0#32
  let v2166 : BitVec 1 := Scalar.cmpi .ne v2165 c0_i32_1258
  let v2170 : BitVec 1 := Scalar.andi v2169 v2166
  let v2171 : BitVec 32 := Scalar.addi v2165 v2164
  let v2172 : BitVec 32 := Scalar.select v2170 v2171 v2165
  let v2173 : BitVec 32 := Scalar.subi c7_i32_1261 v2172
  let c256_i32_1262 : BitVec 32 := 256#32
  let v2174 : BitVec 32 := Scalar.muli v2173 c256_i32_1262
  v2174
def k0_off1 (i : grid0.Coords) : Fin 1 → Nat :=
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c3_i32_1263 : BitVec 32 := 3#32
  let c0_i32_1264 : BitVec 32 := 0#32
  let v2176 : BitVec 1 := Scalar.cmpi .eq c3_i32_1263 c0_i32_1264
  let c1_i32_1265 : BitVec 32 := 1#32
  let v2177 : BitVec 32 := Scalar.select v2176 c1_i32_1265 c3_i32_1263
  let v2178 : BitVec 32 := Scalar.remsi v3 v2177
  let c0_i32_1267 : BitVec 32 := 0#32
  let v2180 : BitVec 1 := Scalar.cmpi .slt v2178 c0_i32_1267
  let c0_i32_1268 : BitVec 32 := 0#32
  let v2181 : BitVec 1 := Scalar.cmpi .slt v2177 c0_i32_1268
  let v2182 : BitVec 1 := Scalar.xori v2180 v2181
  let c0_i32_1266 : BitVec 32 := 0#32
  let v2179 : BitVec 1 := Scalar.cmpi .ne v2178 c0_i32_1266
  let v2183 : BitVec 1 := Scalar.andi v2182 v2179
  let v2184 : BitVec 32 := Scalar.addi v2178 v2177
  let v2185 : BitVec 32 := Scalar.select v2183 v2184 v2178
  ![v2185.toNat]
def k0_off2 (i : grid0.Coords) : Fin 3 → Nat :=
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c3_i32_1263 : BitVec 32 := 3#32
  let c0_i32_1264 : BitVec 32 := 0#32
  let v2176 : BitVec 1 := Scalar.cmpi .eq c3_i32_1263 c0_i32_1264
  let c1_i32_1265 : BitVec 32 := 1#32
  let v2177 : BitVec 32 := Scalar.select v2176 c1_i32_1265 c3_i32_1263
  let v2178 : BitVec 32 := Scalar.remsi v3 v2177
  let c0_i32_1267 : BitVec 32 := 0#32
  let v2180 : BitVec 1 := Scalar.cmpi .slt v2178 c0_i32_1267
  let c0_i32_1268 : BitVec 32 := 0#32
  let v2181 : BitVec 1 := Scalar.cmpi .slt v2177 c0_i32_1268
  let v2182 : BitVec 1 := Scalar.xori v2180 v2181
  let c0_i32_1266 : BitVec 32 := 0#32
  let v2179 : BitVec 1 := Scalar.cmpi .ne v2178 c0_i32_1266
  let v2183 : BitVec 1 := Scalar.andi v2182 v2179
  let v2184 : BitVec 32 := Scalar.addi v2178 v2177
  let v2185 : BitVec 32 := Scalar.select v2183 v2184 v2178
  let c0_i32_1276 : BitVec 32 := 0#32
  let c0_i32_1277 : BitVec 32 := 0#32
  ![v2185.toNat, 0, 0]
def k0_off3 (i : grid0.Coords) : Fin 3 → Nat :=
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c0_i32_1270 : BitVec 32 := 0#32
  let v2187 : BitVec 1 := Scalar.cmpi .sgt v3 c0_i32_1270
  let v2188 : BitVec 32 := Scalar.extui v2187
  let c0_i32_1271 : BitVec 32 := 0#32
  let v2189 : BitVec 1 := Scalar.cmpi .slt v3 c0_i32_1271
  let v2190 : BitVec 32 := Scalar.extui v2189
  let v2191 : BitVec 32 := Scalar.subi v2188 v2190
  let c8_i32_1269 : BitVec 32 := 8#32
  let c0_i32_1272 : BitVec 32 := 0#32
  let v2192 : BitVec 1 := Scalar.cmpi .sgt c8_i32_1269 c0_i32_1272
  let v2193 : BitVec 32 := Scalar.extui v2192
  let c0_i32_1273 : BitVec 32 := 0#32
  let v2194 : BitVec 1 := Scalar.cmpi .slt c8_i32_1269 c0_i32_1273
  let v2195 : BitVec 32 := Scalar.extui v2194
  let v2196 : BitVec 32 := Scalar.subi v2193 v2195
  let v2197 : BitVec 1 := Scalar.cmpi .ne v2191 v2196
  let v2198 : BitVec 32 := Scalar.remsi v3 c8_i32_1269
  let c0_i32_1274 : BitVec 32 := 0#32
  let v2199 : BitVec 1 := Scalar.cmpi .ne v2198 c0_i32_1274
  let v2200 : BitVec 1 := Scalar.andi v2197 v2199
  let v2186 : BitVec 32 := Scalar.divsi v3 c8_i32_1269
  let c1_i32_1275 : BitVec 32 := 1#32
  let v2201 : BitVec 32 := Scalar.subi v2186 c1_i32_1275
  let v2202 : BitVec 32 := Scalar.select v2200 v2201 v2186
  let c7_i32_1261 : BitVec 32 := 7#32
  let c8_i32_1255 : BitVec 32 := 8#32
  let c0_i32_1256 : BitVec 32 := 0#32
  let v2163 : BitVec 1 := Scalar.cmpi .eq c8_i32_1255 c0_i32_1256
  let c1_i32_1257 : BitVec 32 := 1#32
  let v2164 : BitVec 32 := Scalar.select v2163 c1_i32_1257 c8_i32_1255
  let v2165 : BitVec 32 := Scalar.remsi v3 v2164
  let c0_i32_1259 : BitVec 32 := 0#32
  let v2167 : BitVec 1 := Scalar.cmpi .slt v2165 c0_i32_1259
  let c0_i32_1260 : BitVec 32 := 0#32
  let v2168 : BitVec 1 := Scalar.cmpi .slt v2164 c0_i32_1260
  let v2169 : BitVec 1 := Scalar.xori v2167 v2168
  let c0_i32_1258 : BitVec 32 := 0#32
  let v2166 : BitVec 1 := Scalar.cmpi .ne v2165 c0_i32_1258
  let v2170 : BitVec 1 := Scalar.andi v2169 v2166
  let v2171 : BitVec 32 := Scalar.addi v2165 v2164
  let v2172 : BitVec 32 := Scalar.select v2170 v2171 v2165
  let v2173 : BitVec 32 := Scalar.subi c7_i32_1261 v2172
  let c256_i32_1262 : BitVec 32 := 256#32
  let v2174 : BitVec 32 := Scalar.muli v2173 c256_i32_1262
  let v2175 : BitVec 32 := v2174
  let c0_i32_1278 : BitVec 32 := 0#32
  ![v2202.toNat, v2175.toNat, 0]
def k0_mult2 (i : grid0.Coords) : BitVec 32 :=
  let c7_i32_1286 : BitVec 32 := 7#32
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c1_i32_1279 : BitVec 32 := 1#32
  let v2209 : BitVec 32 := Scalar.addi v3 c1_i32_1279
  let c8_i32_1280 : BitVec 32 := 8#32
  let c0_i32_1281 : BitVec 32 := 0#32
  let v2210 : BitVec 1 := Scalar.cmpi .eq c8_i32_1280 c0_i32_1281
  let c1_i32_1282 : BitVec 32 := 1#32
  let v2211 : BitVec 32 := Scalar.select v2210 c1_i32_1282 c8_i32_1280
  let v2212 : BitVec 32 := Scalar.remsi v2209 v2211
  let c0_i32_1284 : BitVec 32 := 0#32
  let v2214 : BitVec 1 := Scalar.cmpi .slt v2212 c0_i32_1284
  let c0_i32_1285 : BitVec 32 := 0#32
  let v2215 : BitVec 1 := Scalar.cmpi .slt v2211 c0_i32_1285
  let v2216 : BitVec 1 := Scalar.xori v2214 v2215
  let c0_i32_1283 : BitVec 32 := 0#32
  let v2213 : BitVec 1 := Scalar.cmpi .ne v2212 c0_i32_1283
  let v2217 : BitVec 1 := Scalar.andi v2216 v2213
  let v2218 : BitVec 32 := Scalar.addi v2212 v2211
  let v2219 : BitVec 32 := Scalar.select v2217 v2218 v2212
  let v2220 : BitVec 32 := Scalar.subi c7_i32_1286 v2219
  let c256_i32_1287 : BitVec 32 := 256#32
  let v2221 : BitVec 32 := Scalar.muli v2220 c256_i32_1287
  v2221
def k0_off4 (i : grid0.Coords) : Fin 1 → Nat :=
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c1_i32_1279 : BitVec 32 := 1#32
  let v2209 : BitVec 32 := Scalar.addi v3 c1_i32_1279
  let c3_i32_1288 : BitVec 32 := 3#32
  let c0_i32_1289 : BitVec 32 := 0#32
  let v2223 : BitVec 1 := Scalar.cmpi .eq c3_i32_1288 c0_i32_1289
  let c1_i32_1290 : BitVec 32 := 1#32
  let v2224 : BitVec 32 := Scalar.select v2223 c1_i32_1290 c3_i32_1288
  let v2225 : BitVec 32 := Scalar.remsi v2209 v2224
  let c0_i32_1292 : BitVec 32 := 0#32
  let v2227 : BitVec 1 := Scalar.cmpi .slt v2225 c0_i32_1292
  let c0_i32_1293 : BitVec 32 := 0#32
  let v2228 : BitVec 1 := Scalar.cmpi .slt v2224 c0_i32_1293
  let v2229 : BitVec 1 := Scalar.xori v2227 v2228
  let c0_i32_1291 : BitVec 32 := 0#32
  let v2226 : BitVec 1 := Scalar.cmpi .ne v2225 c0_i32_1291
  let v2230 : BitVec 1 := Scalar.andi v2229 v2226
  let v2231 : BitVec 32 := Scalar.addi v2225 v2224
  let v2232 : BitVec 32 := Scalar.select v2230 v2231 v2225
  ![v2232.toNat]
def k0_off5 (i : grid0.Coords) : Fin 3 → Nat :=
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c1_i32_1279 : BitVec 32 := 1#32
  let v2209 : BitVec 32 := Scalar.addi v3 c1_i32_1279
  let c3_i32_1288 : BitVec 32 := 3#32
  let c0_i32_1289 : BitVec 32 := 0#32
  let v2223 : BitVec 1 := Scalar.cmpi .eq c3_i32_1288 c0_i32_1289
  let c1_i32_1290 : BitVec 32 := 1#32
  let v2224 : BitVec 32 := Scalar.select v2223 c1_i32_1290 c3_i32_1288
  let v2225 : BitVec 32 := Scalar.remsi v2209 v2224
  let c0_i32_1292 : BitVec 32 := 0#32
  let v2227 : BitVec 1 := Scalar.cmpi .slt v2225 c0_i32_1292
  let c0_i32_1293 : BitVec 32 := 0#32
  let v2228 : BitVec 1 := Scalar.cmpi .slt v2224 c0_i32_1293
  let v2229 : BitVec 1 := Scalar.xori v2227 v2228
  let c0_i32_1291 : BitVec 32 := 0#32
  let v2226 : BitVec 1 := Scalar.cmpi .ne v2225 c0_i32_1291
  let v2230 : BitVec 1 := Scalar.andi v2229 v2226
  let v2231 : BitVec 32 := Scalar.addi v2225 v2224
  let v2232 : BitVec 32 := Scalar.select v2230 v2231 v2225
  let c0_i32_1301 : BitVec 32 := 0#32
  let c0_i32_1302 : BitVec 32 := 0#32
  ![v2232.toNat, 0, 0]
def k0_off6 (i : grid0.Coords) : Fin 3 → Nat :=
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c1_i32_1279 : BitVec 32 := 1#32
  let v2209 : BitVec 32 := Scalar.addi v3 c1_i32_1279
  let c0_i32_1295 : BitVec 32 := 0#32
  let v2234 : BitVec 1 := Scalar.cmpi .sgt v2209 c0_i32_1295
  let v2235 : BitVec 32 := Scalar.extui v2234
  let c0_i32_1296 : BitVec 32 := 0#32
  let v2236 : BitVec 1 := Scalar.cmpi .slt v2209 c0_i32_1296
  let v2237 : BitVec 32 := Scalar.extui v2236
  let v2238 : BitVec 32 := Scalar.subi v2235 v2237
  let c8_i32_1294 : BitVec 32 := 8#32
  let c0_i32_1297 : BitVec 32 := 0#32
  let v2239 : BitVec 1 := Scalar.cmpi .sgt c8_i32_1294 c0_i32_1297
  let v2240 : BitVec 32 := Scalar.extui v2239
  let c0_i32_1298 : BitVec 32 := 0#32
  let v2241 : BitVec 1 := Scalar.cmpi .slt c8_i32_1294 c0_i32_1298
  let v2242 : BitVec 32 := Scalar.extui v2241
  let v2243 : BitVec 32 := Scalar.subi v2240 v2242
  let v2244 : BitVec 1 := Scalar.cmpi .ne v2238 v2243
  let v2245 : BitVec 32 := Scalar.remsi v2209 c8_i32_1294
  let c0_i32_1299 : BitVec 32 := 0#32
  let v2246 : BitVec 1 := Scalar.cmpi .ne v2245 c0_i32_1299
  let v2247 : BitVec 1 := Scalar.andi v2244 v2246
  let v2233 : BitVec 32 := Scalar.divsi v2209 c8_i32_1294
  let c1_i32_1300 : BitVec 32 := 1#32
  let v2248 : BitVec 32 := Scalar.subi v2233 c1_i32_1300
  let v2249 : BitVec 32 := Scalar.select v2247 v2248 v2233
  let c7_i32_1286 : BitVec 32 := 7#32
  let c8_i32_1280 : BitVec 32 := 8#32
  let c0_i32_1281 : BitVec 32 := 0#32
  let v2210 : BitVec 1 := Scalar.cmpi .eq c8_i32_1280 c0_i32_1281
  let c1_i32_1282 : BitVec 32 := 1#32
  let v2211 : BitVec 32 := Scalar.select v2210 c1_i32_1282 c8_i32_1280
  let v2212 : BitVec 32 := Scalar.remsi v2209 v2211
  let c0_i32_1284 : BitVec 32 := 0#32
  let v2214 : BitVec 1 := Scalar.cmpi .slt v2212 c0_i32_1284
  let c0_i32_1285 : BitVec 32 := 0#32
  let v2215 : BitVec 1 := Scalar.cmpi .slt v2211 c0_i32_1285
  let v2216 : BitVec 1 := Scalar.xori v2214 v2215
  let c0_i32_1283 : BitVec 32 := 0#32
  let v2213 : BitVec 1 := Scalar.cmpi .ne v2212 c0_i32_1283
  let v2217 : BitVec 1 := Scalar.andi v2216 v2213
  let v2218 : BitVec 32 := Scalar.addi v2212 v2211
  let v2219 : BitVec 32 := Scalar.select v2217 v2218 v2212
  let v2220 : BitVec 32 := Scalar.subi c7_i32_1286 v2219
  let c256_i32_1287 : BitVec 32 := 256#32
  let v2221 : BitVec 32 := Scalar.muli v2220 c256_i32_1287
  let v2222 : BitVec 32 := v2221
  let c0_i32_1303 : BitVec 32 := 0#32
  ![v2249.toNat, v2222.toNat, 0]
def k0_cond2 (i : grid0.Coords) : BitVec 1 :=
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c2_i32 : BitVec 32 := 2#32
  let v7 : BitVec 32 := Scalar.addi v3 c2_i32
  let c16_i32 : BitVec 32 := 16#32
  let v8 : BitVec 1 := Scalar.cmpi .slt v7 c16_i32
  let v9 : BitVec 32 := Scalar.extui v8
  let c0_i32_2 : BitVec 32 := 0#32
  let v10 : BitVec 1 := Scalar.cmpi .ne v9 c0_i32_2
  v10

def k0_mult3 (i : grid0.Coords) : BitVec 32 :=
  let c7_i32_1262 : BitVec 32 := 7#32
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c2_i32_1255 : BitVec 32 := 2#32
  let v2163 : BitVec 32 := Scalar.addi v3 c2_i32_1255
  let c8_i32_1256 : BitVec 32 := 8#32
  let c0_i32_1257 : BitVec 32 := 0#32
  let v2164 : BitVec 1 := Scalar.cmpi .eq c8_i32_1256 c0_i32_1257
  let c1_i32_1258 : BitVec 32 := 1#32
  let v2165 : BitVec 32 := Scalar.select v2164 c1_i32_1258 c8_i32_1256
  let v2166 : BitVec 32 := Scalar.remsi v2163 v2165
  let c0_i32_1260 : BitVec 32 := 0#32
  let v2168 : BitVec 1 := Scalar.cmpi .slt v2166 c0_i32_1260
  let c0_i32_1261 : BitVec 32 := 0#32
  let v2169 : BitVec 1 := Scalar.cmpi .slt v2165 c0_i32_1261
  let v2170 : BitVec 1 := Scalar.xori v2168 v2169
  let c0_i32_1259 : BitVec 32 := 0#32
  let v2167 : BitVec 1 := Scalar.cmpi .ne v2166 c0_i32_1259
  let v2171 : BitVec 1 := Scalar.andi v2170 v2167
  let v2172 : BitVec 32 := Scalar.addi v2166 v2165
  let v2173 : BitVec 32 := Scalar.select v2171 v2172 v2166
  let v2174 : BitVec 32 := Scalar.subi c7_i32_1262 v2173
  let c256_i32_1263 : BitVec 32 := 256#32
  let v2175 : BitVec 32 := Scalar.muli v2174 c256_i32_1263
  v2175
def k0_off7 (i : grid0.Coords) : Fin 1 → Nat :=
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c2_i32_1255 : BitVec 32 := 2#32
  let v2163 : BitVec 32 := Scalar.addi v3 c2_i32_1255
  let c3_i32_1264 : BitVec 32 := 3#32
  let c0_i32_1265 : BitVec 32 := 0#32
  let v2177 : BitVec 1 := Scalar.cmpi .eq c3_i32_1264 c0_i32_1265
  let c1_i32_1266 : BitVec 32 := 1#32
  let v2178 : BitVec 32 := Scalar.select v2177 c1_i32_1266 c3_i32_1264
  let v2179 : BitVec 32 := Scalar.remsi v2163 v2178
  let c0_i32_1268 : BitVec 32 := 0#32
  let v2181 : BitVec 1 := Scalar.cmpi .slt v2179 c0_i32_1268
  let c0_i32_1269 : BitVec 32 := 0#32
  let v2182 : BitVec 1 := Scalar.cmpi .slt v2178 c0_i32_1269
  let v2183 : BitVec 1 := Scalar.xori v2181 v2182
  let c0_i32_1267 : BitVec 32 := 0#32
  let v2180 : BitVec 1 := Scalar.cmpi .ne v2179 c0_i32_1267
  let v2184 : BitVec 1 := Scalar.andi v2183 v2180
  let v2185 : BitVec 32 := Scalar.addi v2179 v2178
  let v2186 : BitVec 32 := Scalar.select v2184 v2185 v2179
  ![v2186.toNat]
def k0_off8 (i : grid0.Coords) : Fin 3 → Nat :=
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c2_i32_1255 : BitVec 32 := 2#32
  let v2163 : BitVec 32 := Scalar.addi v3 c2_i32_1255
  let c3_i32_1264 : BitVec 32 := 3#32
  let c0_i32_1265 : BitVec 32 := 0#32
  let v2177 : BitVec 1 := Scalar.cmpi .eq c3_i32_1264 c0_i32_1265
  let c1_i32_1266 : BitVec 32 := 1#32
  let v2178 : BitVec 32 := Scalar.select v2177 c1_i32_1266 c3_i32_1264
  let v2179 : BitVec 32 := Scalar.remsi v2163 v2178
  let c0_i32_1268 : BitVec 32 := 0#32
  let v2181 : BitVec 1 := Scalar.cmpi .slt v2179 c0_i32_1268
  let c0_i32_1269 : BitVec 32 := 0#32
  let v2182 : BitVec 1 := Scalar.cmpi .slt v2178 c0_i32_1269
  let v2183 : BitVec 1 := Scalar.xori v2181 v2182
  let c0_i32_1267 : BitVec 32 := 0#32
  let v2180 : BitVec 1 := Scalar.cmpi .ne v2179 c0_i32_1267
  let v2184 : BitVec 1 := Scalar.andi v2183 v2180
  let v2185 : BitVec 32 := Scalar.addi v2179 v2178
  let v2186 : BitVec 32 := Scalar.select v2184 v2185 v2179
  let c0_i32_1277 : BitVec 32 := 0#32
  let c0_i32_1278 : BitVec 32 := 0#32
  ![v2186.toNat, 0, 0]
def k0_off9 (i : grid0.Coords) : Fin 3 → Nat :=
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c2_i32_1255 : BitVec 32 := 2#32
  let v2163 : BitVec 32 := Scalar.addi v3 c2_i32_1255
  let c0_i32_1271 : BitVec 32 := 0#32
  let v2188 : BitVec 1 := Scalar.cmpi .sgt v2163 c0_i32_1271
  let v2189 : BitVec 32 := Scalar.extui v2188
  let c0_i32_1272 : BitVec 32 := 0#32
  let v2190 : BitVec 1 := Scalar.cmpi .slt v2163 c0_i32_1272
  let v2191 : BitVec 32 := Scalar.extui v2190
  let v2192 : BitVec 32 := Scalar.subi v2189 v2191
  let c8_i32_1270 : BitVec 32 := 8#32
  let c0_i32_1273 : BitVec 32 := 0#32
  let v2193 : BitVec 1 := Scalar.cmpi .sgt c8_i32_1270 c0_i32_1273
  let v2194 : BitVec 32 := Scalar.extui v2193
  let c0_i32_1274 : BitVec 32 := 0#32
  let v2195 : BitVec 1 := Scalar.cmpi .slt c8_i32_1270 c0_i32_1274
  let v2196 : BitVec 32 := Scalar.extui v2195
  let v2197 : BitVec 32 := Scalar.subi v2194 v2196
  let v2198 : BitVec 1 := Scalar.cmpi .ne v2192 v2197
  let v2199 : BitVec 32 := Scalar.remsi v2163 c8_i32_1270
  let c0_i32_1275 : BitVec 32 := 0#32
  let v2200 : BitVec 1 := Scalar.cmpi .ne v2199 c0_i32_1275
  let v2201 : BitVec 1 := Scalar.andi v2198 v2200
  let v2187 : BitVec 32 := Scalar.divsi v2163 c8_i32_1270
  let c1_i32_1276 : BitVec 32 := 1#32
  let v2202 : BitVec 32 := Scalar.subi v2187 c1_i32_1276
  let v2203 : BitVec 32 := Scalar.select v2201 v2202 v2187
  let c7_i32_1262 : BitVec 32 := 7#32
  let c8_i32_1256 : BitVec 32 := 8#32
  let c0_i32_1257 : BitVec 32 := 0#32
  let v2164 : BitVec 1 := Scalar.cmpi .eq c8_i32_1256 c0_i32_1257
  let c1_i32_1258 : BitVec 32 := 1#32
  let v2165 : BitVec 32 := Scalar.select v2164 c1_i32_1258 c8_i32_1256
  let v2166 : BitVec 32 := Scalar.remsi v2163 v2165
  let c0_i32_1260 : BitVec 32 := 0#32
  let v2168 : BitVec 1 := Scalar.cmpi .slt v2166 c0_i32_1260
  let c0_i32_1261 : BitVec 32 := 0#32
  let v2169 : BitVec 1 := Scalar.cmpi .slt v2165 c0_i32_1261
  let v2170 : BitVec 1 := Scalar.xori v2168 v2169
  let c0_i32_1259 : BitVec 32 := 0#32
  let v2167 : BitVec 1 := Scalar.cmpi .ne v2166 c0_i32_1259
  let v2171 : BitVec 1 := Scalar.andi v2170 v2167
  let v2172 : BitVec 32 := Scalar.addi v2166 v2165
  let v2173 : BitVec 32 := Scalar.select v2171 v2172 v2166
  let v2174 : BitVec 32 := Scalar.subi c7_i32_1262 v2173
  let c256_i32_1263 : BitVec 32 := 256#32
  let v2175 : BitVec 32 := Scalar.muli v2174 c256_i32_1263
  let v2176 : BitVec 32 := v2175
  let c0_i32_1279 : BitVec 32 := 0#32
  ![v2203.toNat, v2176.toNat, 0]
def k0_mult4 (i : grid0.Coords) : BitVec 32 :=
  let c7_i32_31 : BitVec 32 := 7#32
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c8_i32_26 : BitVec 32 := 8#32
  let c0_i32_27 : BitVec 32 := 0#32
  let v41 : BitVec 1 := Scalar.cmpi .eq c8_i32_26 c0_i32_27
  let c1_i32 : BitVec 32 := 1#32
  let v42 : BitVec 32 := Scalar.select v41 c1_i32 c8_i32_26
  let v43 : BitVec 32 := Scalar.remsi v3 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v51 : BitVec 32 := Scalar.subi c7_i32_31 v50
  let c256_i32 : BitVec 32 := 256#32
  let v52 : BitVec 32 := Scalar.muli v51 c256_i32
  v52
def k0_off10 (i : grid0.Coords) : Fin 1 → Nat :=
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c3_i32 : BitVec 32 := 3#32
  let c0_i32_32 : BitVec 32 := 0#32
  let v54 : BitVec 1 := Scalar.cmpi .eq c3_i32 c0_i32_32
  let c1_i32_33 : BitVec 32 := 1#32
  let v55 : BitVec 32 := Scalar.select v54 c1_i32_33 c3_i32
  let v56 : BitVec 32 := Scalar.remsi v3 v55
  let c0_i32_35 : BitVec 32 := 0#32
  let v58 : BitVec 1 := Scalar.cmpi .slt v56 c0_i32_35
  let c0_i32_36 : BitVec 32 := 0#32
  let v59 : BitVec 1 := Scalar.cmpi .slt v55 c0_i32_36
  let v60 : BitVec 1 := Scalar.xori v58 v59
  let c0_i32_34 : BitVec 32 := 0#32
  let v57 : BitVec 1 := Scalar.cmpi .ne v56 c0_i32_34
  let v61 : BitVec 1 := Scalar.andi v60 v57
  let v62 : BitVec 32 := Scalar.addi v56 v55
  let v63 : BitVec 32 := Scalar.select v61 v62 v56
  ![v63.toNat]
def k0_off11 (i : grid0.Coords) : Fin 3 → Nat :=
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c3_i32 : BitVec 32 := 3#32
  let c0_i32_32 : BitVec 32 := 0#32
  let v54 : BitVec 1 := Scalar.cmpi .eq c3_i32 c0_i32_32
  let c1_i32_33 : BitVec 32 := 1#32
  let v55 : BitVec 32 := Scalar.select v54 c1_i32_33 c3_i32
  let v56 : BitVec 32 := Scalar.remsi v3 v55
  let c0_i32_35 : BitVec 32 := 0#32
  let v58 : BitVec 1 := Scalar.cmpi .slt v56 c0_i32_35
  let c0_i32_36 : BitVec 32 := 0#32
  let v59 : BitVec 1 := Scalar.cmpi .slt v55 c0_i32_36
  let v60 : BitVec 1 := Scalar.xori v58 v59
  let c0_i32_34 : BitVec 32 := 0#32
  let v57 : BitVec 1 := Scalar.cmpi .ne v56 c0_i32_34
  let v61 : BitVec 1 := Scalar.andi v60 v57
  let v62 : BitVec 32 := Scalar.addi v56 v55
  let v63 : BitVec 32 := Scalar.select v61 v62 v56
  let c0_i32_44 : BitVec 32 := 0#32
  let c0_i32_45 : BitVec 32 := 0#32
  ![v63.toNat, 0, 0]
def k0_off12 (i : grid0.Coords) : Fin 3 → Nat :=
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c0_i32_38 : BitVec 32 := 0#32
  let v65 : BitVec 1 := Scalar.cmpi .sgt v3 c0_i32_38
  let v66 : BitVec 32 := Scalar.extui v65
  let c0_i32_39 : BitVec 32 := 0#32
  let v67 : BitVec 1 := Scalar.cmpi .slt v3 c0_i32_39
  let v68 : BitVec 32 := Scalar.extui v67
  let v69 : BitVec 32 := Scalar.subi v66 v68
  let c8_i32_37 : BitVec 32 := 8#32
  let c0_i32_40 : BitVec 32 := 0#32
  let v70 : BitVec 1 := Scalar.cmpi .sgt c8_i32_37 c0_i32_40
  let v71 : BitVec 32 := Scalar.extui v70
  let c0_i32_41 : BitVec 32 := 0#32
  let v72 : BitVec 1 := Scalar.cmpi .slt c8_i32_37 c0_i32_41
  let v73 : BitVec 32 := Scalar.extui v72
  let v74 : BitVec 32 := Scalar.subi v71 v73
  let v75 : BitVec 1 := Scalar.cmpi .ne v69 v74
  let v76 : BitVec 32 := Scalar.remsi v3 c8_i32_37
  let c0_i32_42 : BitVec 32 := 0#32
  let v77 : BitVec 1 := Scalar.cmpi .ne v76 c0_i32_42
  let v78 : BitVec 1 := Scalar.andi v75 v77
  let v64 : BitVec 32 := Scalar.divsi v3 c8_i32_37
  let c1_i32_43 : BitVec 32 := 1#32
  let v79 : BitVec 32 := Scalar.subi v64 c1_i32_43
  let v80 : BitVec 32 := Scalar.select v78 v79 v64
  let c7_i32_31 : BitVec 32 := 7#32
  let c8_i32_26 : BitVec 32 := 8#32
  let c0_i32_27 : BitVec 32 := 0#32
  let v41 : BitVec 1 := Scalar.cmpi .eq c8_i32_26 c0_i32_27
  let c1_i32 : BitVec 32 := 1#32
  let v42 : BitVec 32 := Scalar.select v41 c1_i32 c8_i32_26
  let v43 : BitVec 32 := Scalar.remsi v3 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v51 : BitVec 32 := Scalar.subi c7_i32_31 v50
  let c256_i32 : BitVec 32 := 256#32
  let v52 : BitVec 32 := Scalar.muli v51 c256_i32
  let v53 : BitVec 32 := v52
  let c0_i32_46 : BitVec 32 := 0#32
  ![v80.toNat, v53.toNat, 0]
@[reducible] def k0_t1_loop : Scf.Loop 32 :=
  let c0_i32_196 : BitVec 32 := 0#32
  let c32_i32 : BitVec 32 := 32#32
  let v345 : BitVec 32 := Scalar.addi c0_i32_196 c32_i32
  let c1_i32_197 : BitVec 32 := 1#32
  ⟨c0_i32_196, v345, c1_i32_197⟩
def k0_mult5 (k0_t1 : Fin k0_t1_loop.trips) : BitVec 32 :=
  let c31_i32 : BitVec 32 := 31#32
  let c0_i32_196 : BitVec 32 := 0#32
  let c1_i32_197 : BitVec 32 := 1#32
  let arg32 : BitVec 32 := Scf.iv c0_i32_196 c1_i32_197 k0_t1
  let v2163 : BitVec 32 := Scalar.subi c31_i32 arg32
  let c8_i32_1255 : BitVec 32 := 8#32
  let v2164 : BitVec 32 := Scalar.muli v2163 c8_i32_1255
  v2164
def k0_off13 (k0_t1 : Fin k0_t1_loop.trips) : Fin 2 → Nat :=
  let c31_i32 : BitVec 32 := 31#32
  let c0_i32_196 : BitVec 32 := 0#32
  let c1_i32_197 : BitVec 32 := 1#32
  let arg32 : BitVec 32 := Scf.iv c0_i32_196 c1_i32_197 k0_t1
  let v2163 : BitVec 32 := Scalar.subi c31_i32 arg32
  let c8_i32_1255 : BitVec 32 := 8#32
  let v2164 : BitVec 32 := Scalar.muli v2163 c8_i32_1255
  let v2165 : BitVec 32 := v2164
  let v2166 : Index := Scalar.indexCast v2165
  let c0_1256 : Index := 0#32
  ![v2166.toNat, 0]
def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S4x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S24x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x256x5120 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 1 → Memref sig .tc .vmem S3072x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]
-- ==== Reference3Ideal.lean ====
abbrev S2x2048x3072 : Shape := ⟨3, ![2, 2048, 3072]⟩
abbrev S4x1024 : Shape := ⟨2, ![4, 1024]⟩
abbrev S1x1024 : Shape := ⟨2, ![1, 1024]⟩
abbrev S8x128x128 : Shape := ⟨3, ![8, 128, 128]⟩
abbrev S8x128 : Shape := ⟨2, ![8, 128]⟩
abbrev S4x128x128 : Shape := ⟨3, ![4, 128, 128]⟩
abbrev S1x512 : Shape := ⟨2, ![1, 512]⟩
abbrev S2x2048x1024 : Shape := ⟨3, ![2, 2048, 1024]⟩
abbrev S2x2048x512 : Shape := ⟨3, ![2, 2048, 512]⟩
abbrev S2x2048x2048 : Shape := ⟨3, ![2, 2048, 2048]⟩
abbrev S24x128 : Shape := ⟨2, ![24, 128]⟩
abbrev S512 : Shape := ⟨1, ![512]⟩
abbrev S_ : Shape := ⟨0, ![]⟩
abbrev S2x16x512 : Shape := ⟨3, ![2, 16, 512]⟩
abbrev S2x2064x512 : Shape := ⟨3, ![2, 2064, 512]⟩
abbrev S2048 : Shape := ⟨1, ![2048]⟩
abbrev S2x2064x128 : Shape := ⟨3, ![2, 2064, 128]⟩
abbrev S2x2048x128 : Shape := ⟨3, ![2, 2048, 128]⟩
abbrev S1x2048x1 : Shape := ⟨3, ![1, 2048, 1]⟩
abbrev S2x2048x4x128 : Shape := ⟨4, ![2, 2048, 4, 128]⟩
abbrev S4x128x2x2048 : Shape := ⟨4, ![4, 128, 2, 2048]⟩
abbrev S1x1x512 : Shape := ⟨3, ![1, 1, 512]⟩
abbrev S512x128 : Shape := ⟨2, ![512, 128]⟩
abbrev S4x128 : Shape := ⟨2, ![4, 128]⟩

abbrev nBuf : Space → Nat
  | .hbm => 115
  | .vmem => 0
  | .smem => 0
  | _ => 0

abbrev bufTy : (tb : Table) → Fin (tcTables nBuf tb) → BufTy
  | .hbm, ⟨0, _⟩ => ⟨S2x2048x3072, .f32⟩
  | .hbm, ⟨1, _⟩ => ⟨S4x1024, .f32⟩
  | .hbm, ⟨2, _⟩ => ⟨S1x1024, .f32⟩
  | .hbm, ⟨3, _⟩ => ⟨S8x128x128, .bf16⟩
  | .hbm, ⟨4, _⟩ => ⟨S8x128, .f32⟩
  | .hbm, ⟨5, _⟩ => ⟨S8x128x128, .bf16⟩
  | .hbm, ⟨6, _⟩ => ⟨S8x128, .f32⟩
  | .hbm, ⟨7, _⟩ => ⟨S1x1024, .f32⟩
  | .hbm, ⟨8, _⟩ => ⟨S4x128x128, .bf16⟩
  | .hbm, ⟨9, _⟩ => ⟨S1x512, .f32⟩
  | .hbm, ⟨10, _⟩ => ⟨S2x2048x1024, .f32⟩
  | .hbm, ⟨11, _⟩ => ⟨S2x2048x512, .f32⟩
  | .hbm, ⟨12, _⟩ => ⟨S2x2048x2048, .bf16⟩
  | .hbm, ⟨13, _⟩ => ⟨S24x128, .f32⟩
  | .hbm, ⟨14, _⟩ => ⟨S4x128x128, .f32⟩
  | .hbm, ⟨15, _⟩ => ⟨S512, .f32⟩
  | .hbm, ⟨16, _⟩ => ⟨S2x2048x512, .f32⟩
  | .hbm, ⟨17, _⟩ => ⟨S_, .f32⟩
  | .hbm, ⟨18, _⟩ => ⟨S_, .f32⟩
  | .hbm, ⟨19, _⟩ => ⟨S2x2048x512, .f32⟩
  | .hbm, ⟨20, _⟩ => ⟨S_, .f32⟩
  | .hbm, ⟨21, _⟩ => ⟨S2x16x512, .f32⟩
  | .hbm, ⟨22, _⟩ => ⟨S2x2064x512, .f32⟩
  | .hbm, ⟨23, _⟩ => ⟨S2048, .i32⟩
  | .hbm, ⟨24, _⟩ => ⟨S2x2064x128, .f32⟩
  | .hbm, ⟨25, _⟩ => ⟨S2x2048x128, .f32⟩
  | .hbm, ⟨26, _⟩ => ⟨S2x2048x128, .f32⟩
  | .hbm, ⟨27, _⟩ => ⟨S2x2048x128, .f32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .f32⟩
  | .hbm, ⟨35, _⟩ => ⟨S1x2048x1, .f32⟩
  | .hbm, ⟨36, _⟩ => ⟨S2x2048x128, .f32⟩
  | .hbm, ⟨37, _⟩ => ⟨S2x2048x128, .f32⟩
  | .hbm, ⟨38, _⟩ => ⟨S2x2064x128, .f32⟩
  | .hbm, ⟨39, _⟩ => ⟨S2x2048x128, .f32⟩
  | .hbm, ⟨40, _⟩ => ⟨S2x2048x128, .f32⟩
  | .hbm, ⟨41, _⟩ => ⟨S2x2048x128, .f32⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .f32⟩
  | .hbm, ⟨49, _⟩ => ⟨S1x2048x1, .f32⟩
  | .hbm, ⟨50, _⟩ => ⟨S2x2048x128, .f32⟩
  | .hbm, ⟨51, _⟩ => ⟨S2x2048x128, .f32⟩
  | .hbm, ⟨52, _⟩ => ⟨S2x2064x128, .f32⟩
  | .hbm, ⟨53, _⟩ => ⟨S2x2048x128, .f32⟩
  | .hbm, ⟨54, _⟩ => ⟨S2x2048x128, .f32⟩
  | .hbm, ⟨55, _⟩ => ⟨S2x2048x128, .f32⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S_, .i32⟩
  | .hbm, ⟨60, _⟩ => ⟨S2048, .i32⟩
  | .hbm, ⟨61, _⟩ => ⟨S2048, .i32⟩
  | .hbm, ⟨62, _⟩ => ⟨S2048, .f32⟩
  | .hbm, ⟨63, _⟩ => ⟨S1x2048x1, .f32⟩
  | .hbm, ⟨64, _⟩ => ⟨S2x2048x128, .f32⟩
  | .hbm, ⟨65, _⟩ => ⟨S2x2048x128, .f32⟩
  | .hbm, ⟨66, _⟩ => ⟨S2x2064x128, .f32⟩
  | .hbm, ⟨67, _⟩ => ⟨S2x2048x128, .f32⟩
  | .hbm, ⟨68, _⟩ => ⟨S2x2048x128, .f32⟩
  | .hbm, ⟨69, _⟩ => ⟨S2x2048x128, .f32⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S_, .i32⟩
  | .hbm, ⟨74, _⟩ => ⟨S2048, .i32⟩
  | .hbm, ⟨75, _⟩ => ⟨S2048, .i32⟩
  | .hbm, ⟨76, _⟩ => ⟨S2048, .f32⟩
  | .hbm, ⟨77, _⟩ => ⟨S1x2048x1, .f32⟩
  | .hbm, ⟨78, _⟩ => ⟨S2x2048x128, .f32⟩
  | .hbm, ⟨79, _⟩ => ⟨S2x2048x128, .f32⟩
  | .hbm, ⟨80, _⟩ => ⟨S2x2048x512, .f32⟩
  | .hbm, ⟨81, _⟩ => ⟨S2x2048x512, .f32⟩
  | .hbm, ⟨82, _⟩ => ⟨S2x2048x4x128, .f32⟩
  | .hbm, ⟨83, _⟩ => ⟨S4x128x2x2048, .f32⟩
  | .hbm, ⟨84, _⟩ => ⟨S2x2048x4x128, .f32⟩
  | .hbm, ⟨85, _⟩ => ⟨S2x2048x512, .f32⟩
  | .hbm, ⟨86, _⟩ => ⟨S1x1x512, .f32⟩
  | .hbm, ⟨87, _⟩ => ⟨S2x2048x512, .f32⟩
  | .hbm, ⟨88, _⟩ => ⟨S2x2048x512, .f32⟩
  | .hbm, ⟨89, _⟩ => ⟨S2x2048x512, .f32⟩
  | .hbm, ⟨90, _⟩ => ⟨S2x2048x512, .f32⟩
  | .hbm, ⟨91, _⟩ => ⟨S2x2048x512, .f32⟩
  | .hbm, ⟨92, _⟩ => ⟨S_, .f32⟩
  | .hbm, ⟨93, _⟩ => ⟨S2x2048x512, .f32⟩
  | .hbm, ⟨94, _⟩ => ⟨S2x2048x512, .f32⟩
  | .hbm, ⟨95, _⟩ => ⟨S_, .f32⟩
  | .hbm, ⟨96, _⟩ => ⟨S2x2048x512, .f32⟩
  | .hbm, ⟨97, _⟩ => ⟨S2x2048x512, .f32⟩
  | .hbm, ⟨98, _⟩ => ⟨S2x2048x512, .f32⟩
  | .hbm, ⟨99, _⟩ => ⟨S2x2048x512, .f32⟩
  | .hbm, ⟨100, _⟩ => ⟨S2x2048x512, .f32⟩
  | .hbm, ⟨101, _⟩ => ⟨S2x2048x512, .f32⟩
  | .hbm, ⟨102, _⟩ => ⟨S_, .f32⟩
  | .hbm, ⟨103, _⟩ => ⟨S512, .f32⟩
  | .hbm, ⟨104, _⟩ => ⟨S1x1x512, .f32⟩
  | .hbm, ⟨105, _⟩ => ⟨S2x2048x512, .f32⟩
  | .hbm, ⟨106, _⟩ => ⟨S2x2048x512, .f32⟩
  | .hbm, ⟨107, _⟩ => ⟨S_, .f32⟩
  | .hbm, ⟨108, _⟩ => ⟨S512, .f32⟩
  | .hbm, ⟨109, _⟩ => ⟨S2x2048x4x128, .f32⟩
  | .hbm, ⟨110, _⟩ => ⟨S4x128x2x2048, .f32⟩
  | .hbm, ⟨111, _⟩ => ⟨S4x128x128, .f32⟩
  | .hbm, ⟨112, _⟩ => ⟨S4x128x128, .f32⟩
  | .hbm, ⟨113, _⟩ => ⟨S512x128, .f32⟩
  | .hbm, ⟨114, _⟩ => ⟨S4x128, .f32⟩
  | _, _ => ⟨S2x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_call0_call0_cst : Ref sig .tc := ⟨.hbm, 17, rfl⟩
abbrev main_call0_call0_v0 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_1 : Ref sig .tc := ⟨.hbm, 42, rfl⟩
abbrev main_v23 : Ref sig .tc := ⟨.hbm, 43, rfl⟩
abbrev main_v24 : Ref sig .tc := ⟨.hbm, 44, rfl⟩
abbrev main_c_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_3 : Ref sig .tc := ⟨.hbm, 56, rfl⟩
abbrev main_v35 : Ref sig .tc := ⟨.hbm, 57, rfl⟩
abbrev main_v36 : Ref sig .tc := ⟨.hbm, 58, rfl⟩
abbrev main_c_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_5 : Ref sig .tc := ⟨.hbm, 70, rfl⟩
abbrev main_v47 : Ref sig .tc := ⟨.hbm, 71, rfl⟩
abbrev main_v48 : Ref sig .tc := ⟨.hbm, 72, rfl⟩
abbrev main_c_6 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_7 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_8 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩

abbrev nD : Nat := 1
abbrev τ : Topo := Topo.v7x

variable {F : FTy → Type} [FloatOps F]
-- ==== Kernel4.lean ====
abbrev S2x2048x1024 : Shape := ⟨3, ![2, 2048, 1024]⟩
abbrev S1x1024 : Shape := ⟨2, ![1, 1024]⟩
abbrev S2x1024x2048 : Shape := ⟨3, ![2, 1024, 2048]⟩
abbrev S1x256x1024 : Shape := ⟨3, ![1, 256, 1024]⟩
abbrev S1x1024x256 : Shape := ⟨3, ![1, 1024, 256]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x2048x1024, .bf16⟩
  | .hbm, ⟨3, _⟩ => ⟨S2x1024x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x256x1024, .bf16⟩
  | .local _ .vmem, ⟨4, _⟩ => ⟨S1x256x1024, .bf16⟩
  | .local _ .vmem, ⟨5, _⟩ => ⟨S1x1024x256, .bf16⟩
  | .local _ .vmem, ⟨6, _⟩ => ⟨S1x1024x256, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x2048x1024 : Shape := ⟨3, ![2, 2048, 1024]⟩
abbrev S1x1024 : Shape := ⟨2, ![1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024x2048 : Shape := ⟨3, ![2, 1024, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x1024, .bf16⟩
  | .hbm, ⟨20, _⟩ => ⟨S2x1024x2048, .f32⟩
  | .hbm, ⟨21, _⟩ => ⟨S2x1024x2048, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel5.lean ====
abbrev S8x1024x640 : Shape := ⟨3, ![8, 1024, 640]⟩
abbrev S4x1024x640 : Shape := ⟨3, ![4, 1024, 640]⟩
abbrev S3x1024x640 : Shape := ⟨3, ![3, 1024, 640]⟩
abbrev S1024x640 : Shape := ⟨2, ![1024, 640]⟩
abbrev S_ : Shape := ⟨0, ![]⟩
abbrev S2 : Shape := ⟨1, ![2]⟩
abbrev S1x128x640 : Shape := ⟨3, ![1, 128, 640]⟩
abbrev S1 : Shape := ⟨1, ![1]⟩
abbrev S3x128x640 : Shape := ⟨3, ![3, 128, 640]⟩
abbrev S128x640 : Shape := ⟨2, ![128, 640]⟩

abbrev nBuf : Space → Nat
  | .hbm => 11
  | .vmem => 20
  | .smem => 1
  | _ => 0

abbrev bufTy : (tb : Table) → Fin (tcTables nBuf tb) → BufTy
  | .hbm, ⟨0, _⟩ => ⟨S8x1024x640, .f32⟩
  | .hbm, ⟨1, _⟩ => ⟨S4x1024x640, .f32⟩
  | .hbm, ⟨2, _⟩ => ⟨S3x1024x640, .bf16⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S_, .i32⟩
  | .hbm, ⟨7, _⟩ => ⟨S1024x640, .f32⟩
  | .hbm, ⟨8, _⟩ => ⟨S1024x640, .f32⟩
  | .hbm, ⟨9, _⟩ => ⟨S1024x640, .f32⟩
  | .hbm, ⟨10, _⟩ => ⟨S1024x640, .f32⟩
  | .local _ .vmem, ⟨0, _⟩ => ⟨S1x128x640, .f32⟩
  | .local _ .vmem, ⟨1, _⟩ => ⟨S1x128x640, .f32⟩
  | .local _ .vmem, ⟨2, _⟩ => ⟨S1x128x640, .f32⟩
  | .local _ .vmem, ⟨3, _⟩ => ⟨S1x128x640, .f32⟩
  | .local _ .vmem, ⟨4, _⟩ => ⟨S3x128x640, .bf16⟩
  | .local _ .vmem, ⟨5, _⟩ => ⟨S3x128x640, .bf16⟩
  | .local _ .vmem, ⟨6, _⟩ => ⟨S128x640, .f32⟩
  | .local _ .vmem, ⟨7, _⟩ => ⟨S128x640, .f32⟩
  | .local _ .vmem, ⟨8, _⟩ => ⟨S128x640, .f32⟩
  | .local _ .vmem, ⟨9, _⟩ => ⟨S128x640, .f32⟩
  | .local _ .vmem, ⟨10, _⟩ => ⟨S128x640, .f32⟩
  | .local _ .vmem, ⟨11, _⟩ => ⟨S128x640, .f32⟩
  | .local _ .vmem, ⟨12, _⟩ => ⟨S128x640, .f32⟩
  | .local _ .vmem, ⟨13, _⟩ => ⟨S128x640, .f32⟩
  | .local _ .vmem, ⟨14, _⟩ => ⟨S128x640, .f32⟩
  | .local _ .vmem, ⟨15, _⟩ => ⟨S128x640, .f32⟩
  | .local _ .vmem, ⟨16, _⟩ => ⟨S128x640, .f32⟩
  | .local _ .vmem, ⟨17, _⟩ => ⟨S128x640, .f32⟩
  | .local _ .vmem, ⟨18, _⟩ => ⟨S128x640, .f32⟩
  | .local _ .vmem, ⟨19, _⟩ => ⟨S128x640, .f32⟩
  | .local _ .smem, ⟨0, _⟩ => ⟨S2, .i32⟩
  | _, _ => ⟨S8x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S8x1024x640 : Shape := ⟨3, ![8, 1024, 640]⟩
abbrev S4x1024x640 : Shape := ⟨3, ![4, 1024, 640]⟩
abbrev S3x1024x640 : Shape := ⟨3, ![3, 1024, 640]⟩
abbrev S1024x640 : Shape := ⟨2, ![1024, 640]⟩
abbrev S1x1024x640 : Shape := ⟨3, ![1, 1024, 640]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x1024x640, .f32⟩
  | .hbm, ⟨1, _⟩ => ⟨S4x1024x640, .f32⟩
  | .hbm, ⟨2, _⟩ => ⟨S3x1024x640, .bf16⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1x1024x640, .f32⟩
  | .hbm, ⟨7, _⟩ => ⟨S1024x640, .f32⟩
  | .hbm, ⟨8, _⟩ => ⟨S1x1024x640, .f32⟩
  | .hbm, ⟨9, _⟩ => ⟨S1024x640, .f32⟩
  | .hbm, ⟨10, _⟩ => ⟨S1024x640, .f32⟩
  | .hbm, ⟨11, _⟩ => ⟨S3x1024x640, .f32⟩
  | .hbm, ⟨12, _⟩ => ⟨S_, .f32⟩
  | .hbm, ⟨13, _⟩ => ⟨S1024x640, .f32⟩
  | .hbm, ⟨14, _⟩ => ⟨S1024x640, .f32⟩
  | .hbm, ⟨15, _⟩ => ⟨S_, .f32⟩
  | .hbm, ⟨16, _⟩ => ⟨S1024x640, .f32⟩
  | .hbm, ⟨17, _⟩ => ⟨S1024x640, .f32⟩
  | .hbm, ⟨18, _⟩ => ⟨S_, .f32⟩
  | .hbm, ⟨19, _⟩ => ⟨S1024x640, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S1024x640, .f32⟩
  | .hbm, ⟨26, _⟩ => ⟨S_, .f32⟩
  | .hbm, ⟨27, _⟩ => ⟨S1024x640, .f32⟩
  | .hbm, ⟨28, _⟩ => ⟨S1024x640, .f32⟩
  | .hbm, ⟨29, _⟩ => ⟨S1024x640, .f32⟩
  | .hbm, ⟨30, _⟩ => ⟨S_, .f32⟩
  | .hbm, ⟨31, _⟩ => ⟨S1024x640, .f32⟩
  | .hbm, ⟨32, _⟩ => ⟨S1024x640, .f32⟩
  | .hbm, ⟨33, _⟩ => ⟨S_, .f32⟩
  | .hbm, ⟨34, _⟩ => ⟨S1024x640, .f32⟩
  | .hbm, ⟨35, _⟩ => ⟨S1024x640, .f32⟩
  | .hbm, ⟨36, _⟩ => ⟨S1024x640, .f32⟩
  | .hbm, ⟨37, _⟩ => ⟨S_, .f32⟩
  | .hbm, ⟨38, _⟩ => ⟨S1024x640, .f32⟩
  | .hbm, ⟨39, _⟩ => ⟨S1024x640, .f32⟩
  | .hbm, ⟨40, _⟩ => ⟨S1024x640, .f32⟩
  | .hbm, ⟨41, _⟩ => ⟨S_, .f32⟩
  | .hbm, ⟨42, _⟩ => ⟨S1024x640, .f32⟩
  | .hbm, ⟨43, _⟩ => ⟨S1024x640, .f32⟩
  | .hbm, ⟨44, _⟩ => ⟨S1024x640, .f32⟩
  | .hbm, ⟨45, _⟩ => ⟨S_, .f32⟩
  | .hbm, ⟨46, _⟩ => ⟨S1024x640, .f32⟩
  | .hbm, ⟨47, _⟩ => ⟨S1024x640, .f32⟩
  | _, _ => ⟨S8x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Proof.AdamTable.lean ====
/- The optimiser's call reads which section of the gradients it updates from a small table. The host writes that table as zeros, so
   every block the pipeline fetches by it lies inside its array. -/
module

public import proofs.«01_k».proof.Defs
public import proofs.«01_k».proof.Proof.Gen.Kernel5.Frame
public import proofs.«01_k».proof.Proof.Gen.Kernel5Ideal.Frame
public import Idealize.ShloMosaic.Lib.Pipeline.ValueKit

@[expose] public section
set_option maxRecDepth 16384
noncomputable section

namespace Cert.Kernel5.Adam
open Idealize.ShloMosaic Idealize.ShloMosaic.TcCoe Idealize.ShloMosaic.Tactic Idealize.SL.Sem
open Cert.Kernel5 Cert.Kernel5.Gen
variable {F : FTy → Type} [FloatOps F] (m : (ℓ : Loc nD τ sig) → Buf (Elt F) ℓ)

theorem table : (tbl m : pre0.Contents (Elt F)) 0 = (fun _ => 0#32 : S2.Idx → BitVec 32) := by
  show StableHlo.after hostOps0 (fun b => m ((0 : Dev nD), b)) main_v0 = _
  unfold hostOps0
  after_results_simp
  rfl

theorem at_first (i : grid0.Coords) : cc0_transform_0 inb_S2_S1_0 numel1_S1 (tbl m) i = ![0, (i 0).val, 0] := by
  have e : (tbl m).at 0 (Rect.unit (s := S2) ![0] S1.size inb_S2_S1_0) numel1_S1 = 0#32 := by
    show (tbl m 0) _ = 0#32; rw [table]
  unfold cc0_transform_0
  rw [e]
  revert i; decide +kernel
theorem at_second (i : grid0.Coords) : cc0_transform_1 inb_S2_S1_1 numel1_S1 (tbl m) i = ![0, (i 0).val, 0] := by
  have e : (tbl m).at 0 (Rect.unit (s := S2) ![1] S1.size inb_S2_S1_1) numel1_S1 = 0#32 := by
    show (tbl m 0) _ = 0#32; rw [table]
  unfold cc0_transform_1
  rw [e]
  revert i; decide +kernel

/-- The table's entries are admissible. -/
theorem ok : Ok m := by
  refine ⟨fun i => ⟨?_, .inl rfl⟩, fun i => ⟨?_, .inl rfl⟩⟩
  · rw [at_first]; revert i; decide +kernel
  · rw [at_second]; revert i; decide +kernel
end Cert.Kernel5.Adam

namespace Cert.Kernel5Ideal.Adam
open Idealize.ShloMosaic Idealize.ShloMosaic.TcCoe Idealize.ShloMosaic.Tactic Idealize.SL.Sem
open Cert.Kernel5Ideal Cert.Kernel5Ideal.Gen
variable {F : FTy → Type} [FloatOps F] (m : (ℓ : Loc nD τ sig) → Buf (Elt F) ℓ)

theorem table : (tbl m : pre0.Contents (Elt F)) 0 = (fun _ => 0#32 : S2.Idx → BitVec 32) := by
  show StableHlo.after hostOps0 (fun b => m ((0 : Dev nD), b)) main_v0 = _
  unfold hostOps0
  after_results_simp
  rfl

theorem at_first (i : grid0.Coords) : cc0_transform_0 inb_S2_S1_0 numel1_S1 (tbl m) i = ![0, (i 0).val, 0] := by
  have e : (tbl m).at 0 (Rect.unit (s := S2) ![0] S1.size inb_S2_S1_0) numel1_S1 = 0#32 := by
    show (tbl m 0) _ = 0#32; rw [table]
  unfold cc0_transform_0
  rw [e]
  revert i; decide +kernel
theorem at_second (i : grid0.Coords) : cc0_transform_1 inb_S2_S1_1 numel1_S1 (tbl m) i = ![0, (i 0).val, 0] := by
  have e : (tbl m).at 0 (Rect.unit (s := S2) ![1] S1.size inb_S2_S1_1) numel1_S1 = 0#32 := by
    show (tbl m 0) _ = 0#32; rw [table]
  unfold cc0_transform_1
  rw [e]
  revert i; decide +kernel

/-- The table's entries are admissible. -/
theorem ok : Ok m := by
  refine ⟨fun i => ⟨?_, .inl rfl⟩, fun i => ⟨?_, .inl rfl⟩⟩
  · rw [at_first]; revert i; decide +kernel
  · rw [at_second]; revert i; decide +kernel
end Cert.Kernel5Ideal.Adam

end
-- ==== Proof.AdamValue.lean ====
/- The optimiser's step: the gradient is the sum of five parts, the two moments are moved towards it and its square, and the update is
   their scaled quotient with the weight decay; by the kernel's eight tiles and by the host alike. -/
module

public import proofs.«01_k».proof.Defs
public import proofs.«01_k».proof.Proof.AdamTable
public import proofs.«01_k».proof.Proof.Gen.Reference5Ideal.Run
public import Idealize.ShloMosaic.Lib.Pipeline.ValueKit
public import Idealize.ShloMosaic.Lib.Pipeline.ReadBack
public import Idealize.ShloMosaic.Lib.Pipeline.Covers
public import Idealize.ShloMosaic.Lib.Pointwise
public import Idealize.ShloMosaic.Lib.VecWindow

@[expose] public section
set_option maxRecDepth 16384
noncomputable section

namespace Cert.Adam
open Idealize.ShloMosaic Idealize.ShloMosaic.TcCoe Idealize.ShloMosaic.Tactic Idealize.SL.Sem
open scoped BigOperators

abbrev lit (n : BitVec 32) : EReal := Scalar.ofBits (F := Ideal) .f32 n

/-- One entry's gradient, first moment, second moment and update. -/
def grad (a b c d e : EReal) : EReal := a + b + c + d + e
def first (g m : EReal) : EReal := lit 0x3F666666#32 * m + lit 0x3DCCCCCD#32 * g
def second (g v : EReal) : EReal := lit 0x3F7FBE77#32 * v + lit 0x3A83126F#32 * (g * g)

def delta (w m v : EReal) : EReal :=
  lit 0xBA83126F#32 * (Ideal.div (Ideal.div m (lit 0x3F26BD02#32)) (Ideal.sqrt (Ideal.div v (lit 0x3C231ACC#32)) + lit 0x322BCC77#32) + lit 0x3C23D70A#32 * w)

section Tiles
open Cert.Kernel5Ideal Cert.Kernel5Ideal.Gen
variable (m : (ℓ : Loc nD τ sig) → Buf (Elt Ideal) ℓ) (ρ : Dev nD → PrngReg)

abbrev argG (c : Dev nD) : FVec Ideal S8x1024x640 .f32 := m ((c : Thread nD τ).loc main_arg0)
abbrev argS (c : Dev nD) : FVec Ideal S4x1024x640 .f32 := m ((c : Thread nD τ).loc main_arg1)
abbrev argC (c : Dev nD) : FVec Ideal S3x1024x640 .bf16 := m ((c : Thread nD τ).loc main_arg2)
abbrev argW (c : Dev nD) : FVec Ideal S1024x640 .f32 := m ((c : Thread nD τ).loc main_arg3)
abbrev argM (c : Dev nD) : FVec Ideal S1024x640 .f32 := m ((c : Thread nD τ).loc main_arg4)
abbrev argV (c : Dev nD) : FVec Ideal S1024x640 .f32 := m ((c : Thread nD τ).loc main_arg5)

abbrev K : Pipeline.Cfg sig Λ₀ := cfgM m (Adam.ok m)

theorem pay_g (x0 x1 : Vec Ideal S1x128x640 .f32) (x2 x3 x4 : Vec Ideal S1x128x640 .bf16) (r : Fin 128) (k : Fin 640) :
    k0_pay2 x0 x1 x2 x3 x4 (ix2 r k) = grad (x0 (ix3 0 r k)) (x1 (ix3 0 r k)) (x2 (ix3 0 r k)) (x3 (ix3 0 r k)) (x4 (ix3 0 r k)) := by
  unfold grad
  pointwise [k0_pay2]
theorem pay_m (x0 x1 : Vec Ideal S1x128x640 .f32) (x2 x3 x4 : Vec Ideal S1x128x640 .bf16) (a : Vec Ideal S128x640 .f32) (r : Fin 128) (k : Fin 640) :
    k0_pay3 x0 x1 x2 x3 x4 a (ix2 r k) = first (k0_pay2 x0 x1 x2 x3 x4 (ix2 r k)) (a (ix2 r k)) := by
  unfold first lit
  pointwise [k0_pay3]
theorem pay_v (x0 x1 : Vec Ideal S1x128x640 .f32) (x2 x3 x4 : Vec Ideal S1x128x640 .bf16) (a : Vec Ideal S128x640 .f32) (r : Fin 128) (k : Fin 640) :
    k0_pay4 x0 x1 x2 x3 x4 a (ix2 r k) = second (k0_pay2 x0 x1 x2 x3 x4 (ix2 r k)) (a (ix2 r k)) := by
  unfold second lit
  pointwise [k0_pay4]
theorem pay_d (x0 x1 : Vec Ideal S1x128x640 .f32) (x2 x3 x4 : Vec Ideal S1x128x640 .bf16) (w a b : Vec Ideal S128x640 .f32) (r : Fin 128) (k : Fin 640) :
    k0_pay1 w (k0_pay4 x0 x1 x2 x3 x4 b) (k0_pay5 x0 x1 x2 x3 x4 a) (ix2 r k)
      = delta (w (ix2 r k)) (k0_pay3 x0 x1 x2 x3 x4 a (ix2 r k)) (k0_pay4 x0 x1 x2 x3 x4 b (ix2 r k)) := by
  unfold delta lit
  pointwise [k0_pay1, k0_pay5]

theorem idx0 : ∀ t : Fin (K m).N, ((K m).win 0).index t = ![0, t.val, 0] := fun t => by
  refine (Adam.at_first m _).trans ?_
  show ![0, (grid0.coords t 0).val, 0] = _
  rw [(by decide +kernel : ∀ t : Fin grid0.N, (grid0.coords t 0).val = t.val) t]
theorem idx1 : ∀ t : Fin (K m).N, ((K m).win 1).index t = ![0, t.val, 0] := fun t => by
  refine (Adam.at_second m _).trans ?_
  show ![0, (grid0.coords t 0).val, 0] = _
  rw [(by decide +kernel : ∀ t : Fin grid0.N, (grid0.coords t 0).val = t.val) t]
theorem idx2 : ∀ t : Fin (K m).N, ((K m).win 2).index t = ![0, t.val, 0] :=
  (by decide +kernel : ∀ t : Fin grid0.N, cc0_transform_2 (grid0.coords t) = ![0, t.val, 0])
theorem idx3 : ∀ t : Fin (K m).N, ((K m).win 3).index t = ![t.val, 0] :=
  (by decide +kernel : ∀ t : Fin grid0.N, cc0_transform_3 (grid0.coords t) = ![t.val, 0])
theorem idx4 : ∀ t : Fin (K m).N, ((K m).win 4).index t = ![t.val, 0] :=
  (by decide +kernel : ∀ t : Fin grid0.N, cc0_transform_4 (grid0.coords t) = ![t.val, 0])
theorem idx5 : ∀ t : Fin (K m).N, ((K m).win 5).index t = ![t.val, 0] :=
  (by decide +kernel : ∀ t : Fin grid0.N, cc0_transform_5 (grid0.coords t) = ![t.val, 0])
theorem idx6 : ∀ t : Fin (K m).N, ((K m).win 6).index t = ![t.val, 0] :=
  (by decide +kernel : ∀ t : Fin grid0.N, cc0_transform_6 (grid0.coords t) = ![t.val, 0])
theorem idx7 : ∀ t : Fin (K m).N, ((K m).win 7).index t = ![t.val, 0] :=
  (by decide +kernel : ∀ t : Fin grid0.N, cc0_transform_7 (grid0.coords t) = ![t.val, 0])
theorem idx8 : ∀ t : Fin (K m).N, ((K m).win 8).index t = ![t.val, 0] :=
  (by decide +kernel : ∀ t : Fin grid0.N, cc0_transform_8 (grid0.coords t) = ![t.val, 0])
theorem idx9 : ∀ t : Fin (K m).N, ((K m).win 9).index t = ![t.val, 0] :=
  (by decide +kernel : ∀ t : Fin grid0.N, cc0_transform_9 (grid0.coords t) = ![t.val, 0])

def row (t : Fin (K m).N) (r : Fin 128) : Fin 1024 := ⟨t.val * 128 + r.val, by have := lt_of_lt_of_eq t.isLt N_0; omega⟩

theorem tile_g (c : Dev nD) (t : Fin (K m).N) (r : Fin 128) (k : Fin 640) : iblk m (Adam.ok m) c 0 t (ix3 0 r k) = argG m c (ix3 0 (row m t r) k) := by
  blk_ext [iblk, V_main_arg0 m c, idx0 m t, row]
theorem tile_w (c : Dev nD) (t : Fin (K m).N) (r : Fin 128) (k : Fin 640) : iblk m (Adam.ok m) c 3 t (ix2 r k) = argW m c (ix2 (row m t r) k) := by
  blk_ext [iblk, V_main_arg3 m c, idx3 m t, row]
theorem tile_s (c : Dev nD) (t : Fin (K m).N) (r : Fin 128) (k : Fin 640) : iblk m (Adam.ok m) c 1 t (ix3 0 r k) = argS m c (ix3 0 (row m t r) k) := by
  blk_ext [iblk, V_main_arg1 m c, idx1 m t, row]
theorem tile_c (c : Dev nD) (t : Fin (K m).N) (p : Fin 3) (r : Fin 128) (k : Fin 640) : iblk m (Adam.ok m) c 2 t (ix3 p r k) = argC m c (ix3 p (row m t r) k) := by
  blk_ext [iblk, V_main_arg2 m c, idx2 m t, row]
theorem tile_m (c : Dev nD) (t : Fin (K m).N) (r : Fin 128) (k : Fin 640) : iblk m (Adam.ok m) c 4 t (ix2 r k) = argM m c (ix2 (row m t r) k) := by
  blk_ext [iblk, V_main_arg4 m c, idx4 m t, row]
theorem tile_v (c : Dev nD) (t : Fin (K m).N) (r : Fin 128) (k : Fin 640) : iblk m (Adam.ok m) c 5 t (ix2 r k) = argV m c (ix2 (row m t r) k) := by
  blk_ext [iblk, V_main_arg5 m c, idx5 m t, row]

theorem covers6 : ((K m).win 6).Covers := by
  refine Pipeline.Window.covers_of_index_surj ((K m).win 6) rfl (show ∀ a : Fin 2, 0 < S128x640.size a by decide) fun β => ?_
  have h0 : (β (0 : Fin 2)).val < 8 := lt_of_lt_of_eq (β (0 : Fin 2)).isLt (show (1024 + 128 - 1) / 128 = 8 from rfl)
  have h1 : (β (1 : Fin 2)).val < 1 := lt_of_lt_of_eq (β (1 : Fin 2)).isLt (show (640 + 640 - 1) / 640 = 1 from rfl)
  refine ⟨⟨(β (0 : Fin 2)).val, lt_of_lt_of_eq h0 N_0.symm⟩, fun a => ?_⟩
  rw [idx6 m]
  match a with
  | ⟨0, _⟩ => rfl
  | ⟨1, _⟩ => exact (Nat.lt_one_iff.mp h1).symm
theorem covers7 : ((K m).win 7).Covers := by
  refine Pipeline.Window.covers_of_index_surj ((K m).win 7) rfl (show ∀ a : Fin 2, 0 < S128x640.size a by decide) fun β => ?_
  have h0 : (β (0 : Fin 2)).val < 8 := lt_of_lt_of_eq (β (0 : Fin 2)).isLt (show (1024 + 128 - 1) / 128 = 8 from rfl)
  have h1 : (β (1 : Fin 2)).val < 1 := lt_of_lt_of_eq (β (1 : Fin 2)).isLt (show (640 + 640 - 1) / 640 = 1 from rfl)
  refine ⟨⟨(β (0 : Fin 2)).val, lt_of_lt_of_eq h0 N_0.symm⟩, fun a => ?_⟩
  rw [idx7 m]
  match a with
  | ⟨0, _⟩ => rfl
  | ⟨1, _⟩ => exact (Nat.lt_one_iff.mp h1).symm
theorem covers8 : ((K m).win 8).Covers := by
  refine Pipeline.Window.covers_of_index_surj ((K m).win 8) rfl (show ∀ a : Fin 2, 0 < S128x640.size a by decide) fun β => ?_
  have h0 : (β (0 : Fin 2)).val < 8 := lt_of_lt_of_eq (β (0 : Fin 2)).isLt (show (1024 + 128 - 1) / 128 = 8 from rfl)
  have h1 : (β (1 : Fin 2)).val < 1 := lt_of_lt_of_eq (β (1 : Fin 2)).isLt (show (640 + 640 - 1) / 640 = 1 from rfl)
  refine ⟨⟨(β (0 : Fin 2)).val, lt_of_lt_of_eq h0 N_0.symm⟩, fun a => ?_⟩
  rw [idx8 m]
  match a with
  | ⟨0, _⟩ => rfl
  | ⟨1, _⟩ => exact (Nat.lt_one_iff.mp h1).symm
theorem covers9 : ((K m).win 9).Covers := by
  refine Pipeline.Window.covers_of_index_surj ((K m).win 9) rfl (show ∀ a : Fin 2, 0 < S128x640.size a by decide) fun β => ?_
  have h0 : (β (0 : Fin 2)).val < 8 := lt_of_lt_of_eq (β (0 : Fin 2)).isLt (show (1024 + 128 - 1) / 128 = 8 from rfl)
  have h1 : (β (1 : Fin 2)).val < 1 := lt_of_lt_of_eq (β (1 : Fin 2)).isLt (show (640 + 640 - 1) / 640 = 1 from rfl)
  refine ⟨⟨(β (0 : Fin 2)).val, lt_of_lt_of_eq h0 N_0.symm⟩, fun a => ?_⟩
  rw [idx9 m]
  match a with
  | ⟨0, _⟩ => rfl
  | ⟨1, _⟩ => exact (Nat.lt_one_iff.mp h1).symm
/-- The four arrays. -/
def grads (g : FVec Ideal S8x1024x640 .f32) (s : FVec Ideal S4x1024x640 .f32) (c : FVec Ideal S3x1024x640 .bf16) (w a v : FVec Ideal S1024x640 .f32) : FVec Ideal S1024x640 .f32 := fun i =>
  grad (g (ix3 0 (i 0) (i 1))) (s (ix3 0 (i 0) (i 1))) (c (ix3 0 (i 0) (i 1))) (c (ix3 1 (i 0) (i 1))) (c (ix3 2 (i 0) (i 1)))
def firsts (g : FVec Ideal S8x1024x640 .f32) (s : FVec Ideal S4x1024x640 .f32) (c : FVec Ideal S3x1024x640 .bf16) (w a v : FVec Ideal S1024x640 .f32) : FVec Ideal S1024x640 .f32 := fun i =>
  first (grads g s c w a v i) (a i)
def seconds (g : FVec Ideal S8x1024x640 .f32) (s : FVec Ideal S4x1024x640 .f32) (c : FVec Ideal S3x1024x640 .bf16) (w a v : FVec Ideal S1024x640 .f32) : FVec Ideal S1024x640 .f32 := fun i =>
  second (grads g s c w a v i) (v i)
def updates (g : FVec Ideal S8x1024x640 .f32) (s : FVec Ideal S4x1024x640 .f32) (c : FVec Ideal S3x1024x640 .bf16) (w a v : FVec Ideal S1024x640 .f32) : FVec Ideal S1024x640 .f32 := fun i =>
  delta (w i) (firsts g s c w a v i) (seconds g s c w a v i)

/-- The same, entry by entry. -/
theorem grads_at (g : FVec Ideal S8x1024x640 .f32) (s : FVec Ideal S4x1024x640 .f32) (c : FVec Ideal S3x1024x640 .bf16) (w a v : FVec Ideal S1024x640 .f32) (i : Fin 1024) (j : Fin 640) :
    grads g s c w a v (ix2 i j) = grad (g (ix3 0 i j)) (s (ix3 0 i j)) (c (ix3 0 i j)) (c (ix3 1 i j)) (c (ix3 2 i j)) := rfl
theorem firsts_at (g : FVec Ideal S8x1024x640 .f32) (s : FVec Ideal S4x1024x640 .f32) (c : FVec Ideal S3x1024x640 .bf16) (w a v : FVec Ideal S1024x640 .f32) (i : Fin 1024) (j : Fin 640) :
    firsts g s c w a v (ix2 i j) = first (grad (g (ix3 0 i j)) (s (ix3 0 i j)) (c (ix3 0 i j)) (c (ix3 1 i j)) (c (ix3 2 i j))) (a (ix2 i j)) := rfl
theorem seconds_at (g : FVec Ideal S8x1024x640 .f32) (s : FVec Ideal S4x1024x640 .f32) (c : FVec Ideal S3x1024x640 .bf16) (w a v : FVec Ideal S1024x640 .f32) (i : Fin 1024) (j : Fin 640) :
    seconds g s c w a v (ix2 i j) = second (grad (g (ix3 0 i j)) (s (ix3 0 i j)) (c (ix3 0 i j)) (c (ix3 1 i j)) (c (ix3 2 i j))) (v (ix2 i j)) := rfl
theorem updates_at (g : FVec Ideal S8x1024x640 .f32) (s : FVec Ideal S4x1024x640 .f32) (c : FVec Ideal S3x1024x640 .bf16) (w a v : FVec Ideal S1024x640 .f32) (i : Fin 1024) (j : Fin 640) :
    updates g s c w a v (ix2 i j) = delta (w (ix2 i j)) (first (grad (g (ix3 0 i j)) (s (ix3 0 i j)) (c (ix3 0 i j)) (c (ix3 1 i j)) (c (ix3 2 i j))) (a (ix2 i j))) (second (grad (g (ix3 0 i j)) (s (ix3 0 i j)) (c (ix3 0 i j)) (c (ix3 1 i j)) (c (ix3 2 i j))) (v (ix2 i j))) := rfl

/-- One entry of a plane of the third array, read as the body reads it. -/
theorem plane0 (x : Vec Ideal S3x128x640 .bf16) (r : Fin 128) (k : Fin 640) :
    View.ld x (Rect.unit ![0, 0, 0] ![1, 128, 640] inb_S3x128x640_S1x128x640_0_0_0) (ix3 0 r k) = x (ix3 0 r k) := by
  refine congrArg x ?_
  funext a; match a with
  | ⟨0, _⟩ => rfl
  | ⟨1, _⟩ => exact Fin.ext (by show 0 + 1 * r.val = r.val; omega)
  | ⟨2, _⟩ => exact Fin.ext (by show 0 + 1 * k.val = k.val; omega)
theorem plane1 (x : Vec Ideal S3x128x640 .bf16) (r : Fin 128) (k : Fin 640) :
    View.ld x (Rect.unit ![1, 0, 0] ![1, 128, 640] inb_S3x128x640_S1x128x640_1_0_0) (ix3 0 r k) = x (ix3 1 r k) := by
  refine congrArg x ?_
  funext a; match a with
  | ⟨0, _⟩ => rfl
  | ⟨1, _⟩ => exact Fin.ext (by show 0 + 1 * r.val = r.val; omega)
  | ⟨2, _⟩ => exact Fin.ext (by show 0 + 1 * k.val = k.val; omega)
theorem plane2 (x : Vec Ideal S3x128x640 .bf16) (r : Fin 128) (k : Fin 640) :
    View.ld x (Rect.unit ![2, 0, 0] ![1, 128, 640] inb_S3x128x640_S1x128x640_2_0_0) (ix3 0 r k) = x (ix3 2 r k) := by
  refine congrArg x ?_
  funext a; match a with
  | ⟨0, _⟩ => rfl
  | ⟨1, _⟩ => exact Fin.ext (by show 0 + 1 * r.val = r.val; omega)
  | ⟨2, _⟩ => exact Fin.ext (by show 0 + 1 * k.val = k.val; omega)

section Cut
variable {A B a b : Vec Ideal S1x128x640 .f32} {D d : Vec Ideal S3x128x640 .bf16} {W w U u T v : Vec Ideal S128x640 .f32}
  {r : Fin 128} {k : Fin 640} {x y ew eu ev : EReal} {z : Fin 3 → EReal}

/-- One entry of a tile's results, its inputs' entries given. -/
theorem cut_g (hA : A = a) (hB : B = b) (hD : D = d) (ha : a (ix3 0 r k) = x) (hb : b (ix3 0 r k) = y) (hd : ∀ i, d (ix3 i r k) = z i) :
    k0_pay2 A B (View.ld D (Rect.unit ![0, 0, 0] ![1, 128, 640] inb_S3x128x640_S1x128x640_0_0_0)) (View.ld D (Rect.unit ![1, 0, 0] ![1, 128, 640] inb_S3x128x640_S1x128x640_1_0_0)) (View.ld D (Rect.unit ![2, 0, 0] ![1, 128, 640] inb_S3x128x640_S1x128x640_2_0_0)) (ix2 r k) = grad x y (z 0) (z 1) (z 2) := by
  subst hA hB hD
  rw [pay_g, plane0, plane1, plane2, ha, hb, hd, hd, hd]
theorem cut_m (hA : A = a) (hB : B = b) (hD : D = d) (hU : U = u) (ha : a (ix3 0 r k) = x) (hb : b (ix3 0 r k) = y) (hd : ∀ i, d (ix3 i r k) = z i) (hu : u (ix2 r k) = eu) :
    k0_pay3 A B (View.ld D (Rect.unit ![0, 0, 0] ![1, 128, 640] inb_S3x128x640_S1x128x640_0_0_0)) (View.ld D (Rect.unit ![1, 0, 0] ![1, 128, 640] inb_S3x128x640_S1x128x640_1_0_0)) (View.ld D (Rect.unit ![2, 0, 0] ![1, 128, 640] inb_S3x128x640_S1x128x640_2_0_0)) U (ix2 r k) = first (grad x y (z 0) (z 1) (z 2)) eu := by
  subst hU
  rw [pay_m, cut_g hA hB hD ha hb hd, hu]
theorem cut_v (hA : A = a) (hB : B = b) (hD : D = d) (hT : T = v) (ha : a (ix3 0 r k) = x) (hb : b (ix3 0 r k) = y) (hd : ∀ i, d (ix3 i r k) = z i) (hv : v (ix2 r k) = ev) :
    k0_pay4 A B (View.ld D (Rect.unit ![0, 0, 0] ![1, 128, 640] inb_S3x128x640_S1x128x640_0_0_0)) (View.ld D (Rect.unit ![1, 0, 0] ![1, 128, 640] inb_S3x128x640_S1x128x640_1_0_0)) (View.ld D (Rect.unit ![2, 0, 0] ![1, 128, 640] inb_S3x128x640_S1x128x640_2_0_0)) T (ix2 r k) = second (grad x y (z 0) (z 1) (z 2)) ev := by
  subst hT
  rw [pay_v, cut_g hA hB hD ha hb hd, hv]
theorem cut_d (hA : A = a) (hB : B = b) (hD : D = d) (hW : W = w) (hU : U = u) (hT : T = v) (ha : a (ix3 0 r k) = x) (hb : b (ix3 0 r k) = y) (hd : ∀ i, d (ix3 i r k) = z i)
    (hw : w (ix2 r k) = ew) (hu : u (ix2 r k) = eu) (hv : v (ix2 r k) = ev) :
    k0_pay1 W (k0_pay4 A B (View.ld D (Rect.unit ![0, 0, 0] ![1, 128, 640] inb_S3x128x640_S1x128x640_0_0_0)) (View.ld D (Rect.unit ![1, 0, 0] ![1, 128, 640] inb_S3x128x640_S1x128x640_1_0_0)) (View.ld D (Rect.unit ![2, 0, 0] ![1, 128, 640] inb_S3x128x640_S1x128x640_2_0_0)) T) (k0_pay5 A B (View.ld D (Rect.unit ![0, 0, 0] ![1, 128, 640] inb_S3x128x640_S1x128x640_0_0_0)) (View.ld D (Rect.unit ![1, 0, 0] ![1, 128, 640] inb_S3x128x640_S1x128x640_1_0_0)) (View.ld D (Rect.unit ![2, 0, 0] ![1, 128, 640] inb_S3x128x640_S1x128x640_2_0_0)) U) (ix2 r k) = delta ew (first (grad x y (z 0) (z 1) (z 2)) eu) (second (grad x y (z 0) (z 1) (z 2)) ev) := by
  subst hW
  rw [pay_d, cut_m hA hB hD hU ha hb hd hu, cut_v hA hB hD hT ha hb hd hv, hw]
end Cut

theorem end6 (c : Dev nD) : (dats m (Adam.ok m) 0 c).arrAt 6 (K m).N = grads (argG m c) (argS m c) (argC m c) (argW m c) (argM m c) (argV m c) := by
  refine (dats m (Adam.ok m) 0 c).arrAt_eq_of_covers 6 _ (covers6 m) fun t hf (y : S128x640.Idx) => ?_
  idx_vars y
  have e : (((K m).win 6).blk t).view.emb (ix2 y0 y1) = (ix2 (row m t y0) y1 : S1024x640.Idx) := by blk_ext [idx6 m t, row]
  rw [e]
  blk_simp
  rw [after0_6]
  unfold outsAt0
  frame_out
  exact cut_g (Memref.IsWhole.read_unread _ _) (Memref.IsWhole.read_unread _ _) (Memref.IsWhole.read_unread _ _) (tile_g m c t y0 y1) (tile_s m c t y0 y1) (fun i => tile_c m c t i y0 y1)

theorem end7 (c : Dev nD) : (dats m (Adam.ok m) 0 c).arrAt 7 (K m).N = updates (argG m c) (argS m c) (argC m c) (argW m c) (argM m c) (argV m c) := by
  refine (dats m (Adam.ok m) 0 c).arrAt_eq_of_covers 7 _ (covers7 m) fun t hf (y : S128x640.Idx) => ?_
  idx_vars y
  have e : (((K m).win 7).blk t).view.emb (ix2 y0 y1) = (ix2 (row m t y0) y1 : S1024x640.Idx) := by blk_ext [idx7 m t, row]
  rw [e]
  blk_simp
  rw [after0_7]
  unfold outsAt0
  frame_out
  exact (cut_d (Memref.IsWhole.read_unread _ _) (Memref.IsWhole.read_unread _ _) (Memref.IsWhole.read_unread _ _) (Memref.IsWhole.read_unread _ _) (Memref.IsWhole.read_unread _ _) (Memref.IsWhole.read_unread _ _) (tile_g m c t y0 y1) (tile_s m c t y0 y1) (fun i => tile_c m c t i y0 y1) (tile_w m c t y0 y1) (tile_m m c t y0 y1) (tile_v m c t y0 y1)).trans (updates_at _ _ _ _ _ _ _ _).symm

theorem end8 (c : Dev nD) : (dats m (Adam.ok m) 0 c).arrAt 8 (K m).N = firsts (argG m c) (argS m c) (argC m c) (argW m c) (argM m c) (argV m c) := by
  refine (dats m (Adam.ok m) 0 c).arrAt_eq_of_covers 8 _ (covers8 m) fun t hf (y : S128x640.Idx) => ?_
  idx_vars y
  have e : (((K m).win 8).blk t).view.emb (ix2 y0 y1) = (ix2 (row m t y0) y1 : S1024x640.Idx) := by blk_ext [idx8 m t, row]
  rw [e]
  blk_simp
  rw [after0_8]
  unfold outsAt0
  frame_out
  exact (cut_m (Memref.IsWhole.read_unread _ _) (Memref.IsWhole.read_unread _ _) (Memref.IsWhole.read_unread _ _) (Memref.IsWhole.read_unread _ _) (tile_g m c t y0 y1) (tile_s m c t y0 y1) (fun i => tile_c m c t i y0 y1) (tile_m m c t y0 y1)).trans (firsts_at _ _ _ _ _ _ _ _).symm

theorem end9 (c : Dev nD) : (dats m (Adam.ok m) 0 c).arrAt 9 (K m).N = seconds (argG m c) (argS m c) (argC m c) (argW m c) (argM m c) (argV m c) := by
  refine (dats m (Adam.ok m) 0 c).arrAt_eq_of_covers 9 _ (covers9 m) fun t hf (y : S128x640.Idx) => ?_
  idx_vars y
  have e : (((K m).win 9).blk t).view.emb (ix2 y0 y1) = (ix2 (row m t y0) y1 : S1024x640.Idx) := by blk_ext [idx9 m t, row]
  rw [e]
  blk_simp
  rw [after0_9]
  unfold outsAt0
  frame_out
  exact (cut_v (Memref.IsWhole.read_unread _ _) (Memref.IsWhole.read_unread _ _) (Memref.IsWhole.read_unread _ _) (Memref.IsWhole.read_unread _ _) (tile_g m c t y0 y1) (tile_s m c t y0 y1) (fun i => tile_c m c t i y0 y1) (tile_v m c t y0 y1)).trans (seconds_at _ _ _ _ _ _ _ _).symm

/-- What the tiles leave, the arguments as they were. -/
theorem run : θ_run defs (onTc (τ := τ) (main (F := Ideal))) ⟨m, fun _ => 0, ρ⟩ fun r => ∀ c : Dev nD,
      r.2.mem ((c : Thread nD τ).loc main_v1_0) = grads (argG m c) (argS m c) (argC m c) (argW m c) (argM m c) (argV m c)
      ∧ r.2.mem ((c : Thread nD τ).loc main_v1_1) = updates (argG m c) (argS m c) (argC m c) (argW m c) (argM m c) (argV m c)
      ∧ r.2.mem ((c : Thread nD τ).loc main_v1_2) = firsts (argG m c) (argS m c) (argC m c) (argW m c) (argM m c) (argV m c)
      ∧ r.2.mem ((c : Thread nD τ).loc main_v1_3) = seconds (argG m c) (argS m c) (argC m c) (argW m c) (argM m c) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨((h.1 c).1 6).trans (end6 m c), ((h.1 c).1 7).trans (end7 m c), ((h.1 c).1 8).trans (end8 m c), ((h.1 c).1 9).trans (end9 m c), h.2 c⟩)
    (θ_run_and (run_main m ρ (Adam.ok m)) (unchanged m ρ (Adam.ok m)))
end Tiles

/-- The three chips' parts summed first. -/
theorem sum3 (x y : EReal) (z : Fin 3 → EReal) : x + y + ∑ i, z i = grad x y (z 0) (z 1) (z 2) := by
  rw [Fin.sum_univ_three]
  unfold grad
  rw [← add_assoc, ← add_assoc]

section Host
open Cert.Reference5Ideal Cert.Reference5Ideal.Gen
variable (m : (ℓ : Loc nD τ sig) → Buf (Elt Ideal) ℓ) (ρ : Dev nD → PrngReg)

/-- What the host leaves is the same four arrays. -/
theorem host : θ_run defs (onTc (τ := τ) (main (F := Ideal))) ⟨m, fun _ => 0, ρ⟩ fun r => ∀ c : Dev nD,
      r.2.mem ((c : Thread nD τ).loc main_v7) = grads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v31) = updates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v12) = firsts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v18) = seconds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨p, q, a, b, k⟩ := h c
    refine ⟨p.trans ?_, q.trans ?_, a.trans ?_, b.trans ?_, k⟩
    · funext y
      idx_vars y
      refine Eq.trans ?_ (grads_at _ _ _ _ _ _ _ _).symm
      have hs := sum3 ((m ((c : Thread nD τ).loc main_arg0)) (ix3 0 y0 y1)) ((m ((c : Thread nD τ).loc main_arg1)) (ix3 0 y0 y1)) (fun x : Fin 3 => (m ((c : Thread nD τ).loc main_arg2)) (ix3 x y0 y1))
      beta_reduce at hs
      rw [← hs]
      pointwise
    · funext y
      idx_vars y
      refine Eq.trans ?_ (updates_at _ _ _ _ _ _ _ _).symm
      have hs := sum3 ((m ((c : Thread nD τ).loc main_arg0)) (ix3 0 y0 y1)) ((m ((c : Thread nD τ).loc main_arg1)) (ix3 0 y0 y1)) (fun x : Fin 3 => (m ((c : Thread nD τ).loc main_arg2)) (ix3 x y0 y1))
      beta_reduce at hs
      rw [← hs]
      unfold delta first second lit
      pointwise
    · funext y
      idx_vars y
      refine Eq.trans ?_ (firsts_at _ _ _ _ _ _ _ _).symm
      have hs := sum3 ((m ((c : Thread nD τ).loc main_arg0)) (ix3 0 y0 y1)) ((m ((c : Thread nD τ).loc main_arg1)) (ix3 0 y0 y1)) (fun x : Fin 3 => (m ((c : Thread nD τ).loc main_arg2)) (ix3 x y0 y1))
      beta_reduce at hs
      rw [← hs]
      unfold first lit
      pointwise
    · funext y
      idx_vars y
      refine Eq.trans ?_ (seconds_at _ _ _ _ _ _ _ _).symm
      have hs := sum3 ((m ((c : Thread nD τ).loc main_arg0)) (ix3 0 y0 y1)) ((m ((c : Thread nD τ).loc main_arg1)) (ix3 0 y0 y1)) (fun x : Fin 3 => (m ((c : Thread nD τ).loc main_arg2)) (ix3 x y0 y1))
      beta_reduce at hs
      rw [← hs]
      unfold second lit
      pointwise) (Value.run m ρ)
end Host

end Cert.Adam

end
-- ==== Proof.RmsGrad.lean ====
/- The gradient of an RMS normalization of one row, as extended reals: the form a kernel that holds the row's scale uses,
   and the form differentiating the normalization line by line gives, are the same number at EVERY row (infinite entries included). -/
module

public import Idealize.ShloMosaic.Lib.IdealHost
public import Idealize.ShloMosaic.Lib.Pointwise

@[expose] public section
noncomputable section

namespace Cert.Rms
open Idealize.ShloMosaic
open scoped BigOperators

/-- The row length 1024 as the programs write it. -/
abbrev len : EReal := Ideal.ofBits .f32 0x44800000#32
/-- The constant added under the root. -/
abbrev eps : EReal := Ideal.ofBits .f32 0x358637BD#32
/-- Minus one half, the factor the derivative of the inverse root brings. -/
abbrev negHalf : EReal := Ideal.ofBits .f32 0xBF000000#32

theorem len_eq : len = ((1024 : ℝ) : EReal) := by
  simp [len, Ideal.ofBits, Ideal.ieee, -EReal.coe_mul]; norm_num

theorem negHalf_eq : negHalf = ((-(1 / 2) : ℝ) : EReal) := by
  simp [negHalf, Ideal.ofBits, Ideal.ieee, -EReal.coe_mul, -EReal.coe_neg]; norm_num

theorem eps_pos : ∃ e : ℝ, 0 < e ∧ eps = (e : EReal) := by
  refine ⟨8796093 * 2 ^ (-43 : ℤ), by positivity, ?_⟩
  simp [eps, Ideal.ofBits, Ideal.ieee, -EReal.coe_mul]

/-- Division by the row length is multiplication by a positive real. -/
theorem div_len (a : EReal) : Ideal.div a len = a * ((1 / 1024 : ℝ) : EReal) := by
  rw [len_eq]
  unfold Ideal.div
  rw [if_neg (by norm_num), ← EReal.coe_inv]
  norm_num

theorem mul_self_nonneg (a : EReal) : 0 ≤ a * a := by
  induction a with
  | bot => simp
  | top => simp
  | coe r => rw [← EReal.coe_mul]; exact_mod_cast _root_.mul_self_nonneg r

/-- A sum of products keeps a nonnegative real factor outside. -/
theorem sum_mul_coe {ι : Type*} (s : Finset ι) (f : ι → EReal) {r : ℝ} (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- Twice the same multiple. -/
theorem mul_coe_add_self (z : EReal) (a : ℝ) : z * (a : EReal) + z * (a : EReal) = z * ((2 * a : ℝ) : EReal) := by
  rcases lt_trichotomy a 0 with ha | rfl | ha
  · induction z with
    | bot => rw [EReal.bot_mul_coe_of_neg ha, EReal.bot_mul_coe_of_neg (by linarith)]; rfl
    | top => rw [EReal.top_mul_coe_of_neg ha, EReal.top_mul_coe_of_neg (by linarith)]; rfl
    | coe r => norm_cast; ring
  · simp
  · induction z with
    | bot => rw [EReal.bot_mul_coe_of_pos ha, EReal.bot_mul_coe_of_pos (by linarith)]; rfl
    | top => rw [EReal.top_mul_coe_of_pos ha, EReal.top_mul_coe_of_pos (by linarith)]; rfl
    | coe r => norm_cast; ring

variable {n : ℕ} (x y : Fin n → EReal)

/-- The mean square of a row, with the constant under the root. -/
def ms : EReal := Ideal.div (∑ k, x k * x k) len + eps

/-- The row's scale. -/
def scale : EReal := Ideal.rsqrt (ms x)

/-- The gradient at column `c` written with the row's scale, `y` the cotangent times the weight, `d` what is added to it. -/
def byScale (c : Fin n) (d : EReal) : EReal :=
  d + scale x * (y c - x c * scale x * Ideal.div (∑ k, y k * (x k * scale x)) len)

/-- The factor of the row that differentiating the mean square brings. -/
def back : EReal := Ideal.div ((∑ k, x k * y k) * (negHalf * Ideal.div (scale x) (ms x))) len

/-- The gradient at column `c` as the derivative of the normalization line by line. -/
def byParts (c : Fin n) (d : EReal) : EReal := y c * scale x + x c * back x y + back x y * x c + d

/-- The mean square is a positive real, or infinite. -/
theorem ms_cases : ms x = ⊤ ∨ ∃ w : ℝ, 0 < w ∧ ms x = (w : EReal) := by
  obtain ⟨e, he, hee⟩ := eps_pos
  have h0 : (0 : EReal) ≤ (∑ k, x k * x k) * ((1 / 1024 : ℝ) : EReal) :=
    mul_nonneg (Finset.sum_nonneg fun k _ => mul_self_nonneg (x k)) (by exact_mod_cast (by norm_num : (0 : ℝ) ≤ 1 / 1024))
  unfold ms
  rw [div_len, hee]
  generalize (∑ k, x k * x k) * ((1 / 1024 : ℝ) : EReal) = q at h0
  induction q with
  | bot => exact absurd h0 (by simp)
  | top => exact Or.inl (EReal.top_add_coe e)
  | coe r =>
    refine Or.inr ⟨r + e, ?_, by rw [EReal.coe_add]⟩
    have : (0 : ℝ) ≤ r := by exact_mod_cast h0
    linarith

theorem byScale_eq_byParts (c : Fin n) (d : EReal) : byScale x y c d = byParts x y c d := by
  unfold byScale byParts back scale
  rcases ms_cases x with h | ⟨w, hw, h⟩
  · rw [h]
    have hd : Ideal.div 0 ⊤ = 0 := by unfold Ideal.div; simp
    have hr : Ideal.rsqrt ⊤ = 0 := rfl
    rw [hr, hd, mul_zero, mul_zero, zero_mul, mul_zero, div_len]
    simp
  · rw [h]
    have hs : 0 < Real.sqrt w := Real.sqrt_pos.mpr hw
    have hr : Ideal.rsqrt (w : EReal) = (((Real.sqrt w)⁻¹ : ℝ) : EReal) := by
      show (if w < 0 then ⊥ else if w = 0 then ⊤ else (((Real.sqrt w)⁻¹ : ℝ) : EReal)) = _
      rw [if_neg (not_lt.mpr hw.le), if_neg hw.ne']
    have hw2 : w = Real.sqrt w * Real.sqrt w := (Real.mul_self_sqrt hw.le).symm
    have hdv : ∀ a : ℝ, Ideal.div (a : EReal) (w : EReal) = ((a * w⁻¹ : ℝ) : EReal) := fun a => by
      unfold Ideal.div
      rw [if_neg (by exact_mod_cast hw.ne'), ← EReal.coe_inv, ← EReal.coe_mul]
    rw [hr, hdv, negHalf_eq, div_len, div_len]
    generalize hσ : (Real.sqrt w)⁻¹ = σ
    have hσp : 0 < σ := hσ ▸ inv_pos.mpr hs
    have hww : w⁻¹ = σ * σ := by rw [← hσ]; conv_lhs => rw [hw2]; rw [mul_inv]
    rw [hww]
    have hsum : ∑ k, y k * (x k * (σ : EReal)) = (∑ k, x k * y k) * (σ : EReal) := by
      rw [← sum_mul_coe _ _ hσp.le]
      exact Finset.sum_congr rfl fun k _ => by rw [← mul_assoc, mul_comm (y k)]
    rw [hsum, sub_eq_add_neg, EReal.left_distrib_of_nonneg_of_ne_top (by exact_mod_cast hσp.le) (EReal.coe_ne_top σ)]
    generalize ∑ k, x k * y k = T
    generalize x c = X
    generalize y c = Y
    have hq : X * (T * (((-(1 / 2) : ℝ) : EReal) * ((σ * (σ * σ) : ℝ) : EReal)) * ((1 / 1024 : ℝ) : EReal))
        = X * T * ((-(1 / 2) * (σ * (σ * σ)) * (1 / 1024) : ℝ) : EReal) := by
      rw [EReal.coe_mul, EReal.coe_mul]; ac_rfl
    rw [mul_comm _ X, add_assoc (Y * _), hq, mul_coe_add_self, add_comm d, mul_comm Y]
    congr 2
    rw [mul_neg, show (2 * (-(1 / 2) * (σ * (σ * σ)) * (1 / 1024)) : ℝ) = -(σ * (σ * σ) * (1 / 1024)) by ring,
      EReal.coe_neg, mul_neg, EReal.coe_mul, EReal.coe_mul, EReal.coe_mul]
    congr 1
    ac_rfl

/-- The cotangent of the normalized row times the weight: the product with the transposed projection, then the weight. -/
def cotRow {p n : ℕ} (dz : Fin p → EReal) (w : Fin n → Fin p → EReal) (k : Fin n) : EReal := ∑ l, dz l * w k l

/-- The gradient of the row's entry `j`: what flows back through normalization and projection, and what came by the residual. -/
def gradX {p n : ℕ} (dz : Fin p → EReal) (x dx1 : Fin n → EReal) (w : Fin n → Fin p → EReal) (g : Fin n → EReal) (j : Fin n) : EReal :=
  byScale x (fun k => cotRow dz w k * g k) j (dx1 j)

theorem gradX_parts {p n : ℕ} (dz : Fin p → EReal) (x dx1 : Fin n → EReal) (w : Fin n → Fin p → EReal) (g : Fin n → EReal) (j : Fin n) :
    gradX dz x dx1 w g j = byParts x (fun k => cotRow dz w k * g k) j (dx1 j) := byScale_eq_byParts _ _ _ _

/-- The gradient of the weight's entry `k`, summed over the rows. -/
def gradG {r p n : ℕ} (dz : Fin r → Fin p → EReal) (x : Fin r → Fin n → EReal) (w : Fin n → Fin p → EReal) (k : Fin n) : EReal :=
  ∑ i, cotRow (dz i) w k * (x i k * scale (x i))

end Cert.Rms

end
-- ==== Proof.DxKernel.lean ====
/- What the gradient kernel leaves in its two results, entry by entry: each row of the first is the row's normalization gradient plus
   what came by the residual, and the pack holds the weight's gradient, 128 columns to a row, summed over all 16 blocks of rows. -/
module

public import proofs.«01_k».proof.Defs
public import proofs.«01_k».proof.Proof.Gen.KernelIdeal.Value
public import proofs.«01_k».proof.Proof.RmsGrad
public import Idealize.ShloMosaic.Lib.Pipeline.ValueKit
public import Idealize.ShloMosaic.Lib.Pipeline.ReadBack
public import Idealize.ShloMosaic.Lib.Pointwise
public import Idealize.ShloMosaic.Lib.VecWindow

@[expose] public section
set_option maxRecDepth 16384
noncomputable section

namespace Cert.KernelIdeal.DxV
open Cert.KernelIdeal Cert.KernelIdeal.Gen Idealize.ShloMosaic Idealize.ShloMosaic.TcCoe Idealize.SL.Sem
open Idealize.ShloMosaic.Pipeline (Dat)

open Cert.Rms
open scoped BigOperators

variable (m : (ℓ : Loc nD τ sig) → Buf (Elt Ideal) ℓ) (ρ : Dev nD → PrngReg)

/-- The accumulator's step: each row chunk of the pack takes its 128 of the block's column sums. -/
def step (prev : Vec Ideal S8x128 .f32) (S : FVec Ideal S1x1024 .f32) : Vec Ideal S8x128 .f32 :=
  fun j => prev j + S (ix2 0 ⟨(j 0).val * 128 + (j 1).val, by idx_bounds j; omega⟩)

/-- The eight one-row stores, over anything stored before, leave the step's values. -/
theorem canon_step (prev : Vec Ideal S8x128 .f32) (x1 : Vec Ideal S256x1024 .f32) (x0 : Vec Ideal S256x5120 .bf16) (x3 : Vec Ideal S1024x5120 .bf16)
    (L' : List (View.Piece (Elt Ideal) S8x128 .f32)) :
    View.canon
      ([⟨Rect.unit ![7, 0] ![1, 128] inb_S8x128_S1x128_7_0, k0_pay1 (k0_pay15 (k0_pay7 x1 x0 x3) (View.ld prev (Rect.unit ![7, 0] ![1, 128] inb_S8x128_S1x128_7_0)))⟩,
        ⟨Rect.unit ![6, 0] ![1, 128] inb_S8x128_S1x128_6_0, k0_pay14 (k0_pay7 x1 x0 x3) (View.ld prev (Rect.unit ![6, 0] ![1, 128] inb_S8x128_S1x128_6_0))⟩,
        ⟨Rect.unit ![5, 0] ![1, 128] inb_S8x128_S1x128_5_0, k0_pay13 (k0_pay7 x1 x0 x3) (View.ld prev (Rect.unit ![5, 0] ![1, 128] inb_S8x128_S1x128_5_0))⟩,
        ⟨Rect.unit ![4, 0] ![1, 128] inb_S8x128_S1x128_4_0, k0_pay12 (k0_pay7 x1 x0 x3) (View.ld prev (Rect.unit ![4, 0] ![1, 128] inb_S8x128_S1x128_4_0))⟩,
        ⟨Rect.unit ![3, 0] ![1, 128] inb_S8x128_S1x128_3_0, k0_pay11 (k0_pay7 x1 x0 x3) (View.ld prev (Rect.unit ![3, 0] ![1, 128] inb_S8x128_S1x128_3_0))⟩,
        ⟨Rect.unit ![2, 0] ![1, 128] inb_S8x128_S1x128_2_0, k0_pay10 (k0_pay7 x1 x0 x3) (View.ld prev (Rect.unit ![2, 0] ![1, 128] inb_S8x128_S1x128_2_0))⟩,
        ⟨Rect.unit ![1, 0] ![1, 128] inb_S8x128_S1x128_1_0, k0_pay9 x1 x0 x3 (View.ld prev (Rect.unit ![1, 0] ![1, 128] inb_S8x128_S1x128_1_0))⟩,
        ⟨Rect.unit ![0, 0] ![1, 128] inb_S8x128_S1x128_0_0, k0_pay8 x1 x0 x3 (View.ld prev (Rect.unit ![0, 0] ![1, 128] inb_S8x128_S1x128_0_0))⟩]
        ++ L') = step prev (k0_pay7 x1 x0 x3) := by
  funext j
  refine View.canon_append_of_piecesOf (step prev (k0_pay7 x1 x0 x3)) L' _ ?_ j (View.cover_of_tiledL (s := S8x128) _ S1x128.size (by sl_kernel_rfl) j)
  refine ⟨?_, ?_, ?_, ?_, ?_, ?_, ?_, ?_, trivial⟩
  all_goals
    intro x
    idx_vars x
    pointwise [k0_pay1, k0_pay8, k0_pay9, k0_pay10, k0_pay11, k0_pay12, k0_pay13, k0_pay14, k0_pay15, step]
    congr 2
    all_goals blk_ext

/-- What the first point fills the pack with. -/
theorem zero_fill : (k0_pay3 (F := Ideal)) = fun _ => 0 := by
  funext j
  idx_vars j
  pointwise [k0_pay3]

/-- A point between adds to what the point before left. -/
theorem pack_mid (c : Dev nD) (t : Fin cfg0.N) (h0 : ¬t.val % 16 = 0) (h1 : ¬t.val % 16 = 15) : (outsAt0 m c t.val t.isLt).2.1 = step (outsAt0 m c (t.val - 1) (Nat.lt_of_le_of_lt (Nat.sub_le _ _) t.isLt)).2.1 (k0_pay7 (iblk m c 1 t) (iblk m c 0 t) (iblk m c 3 t)) := by
  rw [outsAt0_B m c t h0 h1]
  frame_out
  simp only [read_unread_whole]
  exact canon_step _ _ _ _ []

/-- The first point adds to the zero it fills the pack with. -/
theorem pack_first (c : Dev nD) (t : Fin cfg0.N) (h0 : t.val % 16 = 0) (h1 : ¬t.val % 16 = 15) : (outsAt0 m c t.val t.isLt).2.1 = step (fun _ => 0) (k0_pay7 (iblk m c 1 t) (iblk m c 0 t) (iblk m c 3 t)) := by
  rw [outsAt0_A m c t h0 h1]
  frame_open
  simp (disch := decide) only [↓ View.readCov_skip, ↓ View.readCov_cons_toLoadRect, ↓ View.readCov_fill]
  frame_out
  rw [zero_fill]
  exact canon_step _ _ _ _ [_]

/-- The last point's store, as any point's. -/
theorem pack_last (c : Dev nD) (t : Fin cfg0.N) (h0 : ¬t.val % 16 = 0) (h1 : t.val % 16 = 15) : (outsAt0 m c t.val t.isLt).2.1 = step (outsAt0 m c (t.val - 1) (Nat.lt_of_le_of_lt (Nat.sub_le _ _) t.isLt)).2.1 (k0_pay7 (iblk m c 1 t) (iblk m c 0 t) (iblk m c 3 t)) := by
  rw [outsAt0_C m c t h0 h1]
  frame_out
  simp only [read_unread_whole]
  exact canon_step _ _ _ _ []

/-- A store of the whole buffer leaves its payload. -/
theorem out_whole (f x : Vec Ideal S8x128 .f32) :
    (View.whole main_v0_1).writes (Elt Ideal) f [⟨Rect.unit (s := S8x128) ![0, 0] ![8, 128] inb_S8x128_S8x128_0_0, x⟩] = x := by
  have h := View.read_writes_full (Val := Elt Ideal) (View.whole main_v0_1) f inb_S8x128_S8x128_0_0 x []
  exact h

/-- What the last point copies out is the pack it has just added into. -/
theorem copied_last (c : Dev nD) (t : Fin cfg0.N) (h0 : ¬t.val % 16 = 0) (h1 : t.val % 16 = 15)  : (outsAt0 m c t.val t.isLt).2.2 = step (outsAt0 m c (t.val - 1) (Nat.lt_of_le_of_lt (Nat.sub_le _ _) t.isLt)).2.1 (k0_pay7 (iblk m c 1 t) (iblk m c 0 t) (iblk m c 3 t)) := by
  rw [outsAt0_C m c t h0 h1]
  dsimp only
  unfold hbw0_C_0 kernelRun0_C
  dsimp only
  sl_unfold_words
  refine (out_whole _ _).trans ?_
  show View.read _ _ (View.writes _ _ _ _) = _
  rw [View.read_writes_eq_canon]
  · frame_out
    simp only [read_unread_whole]
    exact canon_step _ _ _ _ []
  · exact View.cover_of_tiledL (s := S8x128) _ S1x128.size (by sl_kernel_rfl)

/-- The block of rows a point leaves, by its payload over the input blocks. -/
theorem rows_block (c : Dev nD) (t : Fin cfg0.N) (j) : (outsAt0 m c t.val t.isLt).1 j = k0_pay2 (k0_pay4 (iblk m c 1 t)) (k0_pay5 (iblk m c 1 t)) (k0_pay6 (iblk m c 0 t) (iblk m c 3 t)) (iblk m c 4 t) (iblk m c 2 t) j := by
  have hN : t.val < 16 := lt_of_lt_of_eq t.isLt N_0
  by_cases h0 : t.val % 16 = 0
  · rw [outsAt0_A m c t h0 (by omega)]; frame_out
  · by_cases h1 : t.val % 16 = 15
    · rw [outsAt0_C m c t h0 h1]; frame_out
    · rw [outsAt0_B m c t h0 h1]; frame_out

/-- A block row of the first result, by the row gradient. -/
theorem pay_rows (x1 x2 : Vec Ideal S256x1024 .f32) (x0 : Vec Ideal S256x5120 .bf16) (x3 : Vec Ideal S1024x5120 .bf16) (x4 : Vec Ideal S1x1024 .f32)
    (a : Fin 256) (b : Fin 1024) :
    k0_pay2 (k0_pay4 x1) (k0_pay5 x1) (k0_pay6 x0 x3) x4 x2 (ix2 a b)
      = gradX (fun l => x0 (ix2 a l)) (fun k => x1 (ix2 a k)) (fun k => x2 (ix2 a k)) (fun k l => x3 (ix2 k l)) (fun k => x4 (ix2 0 k)) b := by
  unfold gradX byScale scale ms cotRow
  pointwise [k0_pay2, k0_pay4, k0_pay5, k0_pay6]

/-- A block's column sums, by the row factors. -/
theorem pay_cols (x1 : Vec Ideal S256x1024 .f32) (x0 : Vec Ideal S256x5120 .bf16) (x3 : Vec Ideal S1024x5120 .bf16) (b : Fin 1024) :
    k0_pay7 x1 x0 x3 (ix2 0 b)
      = gradG (fun i l => x0 (ix2 i l)) (fun i k => x1 (ix2 i k)) (fun k l => x3 (ix2 k l)) b := by
  unfold gradG scale ms cotRow
  pointwise [k0_pay7, k0_pay6, k0_pay5, k0_pay4]

/-- Where the five input windows and the row output stand at a point. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] :=
  (by decide +kernel : ∀ t : Fin grid0.N, win0_0.index t = ![t.val, 0] ∧ win0_1.index t = ![t.val, 0] ∧ win0_2.index t = ![t.val, 0] ∧ win0_3.index t = ![0, 0]
    ∧ win0_4.index t = ![0, 0] ∧ win0_5.index t = ![t.val, 0])

/-- The arguments, as the arrays they are. -/
abbrev aDz (c : Dev nD) : FVec Ideal S4096x5120 .bf16 := m ((c : Thread nD τ).loc main_arg0)
abbrev aX (c : Dev nD) : FVec Ideal S4096x1024 .f32 := m ((c : Thread nD τ).loc main_arg1)
abbrev aDx (c : Dev nD) : FVec Ideal S4096x1024 .f32 := m ((c : Thread nD τ).loc main_arg2)
abbrev aW (c : Dev nD) : FVec Ideal S1024x5120 .bf16 := m ((c : Thread nD τ).loc main_arg3)
abbrev aG (c : Dev nD) : FVec Ideal S1x1024 .f32 := m ((c : Thread nD τ).loc main_arg4)

/-- The first result: the gradient of the normalized and projected array. -/
def gx (c : Dev nD) : FVec Ideal S4096x1024 .f32 := fun i =>
  gradX (fun l => aDz m c (ix2 (i 0) l)) (fun k => aX m c (ix2 (i 0) k)) (fun k => aDx m c (ix2 (i 0) k)) (fun k l => aW m c (ix2 k l)) (fun k => aG m c (ix2 0 k)) (i 1)

/-- The second: the weight's gradient, 128 columns to a row. -/
def gg (c : Dev nD) : FVec Ideal S8x128 .f32 := fun j =>
  gradG (fun i l => aDz m c (ix2 i l)) (fun i k => aX m c (ix2 i k)) (fun k l => aW m c (ix2 k l)) ⟨(j 0).val * 128 + (j 1).val, by idx_bounds j; omega⟩

/-- Row `r` of point `t`'s block, in the array. -/
def row (t : Fin cfg0.N) (r : Fin 256) : Fin 4096 := ⟨t.val * 256 + r.val, by have := lt_of_lt_of_eq t.isLt N_0; omega⟩

theorem blk_dz (c : Dev nD) (t : Fin cfg0.N) (r : Fin 256) (l : Fin 5120) : iblk m c 0 t (ix2 r l) = aDz m c (ix2 (row t r) l) := by
  blk_ext [iblk, V, idx t, row]
theorem blk_x (c : Dev nD) (t : Fin cfg0.N) (r : Fin 256) (k : Fin 1024) : iblk m c 1 t (ix2 r k) = aX m c (ix2 (row t r) k) := by
  blk_ext [iblk, V, idx t, row]
theorem blk_dx (c : Dev nD) (t : Fin cfg0.N) (r : Fin 256) (k : Fin 1024) : iblk m c 2 t (ix2 r k) = aDx m c (ix2 (row t r) k) := by
  blk_ext [iblk, V, idx t, row]
theorem blk_w (c : Dev nD) (t : Fin cfg0.N) (k : Fin 1024) (l : Fin 5120) : iblk m c 3 t (ix2 k l) = aW m c (ix2 k l) := by
  blk_ext [iblk, V, idx t]
theorem blk_g (c : Dev nD) (t : Fin cfg0.N) (k : Fin 1024) : iblk m c 4 t (ix2 0 k) = aG m c (ix2 0 k) := by
  blk_ext [iblk, V, idx t]

theorem rows_eq (c : Dev nD) : (dats m 0 c).arrAt 5 cfg0.N = gx m c := by
  refine (dats m 0 c).arrAt_eq_of_covers 5 _ (by decide +kernel) fun t hf y => ?_
  blk_simp
  rw [after0_5, rows_block]
  idx_vars y
  have e : ((win0_5.blk t).view.emb (ix2 y0 y1) : S4096x1024.Idx) = ix2 (row t y0) y1 := by blk_ext [idx t, row]
  rw [e, pay_rows]
  simp only [blk_dz, blk_x, blk_dx, blk_w, blk_g]
  rfl

theorem pack_eq (c : Dev nD) (t : Fin cfg0.N) (ht : t.val % 16 = 15) : (outsAt0 m c t.val t.isLt).2.1 = gg m c := by
  funext j
  have hN : t.val < 16 := lt_of_lt_of_eq t.isLt N_0
  have hN' : cfg0.N = 16 := N_0
  refine (Pipeline.eq_sum_fin_of_reset_step_apply_last (fun n h => (outsAt0 m c n h).2.1) 16 (fun _ => 0)
    (fun p j => k0_pay7 (iblk m c 1 p) (iblk m c 0 p) (iblk m c 3 p) (ix2 0 ⟨(j 0).val * 128 + (j 1).val, by idx_bounds j; omega⟩))
    (fun u hu i => ?_) (fun u hu i => ?_) (by rw [hN']) t (by omega) j).trans ?_
  · rw [pack_first m c u hu (by omega)]; rfl
  · by_cases h1 : u.val % 16 = 15
    · rw [pack_last m c u hu h1]; rfl
    · rw [pack_mid m c u hu h1]; rfl
  · rw [zero_add]
    refine (Finset.sum_congr rfl fun p _ => pay_cols _ _ _ _).trans ?_
    unfold gg gradG
    refine Fin.sum_mul_add_congr (fun p r hl => ?_) (by rw [hN'])
    simp only [blk_dz, blk_x, blk_w]
    rfl

/-- What the last point copies out is the weight's gradient. -/
theorem copied_eq (c : Dev nD) (t : Fin cfg0.N) (ht : t.val % 16 = 15) : (outsAt0 m c t.val t.isLt).2.2 = gg m c :=
  (copied_last m c t (by omega) ht).trans ((pack_last m c t (by omega) ht).symm.trans (pack_eq m c t ht))

/-- What the run leaves: both results by their values, the arguments as they were. -/
theorem run : θ_run defs (onTc (τ := τ) (main (F := Ideal))) ⟨m, fun _ => 0, ρ⟩ fun r => ∀ c : Dev nD,
      r.2.mem ((c : Thread nD τ).loc main_v0_0) = gx m c
      ∧ r.2.mem ((c : Thread nD τ).loc main_v0_1) = gg m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (rows_eq m c), (h c).2.2.2.2.2.2.trans (copied_eq m c t0_15 rfl),
      (h c).2.1, (h c).2.2.1, (h c).2.2.2.1, (h c).2.2.2.2.1, (h c).2.2.2.2.2.1⟩)
    (Value.run_blocks m ρ)

end Cert.KernelIdeal.DxV

end
-- ==== Proof.DxReference.lean ====
/- What the host's gradient of the normalization leaves in its two results, entry by entry. -/
module

public import proofs.«01_k».proof.Defs
public import proofs.«01_k».proof.Proof.Gen.ReferenceIdeal.Run
public import proofs.«01_k».proof.Proof.RmsGrad
public import Idealize.ShloMosaic.Lib.Pipeline.ValueKit
public import Idealize.ShloMosaic.Lib.Pipeline.ReadBack
public import Idealize.ShloMosaic.Lib.Pointwise
public import Idealize.ShloMosaic.Lib.VecWindow

@[expose] public section
set_option maxRecDepth 16384
noncomputable section

namespace Cert.ReferenceIdeal.DxV
open Cert.ReferenceIdeal Cert.ReferenceIdeal.Gen Cert.ReferenceIdeal.Value Idealize.ShloMosaic Idealize.ShloMosaic.TcCoe Idealize.SL.Sem
open Idealize.ShloMosaic.Pipeline (Dat)

open Cert.Rms
open scoped BigOperators

variable (m : (ℓ : Loc nD τ sig) → Buf (Elt Ideal) ℓ) (ρ : Dev nD → PrngReg)

/-- The arguments, as the arrays they are. -/
abbrev aDz (c : Dev nD) : FVec Ideal S4096x5120 .bf16 := m ((c : Thread nD τ).loc main_arg0)
abbrev aX (c : Dev nD) : FVec Ideal S4096x1024 .f32 := m ((c : Thread nD τ).loc main_arg1)
abbrev aDx (c : Dev nD) : FVec Ideal S4096x1024 .f32 := m ((c : Thread nD τ).loc main_arg2)
abbrev aW (c : Dev nD) : FVec Ideal S1024x5120 .bf16 := m ((c : Thread nD τ).loc main_arg3)
abbrev aG (c : Dev nD) : FVec Ideal S1x1024 .f32 := m ((c : Thread nD τ).loc main_arg4)

/-- The first result: the gradient of the normalized and projected array. -/
def gx (c : Dev nD) : FVec Ideal S4096x1024 .f32 := fun i =>
  gradX (fun l => aDz m c (ix2 (i 0) l)) (fun k => aX m c (ix2 (i 0) k)) (fun k => aDx m c (ix2 (i 0) k)) (fun k l => aW m c (ix2 k l)) (fun k => aG m c (ix2 0 k)) (i 1)

/-- The second: the weight's gradient, 128 columns to a row. -/
def gg (c : Dev nD) : FVec Ideal S8x128 .f32 := fun j =>
  gradG (fun i l => aDz m c (ix2 i l)) (fun i k => aX m c (ix2 i k)) (fun k l => aW m c (ix2 k l)) ⟨(j 0).val * 128 + (j 1).val, by idx_bounds j; omega⟩

theorem rows_eq (c : Dev nD) : res_main_v42 m c = gx m c := by
  funext i
  show (res_main_v42 m c : FVec Ideal S4096x1024 .f32) i = _
  unfold res_main_v42
  idx_vars i
  have h : gx m c (ix2 i0 i1) = gradX (fun l => aDz m c (ix2 i0 l)) (fun k => aX m c (ix2 i0 k)) (fun k => aDx m c (ix2 i0 k)) (fun k l => aW m c (ix2 k l)) (fun k => aG m c (ix2 0 k)) i1 := rfl
  rw [h, gradX_parts]
  unfold byParts back scale ms cotRow
  pointwise
  exact congrArg₂ (fun p q : EReal => p + q) (congrArg₂ (fun p q : EReal => p + q) (congrArg₂ (fun p q : EReal => p + q) rfl (congrArg (fun q : EReal => (aX m c (ix2 i0 i1) : EReal) * q) (Fin.sum_univ_one _))) (congrArg (fun q : EReal => q * (aX m c (ix2 i0 i1) : EReal)) (Fin.sum_univ_one _))) rfl

/-- What the run leaves: both results by their values, the arguments as they were. -/
theorem run_vals : θ_run defs (onTc (τ := τ) (main (F := Ideal))) ⟨m, fun _ => 0, ρ⟩ fun r => ∀ c : Dev nD,
      r.2.mem ((c : Thread nD τ).loc main_v42) = gx m c
      ∧ r.2.mem ((c : Thread nD τ).loc main_v43) = gg m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h5, hp, h0, h1, h2, h3, h4⟩ := h c
    refine ⟨h5.trans (rows_eq m c), hp.trans ?_, h0, h1, h2, h3, h4⟩
    funext j
    unfold gg gradG scale ms cotRow
    idx_vars j
    pointwise
    refine (Fin.sum_univ_one _).trans (Finset.sum_congr rfl fun i _ => ?_)
    exact mul_comm _ _)
    (run m ρ)

end Cert.ReferenceIdeal.DxV

end
-- ==== Proof.HeadRun.lean ====
/- One point of the output layers' gradient kernel, run: what it is given, what it leaves, and that from the one it reaches the other.
   Three kinds of point: the first fills its sums with zeros, the last copies them out section by section, twenty copies at a time,
   and every point adds its block's products to them. -/
module

public import proofs.«01_k».proof.Proof.Gen.Kernel2Ideal.Launch
public import proofs.«01_k».proof.Proof.Gen.Kernel2Ideal.Points
public import proofs.«01_k».proof.Proof.Gen.Kernel2Ideal.Skeleton
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section
set_option maxRecDepth 16384
noncomputable section

namespace Cert.Head
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The buffers a point works in: its inputs' and outputs' staging, the pack, and the five running sums. -/
structure Stage where
  m1 : Memref sig .tc .vmem S256x1024 .bf16
  w1 : m1.IsWhole
  m2 : Memref sig .tc .vmem S256x512 .bf16
  w2 : m2.IsWhole
  m3 : Memref sig .tc .vmem S256x1024 .bf16
  w3 : m3.IsWhole
  m4 : Memref sig .tc .vmem S1024x1024 .bf16
  w4 : m4.IsWhole
  m5 : Memref sig .tc .vmem S1024x1024 .bf16
  w5 : m5.IsWhole
  m6 : Memref sig .tc .vmem S256x1024 .f32
  w6 : m6.IsWhole
  m7 : Memref sig .tc .vmem S256x256 .f32
  w7 : m7.IsWhole
  m8 : Memref sig .tc .vmem S256x1024 .f32
  w8 : m8.IsWhole
  m9 : Memref sig .tc .vmem S1024x1024 .bf16
  w9 : m9.IsWhole
  m10 : Memref sig .tc .vmem S512x1024 .bf16
  w10 : m10.IsWhole
  m11 : Memref sig .tc .vmem S1024x1024 .bf16
  w11 : m11.IsWhole
  m12 : Memref sig .tc .vmem S1024x1024 .bf16
  w12 : m12.IsWhole
  m13 : Memref sig .tc .vmem S256x1024 .bf16
  w13 : m13.IsWhole
  m14 : Memref sig .tc .vmem S1x1024 .f32
  w14 : m14.IsWhole
  m15 : Memref sig .tc .vmem S1x1024 .f32
  w15 : m15.IsWhole
  m16 : Memref sig .tc .vmem S256x1024 .f32
  w16 : m16.IsWhole
  m17 : Memref sig .tc .vmem S256x512 .f32
  w17 : m17.IsWhole
  m18 : Memref sig .tc .vmem S256x2048 .bf16
  w18 : m18.IsWhole
  m19 : Memref sig .tc .vmem S256x1024 .f32
  w19 : m19.IsWhole
  m25 : Memref sig .tc .vmem S24x128 .f32
  w25 : m25.IsWhole
  m26 : Memref sig .tc .vmem S1024x1024 .f32
  w26 : m26.IsWhole
  m27 : Memref sig .tc .vmem S512x1024 .f32
  w27 : m27.IsWhole
  m28 : Memref sig .tc .vmem S1024x1024 .f32
  w28 : m28.IsWhole
  m29 : Memref sig .tc .vmem S1024x1024 .f32
  w29 : m29.IsWhole
  m30 : Memref sig .tc .vmem S256x1024 .f32
  w30 : m30.IsWhole

/-- A point's input blocks. -/
structure Ins (F : FTy → Type) where
  x1 : Vec F S256x1024 .bf16
  x2 : Vec F S256x512 .bf16
  x3 : Vec F S256x1024 .bf16
  x4 : Vec F S1024x1024 .bf16
  x5 : Vec F S1024x1024 .bf16
  x6 : Vec F S256x1024 .f32
  x7 : Vec F S256x256 .f32
  x8 : Vec F S256x1024 .f32
  x9 : Vec F S1024x1024 .bf16
  x10 : Vec F S512x1024 .bf16
  x11 : Vec F S1024x1024 .bf16
  x12 : Vec F S1024x1024 .bf16
  x13 : Vec F S256x1024 .bf16
  x14 : Vec F S1x1024 .f32
  x15 : Vec F S1x1024 .f32

/-- What is carried from point to point: the pack and the five running sums. -/
structure Carry (F : FTy → Type) where
  pack : Vec F S24x128 .f32
  pl : Vec F S1024x1024 .f32
  pp : Vec F S512x1024 .f32
  out : Vec F S1024x1024 .f32
  pg : Vec F S1024x1024 .f32
  pe : Vec F S256x1024 .f32

/-- The four blocks a point writes. -/
structure Blocks (F : FTy → Type) where
  ya : Vec F S256x1024 .f32
  yb : Vec F S256x512 .f32
  gates : Vec F S256x2048 .bf16
  x : Vec F S256x1024 .f32

/-- A large array's contents type on a core, and the array held whole. -/
abbrev Big (c : Dev nD) {S : Shape} {e : EltTy} (M : Memref sig .tc .hbm S e) : Type := Buf (Elt F) (M.view.loc (c : Thread nD τ))
abbrev big (c : Dev nD) {S : Shape} {e : EltTy} (M : Memref sig .tc .hbm S e) (f : Big (F := F) c M) : sProp 𝕄 :=
  M.view.loc (c : Thread nD τ) ↦{fullShare} f
abbrev R0 : Memref sig .tc .hbm S8x128x1024 .f32 := Memref.whole main_v15_4
abbrev R1 : Memref sig .tc .hbm S8x512x128 .f32 := Memref.whole main_v15_5
abbrev R2 : Memref sig .tc .hbm S8x128x1024 .f32 := Memref.whole main_v15_6
abbrev R3 : Memref sig .tc .hbm S8x128x1024 .f32 := Memref.whole main_v15_7
abbrev R4 : Memref sig .tc .hbm S8x256x128 .f32 := Memref.whole main_v15_8

/-- The five weights' gradients, as they stand in the large memory. -/
structure Grads (F : FTy → Type) (c : Dev nD) where
  pl : Big (F := F) c R0
  pp : Big (F := F) c R1
  out : Big (F := F) c R2
  pg : Big (F := F) c R3
  pe : Big (F := F) c R4

/-- What the stores left, as lists of pieces, buffer by buffer. -/
structure Left (F : FTy → Type) where
  yaP : List (View.Piece (Elt F) S256x1024 .f32)
  ybP : List (View.Piece (Elt F) S256x512 .f32)
  gatesP : List (View.Piece (Elt F) S256x2048 .bf16)
  xP : List (View.Piece (Elt F) S256x1024 .f32)
  packS : List (View.Piece (Elt F) S24x128 .f32)
  plS : List (View.Piece (Elt F) S1024x1024 .f32)
  ppS : List (View.Piece (Elt F) S512x1024 .f32)
  outS : List (View.Piece (Elt F) S1024x1024 .f32)
  pgS : List (View.Piece (Elt F) S1024x1024 .f32)
  peS : List (View.Piece (Elt F) S256x1024 .f32)

section Parts
variable (c : Dev nD) (s : Stage)
/-- The inputs at their blocks. -/
def Given (x : Ins F) : sProp 𝕄 :=
  iprop(owns (c : Thread nD τ) s.m1 fullShare x.x1 ∗ owns (c : Thread nD τ) s.m2 fullShare x.x2 ∗ owns (c : Thread nD τ) s.m3 fullShare x.x3 ∗ owns (c : Thread nD τ) s.m4 fullShare x.x4 ∗ owns (c : Thread nD τ) s.m5 fullShare x.x5 ∗ owns (c : Thread nD τ) s.m6 fullShare x.x6 ∗ owns (c : Thread nD τ) s.m7 fullShare x.x7 ∗ owns (c : Thread nD τ) s.m8 fullShare x.x8 ∗ owns (c : Thread nD τ) s.m9 fullShare x.x9 ∗ owns (c : Thread nD τ) s.m10 fullShare x.x10 ∗ owns (c : Thread nD τ) s.m11 fullShare x.x11 ∗ owns (c : Thread nD τ) s.m12 fullShare x.x12 ∗ owns (c : Thread nD τ) s.m13 fullShare x.x13 ∗ owns (c : Thread nD τ) s.m14 fullShare x.x14 ∗ owns (c : Thread nD τ) s.m15 fullShare x.x15)
/-- The output buffers at anything. -/
def Free : sProp 𝕄 :=
  iprop((∃ d, owns (c : Thread nD τ) s.m16 fullShare d) ∗ (∃ d, owns (c : Thread nD τ) s.m17 fullShare d) ∗ (∃ d, owns (c : Thread nD τ) s.m18 fullShare d) ∗ (∃ d, owns (c : Thread nD τ) s.m19 fullShare d))
/-- The running sums at anything; and at what is carried. -/
def Unset : sProp 𝕄 :=
  iprop((∃ d, owns (c : Thread nD τ) s.m25 fullShare d) ∗ (∃ d, owns (c : Thread nD τ) s.m26 fullShare d) ∗ (∃ d, owns (c : Thread nD τ) s.m27 fullShare d) ∗ (∃ d, owns (c : Thread nD τ) s.m28 fullShare d) ∗ (∃ d, owns (c : Thread nD τ) s.m29 fullShare d) ∗ (∃ d, owns (c : Thread nD τ) s.m30 fullShare d))
def Carried (a : Carry F) : sProp 𝕄 :=
  iprop(owns (c : Thread nD τ) s.m25 fullShare a.pack ∗ owns (c : Thread nD τ) s.m26 fullShare a.pl ∗ owns (c : Thread nD τ) s.m27 fullShare a.pp ∗ owns (c : Thread nD τ) s.m28 fullShare a.out ∗ owns (c : Thread nD τ) s.m29 fullShare a.pg ∗ owns (c : Thread nD τ) s.m30 fullShare a.pe)
/-- The outputs, and the running sums, with a list of pieces written over anything. -/
def Wrote (l : Left F) : sProp 𝕄 :=
  iprop((∃ f, s.m16.view.loc (c : Thread nD τ) ↦[s.m16.view.set]{fullShare} s.m16.view.writes (Elt F) f l.yaP) ∗ (∃ f, s.m17.view.loc (c : Thread nD τ) ↦[s.m17.view.set]{fullShare} s.m17.view.writes (Elt F) f l.ybP) ∗ (∃ f, s.m18.view.loc (c : Thread nD τ) ↦[s.m18.view.set]{fullShare} s.m18.view.writes (Elt F) f l.gatesP) ∗ (∃ f, s.m19.view.loc (c : Thread nD τ) ↦[s.m19.view.set]{fullShare} s.m19.view.writes (Elt F) f l.xP))
def Summed (l : Left F) : sProp 𝕄 :=
  iprop((∃ f, s.m25.view.loc (c : Thread nD τ) ↦[s.m25.view.set]{fullShare} s.m25.view.writes (Elt F) f l.packS) ∗ (∃ f, s.m26.view.loc (c : Thread nD τ) ↦[s.m26.view.set]{fullShare} s.m26.view.writes (Elt F) f l.plS) ∗ (∃ f, s.m27.view.loc (c : Thread nD τ) ↦[s.m27.view.set]{fullShare} s.m27.view.writes (Elt F) f l.ppS) ∗ (∃ f, s.m28.view.loc (c : Thread nD τ) ↦[s.m28.view.set]{fullShare} s.m28.view.writes (Elt F) f l.outS) ∗ (∃ f, s.m29.view.loc (c : Thread nD τ) ↦[s.m29.view.set]{fullShare} s.m29.view.writes (Elt F) f l.pgS) ∗ (∃ f, s.m30.view.loc (c : Thread nD τ) ↦[s.m30.view.set]{fullShare} s.m30.view.writes (Elt F) f l.peS))
/-- The same, the pack over what it held: a point after the first does not store all its rows. -/
def Added (p : Vec F S24x128 .f32) (l : Left F) : sProp 𝕄 :=
  iprop((s.m25.view.loc (c : Thread nD τ) ↦[s.m25.view.set]{fullShare} s.m25.view.writes (Elt F) (s.w25.unread p) l.packS) ∗ (∃ f, s.m26.view.loc (c : Thread nD τ) ↦[s.m26.view.set]{fullShare} s.m26.view.writes (Elt F) f l.plS) ∗ (∃ f, s.m27.view.loc (c : Thread nD τ) ↦[s.m27.view.set]{fullShare} s.m27.view.writes (Elt F) f l.ppS) ∗ (∃ f, s.m28.view.loc (c : Thread nD τ) ↦[s.m28.view.set]{fullShare} s.m28.view.writes (Elt F) f l.outS) ∗ (∃ f, s.m29.view.loc (c : Thread nD τ) ↦[s.m29.view.set]{fullShare} s.m29.view.writes (Elt F) f l.pgS) ∗ (∃ f, s.m30.view.loc (c : Thread nD τ) ↦[s.m30.view.set]{fullShare} s.m30.view.writes (Elt F) f l.peS))
/-- The copies' own counters, at zero. -/
def Idle : sProp 𝕄 :=
  iprop(semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0)
/-- The weights' gradients, held. -/
def Held (g : Grads F c) : sProp 𝕄 :=
  iprop(big c R0 g.pl ∗ big c R1 g.pp ∗ big c R2 g.out ∗ big c R3 g.pg ∗ big c R4 g.pe)

/-- The point's body, run from one assertion to another, whatever waits are on record. -/
def Runs (i : grid0.Coords) (pre post : sProp 𝕄) : Prop :=
  ∀ (W : Waits sig Unit) (K : PUnit → sProp 𝕄),
    iprop(pre ∗ owes (c : Thread nD τ) 0 W ∗ (iprop(post ∗ (∃ W', owes (c : Thread nD τ) 0 W')) -∗ K ⟨⟩))
      ⊢ wp frame (wpE (defs₀ (F := F)) Variants.none c none) Set.univ (cc0_mid i s.m1 s.w1 s.m2 s.w2 s.m3 s.w3 s.m4 s.w4 s.m5 s.w5 s.m6 s.w6 s.m7 s.w7 s.m8 s.w8 s.m9 s.w9 s.m10 s.w10 s.m11 s.w11 s.m12 s.w12 s.m13 s.w13 s.m14 s.w14 s.m15 s.w15 s.m16 s.w16 s.m17 s.w17 s.m18 s.w18 s.m19 s.w19 R0 (Memref.isWhole_whole _) R1 (Memref.isWhole_whole _) R2 (Memref.isWhole_whole _) R3 (Memref.isWhole_whole _) R4 (Memref.isWhole_whole _) s.m25 s.w25 s.m26 s.w26 s.m27 s.w27 s.m28 s.w28 s.m29 s.w29 s.m30 s.w30 cc0_scratch5) K
end Parts

/-- The two tests of the grid index, as the body makes them, and what they say. -/
abbrev isFirst (i : grid0.Coords) : Prop := (Scalar.cmpi .ne (Scalar.extui (Scalar.cmpi .eq (BitVec.ofNat 32 (i 0).val) 0#32)) 0#32) = 1#1
abbrev isLast (i : grid0.Coords) : Prop := (Scalar.cmpi .ne (Scalar.extui (Scalar.cmpi .eq (BitVec.ofNat 32 (i 0).val) 15#32)) 0#32) = 1#1

end Cert.Head

end
-- ==== Proof.HeadFirst.lean ====
/- The first point of the output layers' gradient kernel: its body run once, from what it is given to what it leaves. -/
module

public import proofs.«01_k».proof.Proof.HeadRun

@[expose] public section
set_option maxRecDepth 16384
noncomputable section

namespace Cert.Head
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000 in
/-- The first point. The pieces and the gradients it leaves are those the run finds. -/
def runFirst (c : Dev nD) (i : grid0.Coords) (s : Stage) (h0 : isFirst i) (h1 : ¬isLast i) (x : Ins F) (g : Grads F c) :
    { l : Left F × Grads F c // Runs c s i iprop(Given c s x ∗ Free c s ∗ Unset c s ∗ Idle c ∗ Held c g)
      iprop(Given c s x ∗ Wrote c s l.1 ∗ Summed c s l.1 ∗ Idle c ∗ Held c l.2) } := by
  obtain ⟨m1, w1, m2, w2, m3, w3, m4, w4, m5, w5, m6, w6, m7, w7, m8, w8, m9, w9, m10, w10, m11, w11, m12, w12, m13, w13, m14, w14, m15, w15, m16, w16, m17, w17, m18, w18, m19, w19, m25, w25, m26, w26, m27, w27, m28, w28, m29, w29, m30, w30⟩ := s
  obtain ⟨x1, x2, x3, x4, x5, x6, x7, x8, x9, x10, x11, x12, x13, x14, x15⟩ := x
  obtain ⟨g0, g1, g2, g3, g4⟩ := g
  unfold Runs Given Free Unset Summed Wrote Idle Held owns
  dsimp only
  refine ⟨(⟨?_, ?_, ?_, ?_, ?_, ?_, ?_, ?_, ?_, ?_⟩, ⟨?_, ?_, ?_, ?_, ?_⟩), fun W K => ?run⟩
  case run =>
    simp only [cc0_mid_eq_skeleton]; unfold cc0_mid_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    iintro ⟨⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩⟩, ⟨⟨%d16, %f16, -, H16⟩, ⟨%d17, %f17, -, H17⟩, ⟨%d18, %f18, -, H18⟩, ⟨%d19, %f19, -, H19⟩⟩, ⟨⟨%d25, %f25, -, H25⟩, ⟨%d26, %f26, -, H26⟩, ⟨%d27, %f27, -, H27⟩, ⟨%d28, %f28, -, H28⟩, ⟨%d29, %f29, -, H29⟩, ⟨%d30, %f30, -, H30⟩⟩, ⟨Hq0, Hq1, Hq2, Hq3, Hq4, Hq5, Hq6, Hq7, Hq8, Hq9, Hq10, Hq11, Hq12, Hq13, Hq14, Hq15, Hq16, Hq17, Hq18, Hq19⟩, ⟨Hh0, Hh1, Hh2, Hh3, Hh4⟩⟩, HW, Hk⟩
    obtain rfl := w1.eq_unread e1; obtain rfl := w2.eq_unread e2; obtain rfl := w3.eq_unread e3; obtain rfl := w4.eq_unread e4; obtain rfl := w5.eq_unread e5; obtain rfl := w6.eq_unread e6; obtain rfl := w7.eq_unread e7; obtain rfl := w8.eq_unread e8; obtain rfl := w9.eq_unread e9; obtain rfl := w10.eq_unread e10; obtain rfl := w11.eq_unread e11; obtain rfl := w12.eq_unread e12; obtain rfl := w13.eq_unread e13; obtain rfl := w14.eq_unread e14; obtain rfl := w15.eq_unread e15
    sl_exec (disch := first | sl_exact h0 | sl_exact h1)
    sl_step
    iapply Hk
    isplitr [HW]
    · isplitl [H1 H2 H3 H4 H5 H6 H7 H8 H9 H10 H11 H12 H13 H14 H15]
      · isplitl [H1]; · (iexists _; isplitr; (ipureintro; exact w1.read_unread _); iexact H1)
        isplitl [H2]; · (iexists _; isplitr; (ipureintro; exact w2.read_unread _); iexact H2)
        isplitl [H3]; · (iexists _; isplitr; (ipureintro; exact w3.read_unread _); iexact H3)
        isplitl [H4]; · (iexists _; isplitr; (ipureintro; exact w4.read_unread _); iexact H4)
        isplitl [H5]; · (iexists _; isplitr; (ipureintro; exact w5.read_unread _); iexact H5)
        isplitl [H6]; · (iexists _; isplitr; (ipureintro; exact w6.read_unread _); iexact H6)
        isplitl [H7]; · (iexists _; isplitr; (ipureintro; exact w7.read_unread _); iexact H7)
        isplitl [H8]; · (iexists _; isplitr; (ipureintro; exact w8.read_unread _); iexact H8)
        isplitl [H9]; · (iexists _; isplitr; (ipureintro; exact w9.read_unread _); iexact H9)
        isplitl [H10]; · (iexists _; isplitr; (ipureintro; exact w10.read_unread _); iexact H10)
        isplitl [H11]; · (iexists _; isplitr; (ipureintro; exact w11.read_unread _); iexact H11)
        isplitl [H12]; · (iexists _; isplitr; (ipureintro; exact w12.read_unread _); iexact H12)
        isplitl [H13]; · (iexists _; isplitr; (ipureintro; exact w13.read_unread _); iexact H13)
        isplitl [H14]; · (iexists _; isplitr; (ipureintro; exact w14.read_unread _); iexact H14)
        iexists _; isplitr; (ipureintro; exact w15.read_unread _); iexact H15
      isplitl [H16 H17 H18 H19]
      · isplitl [H16]; · iexists _; iexact H16
        isplitl [H17]; · iexists _; iexact H17
        isplitl [H18]; · iexists _; iexact H18
        iexists _; iexact H19
      isplitl [H25 H26 H27 H28 H29 H30]
      · isplitl [H25]; · iexists _; iexact H25
        isplitl [H26]; · iexists _; iexact H26
        isplitl [H27]; · iexists _; iexact H27
        isplitl [H28]; · iexists _; iexact H28
        isplitl [H29]; · iexists _; iexact H29
        iexists _; iexact H30
      isplitl [Hq0 Hq1 Hq2 Hq3 Hq4 Hq5 Hq6 Hq7 Hq8 Hq9 Hq10 Hq11 Hq12 Hq13 Hq14 Hq15 Hq16 Hq17 Hq18 Hq19]
      · iframe
      isplitl [Hh0]; · iexact Hh0
      isplitl [Hh1]; · iexact Hh1
      isplitl [Hh2]; · iexact Hh2
      isplitl [Hh3]; · iexact Hh3
      iexact Hh4
    iexists _; iexact HW

end Cert.Head

end
-- ==== Proof.HeadBetween.lean ====
/- A point between of the output layers' gradient kernel: its body run once, from what it is given to what it leaves. -/
module

public import proofs.«01_k».proof.Proof.HeadRun

@[expose] public section
set_option maxRecDepth 16384
noncomputable section

namespace Cert.Head
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000 in
/-- A point between. The pieces and the gradients it leaves are those the run finds. -/
def runBetween (c : Dev nD) (i : grid0.Coords) (s : Stage) (h0 : ¬isFirst i) (h1 : ¬isLast i) (x : Ins F) (a : Carry F) (g : Grads F c) :
    { l : Left F × Grads F c // Runs c s i iprop(Given c s x ∗ Free c s ∗ Carried c s a ∗ Idle c ∗ Held c g)
      iprop(Given c s x ∗ Wrote c s l.1 ∗ Added c s a.pack l.1 ∗ Idle c ∗ Held c l.2) } := by
  obtain ⟨m1, w1, m2, w2, m3, w3, m4, w4, m5, w5, m6, w6, m7, w7, m8, w8, m9, w9, m10, w10, m11, w11, m12, w12, m13, w13, m14, w14, m15, w15, m16, w16, m17, w17, m18, w18, m19, w19, m25, w25, m26, w26, m27, w27, m28, w28, m29, w29, m30, w30⟩ := s
  obtain ⟨x1, x2, x3, x4, x5, x6, x7, x8, x9, x10, x11, x12, x13, x14, x15⟩ := x
  obtain ⟨a25, a26, a27, a28, a29, a30⟩ := a
  obtain ⟨g0, g1, g2, g3, g4⟩ := g
  unfold Runs Given Free Carried Added Wrote Idle Held owns
  dsimp only
  refine ⟨(⟨?_, ?_, ?_, ?_, ?_, ?_, ?_, ?_, ?_, ?_⟩, ⟨?_, ?_, ?_, ?_, ?_⟩), fun W K => ?run⟩
  case run =>
    simp only [cc0_mid_eq_skeleton]; unfold cc0_mid_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    iintro ⟨⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩⟩, ⟨⟨%d16, %f16, -, H16⟩, ⟨%d17, %f17, -, H17⟩, ⟨%d18, %f18, -, H18⟩, ⟨%d19, %f19, -, H19⟩⟩, ⟨⟨%f25, %e25, H25⟩, ⟨%f26, %e26, H26⟩, ⟨%f27, %e27, H27⟩, ⟨%f28, %e28, H28⟩, ⟨%f29, %e29, H29⟩, ⟨%f30, %e30, H30⟩⟩, ⟨Hq0, Hq1, Hq2, Hq3, Hq4, Hq5, Hq6, Hq7, Hq8, Hq9, Hq10, Hq11, Hq12, Hq13, Hq14, Hq15, Hq16, Hq17, Hq18, Hq19⟩, ⟨Hh0, Hh1, Hh2, Hh3, Hh4⟩⟩, HW, Hk⟩
    obtain rfl := w1.eq_unread e1; obtain rfl := w2.eq_unread e2; obtain rfl := w3.eq_unread e3; obtain rfl := w4.eq_unread e4; obtain rfl := w5.eq_unread e5; obtain rfl := w6.eq_unread e6; obtain rfl := w7.eq_unread e7; obtain rfl := w8.eq_unread e8; obtain rfl := w9.eq_unread e9; obtain rfl := w10.eq_unread e10; obtain rfl := w11.eq_unread e11; obtain rfl := w12.eq_unread e12; obtain rfl := w13.eq_unread e13; obtain rfl := w14.eq_unread e14; obtain rfl := w15.eq_unread e15; obtain rfl := w25.eq_unread e25; obtain rfl := w26.eq_unread e26; obtain rfl := w27.eq_unread e27; obtain rfl := w28.eq_unread e28; obtain rfl := w29.eq_unread e29; obtain rfl := w30.eq_unread e30
    sl_exec (disch := first | sl_exact h0 | sl_exact h1)
    sl_step
    iapply Hk
    isplitr [HW]
    · isplitl [H1 H2 H3 H4 H5 H6 H7 H8 H9 H10 H11 H12 H13 H14 H15]
      · isplitl [H1]; · (iexists _; isplitr; (ipureintro; exact w1.read_unread _); iexact H1)
        isplitl [H2]; · (iexists _; isplitr; (ipureintro; exact w2.read_unread _); iexact H2)
        isplitl [H3]; · (iexists _; isplitr; (ipureintro; exact w3.read_unread _); iexact H3)
        isplitl [H4]; · (iexists _; isplitr; (ipureintro; exact w4.read_unread _); iexact H4)
        isplitl [H5]; · (iexists _; isplitr; (ipureintro; exact w5.read_unread _); iexact H5)
        isplitl [H6]; · (iexists _; isplitr; (ipureintro; exact w6.read_unread _); iexact H6)
        isplitl [H7]; · (iexists _; isplitr; (ipureintro; exact w7.read_unread _); iexact H7)
        isplitl [H8]; · (iexists _; isplitr; (ipureintro; exact w8.read_unread _); iexact H8)
        isplitl [H9]; · (iexists _; isplitr; (ipureintro; exact w9.read_unread _); iexact H9)
        isplitl [H10]; · (iexists _; isplitr; (ipureintro; exact w10.read_unread _); iexact H10)
        isplitl [H11]; · (iexists _; isplitr; (ipureintro; exact w11.read_unread _); iexact H11)
        isplitl [H12]; · (iexists _; isplitr; (ipureintro; exact w12.read_unread _); iexact H12)
        isplitl [H13]; · (iexists _; isplitr; (ipureintro; exact w13.read_unread _); iexact H13)
        isplitl [H14]; · (iexists _; isplitr; (ipureintro; exact w14.read_unread _); iexact H14)
        iexists _; isplitr; (ipureintro; exact w15.read_unread _); iexact H15
      isplitl [H16 H17 H18 H19]
      · isplitl [H16]; · iexists _; iexact H16
        isplitl [H17]; · iexists _; iexact H17
        isplitl [H18]; · iexists _; iexact H18
        iexists _; iexact H19
      isplitl [H25 H26 H27 H28 H29 H30]
      · isplitl [H25]; · iexact H25
        isplitl [H26]; · iexists _; iexact H26
        isplitl [H27]; · iexists _; iexact H27
        isplitl [H28]; · iexists _; iexact H28
        isplitl [H29]; · iexists _; iexact H29
        iexists _; iexact H30
      isplitl [Hq0 Hq1 Hq2 Hq3 Hq4 Hq5 Hq6 Hq7 Hq8 Hq9 Hq10 Hq11 Hq12 Hq13 Hq14 Hq15 Hq16 Hq17 Hq18 Hq19]
      · iframe
      isplitl [Hh0]; · iexact Hh0
      isplitl [Hh1]; · iexact Hh1
      isplitl [Hh2]; · iexact Hh2
      isplitl [Hh3]; · iexact Hh3
      iexact Hh4
    iexists _; iexact HW

end Cert.Head

end
-- ==== Proof.HeadLast.lean ====
/- The last point of the output layers' gradient kernel: its body run once, from what it is given to what it leaves. -/
module

public import proofs.«01_k».proof.Proof.HeadRun

@[expose] public section
set_option maxRecDepth 16384
noncomputable section

namespace Cert.Head
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000 in
set_option sl_exec.dmaWindow true in
/-- The last point. The pieces and the gradients it leaves are those the run finds. -/
def runLast (c : Dev nD) (i : grid0.Coords) (s : Stage) (h0 : ¬isFirst i) (h1 : isLast i) (x : Ins F) (a : Carry F) (g : Grads F c) :
    { l : Left F × Grads F c // Runs c s i iprop(Given c s x ∗ Free c s ∗ Carried c s a ∗ Idle c ∗ Held c g)
      iprop(Given c s x ∗ Wrote c s l.1 ∗ Added c s a.pack l.1 ∗ Idle c ∗ Held c l.2) } := by
  obtain ⟨m1, w1, m2, w2, m3, w3, m4, w4, m5, w5, m6, w6, m7, w7, m8, w8, m9, w9, m10, w10, m11, w11, m12, w12, m13, w13, m14, w14, m15, w15, m16, w16, m17, w17, m18, w18, m19, w19, m25, w25, m26, w26, m27, w27, m28, w28, m29, w29, m30, w30⟩ := s
  obtain ⟨x1, x2, x3, x4, x5, x6, x7, x8, x9, x10, x11, x12, x13, x14, x15⟩ := x
  obtain ⟨a25, a26, a27, a28, a29, a30⟩ := a
  obtain ⟨g0, g1, g2, g3, g4⟩ := g
  unfold Runs Given Free Carried Added Wrote Idle Held owns
  dsimp only
  refine ⟨(⟨?_, ?_, ?_, ?_, ?_, ?_, ?_, ?_, ?_, ?_⟩, ⟨?_, ?_, ?_, ?_, ?_⟩), fun W K => ?run⟩
  case run =>
    simp only [cc0_mid_eq_skeleton]; unfold cc0_mid_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    iintro ⟨⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩⟩, ⟨⟨%d16, %f16, -, H16⟩, ⟨%d17, %f17, -, H17⟩, ⟨%d18, %f18, -, H18⟩, ⟨%d19, %f19, -, H19⟩⟩, ⟨⟨%f25, %e25, H25⟩, ⟨%f26, %e26, H26⟩, ⟨%f27, %e27, H27⟩, ⟨%f28, %e28, H28⟩, ⟨%f29, %e29, H29⟩, ⟨%f30, %e30, H30⟩⟩, ⟨Hq0, Hq1, Hq2, Hq3, Hq4, Hq5, Hq6, Hq7, Hq8, Hq9, Hq10, Hq11, Hq12, Hq13, Hq14, Hq15, Hq16, Hq17, Hq18, Hq19⟩, ⟨Hh0, Hh1, Hh2, Hh3, Hh4⟩⟩, HW, Hk⟩
    obtain rfl := w1.eq_unread e1; obtain rfl := w2.eq_unread e2; obtain rfl := w3.eq_unread e3; obtain rfl := w4.eq_unread e4; obtain rfl := w5.eq_unread e5; obtain rfl := w6.eq_unread e6; obtain rfl := w7.eq_unread e7; obtain rfl := w8.eq_unread e8; obtain rfl := w9.eq_unread e9; obtain rfl := w10.eq_unread e10; obtain rfl := w11.eq_unread e11; obtain rfl := w12.eq_unread e12; obtain rfl := w13.eq_unread e13; obtain rfl := w14.eq_unread e14; obtain rfl := w15.eq_unread e15; obtain rfl := w25.eq_unread e25; obtain rfl := w26.eq_unread e26; obtain rfl := w27.eq_unread e27; obtain rfl := w28.eq_unread e28; obtain rfl := w29.eq_unread e29; obtain rfl := w30.eq_unread e30
    sl_exec (disch := first | sl_exact h0 | sl_exact h1)
    sl_step
    iapply Hk
    isplitr [HW]
    · isplitl [H1 H2 H3 H4 H5 H6 H7 H8 H9 H10 H11 H12 H13 H14 H15]
      · isplitl [H1]; · (iexists _; isplitr; (ipureintro; exact w1.read_unread _); iexact H1)
        isplitl [H2]; · (iexists _; isplitr; (ipureintro; exact w2.read_unread _); iexact H2)
        isplitl [H3]; · (iexists _; isplitr; (ipureintro; exact w3.read_unread _); iexact H3)
        isplitl [H4]; · (iexists _; isplitr; (ipureintro; exact w4.read_unread _); iexact H4)
        isplitl [H5]; · (iexists _; isplitr; (ipureintro; exact w5.read_unread _); iexact H5)
        isplitl [H6]; · (iexists _; isplitr; (ipureintro; exact w6.read_unread _); iexact H6)
        isplitl [H7]; · (iexists _; isplitr; (ipureintro; exact w7.read_unread _); iexact H7)
        isplitl [H8]; · (iexists _; isplitr; (ipureintro; exact w8.read_unread _); iexact H8)
        isplitl [H9]; · (iexists _; isplitr; (ipureintro; exact w9.read_unread _); iexact H9)
        isplitl [H10]; · (iexists _; isplitr; (ipureintro; exact w10.read_unread _); iexact H10)
        isplitl [H11]; · (iexists _; isplitr; (ipureintro; exact w11.read_unread _); iexact H11)
        isplitl [H12]; · (iexists _; isplitr; (ipureintro; exact w12.read_unread _); iexact H12)
        isplitl [H13]; · (iexists _; isplitr; (ipureintro; exact w13.read_unread _); iexact H13)
        isplitl [H14]; · (iexists _; isplitr; (ipureintro; exact w14.read_unread _); iexact H14)
        iexists _; isplitr; (ipureintro; exact w15.read_unread _); iexact H15
      isplitl [H16 H17 H18 H19]
      · isplitl [H16]; · iexists _; iexact H16
        isplitl [H17]; · iexists _; iexact H17
        isplitl [H18]; · iexists _; iexact H18
        iexists _; iexact H19
      isplitl [H25 H26 H27 H28 H29 H30]
      · isplitl [H25]; · iexact H25
        isplitl [H26]; · iexists _; iexact H26
        isplitl [H27]; · iexists _; iexact H27
        isplitl [H28]; · iexists _; iexact H28
        isplitl [H29]; · iexists _; iexact H29
        iexists _; iexact H30
      isplitl [Hq0 Hq1 Hq2 Hq3 Hq4 Hq5 Hq6 Hq7 Hq8 Hq9 Hq10 Hq11 Hq12 Hq13 Hq14 Hq15 Hq16 Hq17 Hq18 Hq19]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        iexact Hq19
      isplitl [Hh0]; · iexact Hh0
      isplitl [Hh1]; · iexact Hh1
      isplitl [Hh2]; · iexact Hh2
      isplitl [Hh3]; · iexact Hh3
      iexact Hh4
    iexists _; iexact HW

end Cert.Head

end
-- ==== Proof.HeadStep.lean ====
/- What one point of the output layers' gradient kernel computes, as functions of its input blocks and of what is carried to it,
   and that this is what each kind of point leaves. -/
module

public import proofs.«01_k».proof.Proof.HeadFirst
public import proofs.«01_k».proof.Proof.HeadBetween
public import proofs.«01_k».proof.Proof.HeadLast
public import Idealize.ShloMosaic.Lib.Pipeline.ValueKit
public import Idealize.ShloMosaic.Lib.Pipeline.ReadBack
public import Idealize.ShloMosaic.Lib.Pointwise
public import Idealize.ShloMosaic.Lib.VecWindow
public import Idealize.ShloMosaic.Lib.ValueLayout

@[expose] public section
set_option maxRecDepth 16384
noncomputable section

namespace Cert.Head
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Values
variable (x : Ins F)
/-- The first gate. -/
def gateA : FVec F S256x1024 .f32 := k0_pay11 x.x3 x.x4
/-- The second gate. -/
def gateB : FVec F S256x1024 .f32 := k0_pay12 x.x3 x.x5
/-- The first branch. -/
def branchA : FVec F S256x1024 .f32 := k0_pay8 x.x1 x.x9
/-- The second branch. -/
def branchB : FVec F S256x1024 .f32 := k0_pay9 x.x2 x.x10
/-- The gated branches together, -/
def merged : FVec F S256x1024 .f32 := k0_pay13 x.x1 x.x2 x.x9 x.x10 x.x3 x.x4 x.x5
/-- and rounded. -/
def mergedB : FVec F S256x1024 .bf16 := k0_pay14 (merged x)
/-- The first norm's row scales, -/
def scale1 : FVec F S256x1 .f32 := k0_pay16 (merged x) x.x6 x.x11
/-- its normalized rows, -/
def norm1 : FVec F S256x1024 .f32 := k0_pay17 (merged x) x.x6 x.x11
/-- and these times its weight. -/
def normed1 : FVec F S256x1024 .bf16 := k0_pay18 (merged x) x.x6 x.x11 x.x14
/-- The embedding's gate. -/
def gate : FVec F S256x1024 .f32 := k0_pay19 (merged x) x.x6 x.x11 x.x14 x.x12
/-- The embedding rows, rounded, -/
def embP : FVec F S256x256 .bf16 := k0_pay20 x.x7
/-- and projected. -/
def emb : FVec F S256x1024 .f32 := k0_pay21 x.x7 x.x13
/-- The last stream, -/
def last : FVec F S256x1024 .f32 := k0_pay22 (merged x) x.x6 x.x11 x.x14 x.x12 x.x7 x.x13
/-- its rows' sums of squares, -/
def sumsq2 : FVec F S256x1 .f32 := k0_pay23 (merged x) x.x6 x.x11 x.x14 x.x12 x.x7 x.x13
/-- scales, -/
def scale2 : FVec F S256x1 .f32 := k0_pay24 (sumsq2 x) (FloatOps.ofBits .f32 1149239296#32)
/-- normalized rows. -/
def norm2 : FVec F S256x1024 .f32 := k0_pay25 (last x) (sumsq2 x) (FloatOps.ofBits .f32 1149239296#32)
/-- The loss's cotangent, -/
def dy : FVec F S256x1024 .f32 := k0_pay28 (last x) (sumsq2 x) (FloatOps.ofBits .f32 1149239296#32) x.x15 x.x8
/-- the last weight's column sums, -/
def colGf : FVec F S1x1024 .f32 := k0_pay29 (last x) (sumsq2 x) (FloatOps.ofBits .f32 1149239296#32) x.x15 x.x8
/-- the last stream's cotangent, -/
def dx2 : FVec F S256x1024 .f32 := k0_pay42 (scale2 x) (norm2 x) (dy x) x.x15
/-- the gate's input's, -/
def dh1 : FVec F S256x1024 .f32 := k0_pay46 (gate x) (emb x) (scale2 x) (norm2 x) (dy x) x.x15 x.x12
/-- the first weight's column sums, -/
def colG1 : FVec F S1x1024 .f32 := k0_pay47 (norm1 x) (dh1 x)
/-- the residual stream's cotangent, rounded. -/
def dx1B : FVec F S256x1024 .bf16 := k0_pay57 (scale1 x) (norm1 x) (dx2 x) (dh1 x) x.x14
/-- The one-row stores that add the block's sums to a pack. -/
def rows (p : Vec F S24x128 .f32) : List (View.Piece (Elt F) S24x128 .f32) :=
  [⟨Rect.unit ![7, 0] ![1, 128] inb_S24x128_S1x128_7_0, k0_pay55 (colG1 x) (View.ld p (Rect.unit ![7, 0] ![1, 128] inb_S24x128_S1x128_7_0))⟩,
    ⟨Rect.unit ![6, 0] ![1, 128] inb_S24x128_S1x128_6_0, k0_pay54 (colG1 x) (View.ld p (Rect.unit ![6, 0] ![1, 128] inb_S24x128_S1x128_6_0))⟩,
    ⟨Rect.unit ![5, 0] ![1, 128] inb_S24x128_S1x128_5_0, k0_pay53 (norm1 x) (dh1 x) (View.ld p (Rect.unit ![5, 0] ![1, 128] inb_S24x128_S1x128_5_0))⟩,
    ⟨Rect.unit ![4, 0] ![1, 128] inb_S24x128_S1x128_4_0, k0_pay52 (norm1 x) (dh1 x) (View.ld p (Rect.unit ![4, 0] ![1, 128] inb_S24x128_S1x128_4_0))⟩,
    ⟨Rect.unit ![3, 0] ![1, 128] inb_S24x128_S1x128_3_0, k0_pay51 (norm1 x) (dh1 x) (View.ld p (Rect.unit ![3, 0] ![1, 128] inb_S24x128_S1x128_3_0))⟩,
    ⟨Rect.unit ![2, 0] ![1, 128] inb_S24x128_S1x128_2_0, k0_pay50 (norm1 x) (dh1 x) (View.ld p (Rect.unit ![2, 0] ![1, 128] inb_S24x128_S1x128_2_0))⟩,
    ⟨Rect.unit ![1, 0] ![1, 128] inb_S24x128_S1x128_1_0, k0_pay49 (norm1 x) (dh1 x) (View.ld p (Rect.unit ![1, 0] ![1, 128] inb_S24x128_S1x128_1_0))⟩,
    ⟨Rect.unit ![0, 0] ![1, 128] inb_S24x128_S1x128_0_0, k0_pay48 (norm1 x) (dh1 x) (View.ld p (Rect.unit ![0, 0] ![1, 128] inb_S24x128_S1x128_0_0))⟩,
    ⟨Rect.unit ![15, 0] ![1, 128] inb_S24x128_S1x128_15_0, k0_pay41 (k0_pay39 (View.ld p (Rect.unit ![15, 0] ![1, 128] inb_S24x128_S1x128_15_0))) (k0_pay40 (colGf x))⟩,
    ⟨Rect.unit ![14, 0] ![1, 128] inb_S24x128_S1x128_14_0, k0_pay38 (colGf x) (View.ld p (Rect.unit ![14, 0] ![1, 128] inb_S24x128_S1x128_14_0))⟩,
    ⟨Rect.unit ![13, 0] ![1, 128] inb_S24x128_S1x128_13_0, k0_pay37 (colGf x) (View.ld p (Rect.unit ![13, 0] ![1, 128] inb_S24x128_S1x128_13_0))⟩,
    ⟨Rect.unit ![12, 0] ![1, 128] inb_S24x128_S1x128_12_0, k0_pay36 (colGf x) (View.ld p (Rect.unit ![12, 0] ![1, 128] inb_S24x128_S1x128_12_0))⟩,
    ⟨Rect.unit ![11, 0] ![1, 128] inb_S24x128_S1x128_11_0, k0_pay35 (colGf x) (View.ld p (Rect.unit ![11, 0] ![1, 128] inb_S24x128_S1x128_11_0))⟩,
    ⟨Rect.unit ![10, 0] ![1, 128] inb_S24x128_S1x128_10_0, k0_pay34 (colGf x) (View.ld p (Rect.unit ![10, 0] ![1, 128] inb_S24x128_S1x128_10_0))⟩,
    ⟨Rect.unit ![9, 0] ![1, 128] inb_S24x128_S1x128_9_0, k0_pay33 (k0_pay31 (View.ld p (Rect.unit ![9, 0] ![1, 128] inb_S24x128_S1x128_9_0))) (k0_pay32 (last x) (sumsq2 x) (FloatOps.ofBits .f32 1149239296#32) x.x15 x.x8)⟩,
    ⟨Rect.unit ![8, 0] ![1, 128] inb_S24x128_S1x128_8_0, k0_pay30 (last x) (sumsq2 x) (FloatOps.ofBits .f32 1149239296#32) x.x15 x.x8 (View.ld p (Rect.unit ![8, 0] ![1, 128] inb_S24x128_S1x128_8_0))⟩,
    ⟨Rect.unit ![16, 0] ![1, 128] inb_S24x128_S1x128_16_0, k0_pay27 (last x) (sumsq2 x) (FloatOps.ofBits .f32 1149239296#32) x.x15 x.x8 (View.ld p (Rect.unit ![16, 0] ![1, 128] inb_S24x128_S1x128_16_0))⟩]
/-- The pack's and the sums' whole buffers. -/
abbrev allPack : Rect S24x128 := Rect.unit ![0, 0] ![24, 128] inb_S24x128_S24x128_0_0
abbrev all1024 : Rect S1024x1024 := Rect.unit ![0, 0] ![1024, 1024] inb_S1024x1024_S1024x1024_0_0
abbrev all512 : Rect S512x1024 := Rect.unit ![0, 0] ![512, 1024] inb_S512x1024_S512x1024_0_0
abbrev all256 : Rect S256x1024 := Rect.unit ![0, 0] ![256, 1024] inb_S256x1024_S256x1024_0_0
/-- The gates' cotangents, side by side. -/
def gatePieces : List (View.Piece (Elt F) S256x2048 .bf16) := [⟨Rect.unit ![0, 1024] ![256, 1024] inb_S256x2048_S256x1024_0_1024, k0_pay63 (branchB x) (gateB x) (dx1B x) x.x11⟩,
    ⟨Rect.unit ![0, 0] ![256, 1024] inb_S256x2048_S256x1024_0_0, k0_pay62 (branchA x) (gateA x) (dx1B x) x.x11⟩]
/-- The blocks the point writes. -/
def made : Blocks F where
  ya := k0_pay66 (gateA x) (dx1B x) x.x11 x.x9
  yb := k0_pay1 (k0_pay61 (gateB x) (dx1B x) x.x11) x.x10
  gates := View.canon (gatePieces x)
  x := k0_pay56 (scale1 x) (norm1 x) (dx2 x) (dh1 x) x.x14
/-- The carried values after the point. -/
def add (a : Carry F) : Carry F where
  pack := View.canon (rows x a.pack ++ [⟨allPack, a.pack⟩])
  pl := k0_pay64 x.x1 (gateA x) (dx1B x) x.x11 a.pl
  pp := k0_pay65 x.x2 (gateB x) (dx1B x) x.x11 a.pp
  out := k0_pay58 (mergedB x) (scale1 x) (norm1 x) (dx2 x) (dh1 x) x.x14 a.out
  pg := k0_pay45 (normed1 x) (gate x) (emb x) (scale2 x) (norm2 x) (dy x) x.x15 a.pg
  pe := k0_pay44 (gate x) (embP x) (scale2 x) (norm2 x) (dy x) x.x15 a.pe
/-- What the first point fills the carried buffers with. -/
def zeros : Carry F := ⟨k0_pay7, k0_pay2, k0_pay3, k0_pay4, k0_pay5, k0_pay6⟩
/-- The stores a point after the first ends with, and the first point's. -/
def stores (a : Carry F) : Left F where
  yaP := [⟨Rect.unit ![0, 0] ![256, 1024] inb_S256x1024_S256x1024_0_0, (made x).ya⟩]
  ybP := [⟨Rect.unit ![0, 0] ![256, 512] inb_S256x512_S256x512_0_0, (made x).yb⟩]
  gatesP := gatePieces x
  xP := [⟨Rect.unit ![0, 0] ![256, 1024] inb_S256x1024_S256x1024_0_0, (made x).x⟩]
  packS := rows x a.pack
  plS := [⟨all1024, (add x a).pl⟩]
  ppS := [⟨all512, (add x a).pp⟩]
  outS := [⟨all1024, (add x a).out⟩]
  pgS := [⟨all1024, (add x a).pg⟩]
  peS := [⟨all256, (add x a).pe⟩]
def storesFirst : Left F :=
  { stores x zeros with
    packS := rows x zeros.pack ++ [⟨allPack, zeros.pack⟩]
    plS := [⟨all1024, (add x zeros).pl⟩, ⟨all1024, zeros.pl⟩]
    ppS := [⟨all512, (add x zeros).pp⟩, ⟨all512, zeros.pp⟩]
    outS := [⟨all1024, (add x zeros).out⟩, ⟨all1024, zeros.out⟩]
    pgS := [⟨all1024, (add x zeros).pg⟩, ⟨all1024, zeros.pg⟩]
    peS := [⟨all256, (add x zeros).pe⟩, ⟨all256, zeros.pe⟩] }
end Values

theorem hz2 : (![0, 0] : Fin 2 → ℕ) = fun _ => 0 := by decide

set_option maxHeartbeats 4000000 in
theorem runFirst_stores (c : Dev nD) (i : grid0.Coords) (s : Stage) (h0 : isFirst i) (h1 : ¬isLast i) (x : Ins F) (g : Grads F c) :
    (runFirst c i s h0 h1 x g).1.1 = storesFirst x := by
  obtain ⟨m1, w1, m2, w2, m3, w3, m4, w4, m5, w5, m6, w6, m7, w7, m8, w8, m9, w9, m10, w10, m11, w11, m12, w12, m13, w13, m14, w14, m15, w15, m16, w16, m17, w17, m18, w18, m19, w19, m25, w25, m26, w26, m27, w27, m28, w28, m29, w29, m30, w30⟩ := s
  obtain ⟨x1, x2, x3, x4, x5, x6, x7, x8, x9, x10, x11, x12, x13, x14, x15⟩ := x
  obtain ⟨g0, g1, g2, g3, g4⟩ := g
  unfold runFirst; dsimp only [id]
  sl_unfold_words
  simp (disch := decide) only [↓ View.readCov_skip, ↓ View.readCov_cons_toLoadRect, ↓ View.readCov_fill]
  simp only [View.readAt_eq_ld, Memref.IsWhole.read_unread, View.ld_unit_zero (S := S256x1024) hz2, View.ld_unit_zero (S := S256x512) hz2, View.ld_unit_zero (S := S256x256) hz2, View.ld_unit_zero (S := S1024x1024) hz2, View.ld_unit_zero (S := S512x1024) hz2, View.ld_unit_zero (S := S1x1024) hz2]
  rfl

set_option maxHeartbeats 4000000 in
theorem runBetween_stores (c : Dev nD) (i : grid0.Coords) (s : Stage) (h0 : ¬isFirst i) (h1 : ¬isLast i) (x : Ins F) (a : Carry F) (g : Grads F c) :
    (runBetween c i s h0 h1 x a g).1.1 = stores x a := by
  obtain ⟨m1, w1, m2, w2, m3, w3, m4, w4, m5, w5, m6, w6, m7, w7, m8, w8, m9, w9, m10, w10, m11, w11, m12, w12, m13, w13, m14, w14, m15, w15, m16, w16, m17, w17, m18, w18, m19, w19, m25, w25, m26, w26, m27, w27, m28, w28, m29, w29, m30, w30⟩ := s
  obtain ⟨x1, x2, x3, x4, x5, x6, x7, x8, x9, x10, x11, x12, x13, x14, x15⟩ := x
  obtain ⟨a25, a26, a27, a28, a29, a30⟩ := a
  obtain ⟨g0, g1, g2, g3, g4⟩ := g
  unfold runBetween; dsimp only [id]
  sl_unfold_words
  simp (disch := decide) only [↓ View.readCov_skip, ↓ View.readCov_cons_toLoadRect, ↓ View.readCov_fill]
  simp only [View.readAt_eq_ld, Memref.IsWhole.read_unread, View.ld_unit_zero (S := S256x1024) hz2, View.ld_unit_zero (S := S256x512) hz2, View.ld_unit_zero (S := S256x256) hz2, View.ld_unit_zero (S := S1024x1024) hz2, View.ld_unit_zero (S := S512x1024) hz2, View.ld_unit_zero (S := S1x1024) hz2]
  rfl

set_option maxHeartbeats 4000000 in
theorem runLast_stores (c : Dev nD) (i : grid0.Coords) (s : Stage) (h0 : ¬isFirst i) (h1 : isLast i) (x : Ins F) (a : Carry F) (g : Grads F c) :
    (runLast c i s h0 h1 x a g).1.1 = stores x a := by
  obtain ⟨m1, w1, m2, w2, m3, w3, m4, w4, m5, w5, m6, w6, m7, w7, m8, w8, m9, w9, m10, w10, m11, w11, m12, w12, m13, w13, m14, w14, m15, w15, m16, w16, m17, w17, m18, w18, m19, w19, m25, w25, m26, w26, m27, w27, m28, w28, m29, w29, m30, w30⟩ := s
  obtain ⟨x1, x2, x3, x4, x5, x6, x7, x8, x9, x10, x11, x12, x13, x14, x15⟩ := x
  obtain ⟨a25, a26, a27, a28, a29, a30⟩ := a
  obtain ⟨g0, g1, g2, g3, g4⟩ := g
  unfold runLast; dsimp only [id]
  sl_unfold_words
  simp (disch := decide) only [↓ View.readCov_skip, ↓ View.readCov_cons_toLoadRect, ↓ View.readCov_fill]
  simp only [View.readAt_eq_ld, Memref.IsWhole.read_unread, View.ld_unit_zero (S := S256x1024) hz2, View.ld_unit_zero (S := S256x512) hz2, View.ld_unit_zero (S := S256x256) hz2, View.ld_unit_zero (S := S1024x1024) hz2, View.ld_unit_zero (S := S512x1024) hz2, View.ld_unit_zero (S := S1x1024) hz2]
  rfl

/-- One section's copy: that section of the large array takes the copied block, and the others keep what they held. -/
theorem section_read {A B : ℕ} (R : View sig .tc .hbm ⟨3, ![8, A, B]⟩ .f32) (f : R.ty.Contents (Elt F)) (p : Vec F ⟨2, ![A, B]⟩ .f32) (k k' : Fin 8)
    (inb : ∀ a, (![k.val, 0, 0] : Fin 3 → ℕ) a + (![1, A, B] : Fin 3 → ℕ) a ≤ (![8, A, B] : Fin 3 → ℕ) a)
    (hn : (⟨2, ![A, B]⟩ : Shape).numel = (⟨3, ![1, A, B]⟩ : Shape).numel) (i : Fin A) (j : Fin B) :
    R.read (Elt F) (((R.slice (Rect.unit (s := ⟨3, ![8, A, B]⟩) ![k.val, 0, 0] ![1, A, B] inb)).reshape ⟨2, ![A, B]⟩ hn).write (Elt F) f p Finset.univ) (ix3 k' i j)
      = if k = k' then p (ix2 i j) else R.read (Elt F) f (ix3 k' i j) := by
  by_cases h : k = k'
  · subst h
    rw [if_pos rfl]
    have e := congrFun (View.read_write_univ (v := (R.slice (Rect.unit (s := ⟨3, ![8, A, B]⟩) ![k.val, 0, 0] ![1, A, B] inb)).reshape ⟨2, ![A, B]⟩ hn) f p) (ix2 i j)
    refine Eq.trans ?_ e
    show R.read (Elt F) _ _ = R.read (Elt F) _ ((Rect.unit (s := ⟨3, ![8, A, B]⟩) ![k.val, 0, 0] ![1, A, B] inb).emb (Shape.reshapeEquiv hn (ix2 i j)))
    congr 1
    have e2 : (Shape.reshapeEquiv hn (ix2 i j)) = ix3 (⟨0, Nat.one_pos⟩ : Fin 1) i j := Shape.reshapeEquiv_eq_of_rowMajor hn (by
      rw [Shape.rowMajor_val_three, Shape.rowMajor_val_two]
      show ((0 * A + i.val) * B + j.val) = i.val * B + j.val
      simp only [Nat.zero_mul, Nat.zero_add])
    rw [e2]
    funext a; apply Fin.ext
    fin_cases a
    · show k.val = k.val + 1 * 0; omega
    · show i.val = 0 + 1 * i.val; omega
    · show j.val = 0 + 1 * j.val; omega
  · rw [if_neg h, View.write_reshape_univ]
    refine View.read_slice_write_of_not_mem _ _ _ _ ?_
    intro hm
    obtain ⟨z, -, hz⟩ := Finset.mem_map.mp hm
    have h0 : k.val + 1 * (z 0).val = k'.val := congrArg (fun q : (⟨3, ![8, A, B]⟩ : Shape).Idx => (q 0).val) hz
    have hz0 : (z 0).val < 1 := (z 0).isLt
    exact h (Fin.ext (by omega))

/-- Eight sections copied into a large array, in the order the kernel starts them. -/
def put8 {A B : ℕ} (R : View sig .tc .hbm ⟨3, ![8, A, B]⟩ .f32) (f : R.ty.Contents (Elt F)) (p : Fin 8 → Vec F ⟨2, ![A, B]⟩ .f32)
    (inb : ∀ k : Fin 8, ∀ a, (![k.val, 0, 0] : Fin 3 → ℕ) a + (![1, A, B] : Fin 3 → ℕ) a ≤ (![8, A, B] : Fin 3 → ℕ) a)
    (hn : (⟨2, ![A, B]⟩ : Shape).numel = (⟨3, ![1, A, B]⟩ : Shape).numel) : R.ty.Contents (Elt F) :=
  ([7, 5, 3, 1, 6, 4, 2, 0] : List (Fin 8)).foldr (fun (k : Fin 8) (f : R.ty.Contents (Elt F)) =>
    ((R.slice (Rect.unit (s := ⟨3, ![8, A, B]⟩) ![k.val, 0, 0] ![1, A, B] (inb k))).reshape ⟨2, ![A, B]⟩ hn).write (Elt F) f (p k) Finset.univ) f

theorem put8_read {A B : ℕ} (R : View sig .tc .hbm ⟨3, ![8, A, B]⟩ .f32) (f : R.ty.Contents (Elt F)) (p : Fin 8 → Vec F ⟨2, ![A, B]⟩ .f32) (inb) (hn) (k : Fin 8)
    (i : Fin A) (j : Fin B) : R.read (Elt F) (put8 R f p inb hn) (ix3 k i j) = p k (ix2 i j) := by
  unfold put8
  simp only [List.foldr_cons, List.foldr_nil, section_read]
  fin_cases k <;> simp

/-- The weights' gradients after the copies: each holds its running sum, cut into eight sections. -/
def sections (c : Dev nD) (a : Carry F) : Grads F c where
  pl := fun y : S8x128x1024.Idx => a.pl (ix2 ⟨(y 0).val * 128 + (y 1).val, by idx_bounds y; omega⟩ ⟨(y 2).val, by idx_bounds y; omega⟩)
  pp := fun y : S8x512x128.Idx => a.pp (ix2 ⟨(y 1).val, by idx_bounds y; omega⟩ ⟨(y 0).val * 128 + (y 2).val, by idx_bounds y; omega⟩)
  out := fun y : S8x128x1024.Idx => a.out (ix2 ⟨(y 0).val * 128 + (y 1).val, by idx_bounds y; omega⟩ ⟨(y 2).val, by idx_bounds y; omega⟩)
  pg := fun y : S8x128x1024.Idx => a.pg (ix2 ⟨(y 0).val * 128 + (y 1).val, by idx_bounds y; omega⟩ ⟨(y 2).val, by idx_bounds y; omega⟩)
  pe := fun y : S8x256x128.Idx => a.pe (ix2 ⟨(y 1).val, by idx_bounds y; omega⟩ ⟨(y 0).val * 128 + (y 2).val, by idx_bounds y; omega⟩)

theorem cut_rows (R : View sig .tc .hbm S8x128x1024 .f32) (f : R.ty.Contents (Elt F)) (v : Vec F S1024x1024 .f32) (inb) (hn)
    (ib : ∀ k : Fin 8, ∀ a, (![k.val * 128, 0] : Fin 2 → ℕ) a + (![128, 1024] : Fin 2 → ℕ) a ≤ S1024x1024.size a) (k : Fin 8) (i : Fin 128) (j : Fin 1024) :
    R.read (Elt F) (put8 R f (fun k => View.ld v (Rect.unit (s := S1024x1024) ![k.val * 128, 0] ![128, 1024] (ib k))) inb hn) (ix3 k i j)
      = v (ix2 ⟨k.val * 128 + i.val, by omega⟩ j) := by
  refine (put8_read R f _ inb hn _ _ _).trans ?_
  refine congrArg v ?_
  funext a; apply Fin.ext
  fin_cases a
  · show k.val * 128 + 1 * i.val = k.val * 128 + i.val; omega
  · show 0 + 1 * j.val = j.val; omega

theorem cut_cols {A : ℕ} (R : View sig .tc .hbm ⟨3, ![8, A, 128]⟩ .f32) (f : R.ty.Contents (Elt F)) (v : Vec F ⟨2, ![A, 1024]⟩ .f32) (inb) (hn)
    (ib : ∀ k : Fin 8, ∀ a, (![0, k.val * 128] : Fin 2 → ℕ) a + (![A, 128] : Fin 2 → ℕ) a ≤ (![A, 1024] : Fin 2 → ℕ) a) (k : Fin 8) (i : Fin A) (j : Fin 128) :
    R.read (Elt F) (put8 R f (fun k => View.ld v (Rect.unit (s := ⟨2, ![A, 1024]⟩) ![0, k.val * 128] ![A, 128] (ib k))) inb hn) (ix3 k i j)
      = v (ix2 i ⟨k.val * 128 + j.val, by omega⟩) := by
  refine (put8_read R f _ inb hn _ _ _).trans ?_
  refine congrArg v ?_
  funext a; apply Fin.ext
  fin_cases a
  · show 0 + 1 * i.val = i.val; omega
  · show k.val * 128 + 1 * j.val = k.val * 128 + j.val; omega

end Cert.Head

end
-- ==== Proof.HeadCopied.lean ====
/- That the last point's copies cut the finished weight gradients into the eight sections the devices keep. -/
module

public import proofs.«01_k».proof.Proof.HeadStep

@[expose] public section
set_option maxRecDepth 16384
noncomputable section

namespace Cert.Head
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What a copy's source section holds once the whole buffer has been stored. -/
theorem section_stored {a b : ℕ} (M : Memref sig .tc .vmem ⟨2, ![a, b]⟩ .f32) (f : M.view.ty.Contents (Elt F))
    (inb : ∀ q, (![0, 0] : Fin 2 → ℕ) q + (![a, b] : Fin 2 → ℕ) q ≤ (![a, b] : Fin 2 → ℕ) q) (v : Vec F ⟨2, ![a, b]⟩ .f32)
    (L : List (View.Piece (Elt F) ⟨2, ![a, b]⟩ .f32)) (r : Rect ⟨2, ![a, b]⟩) :
    (M.view.slice r).read (Elt F) (M.view.writes (Elt F) f (⟨Rect.unit (s := ⟨2, ![a, b]⟩) ![0, 0] ![a, b] inb, v⟩ :: L)) = View.ld v r :=
  congrArg (fun X : Vec F ⟨2, ![a, b]⟩ .f32 => View.ld X r) (View.read_writes_full M.view f inb v L)

theorem grads_eq (c : Dev nD) {g h : Grads F c} (h0 : g.pl = h.pl) (h1 : g.pp = h.pp) (h2 : g.out = h.out) (h3 : g.pg = h.pg) (h4 : g.pe = h.pe) : g = h := by
  cases g; cases h; cases h0; cases h1; cases h2; cases h3; cases h4; rfl

set_option maxHeartbeats 4000000 in
theorem runLast_copied (c : Dev nD) (i : grid0.Coords) (s : Stage) (h0 : ¬isFirst i) (h1 : isLast i) (x : Ins F) (a : Carry F) (g : Grads F c) :
    (runLast c i s h0 h1 x a g).1.2 = sections c (add x a) := by
  obtain ⟨m1, w1, m2, w2, m3, w3, m4, w4, m5, w5, m6, w6, m7, w7, m8, w8, m9, w9, m10, w10, m11, w11, m12, w12, m13, w13, m14, w14, m15, w15, m16, w16, m17, w17, m18, w18, m19, w19, m25, w25, m26, w26, m27, w27, m28, w28, m29, w29, m30, w30⟩ := s
  obtain ⟨x1, x2, x3, x4, x5, x6, x7, x8, x9, x10, x11, x12, x13, x14, x15⟩ := x
  obtain ⟨a25, a26, a27, a28, a29, a30⟩ := a
  obtain ⟨g0, g1, g2, g3, g4⟩ := g
  unfold runLast; dsimp only [id]
  sl_unfold_words
  simp only [View.readAt_eq_ld, Memref.IsWhole.read_unread, View.ld_unit_zero (S := S256x1024) hz2, View.ld_unit_zero (S := S256x512) hz2, View.ld_unit_zero (S := S256x256) hz2, View.ld_unit_zero (S := S1024x1024) hz2, View.ld_unit_zero (S := S512x1024) hz2, View.ld_unit_zero (S := S1x1024) hz2,
    section_stored (a := 1024) (b := 1024), section_stored (a := 512) (b := 1024), section_stored (a := 256) (b := 1024)]
  refine grads_eq c ?_ ?_ ?_ ?_ ?_
  · funext y; revert y; show ∀ y : S8x128x1024.Idx, _; intro y; idx_vars y
    exact cut_rows (View.whole main_v15_4) g0 (add ⟨x1, x2, x3, x4, x5, x6, x7, x8, x9, x10, x11, x12, x13, x14, x15⟩ ⟨a25, a26, a27, a28, a29, a30⟩).pl (by decide) rfl (by decide) _ _ _
  · funext y; revert y; show ∀ y : S8x512x128.Idx, _; intro y; idx_vars y
    exact cut_cols (A := 512) (View.whole main_v15_5) g1 (add ⟨x1, x2, x3, x4, x5, x6, x7, x8, x9, x10, x11, x12, x13, x14, x15⟩ ⟨a25, a26, a27, a28, a29, a30⟩).pp (by decide) rfl (by decide) _ _ _
  · funext y; revert y; show ∀ y : S8x128x1024.Idx, _; intro y; idx_vars y
    exact cut_rows (View.whole main_v15_6) g2 (add ⟨x1, x2, x3, x4, x5, x6, x7, x8, x9, x10, x11, x12, x13, x14, x15⟩ ⟨a25, a26, a27, a28, a29, a30⟩).out (by decide) rfl (by decide) _ _ _
  · funext y; revert y; show ∀ y : S8x128x1024.Idx, _; intro y; idx_vars y
    exact cut_rows (View.whole main_v15_7) g3 (add ⟨x1, x2, x3, x4, x5, x6, x7, x8, x9, x10, x11, x12, x13, x14, x15⟩ ⟨a25, a26, a27, a28, a29, a30⟩).pg (by decide) rfl (by decide) _ _ _
  · funext y; revert y; show ∀ y : S8x256x128.Idx, _; intro y; idx_vars y
    exact cut_cols (A := 256) (View.whole main_v15_8) g4 (add ⟨x1, x2, x3, x4, x5, x6, x7, x8, x9, x10, x11, x12, x13, x14, x15⟩ ⟨a25, a26, a27, a28, a29, a30⟩).pe (by decide) rfl (by decide) _ _ _

end Cert.Head

end
-- ==== Proof.HeadHalves.lean ====
/- Two stores side by side: what the block holds, by the half a column lies in. -/
module

public import proofs.«01_k».proof.Proof.HeadStep

@[expose] public section
set_option maxRecDepth 16384
noncomputable section

namespace Cert.Head
open Cert.Kernel2Ideal Cert.Kernel2Ideal.Gen
open Idealize.ShloMosaic Idealize.ShloMosaic.TcCoe

variable {F : FTy → Type} [FloatOps F]

/-- The two halves' stores, the right one last. -/
abbrev halves (u v : Vec F S256x1024 .bf16) : List (View.Piece (Elt F) S256x2048 .bf16) :=
  [⟨Rect.unit ![0, 1024] ![256, 1024] inb_S256x2048_S256x1024_0_1024, v⟩, ⟨Rect.unit ![0, 0] ![256, 1024] inb_S256x2048_S256x1024_0_0, u⟩]

theorem halves_cover (u v : Vec F S256x1024 .bf16) (y : S256x2048.Idx) : ∃ r ∈ halves u v, y ∈ r.1.set :=
  View.cover_of_tiledL (s := S256x2048) _ S256x1024.size (by sl_kernel_rfl) y

theorem halves_read (M : Memref sig .tc .vmem S256x2048 .bf16) (u v : Vec F S256x1024 .bf16) (f : M.view.ty.Contents (Elt F)) :
    M.view.read (Elt F) (M.view.writes (Elt F) f (halves u v)) = View.canon (halves u v) :=
  View.read_writes_eq_canon M.view f _ (halves_cover u v)

theorem halves_at (u v : Vec F S256x1024 .bf16) (i : Fin 256) (l : Fin 2048) :
    View.canon (halves u v) (ix2 i l) = if h : l.val < 1024 then u (ix2 i ⟨l.val, h⟩) else v (ix2 i ⟨l.val - 1024, by omega⟩) := by
  refine View.canon_append_of_piecesOf (fun y : S256x2048.Idx => if h : (y 1).val < 1024 then u (ix2 (y 0) ⟨(y 1).val, h⟩)
      else v (ix2 (y 0) ⟨(y 1).val - 1024, by have := (y 1).isLt; have e : S256x2048.size 1 = 2048 := rfl; omega⟩)) [] _ ?_ (ix2 i l) (halves_cover u v _)
  refine ⟨?_, ?_, trivial⟩
  · intro y; idx_vars y
    refine Eq.trans ?_ (dif_neg (by show ¬(1024 + 1 * y1.val < 1024); omega)).symm
    refine congrArg v ?_
    funext a; apply Fin.ext
    fin_cases a
    · show y0.val = 0 + 1 * y0.val; omega
    · show y1.val = 1024 + 1 * y1.val - 1024; omega
  · intro y; idx_vars y
    refine Eq.trans ?_ (dif_pos (by show 0 + 1 * y1.val < 1024; have := y1.isLt; omega)).symm
    refine congrArg u ?_
    funext a; apply Fin.ext
    fin_cases a
    · show y0.val = 0 + 1 * y0.val; omega
    · show y1.val = 0 + 1 * y1.val; omega

/-- A point's two halves are the gates' cotangents. -/
theorem pieces_eq (x : Ins F) : gatePieces x = halves (k0_pay62 (branchA x) (gateA x) (dx1B x) x.x11) (k0_pay63 (branchB x) (gateB x) (dx1B x) x.x11) := by
  unfold gatePieces; rfl

theorem gates_eq (x : Ins F) : (made x).gates = View.canon (halves (k0_pay62 (branchA x) (gateA x) (dx1B x) x.x11) (k0_pay63 (branchB x) (gateB x) (dx1B x) x.x11)) := by
  rw [← pieces_eq]; unfold made; dsimp only

theorem gates_read (M : Memref sig .tc .vmem S256x2048 .bf16) (x : Ins F) (f : M.view.ty.Contents (Elt F)) :
    M.view.read (Elt F) (M.view.writes (Elt F) f (gatePieces x)) = (made x).gates := by
  rw [gates_eq, pieces_eq]; exact halves_read M _ _ f

end Cert.Head

end
-- ==== Proof.HeadMade.lean ====
/- One point of the output layers' gradient kernel, from given blocks to explicit ones: what each kind of point makes, carries and copies. -/
module

public import proofs.«01_k».proof.Proof.HeadCopied
public import proofs.«01_k».proof.Proof.HeadHalves

@[expose] public section
set_option maxRecDepth 16384
noncomputable section

namespace Cert.Head
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A buffer whose pieces leave one value, whatever was under them, is owned at that value. -/
theorem owned (c : Dev nD) {S : Shape} {e : EltTy} (M : Memref sig .tc .vmem S e) (L : List (View.Piece (Elt F) S e)) (v : Vec F S e)
    (h : ∀ f, M.view.read (Elt F) (M.view.writes (Elt F) f L) = v) :
    iprop(∃ f, M.view.loc (c : Thread nD τ) ↦[M.view.set]{fullShare} M.view.writes (Elt F) f L) ⊢ (owns (c : Thread nD τ) M fullShare v : sProp 𝕄) := by
  iintro ⟨%f, H⟩
  unfold owns
  iexists _
  isplitr
  · ipureintro; exact h f
  · iexact H

/-- The blocks made, owned. -/
def Made (c : Dev nD) (s : Stage) (b : Blocks F) : sProp 𝕄 :=
  iprop(owns (c : Thread nD τ) s.m16 fullShare b.ya ∗ owns (c : Thread nD τ) s.m17 fullShare b.yb ∗ owns (c : Thread nD τ) s.m18 fullShare b.gates ∗ owns (c : Thread nD τ) s.m19 fullShare b.x)

theorem wrote_made (c : Dev nD) (s : Stage) (x : Ins F) (a : Carry F) : Wrote c s (stores x a) ⊢ Made c s (made x) :=
  BIClass.sep_mono (owned c s.m16 _ _ fun f => View.read_writes_full s.m16.view f _ _ _)
    (BIClass.sep_mono (owned c s.m17 _ _ fun f => View.read_writes_full s.m17.view f _ _ _)
      (BIClass.sep_mono (owned c s.m18 _ _ fun f => gates_read s.m18 x f)
        (owned c s.m19 _ _ fun f => View.read_writes_full s.m19.view f _ _ _)))

theorem pack_cover (x : Ins F) (p q : Vec F S24x128 .f32) (y : S24x128.Idx) : ∃ r ∈ rows x p ++ [⟨allPack, q⟩], y ∈ r.1.set :=
  (View.cover_of_tiledL (s := S24x128) ([⟨allPack, q⟩] : List (View.Piece (Elt F) S24x128 .f32)) S24x128.size (by sl_kernel_rfl) y).elim
    fun r hr => ⟨r, List.mem_append_right _ hr.1, hr.2⟩

/-- The pack after the first point's stores, -/
theorem pack_read (M : Memref sig .tc .vmem S24x128 .f32) (x : Ins F) (p : Vec F S24x128 .f32) (f : M.view.ty.Contents (Elt F)) :
    M.view.read (Elt F) (M.view.writes (Elt F) f (rows x p ++ [⟨allPack, p⟩])) = View.canon (rows x p ++ [⟨allPack, p⟩]) :=
  View.read_writes_eq_canon M.view f _ (pack_cover x p p)

/-- and after a later point's, over what the pack held. -/
theorem pack_read_over (M : Memref sig .tc .vmem S24x128 .f32) (w : M.IsWhole) (x : Ins F) (p : Vec F S24x128 .f32) :
    M.view.read (Elt F) (M.view.writes (Elt F) (w.unread p) (rows x p)) = View.canon (rows x p ++ [⟨allPack, p⟩]) := by
  rw [← pack_read M x p (w.unread p), View.writes_append]
  congr 2
  exact (w.eq_unread (View.read_writes_full M.view (w.unread p) _ p [])).symm

theorem summed_carried (c : Dev nD) (s : Stage) (x : Ins F) : Summed c s (storesFirst x) ⊢ Carried c s (add x zeros) :=
  BIClass.sep_mono (owned c s.m25 _ _ fun f => pack_read s.m25 x _ f)
    (BIClass.sep_mono (owned c s.m26 _ _ fun f => View.read_writes_full s.m26.view f _ _ _)
      (BIClass.sep_mono (owned c s.m27 _ _ fun f => View.read_writes_full s.m27.view f _ _ _)
        (BIClass.sep_mono (owned c s.m28 _ _ fun f => View.read_writes_full s.m28.view f _ _ _)
          (BIClass.sep_mono (owned c s.m29 _ _ fun f => View.read_writes_full s.m29.view f _ _ _)
            (owned c s.m30 _ _ fun f => View.read_writes_full s.m30.view f _ _ _)))))

theorem added_carried (c : Dev nD) (s : Stage) (x : Ins F) (a : Carry F) : Added c s a.pack (stores x a) ⊢ Carried c s (add x a) := by
  refine BIClass.sep_mono ?_
    (BIClass.sep_mono (owned c s.m26 _ _ fun f => View.read_writes_full s.m26.view f _ _ _)
      (BIClass.sep_mono (owned c s.m27 _ _ fun f => View.read_writes_full s.m27.view f _ _ _)
        (BIClass.sep_mono (owned c s.m28 _ _ fun f => View.read_writes_full s.m28.view f _ _ _)
          (BIClass.sep_mono (owned c s.m29 _ _ fun f => View.read_writes_full s.m29.view f _ _ _)
            (owned c s.m30 _ _ fun f => View.read_writes_full s.m30.view f _ _ _)))))
  iintro H
  unfold owns
  iexists _
  isplitr
  · ipureintro; exact pack_read_over s.m25 s.w25 x a.pack
  · iexact H

/-- A run's end may be weakened. -/
theorem Runs.weaken {c : Dev nD} {s : Stage} {i : grid0.Coords} {pre post post' : sProp 𝕄} (h : Runs c s i pre post) (hp : post ⊢ post') :
    Runs c s i pre post' := fun W K => by
  refine (BIClass.sep_mono .rfl (BIClass.sep_mono .rfl ?_)).trans (h W K)
  iintro HK ⟨Hp, Ho⟩
  iapply HK
  isplitl [Hp]
  · iapply hp; iexact Hp
  · iexact Ho

theorem runFirst_held (c : Dev nD) (i : grid0.Coords) (s : Stage) (h0 : isFirst i) (h1 : ¬isLast i) (x : Ins F) (g : Grads F c) :
    (runFirst c i s h0 h1 x g).1.2 = g := by
  obtain ⟨m1, w1, m2, w2, m3, w3, m4, w4, m5, w5, m6, w6, m7, w7, m8, w8, m9, w9, m10, w10, m11, w11, m12, w12, m13, w13, m14, w14, m15, w15, m16, w16, m17, w17, m18, w18, m19, w19, m25, w25, m26, w26, m27, w27, m28, w28, m29, w29, m30, w30⟩ := s
  obtain ⟨x1, x2, x3, x4, x5, x6, x7, x8, x9, x10, x11, x12, x13, x14, x15⟩ := x
  obtain ⟨g0, g1, g2, g3, g4⟩ := g
  unfold runFirst; rfl

theorem runBetween_held (c : Dev nD) (i : grid0.Coords) (s : Stage) (h0 : ¬isFirst i) (h1 : ¬isLast i) (x : Ins F) (a : Carry F) (g : Grads F c) :
    (runBetween c i s h0 h1 x a g).1.2 = g := by
  obtain ⟨m1, w1, m2, w2, m3, w3, m4, w4, m5, w5, m6, w6, m7, w7, m8, w8, m9, w9, m10, w10, m11, w11, m12, w12, m13, w13, m14, w14, m15, w15, m16, w16, m17, w17, m18, w18, m19, w19, m25, w25, m26, w26, m27, w27, m28, w28, m29, w29, m30, w30⟩ := s
  obtain ⟨x1, x2, x3, x4, x5, x6, x7, x8, x9, x10, x11, x12, x13, x14, x15⟩ := x
  obtain ⟨a25, a26, a27, a28, a29, a30⟩ := a
  obtain ⟨g0, g1, g2, g3, g4⟩ := g
  unfold runBetween; rfl

/-- The first point: the sums start from zeros; -/
theorem first_runs (c : Dev nD) (i : grid0.Coords) (s : Stage) (h0 : isFirst i) (h1 : ¬isLast i) (x : Ins F) (g : Grads F c) :
    Runs c s i iprop(Given c s x ∗ Free c s ∗ Unset c s ∗ Idle c ∗ Held c g)
      iprop(Given c s x ∗ Made c s (made x) ∗ Carried c s (add x zeros) ∗ Idle c ∗ Held c g) := by
  have h := (runFirst c i s h0 h1 x g).2
  rw [runFirst_stores c i s h0 h1 x g, runFirst_held c i s h0 h1 x g] at h
  exact h.weaken (BIClass.sep_mono .rfl (BIClass.sep_mono (wrote_made c s x zeros) (BIClass.sep_mono (summed_carried c s x) .rfl)))

/-- a point in between adds to what was carried to it; -/
theorem between_runs (c : Dev nD) (i : grid0.Coords) (s : Stage) (h0 : ¬isFirst i) (h1 : ¬isLast i) (x : Ins F) (a : Carry F) (g : Grads F c) :
    Runs c s i iprop(Given c s x ∗ Free c s ∗ Carried c s a ∗ Idle c ∗ Held c g)
      iprop(Given c s x ∗ Made c s (made x) ∗ Carried c s (add x a) ∗ Idle c ∗ Held c g) := by
  have h := (runBetween c i s h0 h1 x a g).2
  rw [runBetween_stores c i s h0 h1 x a g, runBetween_held c i s h0 h1 x a g] at h
  exact h.weaken (BIClass.sep_mono .rfl (BIClass.sep_mono (wrote_made c s x a) (BIClass.sep_mono (added_carried c s x a) .rfl)))

/-- the last also cuts the sums into their sections. -/
theorem last_runs (c : Dev nD) (i : grid0.Coords) (s : Stage) (h0 : ¬isFirst i) (h1 : isLast i) (x : Ins F) (a : Carry F) (g : Grads F c) :
    Runs c s i iprop(Given c s x ∗ Free c s ∗ Carried c s a ∗ Idle c ∗ Held c g)
      iprop(Given c s x ∗ Made c s (made x) ∗ Carried c s (add x a) ∗ Idle c ∗ Held c (sections c (add x a))) := by
  have h := (runLast c i s h0 h1 x a g).2
  rw [runLast_stores c i s h0 h1 x a g, runLast_copied c i s h0 h1 x a g] at h
  exact h.weaken (BIClass.sep_mono .rfl (BIClass.sep_mono (wrote_made c s x a) (BIClass.sep_mono (added_carried c s x a) .rfl)))

end Cert.Head

end
-- ==== Proof.HeadFrame.lean ====
/- The output layers' gradient kernel, whole: what is carried from point to point, the pipeline's proof data, and that every run
   terminates with the arguments unchanged and the results at the last point's values. -/
module

public import proofs.«01_k».proof.Proof.HeadMade
public import proofs.«01_k».proof.Proof.Gen.Kernel2Ideal.Frame
public import Idealize.ShloMosaic.Lib.Pipeline.FrameBody
public import Idealize.ShloMosaic.Lib.Pipeline.FrameValue

@[expose] public section
set_option maxRecDepth 16384
noncomputable section

namespace Cert.Head
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
open Idealize.ShloMosaic.Pipeline (Dat Cfg Window BodyObligation cellOf)

variable (m : (ℓ : Loc nD τ sig) → Buf (Elt F) ℓ) (ρ : Dev nD → PrngReg)

/-- The buffers the body is called with at a point. -/
def stageAt (t : Fin cfg0.N) : Stage :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), win0_13.stage (cfg0.slots t 13), hstage0_13 ((cfg0.slots t 13).cast nbuf0_13), win0_14.stage (cfg0.slots t 14), hstage0_14 ((cfg0.slots t 14).cast nbuf0_14), win0_15.stage (cfg0.slots t 15), hstage0_15 ((cfg0.slots t 15).cast nbuf0_15), win0_16.stage (cfg0.slots t 16), hstage0_16 ((cfg0.slots t 16).cast nbuf0_16), win0_17.stage (cfg0.slots t 17), hstage0_17 ((cfg0.slots t 17).cast nbuf0_17), win0_18.stage (cfg0.slots t 18), hstage0_18 ((cfg0.slots t 18).cast nbuf0_18), win0_19.stage (cfg0.slots t 19), hstage0_19 ((cfg0.slots t 19).cast nbuf0_19), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _⟩

/-- The input blocks at a point. -/
def insAt (c : Dev nD) (t : Fin cfg0.N) : Ins F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

/-- What is carried out of point `n`. -/
def carriedAt (c : Dev nD) : (n : ℕ) → n < cfg0.N → Carry F
  | 0, h => add (insAt m c ⟨0, h⟩) zeros
  | n + 1, h => add (insAt m c ⟨n + 1, h⟩) (carriedAt c n (Nat.lt_of_succ_lt h))

/-- The gradient arrays as the region finds them, -/
def grads0 (c : Dev nD) : Grads F c := ⟨V m c main_v15_4, V m c main_v15_5, V m c main_v15_6, V m c main_v15_7, V m c main_v15_8⟩

/-- after point `n`: the last point writes them, -/
def gradsAt (c : Dev nD) (n : ℕ) (h : n < cfg0.N) : Grads F c := if n = 15 then sections c (carriedAt m c n h) else grads0 m c

theorem fifteen : 15 < cfg0.N := lt_of_lt_of_eq (by decide : 15 < 16) (show cfg0.N = 16 from N_0).symm

/-- and at the end. -/
def gradsEnd (c : Dev nD) : Grads F c := sections c (carriedAt m c 15 fifteen)

theorem first_iff (t : Fin cfg0.N) : isFirst (grid0.coords t) ↔ t.val = 0 := by
  have ht : t.val < 16 := Nat.lt_of_lt_of_eq t.isLt N_0
  have e0 : (grid0.coords t 0).val = t.val / 1 % 16 := Pipeline.Grid.coords_val t 0 (by decide) rfl
  have h : isFirst (grid0.coords t) ↔ t.val % 16 = 0 := by
    simp only [isFirst, e0]
    word_cmp
  rw [h]; omega

theorem last_iff (t : Fin cfg0.N) : isLast (grid0.coords t) ↔ t.val = 15 := by
  have ht : t.val < 16 := Nat.lt_of_lt_of_eq t.isLt N_0
  have e0 : (grid0.coords t 0).val = t.val / 1 % 16 := Pipeline.Grid.coords_val t 0 (by decide) rfl
  have h : isLast (grid0.coords t) ↔ t.val % 16 = 15 := by
    simp only [isLast, e0]
    word_cmp
  rw [h]; omega

/-! ## The launch's invariant, opened -/

/-- The twenty copies' counters. -/
abbrev ownCells : Fin 20 → SemLoc sig := fun j => (![SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49] : Fin 20 → SemLoc sig) j
theorem ownCells_facts : Pipeline.OwnSemFacts spec0 ownCells := by decide
/-- The arrays the body reads in place (none), and those its copies write. -/
def readRefs : Finset (Ref sig .tc) := {}
def wroteRefs : Finset (Ref sig .tc) := {main_v15_4, main_v15_5, main_v15_6, main_v15_7, main_v15_8}
theorem readRefs_sub : readRefs ⊆ Pipeline.restRefs sig spec0 := by decide
theorem wroteRefs_sub : wroteRefs ⊆ Pipeline.restRefs sig spec0 \ readRefs := by decide

/-- The five sums' buffers at anything. -/
def Loose (c : Dev nD) : sProp 𝕄 :=
  iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d))

theorem idle_eq (c : Dev nD) :
    (Pipeline.ownSems0 (Ix := Unit) (Name := ℕ) (U := Pipeline.UD sig nD τ) (Lvl := ℕ) (Val := Elt F) (τ := τ) ownCells c : sProp 𝕄) = Idle c := by
  rw [Pipeline.ownSems0_eq_of_list c ownCells [0, 1, 2, 3, 4, 5, 6, 7, 8, 9, 10, 11, 12, 13, 14, 15, 16, 17, 18, 19] (by decide) (by decide)]; rfl

theorem readRefs_eq (c : Dev nD) :
    (bigSep readRefs (fun b => ((c : Thread nD τ).loc b) ↦{fullShare} V m c b) : sProp 𝕄) = iprop(emp) := by
  rw [BI.bigSep_eq_bigSepL_of_eq [] (by decide) (by decide)]; rfl

theorem wroteRefs_eq (c : Dev nD) (G : (b : Ref sig .tc) → Buf (Elt F) ((c : Thread nD τ).loc b)) :
    (Pipeline.routed wroteRefs c G : sProp 𝕄) = Held c ⟨G main_v15_4, G main_v15_5, G main_v15_6, G main_v15_7, G main_v15_8⟩ := by
  unfold Pipeline.routed
  rw [BI.bigSep_eq_bigSepL_of_eq [main_v15_4, main_v15_5, main_v15_6, main_v15_7, main_v15_8] (by decide) (by decide)]; rfl

/-- The invariant the launch hands the region, and takes back, part by part. -/
theorem launch_eq (c : Dev nD) (G : (c : Dev nD) → (b : Ref sig .tc) → Buf (Elt F) ((c : Thread nD τ).loc b)) :
    (Pipeline.ΦDRG ownCells spec0 readRefs wroteRefs (V m) G c : sProp 𝕄)
      = iprop(Loose c ∗ (∃ r, prngReg c r) ∗ Idle c ∗ iprop(emp) ∗ Held c ⟨G c main_v15_4, G c main_v15_5, G c main_v15_6, G c main_v15_7, G c main_v15_8⟩) := by
  rw [Pipeline.ΦDRG_eq, scopedRest0_eq, idle_eq, readRefs_eq, wroteRefs_eq]
  simp only [Loose, owns_whole]
  try rfl

/-! ## The proof data -/

/-- The sums at what is carried (the pack lives in its output's buffer). -/
def Sums (c : Dev nD) (a : Carry F) : sProp 𝕄 :=
  iprop(owns (c : Thread nD τ) (Memref.whole cc0_scratch0) fullShare a.pl ∗ owns (c : Thread nD τ) (Memref.whole cc0_scratch1) fullShare a.pp ∗ owns (c : Thread nD τ) (Memref.whole cc0_scratch2) fullShare a.out ∗ owns (c : Thread nD τ) (Memref.whole cc0_scratch3) fullShare a.pg ∗ owns (c : Thread nD τ) (Memref.whole cc0_scratch4) fullShare a.pe)

/-- What holds before point `n`. -/
def Between (c : Dev nD) : (n : ℕ) → n ≤ cfg0.N → sProp 𝕄
  | 0, _ => Pipeline.ΦDRG ownCells spec0 readRefs wroteRefs (V m) (V m) c
  | n + 1, h => iprop(Sums c (carriedAt m c n h) ∗ (∃ r, prngReg c r) ∗ Idle c ∗ Held c (gradsAt m c n h))

/-- The pipeline's data: arrays as found, inputs left in place, outputs at the blocks made and the pack carried. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (made (insAt m c t)).ya
    | ⟨16, _⟩ => (made (insAt m c t)).yb
    | ⟨17, _⟩ => (made (insAt m c t)).gates
    | ⟨18, _⟩ => (made (insAt m c t)).x
    | ⟨19, _⟩ => (carriedAt m c t.val t.isLt).pack
    | ⟨_ + 20, h⟩ => absurd h (Nat.not_lt.2 (Nat.le_add_left _ _))
  Φ t := Between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem between_castSucc (c : Dev nD) (t : Fin cfg0.N) : (dats m 0 c).Φ t.castSucc = Between m c t.val (Nat.le_of_lt t.isLt) := by
  dsimp only [dats]; exact Pipeline.Dat.Φ_castSucc (Between m c) t

theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = iblk m c 3 t := by dsimp only [dats]
theorem left_4 (c : Dev nD) (t : Fin cfg0.N) : (dats m 0 c).after 4 t = iblk m c 4 t := by dsimp only [dats]
theorem left_5 (c : Dev nD) (t : Fin cfg0.N) : (dats m 0 c).after 5 t = iblk m c 5 t := by dsimp only [dats]
theorem left_6 (c : Dev nD) (t : Fin cfg0.N) : (dats m 0 c).after 6 t = iblk m c 6 t := by dsimp only [dats]
theorem left_7 (c : Dev nD) (t : Fin cfg0.N) : (dats m 0 c).after 7 t = iblk m c 7 t := by dsimp only [dats]
theorem left_8 (c : Dev nD) (t : Fin cfg0.N) : (dats m 0 c).after 8 t = iblk m c 8 t := by dsimp only [dats]
theorem left_9 (c : Dev nD) (t : Fin cfg0.N) : (dats m 0 c).after 9 t = iblk m c 9 t := by dsimp only [dats]
theorem left_10 (c : Dev nD) (t : Fin cfg0.N) : (dats m 0 c).after 10 t = iblk m c 10 t := by dsimp only [dats]
theorem left_11 (c : Dev nD) (t : Fin cfg0.N) : (dats m 0 c).after 11 t = iblk m c 11 t := by dsimp only [dats]
theorem left_12 (c : Dev nD) (t : Fin cfg0.N) : (dats m 0 c).after 12 t = iblk m c 12 t := by dsimp only [dats]
theorem left_13 (c : Dev nD) (t : Fin cfg0.N) : (dats m 0 c).after 13 t = iblk m c 13 t := by dsimp only [dats]
theorem left_14 (c : Dev nD) (t : Fin cfg0.N) : (dats m 0 c).after 14 t = iblk m c 14 t := by dsimp only [dats]
theorem left_15 (c : Dev nD) (t : Fin cfg0.N) : (dats m 0 c).after 15 t = (made (insAt m c t)).ya := by dsimp only [dats]
theorem left_16 (c : Dev nD) (t : Fin cfg0.N) : (dats m 0 c).after 16 t = (made (insAt m c t)).yb := by dsimp only [dats]
theorem left_17 (c : Dev nD) (t : Fin cfg0.N) : (dats m 0 c).after 17 t = (made (insAt m c t)).gates := by dsimp only [dats]
theorem left_18 (c : Dev nD) (t : Fin cfg0.N) : (dats m 0 c).after 18 t = (made (insAt m c t)).x := by dsimp only [dats]
theorem left_19 (c : Dev nD) (t : Fin cfg0.N) : (dats m 0 c).after 19 t = (carriedAt m c t.val t.isLt).pack := by dsimp only [dats]

/-! An input's buffer holds its block at every point. -/
theorem held_0 (c : Dev nD) (t : Fin cfg0.N) (d) : (dats m 0 c).before 0 t d = iblk m c 0 t :=
  ((dats m 0 c).before_in_eq_fetched 0 rfl (fun _ => rfl) (fun _ _ _ => rfl) (fun t => by rw [left_0]; unfold Dat.blockOf iblk; rw [A_eq]; try rfl) t d).trans
    (by unfold Dat.fetched Dat.blockOf iblk; rw [A_eq]; try rfl)
theorem held_1 (c : Dev nD) (t : Fin cfg0.N) (d) : (dats m 0 c).before 1 t d = iblk m c 1 t :=
  ((dats m 0 c).before_in_eq_fetched 1 rfl (fun _ => rfl) (fun _ _ _ => rfl) (fun t => by rw [left_1]; unfold Dat.blockOf iblk; rw [A_eq]; try rfl) t d).trans
    (by unfold Dat.fetched Dat.blockOf iblk; rw [A_eq]; try rfl)
theorem held_2 (c : Dev nD) (t : Fin cfg0.N) (d) : (dats m 0 c).before 2 t d = iblk m c 2 t :=
  ((dats m 0 c).before_in_eq_fetched 2 rfl (fun _ => rfl) (fun _ _ _ => rfl) (fun t => by rw [left_2]; unfold Dat.blockOf iblk; rw [A_eq]; try rfl) t d).trans
    (by unfold Dat.fetched Dat.blockOf iblk; rw [A_eq]; try rfl)
theorem held_3 (c : Dev nD) (t : Fin cfg0.N) (d) : (dats m 0 c).before 3 t d = iblk m c 3 t :=
  ((dats m 0 c).before_in_eq_fetched 3 rfl (fun _ => rfl) (fun _ _ _ => rfl) (fun t => by rw [left_3]; unfold Dat.blockOf iblk; rw [A_eq]; try rfl) t d).trans
    (by unfold Dat.fetched Dat.blockOf iblk; rw [A_eq]; try rfl)
theorem held_4 (c : Dev nD) (t : Fin cfg0.N) (d) : (dats m 0 c).before 4 t d = iblk m c 4 t :=
  ((dats m 0 c).before_in_eq_fetched 4 rfl (fun _ => rfl) (fun _ _ _ => rfl) (fun t => by rw [left_4]; unfold Dat.blockOf iblk; rw [A_eq]; try rfl) t d).trans
    (by unfold Dat.fetched Dat.blockOf iblk; rw [A_eq]; try rfl)
theorem held_5 (c : Dev nD) (t : Fin cfg0.N) (d) : (dats m 0 c).before 5 t d = iblk m c 5 t :=
  ((dats m 0 c).before_in_eq_fetched 5 rfl (fun _ => rfl) (fun _ _ _ => rfl) (fun t => by rw [left_5]; unfold Dat.blockOf iblk; rw [A_eq]; try rfl) t d).trans
    (by unfold Dat.fetched Dat.blockOf iblk; rw [A_eq]; try rfl)
theorem held_6 (c : Dev nD) (t : Fin cfg0.N) (d) : (dats m 0 c).before 6 t d = iblk m c 6 t :=
  ((dats m 0 c).before_in_eq_fetched 6 rfl (fun _ => rfl) (fun _ _ _ => rfl) (fun t => by rw [left_6]; unfold Dat.blockOf iblk; rw [A_eq]; try rfl) t d).trans
    (by unfold Dat.fetched Dat.blockOf iblk; rw [A_eq]; try rfl)
theorem held_7 (c : Dev nD) (t : Fin cfg0.N) (d) : (dats m 0 c).before 7 t d = iblk m c 7 t :=
  ((dats m 0 c).before_in_eq_fetched 7 rfl (fun _ => rfl) (fun _ _ _ => rfl) (fun t => by rw [left_7]; unfold Dat.blockOf iblk; rw [A_eq]; try rfl) t d).trans
    (by unfold Dat.fetched Dat.blockOf iblk; rw [A_eq]; try rfl)
theorem held_8 (c : Dev nD) (t : Fin cfg0.N) (d) : (dats m 0 c).before 8 t d = iblk m c 8 t :=
  ((dats m 0 c).before_in_eq_fetched 8 rfl (fun _ => rfl) (fun _ _ _ => rfl) (fun t => by rw [left_8]; unfold Dat.blockOf iblk; rw [A_eq]; try rfl) t d).trans
    (by unfold Dat.fetched Dat.blockOf iblk; rw [A_eq]; try rfl)
theorem held_9 (c : Dev nD) (t : Fin cfg0.N) (d) : (dats m 0 c).before 9 t d = iblk m c 9 t :=
  ((dats m 0 c).before_in_eq_fetched 9 rfl (fun _ => rfl) (fun _ _ _ => rfl) (fun t => by rw [left_9]; unfold Dat.blockOf iblk; rw [A_eq]; try rfl) t d).trans
    (by unfold Dat.fetched Dat.blockOf iblk; rw [A_eq]; try rfl)
theorem held_10 (c : Dev nD) (t : Fin cfg0.N) (d) : (dats m 0 c).before 10 t d = iblk m c 10 t :=
  ((dats m 0 c).before_in_eq_fetched 10 rfl (fun _ => rfl) (fun _ _ _ => rfl) (fun t => by rw [left_10]; unfold Dat.blockOf iblk; rw [A_eq]; try rfl) t d).trans
    (by unfold Dat.fetched Dat.blockOf iblk; rw [A_eq]; try rfl)
theorem held_11 (c : Dev nD) (t : Fin cfg0.N) (d) : (dats m 0 c).before 11 t d = iblk m c 11 t :=
  ((dats m 0 c).before_in_eq_fetched 11 rfl (fun _ => rfl) (fun _ _ _ => rfl) (fun t => by rw [left_11]; unfold Dat.blockOf iblk; rw [A_eq]; try rfl) t d).trans
    (by unfold Dat.fetched Dat.blockOf iblk; rw [A_eq]; try rfl)
theorem held_12 (c : Dev nD) (t : Fin cfg0.N) (d) : (dats m 0 c).before 12 t d = iblk m c 12 t :=
  ((dats m 0 c).before_in_eq_fetched 12 rfl (fun _ => rfl) (fun _ _ _ => rfl) (fun t => by rw [left_12]; unfold Dat.blockOf iblk; rw [A_eq]; try rfl) t d).trans
    (by unfold Dat.fetched Dat.blockOf iblk; rw [A_eq]; try rfl)
theorem held_13 (c : Dev nD) (t : Fin cfg0.N) (d) : (dats m 0 c).before 13 t d = iblk m c 13 t :=
  ((dats m 0 c).before_in_eq_fetched 13 rfl (fun _ => rfl) (fun _ _ _ => rfl) (fun t => by rw [left_13]; unfold Dat.blockOf iblk; rw [A_eq]; try rfl) t d).trans
    (by unfold Dat.fetched Dat.blockOf iblk; rw [A_eq]; try rfl)
theorem held_14 (c : Dev nD) (t : Fin cfg0.N) (d) : (dats m 0 c).before 14 t d = iblk m c 14 t :=
  ((dats m 0 c).before_in_eq_fetched 14 rfl (fun _ => rfl) (fun _ _ _ => rfl) (fun t => by rw [left_14]; unfold Dat.blockOf iblk; rw [A_eq]; try rfl) t d).trans
    (by unfold Dat.fetched Dat.blockOf iblk; rw [A_eq]; try rfl)

theorem pack_held (c : Dev nD) (t : Fin cfg0.N) (h : t.val ≠ 0) (d) :
    (dats m 0 c).before 19 t d = (carriedAt m c (t.val - 1) (Nat.lt_of_le_of_lt (Nat.sub_le _ _) t.isLt)).pack := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl)]
  dsimp only [dats]

/-! ## The body at a point -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stageAt t).m1 fullShare ((dats m 0 c).before 0 t d))
    ∗ (∃ d, owns (c : Thread nD τ) (stageAt t).m2 fullShare ((dats m 0 c).before 1 t d))
    ∗ (∃ d, owns (c : Thread nD τ) (stageAt t).m3 fullShare ((dats m 0 c).before 2 t d))
    ∗ (∃ d, owns (c : Thread nD τ) (stageAt t).m4 fullShare ((dats m 0 c).before 3 t d))
    ∗ (∃ d, owns (c : Thread nD τ) (stageAt t).m5 fullShare ((dats m 0 c).before 4 t d))
    ∗ (∃ d, owns (c : Thread nD τ) (stageAt t).m6 fullShare ((dats m 0 c).before 5 t d))
    ∗ (∃ d, owns (c : Thread nD τ) (stageAt t).m7 fullShare ((dats m 0 c).before 6 t d))
    ∗ (∃ d, owns (c : Thread nD τ) (stageAt t).m8 fullShare ((dats m 0 c).before 7 t d))
    ∗ (∃ d, owns (c : Thread nD τ) (stageAt t).m9 fullShare ((dats m 0 c).before 8 t d))
    ∗ (∃ d, owns (c : Thread nD τ) (stageAt t).m10 fullShare ((dats m 0 c).before 9 t d))
    ∗ (∃ d, owns (c : Thread nD τ) (stageAt t).m11 fullShare ((dats m 0 c).before 10 t d))
    ∗ (∃ d, owns (c : Thread nD τ) (stageAt t).m12 fullShare ((dats m 0 c).before 11 t d))
    ∗ (∃ d, owns (c : Thread nD τ) (stageAt t).m13 fullShare ((dats m 0 c).before 12 t d))
    ∗ (∃ d, owns (c : Thread nD τ) (stageAt t).m14 fullShare ((dats m 0 c).before 13 t d))
    ∗ (∃ d, owns (c : Thread nD τ) (stageAt t).m15 fullShare ((dats m 0 c).before 14 t d))
    ∗ (∃ d, owns (c : Thread nD τ) (stageAt t).m16 fullShare ((dats m 0 c).before 15 t d))
    ∗ (∃ d, owns (c : Thread nD τ) (stageAt t).m17 fullShare ((dats m 0 c).before 16 t d))
    ∗ (∃ d, owns (c : Thread nD τ) (stageAt t).m18 fullShare ((dats m 0 c).before 17 t d))
    ∗ (∃ d, owns (c : Thread nD τ) (stageAt t).m19 fullShare ((dats m 0 c).before 18 t d))
    ∗ (∃ d, owns (c : Thread nD τ) (stageAt t).m25 fullShare ((dats m 0 c).before 19 t d)))

/-- and what it gives back. -/
def bodyPost (c : Dev nD) (t : Fin cfg0.N) : sProp 𝕄 :=
  iprop((dats m 0 c).Φ t.succ ∗ (dats m 0 c).owesAt () t.succ
    ∗ owns (c : Thread nD τ) (stageAt t).m1 fullShare ((dats m 0 c).after 0 t)
    ∗ owns (c : Thread nD τ) (stageAt t).m2 fullShare ((dats m 0 c).after 1 t)
    ∗ owns (c : Thread nD τ) (stageAt t).m3 fullShare ((dats m 0 c).after 2 t)
    ∗ owns (c : Thread nD τ) (stageAt t).m4 fullShare ((dats m 0 c).after 3 t)
    ∗ owns (c : Thread nD τ) (stageAt t).m5 fullShare ((dats m 0 c).after 4 t)
    ∗ owns (c : Thread nD τ) (stageAt t).m6 fullShare ((dats m 0 c).after 5 t)
    ∗ owns (c : Thread nD τ) (stageAt t).m7 fullShare ((dats m 0 c).after 6 t)
    ∗ owns (c : Thread nD τ) (stageAt t).m8 fullShare ((dats m 0 c).after 7 t)
    ∗ owns (c : Thread nD τ) (stageAt t).m9 fullShare ((dats m 0 c).after 8 t)
    ∗ owns (c : Thread nD τ) (stageAt t).m10 fullShare ((dats m 0 c).after 9 t)
    ∗ owns (c : Thread nD τ) (stageAt t).m11 fullShare ((dats m 0 c).after 10 t)
    ∗ owns (c : Thread nD τ) (stageAt t).m12 fullShare ((dats m 0 c).after 11 t)
    ∗ owns (c : Thread nD τ) (stageAt t).m13 fullShare ((dats m 0 c).after 12 t)
    ∗ owns (c : Thread nD τ) (stageAt t).m14 fullShare ((dats m 0 c).after 13 t)
    ∗ owns (c : Thread nD τ) (stageAt t).m15 fullShare ((dats m 0 c).after 14 t)
    ∗ owns (c : Thread nD τ) (stageAt t).m16 fullShare ((dats m 0 c).after 15 t)
    ∗ owns (c : Thread nD τ) (stageAt t).m17 fullShare ((dats m 0 c).after 16 t)
    ∗ owns (c : Thread nD τ) (stageAt t).m18 fullShare ((dats m 0 c).after 17 t)
    ∗ owns (c : Thread nD τ) (stageAt t).m19 fullShare ((dats m 0 c).after 18 t)
    ∗ owns (c : Thread nD τ) (stageAt t).m25 fullShare ((dats m 0 c).after 19 t))

set_option maxHeartbeats 4000000 in
/-- The body keeps its contract at a point, given that it runs from what the point's invariant and pack buffer give. -/
theorem point_sound (c : Dev nD) (t : Fin cfg0.N) (U : sProp 𝕄) (g : Grads F c)
    (hin : iprop((dats m 0 c).Φ t.castSucc ∗ (∃ d, owns (c : Thread nD τ) (stageAt t).m25 fullShare ((dats m 0 c).before 19 t d)))
      ⊢ iprop((U ∗ Idle c ∗ Held c g) ∗ (∃ r, prngReg c r)))
    (hrun : Runs c (stageAt t) (grid0.coords t) iprop(Given c (stageAt t) (insAt m c t) ∗ Free c (stageAt t) ∗ U ∗ Idle c ∗ Held c g)
      iprop(Given c (stageAt t) (insAt m c t) ∗ Made c (stageAt t) (made (insAt m c t)) ∗ Carried c (stageAt t) (carriedAt m c t.val t.isLt)
        ∗ Idle c ∗ Held c (gradsAt m c t.val t.isLt))) :
    bodyPre m c t ⊢ wp frame (wpE (defs₀ (F := F)) Variants.none c none) Set.univ (bodyAt0 t) (fun _ => bodyPost m c t) := by
  unfold bodyPre
  simp only [held_0, held_1, held_2, held_3, held_4, held_5, held_6, held_7, held_8, held_9, held_10, held_11, held_12, held_13, held_14]
  unfold Dat.owesAt Pipeline.owesWithin
  rw [show (dats m 0 c).owed t.castSucc = 0 from rfl]
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19⟩
  ihave HI := hin $$ [HΦ H19]
  · isplitl [HΦ]
    · iexact HΦ
    · iexact H19
  icases HI with ⟨HU, Hg⟩
  iapply (hrun W _)
  isplitl [H0 H1 H2 H3 H4 H5 H6 H7 H8 H9 H10 H11 H12 H13 H14 H15 H16 H17 H18 HU]
  · isplitl [H0 H1 H2 H3 H4 H5 H6 H7 H8 H9 H10 H11 H12 H13 H14]
    · unfold Given
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    isplitl [H15 H16 H17 H18]
    · unfold Free
      isplitl [H15]; · iexists _; iexact H15
      isplitl [H16]; · iexists _; iexact H16
      isplitl [H17]; · iexists _; iexact H17
      iexists _; iexact H18
    iexact HU
  isplitl [HW]; · iexact HW
  iintro ⟨⟨HG, HM, HC, Hi, Hh⟩, ⟨%W', HW'⟩⟩
  unfold bodyPost Given Made Carried
  rw [show (dats m 0 c).Φ t.succ = iprop(Sums c (carriedAt m c t.val t.isLt) ∗ (∃ r, prngReg c r) ∗ Idle c ∗ Held c (gradsAt m c t.val t.isLt)) from rfl]
  unfold Dat.owesAt Pipeline.owesWithin Sums
  rw [show (dats m 0 c).owed t.succ = 0 from rfl]
  simp only [left_0, left_1, left_2, left_3, left_4, left_5, left_6, left_7, left_8, left_9, left_10, left_11, left_12, left_13, left_14, left_15, left_16, left_17, left_18, left_19]
  icases HG with ⟨H0, H1, H2, H3, H4, H5, H6, H7, H8, H9, H10, H11, H12, H13, H14⟩
  icases HM with ⟨H15, H16, H17, H18⟩
  icases HC with ⟨H19, S0, S1, S2, S3, S4⟩
  isplitl [S0 S1 S2 S3 S4 Hg Hi Hh]
  · isplitl [S0 S1 S2 S3 S4]
    · isplitl [S0]; · iexact S0
      isplitl [S1]; · iexact S1
      isplitl [S2]; · iexact S2
      isplitl [S3]; · iexact S3
      iexact S4
    isplitl [Hg]; · iexact Hg
    isplitl [Hi]; · iexact Hi
    iexact Hh
  isplitl [HW']
  · iexists W'; isplitr
    · ipureintro; exact fun _ _ => Or.inl trivial
    · iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem carried_step (c : Dev nD) (t : Fin cfg0.N) (h : t.val ≠ 0) :
    carriedAt m c t.val t.isLt = add (insAt m c t) (carriedAt m c (t.val - 1) (Nat.lt_of_le_of_lt (Nat.sub_le _ _) t.isLt)) := by
  obtain ⟨n, hn⟩ := t
  cases n with
  | zero => exact absurd rfl h
  | succ n => rfl

/-- What holds before a point after the first. -/
theorem between_pos (c : Dev nD) (t : Fin cfg0.N) (h : t.val ≠ 0) :
    (dats m 0 c).Φ t.castSucc = iprop(Sums c (carriedAt m c (t.val - 1) (Nat.lt_of_le_of_lt (Nat.sub_le _ _) t.isLt)) ∗ (∃ r, prngReg c r) ∗ Idle c ∗ Held c (grads0 m c)) := by
  have hN : t.val < 16 := lt_of_lt_of_eq t.isLt (show cfg0.N = 16 from N_0)
  rw [between_castSucc]
  obtain ⟨n, hn⟩ := t
  cases n with
  | zero => exact absurd rfl h
  | succ n =>
    show iprop(Sums c (carriedAt m c n _) ∗ _ ∗ _ ∗ Held c (gradsAt m c n _)) = _
    rw [show gradsAt m c n (Nat.lt_of_succ_lt hn) = grads0 m c from if_neg (by dsimp only at hN; omega)]
    rfl

/-- Before a later point the invariant and the pack's buffer give what is carried. -/
theorem later_in (c : Dev nD) (t : Fin cfg0.N) (h : t.val ≠ 0) :
    iprop((dats m 0 c).Φ t.castSucc ∗ (∃ d, owns (c : Thread nD τ) (stageAt t).m25 fullShare ((dats m 0 c).before 19 t d)))
      ⊢ iprop((Carried c (stageAt t) (carriedAt m c (t.val - 1) (Nat.lt_of_le_of_lt (Nat.sub_le _ _) t.isLt)) ∗ Idle c ∗ Held c (grads0 m c)) ∗ (∃ r, prngReg c r)) := by
  rw [between_pos m c t h]
  simp only [pack_held m c t h]
  unfold Sums Carried
  iintro ⟨⟨⟨S0, S1, S2, S3, S4⟩, Hg, Hi, Hh⟩, ⟨%d, H⟩⟩
  isplitl [S0 S1 S2 S3 S4 Hi Hh H]
  · isplitl [S0 S1 S2 S3 S4 H]
    · isplitl [H]; · iexact H
      isplitl [S0]; · iexact S0
      isplitl [S1]; · iexact S1
      isplitl [S2]; · iexact S2
      isplitl [S3]; · iexact S3
      iexact S4
    isplitl [Hi]; · iexact Hi
    iexact Hh
  iexact Hg

theorem first_in (c : Dev nD) (t : Fin cfg0.N) (h : t.val = 0) :
    iprop((dats m 0 c).Φ t.castSucc ∗ (∃ d, owns (c : Thread nD τ) (stageAt t).m25 fullShare ((dats m 0 c).before 19 t d)))
      ⊢ iprop((Unset c (stageAt t) ∗ Idle c ∗ Held c (grads0 m c)) ∗ (∃ r, prngReg c r)) := by
  rw [between_castSucc, show Between m c t.val (Nat.le_of_lt t.isLt) = Pipeline.ΦDRG ownCells spec0 readRefs wroteRefs (V m) (V m) c from by
    obtain ⟨n, hn⟩ := t; cases h; rfl, launch_eq]
  unfold Loose Unset
  iintro ⟨⟨⟨S0, S1, S2, S3, S4⟩, Hg, Hi, -, Hh⟩, ⟨%d, H⟩⟩
  isplitl [S0 S1 S2 S3 S4 Hi Hh H]
  · isplitl [S0 S1 S2 S3 S4 H]
    · isplitl [H]; · iexists _; iexact H
      isplitl [S0]; · iexact S0
      isplitl [S1]; · iexact S1
      isplitl [S2]; · iexact S2
      isplitl [S3]; · iexact S3
      iexact S4
    isplitl [Hi]; · iexact Hi
    iexact Hh
  iexact Hg

/-- The body keeps its contract at every point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · have h1 : ¬isLast (grid0.coords t) := fun h => by have := (last_iff t).mp h; omega
    refine point_sound m c t _ (grads0 m c) (first_in m c t h0) ?_
    have h := first_runs c (grid0.coords t) (stageAt t) ((first_iff t).mpr h0) h1 (insAt m c t) (grads0 m c)
    rw [show carriedAt m c t.val t.isLt = add (insAt m c t) zeros from by obtain ⟨n, hn⟩ := t; cases h0; rfl,
      show gradsAt m c t.val t.isLt = grads0 m c from if_neg (by omega)]
    exact h
  · have h0' : ¬isFirst (grid0.coords t) := fun h => h0 ((first_iff t).mp h)
    refine point_sound m c t _ (grads0 m c) (later_in m c t h0) ?_
    by_cases h1 : t.val = 15
    · have h := last_runs c (grid0.coords t) (stageAt t) h0' ((last_iff t).mpr h1) (insAt m c t) (carriedAt m c (t.val - 1) (Nat.lt_of_le_of_lt (Nat.sub_le _ _) t.isLt)) (grads0 m c)
      rw [← carried_step m c t h0] at h
      rw [show gradsAt m c t.val t.isLt = sections c (carriedAt m c t.val t.isLt) from if_pos h1]
      exact h
    · have h := between_runs c (grid0.coords t) (stageAt t) h0' (fun h => h1 ((last_iff t).mp h)) (insAt m c t) (carriedAt m c (t.val - 1) (Nat.lt_of_le_of_lt (Nat.sub_le _ _) t.isLt)) (grads0 m c)
      rw [← carried_step m c t h0] at h
      rw [show gradsAt m c t.val t.isLt = grads0 m c from if_neg h1]
      exact h

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The whole run -/

/-- What the launch takes back in the arrays the copies write. -/
def ends (c : Dev nD) (b : Ref sig .tc) : Buf (Elt F) ((c : Thread nD τ).loc b) :=
  Function.update (Function.update (Function.update (Function.update (Function.update (V m c) main_v15_4 (gradsEnd m c).pl) main_v15_5 (gradsEnd m c).pp)
    main_v15_6 (gradsEnd m c).out) main_v15_7 (gradsEnd m c).pg) main_v15_8 (gradsEnd m c).pe b
theorem ends_pl (c : Dev nD) : ends m c main_v15_4 = (gradsEnd m c).pl := by
  unfold ends
  rw [Function.update_of_ne (by decide), Function.update_of_ne (by decide), Function.update_of_ne (by decide), Function.update_of_ne (by decide), Function.update_self]
theorem ends_pp (c : Dev nD) : ends m c main_v15_5 = (gradsEnd m c).pp := by
  unfold ends
  rw [Function.update_of_ne (by decide), Function.update_of_ne (by decide), Function.update_of_ne (by decide), Function.update_self]
theorem ends_out (c : Dev nD) : ends m c main_v15_6 = (gradsEnd m c).out := by
  unfold ends
  rw [Function.update_of_ne (by decide), Function.update_of_ne (by decide), Function.update_self]
theorem ends_pg (c : Dev nD) : ends m c main_v15_7 = (gradsEnd m c).pg := by
  unfold ends
  rw [Function.update_of_ne (by decide), Function.update_self]
theorem ends_pe (c : Dev nD) : ends m c main_v15_8 = (gradsEnd m c).pe := by
  unfold ends
  rw [Function.update_self]

theorem hin (c : Dev nD) : Pipeline.ΦDRG ownCells spec0 readRefs wroteRefs (V m) (V m) c ⊢ (dats m 0 c).Φ 0 := by
  rw [show (dats m 0 c).Φ 0 = Pipeline.ΦDRG ownCells spec0 readRefs wroteRefs (V m) (V m) c from rfl]

theorem hout (c : Dev nD) : (dats m 0 c).Φ (Fin.last cfg0.N) ⊢ Pipeline.ΦDRG ownCells spec0 readRefs wroteRefs (V m) (ends m) c := by
  have e : (dats m 0 c).Φ (Fin.last cfg0.N) = iprop(Sums c (carriedAt m c 15 fifteen) ∗ (∃ r, prngReg c r) ∗ Idle c ∗ Held c (gradsEnd m c)) := by
    show Between m c (Fin.last cfg0.N).val _ = _
    have hl : (Fin.last cfg0.N).val = 15 + 1 := by rw [Fin.val_last]; exact N_0
    have key : ∀ (n : ℕ) (h : n ≤ cfg0.N), n = 15 + 1 → Between m c n h = iprop(Sums c (carriedAt m c 15 fifteen) ∗ (∃ r, prngReg c r) ∗ Idle c ∗ Held c (gradsEnd m c)) := by
      intro n h hn
      subst hn
      show iprop(Sums c (carriedAt m c 15 _) ∗ _ ∗ _ ∗ Held c (gradsAt m c 15 _)) = _
      rw [show gradsAt m c 15 fifteen = gradsEnd m c from if_pos rfl]
    exact key _ _ hl
  rw [e, launch_eq, ends_pl, ends_pp, ends_out, ends_pg, ends_pe]
  unfold Sums Loose
  iintro ⟨⟨S0, S1, S2, S3, S4⟩, Hg, Hi, Hh⟩
  isplitl [S0 S1 S2 S3 S4]
  · isplitl [S0]; · iexists _; iexact S0
    isplitl [S1]; · iexists _; iexact S1
    isplitl [S2]; · iexists _; iexact S2
    isplitl [S3]; · iexists _; iexact S3
    iexists _; iexact S4
  isplitl [Hg]; · iexact Hg
  isplitl [Hi]; · iexact Hi
  isplitr; · iempintro
  iexact Hh

set_option maxHeartbeats 800000 in
theorem main_runs (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with the windows' arrays at what the points wrote, the copied arrays at their sections, and every counter at zero. -/
theorem ends_at : θ_run defs (onTc (τ := τ) (main (F := F))) (s₀ m ρ)
    (fun r => (Pipeline.FramePostRG cfgs (dats m) 0 wroteRefs (V m) (ends m)) r ∧ r.2.sem = fun _ => 0) :=
  Pipeline.θ_run_frame_dmaRG_shared (Q' := _) cfgs (dats m) (0 : Fin 1) launch₀0 ownCells defs₀ Variants.none ownCells_facts readRefs wroteRefs readRefs_sub wroteRefs_sub m ρ main
    (hbody := fun c => (body_obligation m c).loose) (hq := fun _ _ _ => rfl)
    (howed := fun _ _ => rfl) (V := V m) (hmain := main_runs m Variants.none) (hA := A_eq m) (G := ends m)
    (hin := hin m) (hout := hout m)

set_option maxHeartbeats 1200000 in
/-- No point and no copy writes an argument. -/
theorem kept (r : PUnit.{1} × MemSt nD τ sig (Elt F)) (h : (Pipeline.FramePostRG cfgs (dats m) 0 wroteRefs (V m) (ends m)) r) (c : Dev nD) :
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) :=
  ⟨(h.1 c).1 0 |>.trans (((dats m 0 c).arrAt_in 0 rfl _).trans ((A_eq m c 0).trans (V_main_arg0 m c))),
    (h.1 c).1 1 |>.trans (((dats m 0 c).arrAt_in 1 rfl _).trans ((A_eq m c 1).trans (V_main_arg1 m c))),
    (h.1 c).1 5 |>.trans (((dats m 0 c).arrAt_in 5 rfl _).trans ((A_eq m c 5).trans (V_main_arg2 m c))),
    ((h.1 c).2 main_arg3 (by decide)).trans (V_main_arg3 m c),
    (h.1 c).1 4 |>.trans (((dats m 0 c).arrAt_in 4 rfl _).trans ((A_eq m c 4).trans (V_main_arg4 m c))),
    (h.1 c).1 6 |>.trans (((dats m 0 c).arrAt_in 6 rfl _).trans ((A_eq m c 6).trans (V_main_arg5 m c))),
    (h.1 c).1 7 |>.trans (((dats m 0 c).arrAt_in 7 rfl _).trans ((A_eq m c 7).trans (V_main_arg6 m c))),
    (h.1 c).1 8 |>.trans (((dats m 0 c).arrAt_in 8 rfl _).trans ((A_eq m c 8).trans (V_main_arg7 m c))),
    (h.1 c).1 9 |>.trans (((dats m 0 c).arrAt_in 9 rfl _).trans ((A_eq m c 9).trans (V_main_arg8 m c))),
    (h.1 c).1 10 |>.trans (((dats m 0 c).arrAt_in 10 rfl _).trans ((A_eq m c 10).trans (V_main_arg9 m c))),
    (h.1 c).1 11 |>.trans (((dats m 0 c).arrAt_in 11 rfl _).trans ((A_eq m c 11).trans (V_main_arg10 m c))),
    (h.1 c).1 12 |>.trans (((dats m 0 c).arrAt_in 12 rfl _).trans ((A_eq m c 12).trans (V_main_arg11 m c))),
    (h.1 c).1 13 |>.trans (((dats m 0 c).arrAt_in 13 rfl _).trans ((A_eq m c 13).trans (V_main_arg12 m c))),
    (h.1 c).1 14 |>.trans (((dats m 0 c).arrAt_in 14 rfl _).trans ((A_eq m c 14).trans (V_main_arg13 m c)))⟩

/-- The frame: the arguments end unchanged and every counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13)) ∧ r.2.sem = fun _ => 0) :=
  (θ_run defs _ _).mono (fun r h => ⟨kept m r h.1, h.2⟩) (ends_at m ρ)

end Cert.Head

end
-- ==== Proof.HeadRow.lean ====
/- The gradient of the output layers, row by row, as extended reals: what a row of the inputs and the weights determine,
   and the small identities that join the kernel's way of writing it to the host's. -/
module

public import proofs.«01_k».proof.Proof.RmsGrad

@[expose] public section
noncomputable section

namespace Cert.HeadRow
open Idealize.ShloMosaic Cert.Rms
open scoped BigOperators

/-- The constants the programs write. -/
abbrev half : EReal := Ideal.ofBits .f32 0x3F000000#32
abbrev one : EReal := Ideal.ofBits .f32 0x3F800000#32
abbrev two : EReal := Ideal.ofBits .f32 0x40000000#32
abbrev perCol : EReal := Ideal.ofBits .f32 0x3A800000#32
abbrev perLoss : EReal := Ideal.ofBits .f32 0x3A000000#32

theorem half_eq : half = ((1 / 2 : ℝ) : EReal) := by
  simp [half, Ideal.ofBits, Ideal.ieee, -EReal.coe_mul]; norm_num
theorem one_eq : one = ((1 : ℝ) : EReal) := by
  simp [one, Ideal.ofBits, Ideal.ieee, -EReal.coe_mul]; norm_num
theorem two_eq : two = ((2 : ℝ) : EReal) := by
  simp [two, Ideal.ofBits, Ideal.ieee, -EReal.coe_mul]; norm_num
theorem perCol_eq : perCol = ((1 / 1024 : ℝ) : EReal) := by
  simp [perCol, Ideal.ofBits, Ideal.ieee, -EReal.coe_mul]; norm_num
theorem perLoss_eq : perLoss = ((1 / 2048 : ℝ) : EReal) := by
  simp [perLoss, Ideal.ofBits, Ideal.ieee, -EReal.coe_mul]; norm_num

/-- The gate's nonlinearity. -/
def sig (z : EReal) : EReal := Ideal.div one (one + Ideal.exp (-z))

/-- Written with a hyperbolic tangent it is the same at every argument, infinite ones included. -/
theorem tanh_eq_sig (z : EReal) : half * Ideal.tanh (half * z) + half = sig z := by
  unfold sig
  rw [half_eq, one_eq]
  induction z with
  | bot =>
    rw [EReal.coe_mul_bot_of_pos (by norm_num)]
    simp only [Ideal.tanh_bot, EReal.neg_bot]
    show ((1 / 2 : ℝ) : EReal) * (-1) + _ = Ideal.div _ (((1 : ℝ) : EReal) + ⊤)
    rw [EReal.coe_add_top]
    unfold Ideal.div
    rw [if_neg (by simp), EReal.inv_top, mul_zero, mul_neg, mul_one, ← EReal.coe_neg, ← EReal.coe_add]
    norm_num
  | top =>
    rw [EReal.coe_mul_top_of_pos (by norm_num)]
    simp only [Ideal.tanh_top, EReal.neg_top]
    show ((1 / 2 : ℝ) : EReal) * 1 + _ = Ideal.div _ (((1 : ℝ) : EReal) + 0)
    rw [add_zero, mul_one, ← EReal.coe_add]
    unfold Ideal.div
    rw [if_neg (by norm_num), ← EReal.coe_inv, ← EReal.coe_mul]
    norm_num
  | coe r =>
    rw [← EReal.coe_mul, Ideal.tanh_coe, ← EReal.coe_neg, Ideal.exp_coe, ← EReal.coe_mul, ← EReal.coe_add, ← EReal.coe_add]
    have hp : 0 < 1 + Real.exp (-r) := by positivity
    unfold Ideal.div
    rw [if_neg (by exact_mod_cast hp.ne'), ← EReal.coe_inv, ← EReal.coe_mul]
    congr 1
    rw [Real.tanh_eq_sinh_div_cosh, Real.sinh_eq, Real.cosh_eq]
    have e1 : Real.exp (-r) = Real.exp (-(1 / 2 * r)) * Real.exp (-(1 / 2 * r)) := by rw [← Real.exp_add]; ring_nf
    have e2 : Real.exp (1 / 2 * r) * Real.exp (-(1 / 2 * r)) = 1 := by rw [← Real.exp_add]; simp
    rw [e1]
    have hb : 0 < Real.exp (-(1 / 2 * r)) := Real.exp_pos _
    have ha : 0 < Real.exp (1 / 2 * r) := Real.exp_pos _
    generalize Real.exp (-(1 / 2 * r)) = b at *
    generalize Real.exp (1 / 2 * r) = a at *
    have hab : 0 < a + b := by positivity
    field_simp
    nlinarith [e2]

/-- The rate of the squared error's derivative: half of twice the error over the row length. -/
theorem rate_eq (e : EReal) : Ideal.div (half * one) len * (two * e) = e * perCol := by
  rw [div_len, half_eq, one_eq, two_eq, perCol_eq, mul_comm (((2 : ℝ) : EReal)), mul_comm, mul_assoc, ← EReal.coe_mul, ← EReal.coe_mul, ← EReal.coe_mul]
  norm_num

/-- One row of the inputs: both branches, the normalized stream, the stream, the embedding row, the target. -/
structure Row where
  ya : Fin 1024 → EReal
  yb : Fin 512 → EReal
  h : Fin 1024 → EReal
  x : Fin 1024 → EReal
  p : Fin 256 → EReal
  tgt : Fin 1024 → EReal

/-- The weights. -/
structure Wts where
  wa : Fin 1024 → Fin 1024 → EReal
  wb : Fin 1024 → Fin 1024 → EReal
  wpl : Fin 1024 → Fin 1024 → EReal
  wpp : Fin 512 → Fin 1024 → EReal
  wout : Fin 1024 → Fin 1024 → EReal
  wpg : Fin 1024 → Fin 1024 → EReal
  wpe : Fin 256 → Fin 1024 → EReal
  g1 : Fin 1024 → EReal
  gf : Fin 1024 → EReal

variable (r : Row) (w : Wts)

/-- Forward: the gates, the branches, the merged stream, the first norm, -/
def gA (j : Fin 1024) : EReal := sig (∑ k, r.h k * w.wa k j)
def gB (j : Fin 1024) : EReal := sig (∑ k, r.h k * w.wb k j)
def brA (j : Fin 1024) : EReal := ∑ k, r.ya k * w.wpl k j
def brB (j : Fin 1024) : EReal := ∑ k, r.yb k * w.wpp k j
def mer (j : Fin 1024) : EReal := gA r w j * brA r w j + gB r w j * brB r w j
def x1 (j : Fin 1024) : EReal := r.x j + ∑ k, mer r w k * w.wout k j
def n1 (j : Fin 1024) : EReal := x1 r w j * scale (x1 r w)
def h1 (j : Fin 1024) : EReal := n1 r w j * w.g1 j
/-- the embedding's gate and projection, the last stream, its norm, the error. -/
def gt (j : Fin 1024) : EReal := sig (∑ k, h1 r w k * w.wpg k j)
def emb (j : Fin 1024) : EReal := ∑ k, r.p k * w.wpe k j
def x2 (j : Fin 1024) : EReal := x1 r w j + gt r w j * emb r w j
def n2 (j : Fin 1024) : EReal := x2 r w j * scale (x2 r w)
def err (j : Fin 1024) : EReal := n2 r w j * w.gf j - r.tgt j
/-- Backward: from the error to the last stream, -/
def dy (j : Fin 1024) : EReal := err r w j * perCol
def dn2 (j : Fin 1024) : EReal := dy r w j * w.gf j
def dx2 (j : Fin 1024) : EReal := byScale (x2 r w) (dn2 r w) j 0
/-- to the embedding's gate, the first norm and the residual stream, -/
def dpg (j : Fin 1024) : EReal := dx2 r w j * emb r w j * (gt r w j * (one - gt r w j))
def dh1 (k : Fin 1024) : EReal := ∑ l, dpg r w l * w.wpg k l
def dn1 (k : Fin 1024) : EReal := dh1 r w k * w.g1 k
def dx1 (j : Fin 1024) : EReal := byScale (x1 r w) (dn1 r w) j (dx2 r w j)
/-- to the merged stream, its gates and its branches. -/
def dmg (k : Fin 1024) : EReal := ∑ l, dx1 r w l * w.wout k l
def dga (j : Fin 1024) : EReal := dmg r w j * brA r w j * (gA r w j * (one - gA r w j))
def dgb (j : Fin 1024) : EReal := dmg r w j * brB r w j * (gB r w j * (one - gB r w j))
def da (j : Fin 1024) : EReal := dmg r w j * gA r w j
def db (j : Fin 1024) : EReal := dmg r w j * gB r w j
def dya (k : Fin 1024) : EReal := ∑ l, da r w l * w.wpl k l
def dyb (k : Fin 512) : EReal := ∑ l, db r w l * w.wpp k l
/-- The row's squared error. -/
def sq : EReal := ∑ j, err r w j * err r w j

/-- What one row adds to each weight's gradient. -/
def toPl (k j : Fin 1024) : EReal := r.ya k * da r w j
def toPp (k : Fin 512) (j : Fin 1024) : EReal := r.yb k * db r w j
def toOut (k j : Fin 1024) : EReal := mer r w k * dx1 r w j
def toPg (k j : Fin 1024) : EReal := h1 r w k * dpg r w j
def toPe (k : Fin 256) (j : Fin 1024) : EReal := r.p k * (dx2 r w j * gt r w j)
def toG1 (j : Fin 1024) : EReal := dh1 r w j * n1 r w j
def toGf (j : Fin 1024) : EReal := dy r w j * n2 r w j

/-- The same two norm gradients as the derivative of the norm line by line. -/
theorem dx2_parts (j : Fin 1024) :
    dx2 r w j = dn2 r w j * scale (x2 r w) + x2 r w j * back (x2 r w) (dn2 r w) + back (x2 r w) (dn2 r w) * x2 r w j := by
  unfold dx2; rw [byScale_eq_byParts]; unfold byParts; rw [add_zero]

theorem dx1_parts (j : Fin 1024) :
    dx1 r w j = dx2 r w j + dn1 r w j * scale (x1 r w) + x1 r w j * back (x1 r w) (dn1 r w) + back (x1 r w) (dn1 r w) * x1 r w j := by
  unfold dx1; rw [byScale_eq_byParts]; unfold byParts; ac_rfl

/-- The loss: half the rows' mean squared errors, and the kernel's one factor for both. -/
theorem loss_eq {n : ℕ} (s : Fin n → EReal) : half * ∑ i, Ideal.div (s i) len = ∑ i, s i * perLoss := by
  have e : ∑ i, s i * perLoss = (∑ i, s i) * perLoss := by rw [perLoss_eq]; exact sum_mul_coe _ _ (by norm_num)
  have e2 : ∑ i, Ideal.div (s i) len = (∑ i, s i) * ((1 / 1024 : ℝ) : EReal) := by
    rw [← sum_mul_coe _ _ (by norm_num)]; exact Finset.sum_congr rfl fun i _ => div_len _
  rw [e, e2, half_eq, perLoss_eq, mul_comm, mul_assoc, ← EReal.coe_mul]
  norm_num

end Cert.HeadRow

end
-- ==== Proof.HeadPoint.lean ====
/- One point of the output layers' gradient kernel in exact arithmetic: every block it makes and every sum it adds, entry by entry,
   by the rows of its input blocks. -/
module

public import proofs.«01_k».proof.Proof.HeadHalves
public import proofs.«01_k».proof.Proof.HeadRow

@[expose] public section
set_option maxRecDepth 16384
noncomputable section

namespace Cert.Head
open Cert.Kernel2Ideal Cert.Kernel2Ideal.Gen Cert.Rms
open Idealize.ShloMosaic Idealize.ShloMosaic.TcCoe
open scoped BigOperators

/-- Row `i` of the point's input blocks, -/
def rowOf (x : Ins Ideal) (i : Fin 256) : HeadRow.Row where
  ya k := x.x1 (ix2 i k)
  yb k := x.x2 (ix2 i k)
  h k := x.x3 (ix2 i k)
  x k := x.x6 (ix2 i k)
  p k := x.x7 (ix2 i k)
  tgt k := x.x8 (ix2 i k)

/-- and its weights. -/
def wtsOf (x : Ins Ideal) : HeadRow.Wts where
  wa k j := x.x4 (ix2 k j)
  wb k j := x.x5 (ix2 k j)
  wpl k j := x.x9 (ix2 k j)
  wpp k j := x.x10 (ix2 k j)
  wout k j := x.x11 (ix2 k j)
  wpg k j := x.x12 (ix2 k j)
  wpe k j := x.x13 (ix2 k j)
  g1 j := x.x14 (ix2 0 j)
  gf j := x.x15 (ix2 0 j)

/-! The payloads whose operands are earlier ones, over any operands. -/

theorem gate_pay (a : Vec Ideal S256x1024 .bf16) (b : Vec Ideal S1024x1024 .bf16) (i : Fin 256) (j : Fin 1024) :
    k0_pay11 a b (ix2 i j) = HeadRow.sig (∑ k, a (ix2 i k) * b (ix2 k j)) := by
  rw [← HeadRow.tanh_eq_sig]
  pointwise [k0_pay11, k0_pay10]

theorem gate_pay' (a : Vec Ideal S256x1024 .bf16) (b : Vec Ideal S1024x1024 .bf16) (i : Fin 256) (j : Fin 1024) :
    k0_pay12 a b (ix2 i j) = HeadRow.sig (∑ k, a (ix2 i k) * b (ix2 k j)) := by
  rw [← HeadRow.tanh_eq_sig]
  pointwise [k0_pay12, k0_pay10]

theorem emb_gate_pay (m s : Vec Ideal S256x1024 .f32) (o : Vec Ideal S1024x1024 .bf16) (g : Vec Ideal S1x1024 .f32) (b : Vec Ideal S1024x1024 .bf16)
    (i : Fin 256) (j : Fin 1024) :
    k0_pay19 m s o g b (ix2 i j) = HeadRow.sig (∑ k, k0_pay18 m s o g (ix2 i k) * b (ix2 k j)) := by
  rw [← HeadRow.tanh_eq_sig]
  generalize hq : k0_pay18 m s o g = q
  unfold k0_pay19
  rw [hq]
  pointwise

theorem scale_pay (m s : Vec Ideal S256x1024 .f32) (o : Vec Ideal S1024x1024 .bf16) (i : Fin 256) :
    k0_pay16 m s o (ix2 i 0) = scale (fun k => k0_pay15 m s o (ix2 i k)) := by
  unfold scale ms
  generalize hq : k0_pay15 m s o = q
  unfold k0_pay16
  rw [hq]
  pointwise

theorem scale2_pay (q : Vec Ideal S256x1024 .f32) (i : Fin 256) (s : Vec Ideal S256x1 .f32) (hs : s (ix2 i 0) = ∑ k, q (ix2 i k) * q (ix2 i k)) :
    k0_pay24 (F := Ideal) s (FloatOps.ofBits .f32 1149239296#32) (ix2 i 0) = scale (fun k => q (ix2 i k)) := by
  unfold scale ms
  rw [← hs]
  pointwise [k0_pay24]

theorem back_pay2 (s : Vec Ideal S256x1 .f32) (n d : Vec Ideal S256x1024 .f32) (g : Vec Ideal S1x1024 .f32) (i : Fin 256) (j : Fin 1024)
    (q : Fin 1024 → EReal) (hs : s (ix2 i 0) = scale q) (hn : ∀ k, n (ix2 i k) = q k * scale q) :
    k0_pay42 s n d g (ix2 i j) = byScale q (fun k => d (ix2 i k) * g (ix2 0 k)) j 0 := by
  unfold byScale
  rw [zero_add, ← hs]
  simp only [← hs] at hn
  simp only [← hn]
  pointwise [k0_pay42]

theorem back_pay1 (s : Vec Ideal S256x1 .f32) (n d t : Vec Ideal S256x1024 .f32) (g : Vec Ideal S1x1024 .f32) (i : Fin 256) (j : Fin 1024)
    (q : Fin 1024 → EReal) (hs : s (ix2 i 0) = scale q) (hn : ∀ k, n (ix2 i k) = q k * scale q) :
    k0_pay56 s n d t g (ix2 i j) = byScale q (fun k => t (ix2 i k) * g (ix2 0 k)) j (d (ix2 i j)) := by
  unfold byScale
  rw [← hs]
  simp only [← hs] at hn
  simp only [← hn]
  pointwise [k0_pay56]

theorem dpg_pay (t e : Vec Ideal S256x1024 .f32) (s : Vec Ideal S256x1 .f32) (n d : Vec Ideal S256x1024 .f32) (g : Vec Ideal S1x1024 .f32) (i : Fin 256) (j : Fin 1024) :
    k0_pay43 t e s n d g (ix2 i j) = k0_pay42 s n d g (ix2 i j) * e (ix2 i j) * (t (ix2 i j) * (HeadRow.one - t (ix2 i j))) := by
  generalize hq : k0_pay42 s n d g = q
  unfold k0_pay43
  rw [hq]
  pointwise

theorem dmg_pay (d : Vec Ideal S256x1024 .bf16) (o : Vec Ideal S1024x1024 .bf16) (i : Fin 256) (j : Fin 1024) :
    k0_pay59 d o (ix2 i j) = ∑ l, d (ix2 i l) * o (ix2 j l) := by
  pointwise [k0_pay59]

theorem gateback_pay (a g : Vec Ideal S256x1024 .f32) (d : Vec Ideal S256x1024 .bf16) (o : Vec Ideal S1024x1024 .bf16) (i : Fin 256) (j : Fin 1024) :
    k0_pay62 a g d o (ix2 i j) = k0_pay59 d o (ix2 i j) * a (ix2 i j) * (g (ix2 i j) * (HeadRow.one - g (ix2 i j))) := by
  generalize hq : k0_pay59 d o = q
  unfold k0_pay62
  rw [hq]
  pointwise

theorem gateback_pay' (a g : Vec Ideal S256x1024 .f32) (d : Vec Ideal S256x1024 .bf16) (o : Vec Ideal S1024x1024 .bf16) (i : Fin 256) (j : Fin 1024) :
    k0_pay63 a g d o (ix2 i j) = k0_pay59 d o (ix2 i j) * a (ix2 i j) * (g (ix2 i j) * (HeadRow.one - g (ix2 i j))) := by
  generalize hq : k0_pay59 d o = q
  unfold k0_pay63
  rw [hq]
  pointwise

variable (x : Ins Ideal) (i : Fin 256) (j : Fin 1024)

theorem gateA_at : gateA x (ix2 i j) = HeadRow.gA (rowOf x i) (wtsOf x) j := gate_pay _ _ _ _
theorem gateB_at : gateB x (ix2 i j) = HeadRow.gB (rowOf x i) (wtsOf x) j := gate_pay' _ _ _ _
theorem branchA_at : branchA x (ix2 i j) = HeadRow.brA (rowOf x i) (wtsOf x) j := by
  unfold HeadRow.brA branchA rowOf wtsOf
  pointwise [k0_pay8]
theorem branchB_at : branchB x (ix2 i j) = HeadRow.brB (rowOf x i) (wtsOf x) j := by
  unfold HeadRow.brB branchB rowOf wtsOf
  pointwise [k0_pay9]
theorem merged_at : merged x (ix2 i j) = HeadRow.mer (rowOf x i) (wtsOf x) j := by
  unfold HeadRow.mer
  rw [← gateA_at, ← gateB_at, ← branchA_at, ← branchB_at]
  rfl
theorem stream_at : k0_pay15 (merged x) x.x6 x.x11 (ix2 i j) = HeadRow.x1 (rowOf x i) (wtsOf x) j := by
  unfold HeadRow.x1
  simp only [← merged_at]
  unfold rowOf wtsOf
  pointwise [k0_pay15, k0_pay14]
theorem scale1_at : scale1 x (ix2 i 0) = scale (HeadRow.x1 (rowOf x i) (wtsOf x)) :=
  (scale_pay _ _ _ i).trans (congrArg scale (funext fun k => stream_at x i k))
theorem norm1_at : norm1 x (ix2 i j) = HeadRow.n1 (rowOf x i) (wtsOf x) j := by
  unfold HeadRow.n1
  rw [← scale1_at, ← stream_at]
  unfold norm1 scale1
  generalize hs : k0_pay16 (merged x) x.x6 x.x11 = t
  generalize hq : k0_pay15 (merged x) x.x6 x.x11 = q
  unfold k0_pay17
  rw [hs, hq]
  pointwise
theorem normed1_at : normed1 x (ix2 i j) = HeadRow.h1 (rowOf x i) (wtsOf x) j := by
  unfold HeadRow.h1
  rw [← norm1_at]
  unfold norm1 normed1 wtsOf
  generalize hq : k0_pay17 (merged x) x.x6 x.x11 = q
  unfold k0_pay18
  rw [hq]
  pointwise
theorem gate_at : gate x (ix2 i j) = HeadRow.gt (rowOf x i) (wtsOf x) j := by
  unfold HeadRow.gt
  simp only [← normed1_at]
  exact emb_gate_pay _ _ _ _ _ _ _
theorem emb_at : emb x (ix2 i j) = HeadRow.emb (rowOf x i) (wtsOf x) j := by
  unfold HeadRow.emb emb rowOf wtsOf
  pointwise [k0_pay21, k0_pay20]
theorem last_at : last x (ix2 i j) = HeadRow.x2 (rowOf x i) (wtsOf x) j := by
  unfold HeadRow.x2
  rw [← gate_at, ← emb_at, ← stream_at]
  rfl
theorem sumsq2_at : (sumsq2 x (ix2 i 0) : EReal) = ∑ k, HeadRow.x2 (rowOf x i) (wtsOf x) k * HeadRow.x2 (rowOf x i) (wtsOf x) k := by
  simp only [← last_at]
  unfold last sumsq2
  generalize hq : k0_pay22 (merged x) x.x6 x.x11 x.x14 x.x12 x.x7 x.x13 = q
  unfold k0_pay23
  rw [hq]
  pointwise
theorem scale2_at : scale2 x (ix2 i 0) = scale (HeadRow.x2 (rowOf x i) (wtsOf x)) := by
  refine (scale2_pay (last x) i (sumsq2 x) ?_).trans (congrArg scale (funext fun k => last_at x i k))
  simp only [last_at]
  exact sumsq2_at x i
theorem norm2_at : norm2 x (ix2 i j) = HeadRow.n2 (rowOf x i) (wtsOf x) j := by
  unfold HeadRow.n2
  rw [← scale2_at, ← last_at]
  unfold norm2 scale2
  generalize last x = q
  generalize sumsq2 x = s
  generalize hs : k0_pay24 s (FloatOps.ofBits .f32 1149239296#32) = t
  unfold k0_pay25
  rw [hs]
  pointwise
theorem err_at : (k0_pay26 (last x) (sumsq2 x) (FloatOps.ofBits .f32 1149239296#32) x.x15 x.x8 (ix2 i j) : EReal) = HeadRow.err (rowOf x i) (wtsOf x) j := by
  unfold HeadRow.err
  rw [← norm2_at]
  unfold norm2 rowOf wtsOf
  generalize hs : k0_pay25 (last x) (sumsq2 x) (FloatOps.ofBits .f32 1149239296#32) = t
  unfold k0_pay26
  rw [hs]
  pointwise
theorem dy_at : dy x (ix2 i j) = HeadRow.dy (rowOf x i) (wtsOf x) j := by
  unfold HeadRow.dy
  rw [← err_at]
  unfold dy
  generalize hs : k0_pay26 (last x) (sumsq2 x) (FloatOps.ofBits .f32 1149239296#32) x.x15 x.x8 = t
  unfold k0_pay28
  rw [hs]
  pointwise
theorem dx2_at : dx2 x (ix2 i j) = HeadRow.dx2 (rowOf x i) (wtsOf x) j := by
  unfold HeadRow.dx2
  refine (back_pay2 _ _ _ _ i j _ (scale2_at x i) fun k => norm2_at x i k).trans ?_
  congr 1
  funext k
  unfold HeadRow.dn2
  rw [dy_at]
  rfl
theorem dpg_at : k0_pay43 (gate x) (emb x) (scale2 x) (norm2 x) (dy x) x.x15 (ix2 i j) = HeadRow.dpg (rowOf x i) (wtsOf x) j := by
  unfold HeadRow.dpg
  rw [← dx2_at, ← emb_at, ← gate_at]
  exact dpg_pay _ _ _ _ _ _ _ _
theorem dh1_at : dh1 x (ix2 i j) = HeadRow.dh1 (rowOf x i) (wtsOf x) j := by
  unfold HeadRow.dh1
  simp only [← dpg_at]
  unfold dh1 wtsOf
  generalize hs : k0_pay43 (gate x) (emb x) (scale2 x) (norm2 x) (dy x) x.x15 = t
  unfold k0_pay46
  rw [hs]
  pointwise
theorem dx1_at : (made x).x (ix2 i j) = HeadRow.dx1 (rowOf x i) (wtsOf x) j := by
  unfold HeadRow.dx1
  refine (back_pay1 _ _ _ _ _ i j _ (scale1_at x i) fun k => norm1_at x i k).trans ?_
  rw [dx2_at]
  congr 1
  funext k
  unfold HeadRow.dn1
  rw [dh1_at]
  rfl
theorem dx1B_at : dx1B x (ix2 i j) = HeadRow.dx1 (rowOf x i) (wtsOf x) j := (dx1_at x i j)
theorem dmg_at : k0_pay59 (dx1B x) x.x11 (ix2 i j) = HeadRow.dmg (rowOf x i) (wtsOf x) j := by
  unfold HeadRow.dmg
  simp only [← dx1B_at]
  exact dmg_pay _ _ _ _
theorem da_at : k0_pay60 (gateA x) (dx1B x) x.x11 (ix2 i j) = HeadRow.da (rowOf x i) (wtsOf x) j := by
  unfold HeadRow.da
  rw [← gateA_at, ← dmg_at]
  rfl
theorem db_at : k0_pay61 (gateB x) (dx1B x) x.x11 (ix2 i j) = HeadRow.db (rowOf x i) (wtsOf x) j := by
  unfold HeadRow.db
  rw [← gateB_at, ← dmg_at]
  rfl
theorem dga_at : k0_pay62 (branchA x) (gateA x) (dx1B x) x.x11 (ix2 i j) = HeadRow.dga (rowOf x i) (wtsOf x) j := by
  unfold HeadRow.dga
  rw [← gateA_at, ← dmg_at, ← branchA_at]
  exact gateback_pay _ _ _ _ _ _
theorem dgb_at : k0_pay63 (branchB x) (gateB x) (dx1B x) x.x11 (ix2 i j) = HeadRow.dgb (rowOf x i) (wtsOf x) j := by
  unfold HeadRow.dgb
  rw [← gateB_at, ← dmg_at, ← branchB_at]
  exact gateback_pay' _ _ _ _ _ _

/-! The blocks a point makes. -/

theorem ya_at : (made x).ya (ix2 i j) = HeadRow.dya (rowOf x i) (wtsOf x) j := by
  unfold HeadRow.dya
  simp only [← da_at]
  unfold made wtsOf
  dsimp only
  generalize hs : k0_pay60 (gateA x) (dx1B x) x.x11 = t
  unfold k0_pay66
  rw [hs]
  pointwise
theorem yb_at (k : Fin 512) : (made x).yb (ix2 i k) = HeadRow.dyb (rowOf x i) (wtsOf x) k := by
  unfold HeadRow.dyb
  simp only [← db_at]
  unfold made wtsOf
  dsimp only
  generalize k0_pay61 (gateB x) (dx1B x) x.x11 = t
  pointwise [k0_pay1]

/-- The gates' cotangents side by side: which half a column lies in says whose it is. -/
theorem gates_at (l : Fin 2048) : (made x).gates (ix2 i l)
    = if h : l.val < 1024 then HeadRow.dga (rowOf x i) (wtsOf x) ⟨l.val, h⟩ else HeadRow.dgb (rowOf x i) (wtsOf x) ⟨l.val - 1024, by omega⟩ := by
  rw [gates_eq]
  refine (halves_at (k0_pay62 (branchA x) (gateA x) (dx1B x) x.x11) (k0_pay63 (branchB x) (gateB x) (dx1B x) x.x11) i l).trans ?_
  by_cases h : l.val < 1024
  · rw [dif_pos h, dif_pos h]; exact dga_at x i _
  · rw [dif_neg h, dif_neg h]; exact dgb_at x i _

/-! The sums a point adds to. -/

variable (a : Carry Ideal)

theorem pl_at (k l : Fin 1024) : (add x a).pl (ix2 k l) = a.pl (ix2 k l) + ∑ i, HeadRow.toPl (rowOf x i) (wtsOf x) k l := by
  unfold HeadRow.toPl
  simp only [← da_at]
  unfold add rowOf
  dsimp only
  generalize hs : k0_pay60 (gateA x) (dx1B x) x.x11 = t
  unfold k0_pay64
  rw [hs]
  pointwise
theorem pp_at (k : Fin 512) (l : Fin 1024) : (add x a).pp (ix2 k l) = a.pp (ix2 k l) + ∑ i, HeadRow.toPp (rowOf x i) (wtsOf x) k l := by
  unfold HeadRow.toPp
  simp only [← db_at]
  unfold add rowOf
  dsimp only
  generalize hs : k0_pay61 (gateB x) (dx1B x) x.x11 = t
  unfold k0_pay65
  rw [hs]
  pointwise
theorem out_at (k l : Fin 1024) : (add x a).out (ix2 k l) = a.out (ix2 k l) + ∑ i, HeadRow.toOut (rowOf x i) (wtsOf x) k l := by
  unfold HeadRow.toOut
  simp only [← merged_at, ← dx1B_at]
  unfold add mergedB dx1B
  dsimp only
  generalize hs : k0_pay57 (scale1 x) (norm1 x) (dx2 x) (dh1 x) x.x14 = t
  generalize merged x = q
  unfold k0_pay58
  rw [hs]
  pointwise [k0_pay14]
theorem pg_at (k l : Fin 1024) : (add x a).pg (ix2 k l) = a.pg (ix2 k l) + ∑ i, HeadRow.toPg (rowOf x i) (wtsOf x) k l := by
  unfold HeadRow.toPg
  simp only [← normed1_at, ← dpg_at]
  unfold add
  dsimp only
  generalize hs : k0_pay43 (gate x) (emb x) (scale2 x) (norm2 x) (dy x) x.x15 = t
  generalize normed1 x = q
  unfold k0_pay45
  rw [hs]
  pointwise
theorem pe_at (k : Fin 256) (l : Fin 1024) : (add x a).pe (ix2 k l) = a.pe (ix2 k l) + ∑ i, HeadRow.toPe (rowOf x i) (wtsOf x) k l := by
  unfold HeadRow.toPe
  simp only [← dx2_at, ← gate_at]
  unfold add embP rowOf dx2
  dsimp only
  generalize hs : k0_pay42 (scale2 x) (norm2 x) (dy x) x.x15 = t
  generalize gate x = q
  unfold k0_pay44
  rw [hs]
  pointwise [k0_pay20]

/-- The first weight's sums over the block, the last's, and the block's squared error. -/
theorem colG1_at : colG1 x (ix2 0 j) = ∑ i, HeadRow.toG1 (rowOf x i) (wtsOf x) j := by
  unfold HeadRow.toG1
  simp only [← dh1_at, ← norm1_at]
  unfold colG1
  generalize dh1 x = t
  generalize norm1 x = q
  pointwise [k0_pay47]
theorem colGf_at : colGf x (ix2 0 j) = ∑ i, HeadRow.toGf (rowOf x i) (wtsOf x) j := by
  unfold HeadRow.toGf
  simp only [← dy_at, ← norm2_at]
  unfold colGf dy norm2
  generalize hs : k0_pay28 (last x) (sumsq2 x) (FloatOps.ofBits .f32 1149239296#32) x.x15 x.x8 = t
  generalize hq : k0_pay25 (last x) (sumsq2 x) (FloatOps.ofBits .f32 1149239296#32) = q
  unfold k0_pay29
  rw [hs, hq]
  pointwise

end Cert.Head

end
-- ==== Proof.HeadOut.lean ====
/- The output layers' ten results as arrays of extended reals, from every row of the inputs and the weights. -/
module

public import proofs.«01_k».proof.Proof.HeadRow

@[expose] public section
noncomputable section

namespace Cert.HeadRow
open Idealize.ShloMosaic Cert.Rms
open scoped BigOperators

/-- An array's contents in exact arithmetic, by its sides. -/
abbrev Arr2 (a b : ℕ) : Type := (⟨2, ![a, b]⟩ : Shape).Idx → EReal
abbrev Arr3 (a b c : ℕ) : Type := (⟨3, ![a, b, c]⟩ : Shape).Idx → EReal

/-- The arguments: both branches, the stream, its weight, the projections, the embedding rows, the targets, the output weights. -/
structure Args where
  ya : Arr2 4096 1024
  yb : Arr2 4096 512
  x : Arr2 4096 1024
  g0 : Arr2 1 1024
  win : Arr2 1024 5120
  p : Arr2 4096 256
  tgt : Arr2 4096 1024
  wpl : Arr2 1024 1024
  wpp : Arr2 512 1024
  wout : Arr2 1024 1024
  wpg : Arr2 1024 1024
  wpe : Arr2 256 1024
  g1 : Arr2 1 1024
  gf : Arr2 1 1024

variable (A : Args)

/-- Row `r` of the arguments: the stream's normalized row is reference.py's. -/
def Args.row (r : Fin 4096) : Row where
  ya k := A.ya (ix2 r k)
  yb k := A.yb (ix2 r k)
  h k := A.x (ix2 r k) * scale (fun l => A.x (ix2 r l)) * A.g0 (ix2 0 k)
  x k := A.x (ix2 r k)
  p k := A.p (ix2 r k)
  tgt k := A.tgt (ix2 r k)

/-- The weights: the two gates' are the projection's last two kilocolumns. -/
def Args.wts : Wts where
  wa k j := A.win (ix2 k ⟨3072 + j.val, by omega⟩)
  wb k j := A.win (ix2 k ⟨4096 + j.val, by omega⟩)
  wpl k j := A.wpl (ix2 k j)
  wpp k j := A.wpp (ix2 k j)
  wout k j := A.wout (ix2 k j)
  wpg k j := A.wpg (ix2 k j)
  wpe k j := A.wpe (ix2 k j)
  g1 j := A.g1 (ix2 0 j)
  gf j := A.gf (ix2 0 j)

/-- The cotangents of the branches, of the gates side by side, and of the stream. -/
def Args.outYa : Arr2 4096 1024 := fun i => dya (A.row (i 0)) A.wts (i 1)
def Args.outYb : Arr2 4096 512 := fun i => dyb (A.row (i 0)) A.wts (i 1)
def gatesRow (r : Row) (w : Wts) (l : Fin 2048) : EReal := if h : l.val < 1024 then dga r w ⟨l.val, h⟩ else dgb r w ⟨l.val - 1024, by omega⟩
def Args.outGates : Arr2 4096 2048 := fun i => gatesRow (A.row (i 0)) A.wts (i 1)
def Args.outX : Arr2 4096 1024 := fun i => dx1 (A.row (i 0)) A.wts (i 1)

/-- The weights' gradients, each row's share summed. -/
def Args.sumPl (k l : Fin 1024) : EReal := ∑ r, toPl (A.row r) A.wts k l
def Args.sumPp (k : Fin 512) (l : Fin 1024) : EReal := ∑ r, toPp (A.row r) A.wts k l
def Args.sumOut (k l : Fin 1024) : EReal := ∑ r, toOut (A.row r) A.wts k l
def Args.sumPg (k l : Fin 1024) : EReal := ∑ r, toPg (A.row r) A.wts k l
def Args.sumPe (k : Fin 256) (l : Fin 1024) : EReal := ∑ r, toPe (A.row r) A.wts k l
def Args.sumG1 (j : Fin 1024) : EReal := ∑ r, toG1 (A.row r) A.wts j
def Args.sumGf (j : Fin 1024) : EReal := ∑ r, toGf (A.row r) A.wts j
def Args.loss : EReal := ∑ r, sq (A.row r) A.wts * perLoss

/-- Eight sections of rows or of columns. -/
def byRows (f : Fin 1024 → Fin 1024 → EReal) : Arr3 8 128 1024 := fun i => f ⟨(i 0).val * 128 + (i 1).val, by
  have h0 : (i 0).val < 8 := (i 0).isLt
  have h1 : (i 1).val < 128 := (i 1).isLt
  omega⟩ (i 2)
def byCols {n : ℕ} (f : Fin n → Fin 1024 → EReal) : Arr3 8 n 128 := fun i => f (i 1) ⟨(i 0).val * 128 + (i 2).val, by
  have h0 : (i 0).val < 8 := (i 0).isLt
  have h2 : (i 2).val < 128 := (i 2).isLt
  omega⟩

/-- A pack laid out from the two weights' rows and the loss, 128 columns to a row. -/
def laid (g1 gf : Fin 1024 → EReal) (e : EReal) : Arr2 24 128 := fun y =>
  if h : (y 0).val < 8 then g1 ⟨(y 0).val * 128 + (y 1).val, by have h1 : (y 1).val < 128 := (y 1).isLt; omega⟩
  else if h : (y 0).val < 16 then gf ⟨((y 0).val - 8) * 128 + (y 1).val, by have h1 : (y 1).val < 128 := (y 1).isLt; omega⟩
  else if (y 0).val = 16 then e else 0

def Args.outPack : Arr2 24 128 := laid A.sumG1 A.sumGf A.loss

end Cert.HeadRow

end
-- ==== Proof.HeadPack.lean ====
/- The pack of the output layers' gradient kernel in exact arithmetic: a point adds to its rows the first weight's column sums, the
   last weight's, and the block's share of the loss; the rows after these it leaves. -/
module

public import proofs.«01_k».proof.Proof.HeadPoint
public import proofs.«01_k».proof.Proof.HeadOut

@[expose] public section
set_option maxRecDepth 16384
noncomputable section

namespace Cert.Head
open Cert.Kernel2Ideal Cert.Kernel2Ideal.Gen Cert.Rms
open Cert.HeadRow (laid)
open Idealize.ShloMosaic Idealize.ShloMosaic.TcCoe
open scoped BigOperators

/-- What a point leaves in a pack holding `p`. -/
def packed (p : Vec Ideal S24x128 .f32) (g1 gf : Fin 1024 → EReal) (e : EReal) : Vec Ideal S24x128 .f32 := fun y => p y + laid g1 gf e y

variable (p : Vec Ideal S24x128 .f32) (g1 gf : Fin 1024 → EReal) (e : EReal)

variable (z0 : Fin 1) (z1 : Fin 128)

theorem packed_low (r : ℕ) (hr : r < 8) (inb) :
    packed p g1 gf e ((Rect.unit (s := S24x128) ![r, 0] ![1, 128] inb).emb (ix2 z0 z1))
      = View.ld p (Rect.unit (s := S24x128) ![r, 0] ![1, 128] inb) (ix2 z0 z1) + g1 ⟨r * 128 + z1.val, by omega⟩ := by
  refine congrArg₂ (fun a b : EReal => a + b) rfl ?_
  unfold laid
  rw [dif_pos (by show r + 1 * z0.val < 8; omega)]
  exact congrArg g1 (Fin.ext (by show (r + 1 * z0.val) * 128 + (0 + 1 * z1.val) = r * 128 + z1.val; omega))

theorem packed_mid (r : ℕ) (h8 : 8 ≤ r) (hr : r < 16) (inb) :
    packed p g1 gf e ((Rect.unit (s := S24x128) ![r, 0] ![1, 128] inb).emb (ix2 z0 z1))
      = View.ld p (Rect.unit (s := S24x128) ![r, 0] ![1, 128] inb) (ix2 z0 z1) + gf ⟨(r - 8) * 128 + z1.val, by omega⟩ := by
  refine congrArg₂ (fun a b : EReal => a + b) rfl ?_
  unfold laid
  rw [dif_neg (by show ¬ r + 1 * z0.val < 8; omega), dif_pos (by show r + 1 * z0.val < 16; omega)]
  exact congrArg gf (Fin.ext (by show (r + 1 * z0.val - 8) * 128 + (0 + 1 * z1.val) = (r - 8) * 128 + z1.val; omega))

theorem packed_loss (inb) :
    packed p g1 gf e ((Rect.unit (s := S24x128) ![16, 0] ![1, 128] inb).emb (ix2 z0 z1))
      = View.ld p (Rect.unit (s := S24x128) ![16, 0] ![1, 128] inb) (ix2 z0 z1) + e := by
  refine congrArg₂ (fun a b : EReal => a + b) rfl ?_
  unfold laid
  rw [dif_neg (by show ¬ 16 + 1 * z0.val < 8; omega), dif_neg (by show ¬ 16 + 1 * z0.val < 16; omega),
    if_pos (by show 16 + 1 * z0.val = 16; omega)]

theorem mem_row (r : ℕ) (inb) (y : S24x128.Idx) (h : (y 0).val = r) : y ∈ (Rect.unit (s := S24x128) ![r, 0] ![1, 128] inb).set := by
  rw [Rect.mem_set_unit]
  intro a
  have hy := (y 1).isLt
  fin_cases a
  · show r ≤ (y 0).val ∧ (y 0).val < r + 1; omega
  · show 0 ≤ (y 1).val ∧ (y 1).val < 0 + 128; exact ⟨by omega, by have e : S24x128.size 1 = 128 := rfl; omega⟩

theorem canon_append_off (L L' : List (View.Piece (Elt Ideal) S24x128 .f32)) (y : S24x128.Idx) (h : ¬ ∃ q ∈ L, y ∈ q.1.set) :
    View.canon (L ++ L') y = View.canon L' y := by
  induction L with
  | nil => rfl
  | cons q L ih =>
    rw [List.cons_append, View.canon_cons_of_not_mem _ _ (fun hq => h ⟨q, List.mem_cons_self, hq⟩)]
    exact ih fun ⟨q', hq', hy⟩ => h ⟨q', List.mem_cons_of_mem _ hq', hy⟩

theorem all_pack (y : S24x128.Idx) : View.canon ([⟨allPack, p⟩] : List (View.Piece (Elt Ideal) S24x128 .f32)) y = p y := by
  have h := View.canon_unit_zero (Val := Elt Ideal) (S := S24x128) (e := .f32) (off := ![0, 0]) (by decide) inb_S24x128_S24x128_0_0 p
  exact congrFun h y

/-- The block's share of the loss. -/
def share (x : Ins Ideal) : EReal := ∑ i, HeadRow.sq (rowOf x i) (wtsOf x) * HeadRow.perLoss

theorem loss_pay (x : Ins Ideal) (v : Vec Ideal S1x128 .f32) (l : Fin 128) :
    k0_pay27 (last x) (sumsq2 x) (FloatOps.ofBits .f32 1149239296#32) x.x15 x.x8 v (ix2 0 l) = v (ix2 0 l) + share x := by
  have e : share x = (∑ j : Fin 1024, ∑ i : Fin 256, HeadRow.err (rowOf x i) (wtsOf x) j * HeadRow.err (rowOf x i) (wtsOf x) j) * HeadRow.perLoss := by
    rw [Finset.sum_comm]
    unfold share HeadRow.sq
    rw [HeadRow.perLoss_eq]
    exact sum_mul_coe _ _ (by norm_num)
  rw [e]
  simp only [← err_at]
  generalize hq : k0_pay26 (last x) (sumsq2 x) (FloatOps.ofBits .f32 1149239296#32) x.x15 x.x8 = q
  unfold k0_pay27
  rw [hq]
  pointwise

/-- A point's stores leave the pack as laid out by its sums. -/
theorem pack_at (x : Ins Ideal) (a : Carry Ideal) :
    (add x a).pack = packed a.pack (fun j => colG1 x (ix2 0 j)) (fun j => colGf x (ix2 0 j)) (share x) := by
  unfold add
  dsimp only
  funext y
  by_cases h : ∃ q ∈ rows x a.pack, y ∈ q.1.set
  · refine View.canon_append_of_piecesOf (packed a.pack (fun j => colG1 x (ix2 0 j)) (fun j => colGf x (ix2 0 j)) (share x)) _ (rows x a.pack) ?_ y h
    unfold rows
    refine ⟨?_, ?_, ?_, ?_, ?_, ?_, ?_, ?_, ?_, ?_, ?_, ?_, ?_, ?_, ?_, ?_, ?_, trivial⟩
    · intro z; idx_vars z; refine Eq.trans ?_ (packed_low _ _ _ _ z0 z1 7 (by norm_num) _).symm; pointwise [colG1, colGf, k0_pay55]
    · intro z; idx_vars z; refine Eq.trans ?_ (packed_low _ _ _ _ z0 z1 6 (by norm_num) _).symm; pointwise [colG1, colGf, k0_pay54]
    · intro z; idx_vars z; refine Eq.trans ?_ (packed_low _ _ _ _ z0 z1 5 (by norm_num) _).symm; pointwise [colG1, colGf, k0_pay53]
    · intro z; idx_vars z; refine Eq.trans ?_ (packed_low _ _ _ _ z0 z1 4 (by norm_num) _).symm; pointwise [colG1, colGf, k0_pay52]
    · intro z; idx_vars z; refine Eq.trans ?_ (packed_low _ _ _ _ z0 z1 3 (by norm_num) _).symm; pointwise [colG1, colGf, k0_pay51]
    · intro z; idx_vars z; refine Eq.trans ?_ (packed_low _ _ _ _ z0 z1 2 (by norm_num) _).symm; pointwise [colG1, colGf, k0_pay50]
    · intro z; idx_vars z; refine Eq.trans ?_ (packed_low _ _ _ _ z0 z1 1 (by norm_num) _).symm; pointwise [colG1, colGf, k0_pay49]
    · intro z; idx_vars z; refine Eq.trans ?_ (packed_low _ _ _ _ z0 z1 0 (by norm_num) _).symm; pointwise [colG1, colGf, k0_pay48]
    · intro z; idx_vars z; refine Eq.trans ?_ (packed_mid _ _ _ _ z0 z1 15 (by norm_num) (by norm_num) _).symm; pointwise [colG1, colGf, k0_pay41, k0_pay39, k0_pay40]
    · intro z; idx_vars z; refine Eq.trans ?_ (packed_mid _ _ _ _ z0 z1 14 (by norm_num) (by norm_num) _).symm; pointwise [colG1, colGf, k0_pay38]
    · intro z; idx_vars z; refine Eq.trans ?_ (packed_mid _ _ _ _ z0 z1 13 (by norm_num) (by norm_num) _).symm; pointwise [colG1, colGf, k0_pay37]
    · intro z; idx_vars z; refine Eq.trans ?_ (packed_mid _ _ _ _ z0 z1 12 (by norm_num) (by norm_num) _).symm; pointwise [colG1, colGf, k0_pay36]
    · intro z; idx_vars z; refine Eq.trans ?_ (packed_mid _ _ _ _ z0 z1 11 (by norm_num) (by norm_num) _).symm; pointwise [colG1, colGf, k0_pay35]
    · intro z; idx_vars z; refine Eq.trans ?_ (packed_mid _ _ _ _ z0 z1 10 (by norm_num) (by norm_num) _).symm; pointwise [colG1, colGf, k0_pay34]
    · intro z; idx_vars z; refine Eq.trans ?_ (packed_mid _ _ _ _ z0 z1 9 (by norm_num) (by norm_num) _).symm; pointwise [colG1, colGf, k0_pay33, k0_pay31, k0_pay32]
    · intro z; idx_vars z; refine Eq.trans ?_ (packed_mid _ _ _ _ z0 z1 8 (by norm_num) (by norm_num) _).symm; pointwise [colG1, colGf, k0_pay30]
    · intro z; idx_vars z; rw [show z0 = 0 from Subsingleton.elim _ _]; exact (loss_pay x _ z1).trans (packed_loss _ _ _ _ 0 z1 _).symm
  · rw [canon_append_off _ _ _ h, all_pack]
    unfold packed laid
    have hr : ∀ r : ℕ, r < 17 → (y 0).val ≠ r := by
      intro r hr he
      apply h
      unfold rows
      interval_cases r
      all_goals
        simp only [List.exists_mem_cons_iff]
        repeat (first | exact Or.inl (mem_row _ _ _ he) | apply Or.inr)
    rw [dif_neg fun hlt => hr _ (by omega) rfl, dif_neg fun hlt => hr _ (by omega) rfl, if_neg (hr 16 (by norm_num)), add_zero]

end Cert.Head

end
-- ==== Proof.HeadKernel.lean ====
/- What the output layers' gradient kernel leaves in its ten results: each block's rows in place, and the weights' gradients, the norm
   weights' and the loss summed over all 16 blocks of rows. -/
module

public import proofs.«01_k».proof.Proof.HeadFrame
public import proofs.«01_k».proof.Proof.HeadPack
public import Idealize.ShloMosaic.Lib.Pipeline.ValueKit
public import Idealize.ShloMosaic.Lib.Pointwise
public import Idealize.ShloMosaic.Lib.VecWindow
public import Idealize.ShloMosaic.Lib.StableHlo.ReadAt

@[expose] public section
set_option maxRecDepth 16384
noncomputable section

namespace Cert.Head
open Cert.Kernel2Ideal Cert.Kernel2Ideal.Gen Cert.Rms
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The arguments, as the arrays they are. -/
def args (c : Dev nD) : HeadRow.Args where
  ya := m ((c : Thread nD τ).loc main_arg0)
  yb := m ((c : Thread nD τ).loc main_arg1)
  x := m ((c : Thread nD τ).loc main_arg2)
  g0 := m ((c : Thread nD τ).loc main_arg3)
  win := m ((c : Thread nD τ).loc main_arg4)
  p := m ((c : Thread nD τ).loc main_arg5)
  tgt := m ((c : Thread nD τ).loc main_arg6)
  wpl := m ((c : Thread nD τ).loc main_arg7)
  wpp := m ((c : Thread nD τ).loc main_arg8)
  wout := m ((c : Thread nD τ).loc main_arg9)
  wpg := m ((c : Thread nD τ).loc main_arg10)
  wpe := m ((c : Thread nD τ).loc main_arg11)
  g1 := m ((c : Thread nD τ).loc main_arg12)
  gf := m ((c : Thread nD τ).loc main_arg13)

/-- Where the windows stand at a point. -/
theorem idx : ∀ t : Fin cfg0.N, win0_0.index t = ![t.val, 0] ∧ win0_1.index t = ![t.val, 0] ∧ win0_2.index t = ![t.val, 0] ∧ win0_3.index t = ![0, 3]
    ∧ win0_4.index t = ![0, 4] ∧ win0_5.index t = ![t.val, 0] ∧ win0_6.index t = ![t.val, 0] ∧ win0_7.index t = ![t.val, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![t.val, 0] ∧ win0_16.index t = ![t.val, 0] ∧ win0_17.index t = ![t.val, 0] ∧ win0_18.index t = ![t.val, 0]
    ∧ win0_19.index t = ![0, 0] :=
  (by decide +kernel : ∀ t : Fin grid0.N, win0_0.index t = ![t.val, 0] ∧ win0_1.index t = ![t.val, 0] ∧ win0_2.index t = ![t.val, 0] ∧ win0_3.index t = ![0, 3]
    ∧ win0_4.index t = ![0, 4] ∧ win0_5.index t = ![t.val, 0] ∧ win0_6.index t = ![t.val, 0] ∧ win0_7.index t = ![t.val, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![t.val, 0] ∧ win0_16.index t = ![t.val, 0] ∧ win0_17.index t = ![t.val, 0] ∧ win0_18.index t = ![t.val, 0]
    ∧ win0_19.index t = ![0, 0])

/-- Row `r` of point `t`'s block, in the array. -/
def row (t : Fin cfg0.N) (r : Fin 256) : Fin 4096 := ⟨t.val * 256 + r.val, by have := lt_of_lt_of_eq t.isLt N_0; omega⟩

/-- The normalized stream the host prepares. -/
theorem normed_host (c : Dev nD) (r : Fin 4096) (k : Fin 1024) : (V m c main_v14 : FVec Ideal S4096x1024 .bf16) (ix2 r k) = ((args m c).row r).h k := by
  have e : ((args m c).row r).h k = (args m c).x (ix2 r k) * scale (fun l => (args m c).x (ix2 r l)) * (args m c).g0 (ix2 0 k) := rfl
  rw [e]
  unfold V args scale ms
  dsimp only
  after_reads_at

variable (c : Dev nD) (t : Fin cfg0.N) (i : Fin 256)

theorem blk_ya (k : Fin 1024) : iblk m c 0 t (ix2 i k) = ((args m c).row (row t i)).ya k := by
  show iblk m c 0 t (ix2 i k) = (m ((c : Thread nD τ).loc main_arg0) : FVec Ideal S4096x1024 .bf16) (ix2 (row t i) k)
  rw [← V_main_arg0 m c]
  blk_ext [iblk, idx t, row]
theorem blk_yb (k : Fin 512) : iblk m c 1 t (ix2 i k) = ((args m c).row (row t i)).yb k := by
  show iblk m c 1 t (ix2 i k) = (m ((c : Thread nD τ).loc main_arg1) : FVec Ideal S4096x512 .bf16) (ix2 (row t i) k)
  rw [← V_main_arg1 m c]
  blk_ext [iblk, idx t, row]
theorem blk_x (k : Fin 1024) : iblk m c 5 t (ix2 i k) = ((args m c).row (row t i)).x k := by
  show iblk m c 5 t (ix2 i k) = (m ((c : Thread nD τ).loc main_arg2) : FVec Ideal S4096x1024 .f32) (ix2 (row t i) k)
  rw [← V_main_arg2 m c]
  blk_ext [iblk, idx t, row]
theorem blk_p (k : Fin 256) : iblk m c 6 t (ix2 i k) = ((args m c).row (row t i)).p k := by
  show iblk m c 6 t (ix2 i k) = (m ((c : Thread nD τ).loc main_arg5) : FVec Ideal S4096x256 .f32) (ix2 (row t i) k)
  rw [← V_main_arg5 m c]
  blk_ext [iblk, idx t, row]
theorem blk_tgt (k : Fin 1024) : iblk m c 7 t (ix2 i k) = ((args m c).row (row t i)).tgt k := by
  show iblk m c 7 t (ix2 i k) = (m ((c : Thread nD τ).loc main_arg6) : FVec Ideal S4096x1024 .f32) (ix2 (row t i) k)
  rw [← V_main_arg6 m c]
  blk_ext [iblk, idx t, row]
theorem blk_h (k : Fin 1024) : iblk m c 2 t (ix2 i k) = ((args m c).row (row t i)).h k := by
  rw [← normed_host]
  blk_ext [iblk, idx t, row]
theorem blk_wa (k j : Fin 1024) : iblk m c 3 t (ix2 k j) = (args m c).wts.wa k j := by
  show iblk m c 3 t (ix2 k j) = (m ((c : Thread nD τ).loc main_arg4) : FVec Ideal S1024x5120 .bf16) (ix2 k ⟨3072 + j.val, by omega⟩)
  rw [← V_main_arg4 m c]
  blk_ext [iblk, idx t, row]
theorem blk_wb (k j : Fin 1024) : iblk m c 4 t (ix2 k j) = (args m c).wts.wb k j := by
  show iblk m c 4 t (ix2 k j) = (m ((c : Thread nD τ).loc main_arg4) : FVec Ideal S1024x5120 .bf16) (ix2 k ⟨4096 + j.val, by omega⟩)
  rw [← V_main_arg4 m c]
  blk_ext [iblk, idx t, row]
theorem blk_wpl (k : Fin 1024) (j : Fin 1024) : iblk m c 8 t (ix2 k j) = (args m c).wts.wpl k j := by
  show iblk m c 8 t (ix2 k j) = (m ((c : Thread nD τ).loc main_arg7) : FVec Ideal S1024x1024 .bf16) (ix2 k j)
  rw [← V_main_arg7 m c]
  blk_ext [iblk, idx t, row]
theorem blk_wpp (k : Fin 512) (j : Fin 1024) : iblk m c 9 t (ix2 k j) = (args m c).wts.wpp k j := by
  show iblk m c 9 t (ix2 k j) = (m ((c : Thread nD τ).loc main_arg8) : FVec Ideal S512x1024 .bf16) (ix2 k j)
  rw [← V_main_arg8 m c]
  blk_ext [iblk, idx t, row]
theorem blk_wout (k : Fin 1024) (j : Fin 1024) : iblk m c 10 t (ix2 k j) = (args m c).wts.wout k j := by
  show iblk m c 10 t (ix2 k j) = (m ((c : Thread nD τ).loc main_arg9) : FVec Ideal S1024x1024 .bf16) (ix2 k j)
  rw [← V_main_arg9 m c]
  blk_ext [iblk, idx t, row]
theorem blk_wpg (k : Fin 1024) (j : Fin 1024) : iblk m c 11 t (ix2 k j) = (args m c).wts.wpg k j := by
  show iblk m c 11 t (ix2 k j) = (m ((c : Thread nD τ).loc main_arg10) : FVec Ideal S1024x1024 .bf16) (ix2 k j)
  rw [← V_main_arg10 m c]
  blk_ext [iblk, idx t, row]
theorem blk_wpe (k : Fin 256) (j : Fin 1024) : iblk m c 12 t (ix2 k j) = (args m c).wts.wpe k j := by
  show iblk m c 12 t (ix2 k j) = (m ((c : Thread nD τ).loc main_arg11) : FVec Ideal S256x1024 .bf16) (ix2 k j)
  rw [← V_main_arg11 m c]
  blk_ext [iblk, idx t, row]
theorem blk_g1 (j : Fin 1024) : iblk m c 13 t (ix2 0 j) = (args m c).wts.g1 j := by
  show iblk m c 13 t (ix2 0 j) = (m ((c : Thread nD τ).loc main_arg12) : FVec Ideal S1x1024 .f32) (ix2 0 j)
  rw [← V_main_arg12 m c]
  blk_ext [iblk, idx t, row]
theorem blk_gf (j : Fin 1024) : iblk m c 14 t (ix2 0 j) = (args m c).wts.gf j := by
  show iblk m c 14 t (ix2 0 j) = (m ((c : Thread nD τ).loc main_arg13) : FVec Ideal S1x1024 .f32) (ix2 0 j)
  rw [← V_main_arg13 m c]
  blk_ext [iblk, idx t, row]

theorem rowOf_eq : rowOf (insAt m c t) i = (args m c).row (row t i) := by
  unfold rowOf insAt
  simp only [blk_ya, blk_yb, blk_h, blk_x, blk_p, blk_tgt]
theorem wtsOf_eq : wtsOf (insAt m c t) = (args m c).wts := by
  unfold wtsOf insAt
  simp only [blk_wa, blk_wb, blk_wpl, blk_wpp, blk_wout, blk_wpg, blk_wpe, blk_g1, blk_gf]

/-! The results written block by block. -/

theorem ya_eq : (dats m 0 c).arrAt 15 cfg0.N = (args m c).outYa := by
  refine (dats m 0 c).arrAt_eq_of_covers 15 _ (by decide +kernel) fun t hf y => ?_
  blk_simp
  rw [left_15]
  idx_vars y
  have e : ((win0_15.blk t).view.emb (ix2 y0 y1) : S4096x1024.Idx) = ix2 (row t y0) y1 := by blk_ext [idx t, row]
  rw [e, ya_at, rowOf_eq, wtsOf_eq]
  rfl
theorem yb_eq : (dats m 0 c).arrAt 16 cfg0.N = (args m c).outYb := by
  refine (dats m 0 c).arrAt_eq_of_covers 16 _ (by decide +kernel) fun t hf y => ?_
  blk_simp
  rw [left_16]
  idx_vars y
  have e : ((win0_16.blk t).view.emb (ix2 y0 y1) : S4096x512.Idx) = ix2 (row t y0) y1 := by blk_ext [idx t, row]
  rw [e, yb_at, rowOf_eq, wtsOf_eq]
  rfl
theorem gates_out : (dats m 0 c).arrAt 17 cfg0.N = (args m c).outGates := by
  refine (dats m 0 c).arrAt_eq_of_covers 17 _ (by decide +kernel) fun t hf y => ?_
  blk_simp
  rw [left_17]
  idx_vars y
  have e : ((win0_17.blk t).view.emb (ix2 y0 y1) : S4096x2048.Idx) = ix2 (row t y0) y1 := by blk_ext [idx t, row]
  rw [e, gates_at, rowOf_eq, wtsOf_eq]
  rfl
theorem x_eq : (dats m 0 c).arrAt 18 cfg0.N = (args m c).outX := by
  refine (dats m 0 c).arrAt_eq_of_covers 18 _ (by decide +kernel) fun t hf y => ?_
  blk_simp
  rw [left_18]
  idx_vars y
  have e : ((win0_18.blk t).view.emb (ix2 y0 y1) : S4096x1024.Idx) = ix2 (row t y0) y1 := by blk_ext [idx t, row]
  rw [e, dx1_at, rowOf_eq, wtsOf_eq]
  rfl

/-! The sums carried over all points. -/

theorem carried_sum (f : Carry Ideal → EReal) (g : Fin cfg0.N → EReal) (hz : f zeros = 0)
    (hs : ∀ t a, f (add (insAt m c t) a) = f a + g t) (n : ℕ) (h : n < cfg0.N) :
    f (carriedAt m c n h) = ∑ t : Fin (n + 1), g ⟨t.val, by omega⟩ := by
  induction n with
  | zero => rw [Fin.sum_univ_one]; exact (hs ⟨0, h⟩ zeros).trans (by rw [hz, zero_add]; rfl)
  | succ n ih =>
    rw [Fin.sum_univ_castSucc]
    exact (hs ⟨n + 1, h⟩ _).trans (congrArg (fun q : EReal => q + g ⟨n + 1, h⟩) (ih (Nat.lt_of_succ_lt h)))

/-- A sum over the rows, when each point adds its block's. -/
theorem rows_sum (f : Carry Ideal → EReal) (q : HeadRow.Row → HeadRow.Wts → EReal) (hz : f zeros = 0)
    (hs : ∀ (x : Ins Ideal) a, f (add x a) = f a + ∑ i, q (rowOf x i) (wtsOf x)) :
    f (carriedAt m c 15 fifteen) = ∑ r, q ((args m c).row r) (args m c).wts := by
  refine (carried_sum m c f (fun t => ∑ i, q (rowOf (insAt m c t) i) (wtsOf (insAt m c t))) hz (fun t a => hs _ a) 15 fifteen).trans ?_
  refine Fin.sum_mul_add_congr (fun p r hl => ?_) (by decide)
  rw [rowOf_eq, wtsOf_eq]
  rfl

theorem zeros_pl (k l : Fin 1024) : (zeros : Carry Ideal).pl (ix2 k l) = 0 := by unfold zeros; dsimp only; pointwise [k0_pay2]
theorem zeros_pp (k : Fin 512) (l : Fin 1024) : (zeros : Carry Ideal).pp (ix2 k l) = 0 := by unfold zeros; dsimp only; pointwise [k0_pay3]
theorem zeros_out (k l : Fin 1024) : (zeros : Carry Ideal).out (ix2 k l) = 0 := by unfold zeros; dsimp only; pointwise [k0_pay4]
theorem zeros_pg (k l : Fin 1024) : (zeros : Carry Ideal).pg (ix2 k l) = 0 := by unfold zeros; dsimp only; pointwise [k0_pay5]
theorem zeros_pe (k : Fin 256) (l : Fin 1024) : (zeros : Carry Ideal).pe (ix2 k l) = 0 := by unfold zeros; dsimp only; pointwise [k0_pay6]
theorem zeros_pack (k : Fin 24) (l : Fin 128) : (zeros : Carry Ideal).pack (ix2 k l) = 0 := by unfold zeros; dsimp only; pointwise [k0_pay7]

theorem pl_eq : ((gradsEnd m c).pl : FVec Ideal S8x128x1024 .f32) = HeadRow.byRows (args m c).sumPl := by
  funext y
  exact rows_sum m c (fun a => a.pl (ix2 _ _)) (fun r w => HeadRow.toPl r w _ _) (zeros_pl _ _) (fun x a => pl_at x a _ _)
theorem pp_eq : ((gradsEnd m c).pp : FVec Ideal S8x512x128 .f32) = HeadRow.byCols (args m c).sumPp := by
  funext y
  exact rows_sum m c (fun a => a.pp (ix2 _ _)) (fun r w => HeadRow.toPp r w _ _) (zeros_pp _ _) (fun x a => pp_at x a _ _)
theorem out_eq : ((gradsEnd m c).out : FVec Ideal S8x128x1024 .f32) = HeadRow.byRows (args m c).sumOut := by
  funext y
  exact rows_sum m c (fun a => a.out (ix2 _ _)) (fun r w => HeadRow.toOut r w _ _) (zeros_out _ _) (fun x a => out_at x a _ _)
theorem pg_eq : ((gradsEnd m c).pg : FVec Ideal S8x128x1024 .f32) = HeadRow.byRows (args m c).sumPg := by
  funext y
  exact rows_sum m c (fun a => a.pg (ix2 _ _)) (fun r w => HeadRow.toPg r w _ _) (zeros_pg _ _) (fun x a => pg_at x a _ _)
theorem pe_eq : ((gradsEnd m c).pe : FVec Ideal S8x256x128 .f32) = HeadRow.byCols (args m c).sumPe := by
  funext y
  exact rows_sum m c (fun a => a.pe (ix2 _ _)) (fun r w => HeadRow.toPe r w _ _) (zeros_pe _ _) (fun x a => pe_at x a _ _)

/-- One place of the pack: what a row of the inputs adds there. -/
def placed (y : S24x128.Idx) (r : HeadRow.Row) (w : HeadRow.Wts) : EReal :=
  HeadRow.laid (HeadRow.toG1 r w) (HeadRow.toGf r w) (HeadRow.sq r w * HeadRow.perLoss) y

/-- Laying out is additive. -/
theorem laid_sum {n : ℕ} (a b : Fin n → Fin 1024 → EReal) (e : Fin n → EReal) (y : S24x128.Idx) :
    HeadRow.laid (fun j => ∑ i, a i j) (fun j => ∑ i, b i j) (∑ i, e i) y = ∑ i, HeadRow.laid (a i) (b i) (e i) y := by
  unfold HeadRow.laid
  by_cases h8 : (y 0).val < 8
  · simp only [dif_pos h8]
  · by_cases h16 : (y 0).val < 16
    · simp only [dif_neg h8, dif_pos h16]
    · by_cases h : (y 0).val = 16
      · simp only [dif_neg h8, dif_neg h16, if_pos h]
      · simp only [dif_neg h8, dif_neg h16, if_neg h, Finset.sum_const_zero]

theorem pack_eq : (carriedAt m c 15 fifteen).pack = (args m c).outPack := by
  funext y
  refine (rows_sum m c (fun a => a.pack y) (placed y) ?_ fun x a => ?_).trans ?_
  · idx_vars y; exact zeros_pack _ _
  · rw [pack_at]
    unfold packed placed
    rw [← laid_sum]
    simp only [colG1_at, colGf_at]
    rfl
  · unfold placed
    rw [← laid_sum]
    rfl

theorem pack_out : (dats m 0 c).arrAt 19 cfg0.N = (args m c).outPack := by
  refine (dats m 0 c).arrAt_eq_of_covers 19 _ (by decide +kernel) fun t hf y => ?_
  have ht : t.val = 15 := by
    have h1 := (flush0_19 t).mp hf
    have h2 := lt_of_lt_of_eq t.isLt N_0
    omega
  have hc : carriedAt m c t.val t.isLt = carriedAt m c 15 fifteen := by congr 1
  blk_simp
  rw [left_19, hc, pack_eq]
  idx_vars y
  exact congrArg _ (by blk_ext [idx t])

/-- What the run leaves: the ten results by their values, the arguments as they were. -/
theorem run_vals : θ_run defs (onTc (τ := τ) (main (F := Ideal))) ⟨m, fun _ => 0, ρ⟩ fun r => (∀ c : Dev nD,
      r.2.mem ((c : Thread nD τ).loc main_v15_0) = (args m c).outYa
      ∧ r.2.mem ((c : Thread nD τ).loc main_v15_1) = (args m c).outYb
      ∧ r.2.mem ((c : Thread nD τ).loc main_v15_2) = (args m c).outGates
      ∧ r.2.mem ((c : Thread nD τ).loc main_v15_3) = (args m c).outX
      ∧ r.2.mem ((c : Thread nD τ).loc main_v15_4) = HeadRow.byRows (args m c).sumPl
      ∧ r.2.mem ((c : Thread nD τ).loc main_v15_5) = HeadRow.byCols (args m c).sumPp
      ∧ r.2.mem ((c : Thread nD τ).loc main_v15_6) = HeadRow.byRows (args m c).sumOut
      ∧ r.2.mem ((c : Thread nD τ).loc main_v15_7) = HeadRow.byRows (args m c).sumPg
      ∧ r.2.mem ((c : Thread nD τ).loc main_v15_8) = HeadRow.byCols (args m c).sumPe
      ∧ r.2.mem ((c : Thread nD τ).loc main_v15_9) = (args m c).outPack ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13)) :=
  (θ_run defs _ _).mono (fun r h c => ⟨((h.1.1 c).1 15).trans (ya_eq m c), ((h.1.1 c).1 16).trans (yb_eq m c), ((h.1.1 c).1 17).trans (gates_out m c),
    ((h.1.1 c).1 18).trans (x_eq m c), (h.1.2 c main_v15_4 (by decide)).trans ((ends_pl m c).trans (pl_eq m c)),
    (h.1.2 c main_v15_5 (by decide)).trans ((ends_pp m c).trans (pp_eq m c)), (h.1.2 c main_v15_6 (by decide)).trans ((ends_out m c).trans (out_eq m c)),
    (h.1.2 c main_v15_7 (by decide)).trans ((ends_pg m c).trans (pg_eq m c)), (h.1.2 c main_v15_8 (by decide)).trans ((ends_pe m c).trans (pe_eq m c)),
    ((h.1.1 c).1 19).trans (pack_out m c), kept m r h.1 c⟩) (ends_at m ρ)

end Cert.Head

end
-- ==== Proof.HeadReference.lean ====
/- What the host's gradient of the output layers leaves in its ten results, entry by entry. -/
module

public import proofs.«01_k».proof.Proof.Gen.Reference2Ideal.Run
public import proofs.«01_k».proof.Proof.HeadOut
public import Idealize.ShloMosaic.Lib.Pipeline.ValueKit
public import Idealize.ShloMosaic.Lib.Pointwise
public import Idealize.ShloMosaic.Lib.VecWindow

@[expose] public section
set_option maxRecDepth 16384
noncomputable section

namespace Cert.Reference2Ideal.HeadV
open Cert.Reference2Ideal Cert.Reference2Ideal.Gen Cert.Reference2Ideal.Value Idealize.ShloMosaic Idealize.ShloMosaic.TcCoe Idealize.SL.Sem
open Idealize.ShloMosaic.StableHlo Cert.Rms Cert.HeadRow
open scoped BigOperators

variable (V0 : Valuation τ sig (Elt Ideal))

/-- The arguments, as the arrays they are. -/
def args : Args where
  ya := V0 (Proc.devRef .tc main_arg0)
  yb := V0 (Proc.devRef .tc main_arg1)
  x := V0 (Proc.devRef .tc main_arg2)
  g0 := V0 (Proc.devRef .tc main_arg3)
  win := V0 (Proc.devRef .tc main_arg4)
  p := V0 (Proc.devRef .tc main_arg5)
  tgt := V0 (Proc.devRef .tc main_arg6)
  wpl := V0 (Proc.devRef .tc main_arg7)
  wpp := V0 (Proc.devRef .tc main_arg8)
  wout := V0 (Proc.devRef .tc main_arg9)
  wpg := V0 (Proc.devRef .tc main_arg10)
  wpe := V0 (Proc.devRef .tc main_arg11)
  g1 := V0 (Proc.devRef .tc main_arg12)
  gf := V0 (Proc.devRef .tc main_arg13)

variable (r : Fin 4096) (j : Fin 1024)

/-! The forward lines. -/

theorem v16_at (l : Fin 2048) : (res_main_v16 V0 (ix2 r l) : EReal) = ∑ k, ((args V0).row r).h k * (args V0).win (ix2 k ⟨3072 + l.val, by omega⟩) := by
  unfold res_main_v16 Args.row args scale ms
  dsimp only
  pointwise
theorem v31_at : (res_main_v31 V0 (ix2 r j) : EReal) = gA ((args V0).row r) (args V0).wts j := by
  have e : gA ((args V0).row r) (args V0).wts j = HeadRow.sig (res_main_v16 V0 (ix2 r ⟨j.val, by omega⟩)) := by rw [v16_at]; rfl
  rw [e]
  unfold HeadRow.sig
  pointwise [res_main_v31]
theorem v42_at : (res_main_v42 V0 (ix2 r j) : EReal) = gB ((args V0).row r) (args V0).wts j := by
  have e : gB ((args V0).row r) (args V0).wts j = HeadRow.sig (res_main_v16 V0 (ix2 r ⟨1024 + j.val, by omega⟩)) := by
    rw [v16_at]
    unfold gB Args.wts
    refine congrArg HeadRow.sig (Finset.sum_congr rfl fun k _ => congrArg _ (congrArg _ (congrArg _ (Fin.ext ?_))))
    show 4096 + j.val = 3072 + (1024 + j.val)
    omega
  rw [e]
  unfold HeadRow.sig
  pointwise [res_main_v42]
theorem v35_at : (res_main_v35 V0 (ix2 r j) : EReal) = brA ((args V0).row r) (args V0).wts j := by
  unfold brA Args.row Args.wts args
  pointwise [res_main_v35, res_main_v22, res_main_v17]
theorem v46_at : (res_main_v46 V0 (ix2 r j) : EReal) = brB ((args V0).row r) (args V0).wts j := by
  unfold brB Args.row Args.wts args
  pointwise [res_main_v46, res_main_v23, res_main_v18]
theorem v48_at : (res_main_v48 V0 (ix2 r j) : EReal) = mer ((args V0).row r) (args V0).wts j := by
  unfold mer
  rw [← v31_at, ← v42_at, ← v35_at, ← v46_at]
  rfl
theorem v50_at : (res_main_v50 V0 (ix2 r j) : EReal) = x1 ((args V0).row r) (args V0).wts j := by
  unfold x1
  simp only [← v48_at]
  unfold Args.row Args.wts args
  pointwise [res_main_v50, res_main_v19]
theorem v58_at : (res_main_v58 V0 (ix2 r 0) : EReal) = ms (x1 ((args V0).row r) (args V0).wts) := by
  unfold ms
  simp only [← v50_at]
  pointwise [res_main_v58]
theorem v59_at : (res_main_v59 V0 (ix2 r 0) : EReal) = scale (x1 ((args V0).row r) (args V0).wts) := by
  unfold scale
  rw [← v58_at]
  rfl
theorem v64_at : (res_main_v64 V0 (ix2 r j) : EReal) = n1 ((args V0).row r) (args V0).wts j := by
  unfold n1
  rw [← v59_at, ← v50_at]
  pointwise [res_main_v64]
theorem v65_at : (res_main_v65 V0 (ix2 0 j) : EReal) = (args V0).wts.g1 j := by
  unfold Args.wts args
  dsimp only
  pointwise [res_main_v65]
theorem v95_at : (res_main_v95 V0 (ix2 0 j) : EReal) = (args V0).wts.gf j := by
  unfold Args.wts args
  dsimp only
  pointwise [res_main_v95]
theorem v67_at : (res_main_v67 V0 (ix2 r j) : EReal) = h1 ((args V0).row r) (args V0).wts j := by
  unfold h1
  rw [← v64_at, ← v65_at]
  pointwise [res_main_v67]
theorem v74_at : (res_main_v74 V0 (ix2 r j) : EReal) = gt ((args V0).row r) (args V0).wts j := by
  unfold gt HeadRow.sig
  simp only [← v67_at]
  unfold Args.wts args
  pointwise [res_main_v74, res_main_v20]
theorem v78_at : (res_main_v78 V0 (ix2 r j) : EReal) = HeadRow.emb ((args V0).row r) (args V0).wts j := by
  unfold HeadRow.emb Args.row Args.wts args
  pointwise [res_main_v78]
theorem v80_at : (res_main_v80 V0 (ix2 r j) : EReal) = x2 ((args V0).row r) (args V0).wts j := by
  unfold x2
  rw [← v50_at, ← v74_at, ← v78_at]
  rfl
theorem v88_at : (res_main_v88 V0 (ix2 r 0) : EReal) = ms (x2 ((args V0).row r) (args V0).wts) := by
  unfold ms
  simp only [← v80_at]
  pointwise [res_main_v88]
theorem v89_at : (res_main_v89 V0 (ix2 r 0) : EReal) = scale (x2 ((args V0).row r) (args V0).wts) := by
  unfold scale
  rw [← v88_at]
  rfl
theorem v94_at : (res_main_v94 V0 (ix2 r j) : EReal) = n2 ((args V0).row r) (args V0).wts j := by
  unfold n2
  rw [← v89_at, ← v80_at]
  pointwise [res_main_v94]
theorem v98_at : (res_main_v98 V0 (ix2 r j) : EReal) = err ((args V0).row r) (args V0).wts j := by
  unfold err
  rw [← v94_at, ← v95_at]
  unfold Args.row args
  pointwise [res_main_v98]

/-! The gradient. -/

theorem v112_at : (res_main_v112 V0 (ix2 r j) : EReal) = dy ((args V0).row r) (args V0).wts j := by
  unfold dy
  rw [← rate_eq, ← v98_at]
  pointwise [res_main_v112]
theorem v117_at : (res_main_v117 V0 (ix2 r j) : EReal) = dn2 ((args V0).row r) (args V0).wts j := by
  unfold dn2
  rw [← v112_at, ← v95_at]
  pointwise [res_main_v117]
theorem v128_at : (res_main_v128 V0 (ix2 r j) : EReal) = back (x2 ((args V0).row r) (args V0).wts) (dn2 ((args V0).row r) (args V0).wts) := by
  unfold back
  rw [← v89_at, ← v88_at]
  simp only [← v80_at, ← v117_at]
  pointwise [res_main_v128]
  exact Fin.sum_univ_one (M := EReal) _
theorem v132_at : (res_main_v132 V0 (ix2 r j) : EReal) = dx2 ((args V0).row r) (args V0).wts j := by
  rw [dx2_parts, ← v89_at, ← v128_at V0 r j, ← v117_at, ← v80_at]
  pointwise [res_main_v132]
theorem v138_at : (res_main_v138 V0 (ix2 r j) : EReal) = dpg ((args V0).row r) (args V0).wts j := by
  unfold dpg
  rw [← v132_at, ← v78_at, ← v74_at]
  pointwise [res_main_v138]
theorem v141_at : (res_main_v141 V0 (ix2 r j) : EReal) = dh1 ((args V0).row r) (args V0).wts j := by
  unfold dh1
  simp only [← v138_at]
  unfold Args.wts args
  pointwise [res_main_v141, res_main_v20]
theorem v146_at : (res_main_v146 V0 (ix2 r j) : EReal) = dn1 ((args V0).row r) (args V0).wts j := by
  unfold dn1
  rw [← v141_at, ← v65_at]
  pointwise [res_main_v146]
theorem v158_at : (res_main_v158 V0 (ix2 r j) : EReal) = back (x1 ((args V0).row r) (args V0).wts) (dn1 ((args V0).row r) (args V0).wts) := by
  unfold back
  rw [← v59_at, ← v58_at]
  simp only [← v50_at, ← v146_at]
  pointwise [res_main_v158]
  exact Fin.sum_univ_one (M := EReal) _
theorem v162_at : (res_main_v162 V0 (ix2 r j) : EReal) = dx1 ((args V0).row r) (args V0).wts j := by
  rw [dx1_parts, ← v59_at, ← v158_at V0 r j, ← v146_at, ← v50_at, ← v132_at]
  pointwise [res_main_v162]
theorem v166_at : (res_main_v166 V0 (ix2 r j) : EReal) = dmg ((args V0).row r) (args V0).wts j := by
  unfold dmg
  simp only [← v162_at]
  unfold Args.wts args
  pointwise [res_main_v166, res_main_v19]
theorem v167_at : (res_main_v167 V0 (ix2 r j) : EReal) = db ((args V0).row r) (args V0).wts j := by
  unfold db
  rw [← v42_at, ← v166_at]
  exact mul_comm (G := EReal) _ _
theorem v173_at : (res_main_v173 V0 (ix2 r j) : EReal) = da ((args V0).row r) (args V0).wts j := by
  unfold da
  rw [← v31_at, ← v166_at]
  exact mul_comm (G := EReal) _ _

/-! The ten results. -/

theorem ya_eq : (Host.dotGeneral (F := Ideal) (φ₁ := .f32) (φ₂ := .f32) dot_S4096x1024_S1024x1024_S4096x1024_1_1_0_0_n_n none (res_main_v173 V0) (res_main_v17 V0) : FVec Ideal S4096x1024 .f32) = (args V0).outYa := by
  funext i
  idx_vars i
  show _ = dya ((args V0).row i0) (args V0).wts i1
  unfold dya
  simp only [← v173_at]
  unfold Args.wts args
  pointwise [res_main_v17]
theorem yb_eq : (Host.dotGeneral (F := Ideal) (φ₁ := .f32) (φ₂ := .f32) dot_S4096x1024_S512x1024_S4096x512_1_1_0_0_n_n none (res_main_v167 V0) (res_main_v18 V0) : FVec Ideal S4096x512 .f32) = (args V0).outYb := by
  funext i
  idx_vars i
  show _ = dyb ((args V0).row i0) (args V0).wts i1
  unfold dyb
  simp only [← v167_at]
  unfold Args.wts args
  pointwise [res_main_v18]
theorem x_eq : (res_main_v162 V0 : FVec Ideal S4096x1024 .f32) = (args V0).outX := by
  funext i
  idx_vars i
  exact v162_at V0 i0 i1

/-- A gate's cotangent as the host writes it. -/
theorem gate_back (d b g : FVec Ideal S4096x1024 .f32) (r : Fin 4096) (j : Fin 1024) :
    (mulf (mulf d b) (mulf g (subf (broadcastInDim S4096x1024 ![] bcast_S_S4096x1024 (constant S_ .f32 0x3F800000#32)) g)) (ix2 r j) : EReal)
      = d (ix2 r j) * b (ix2 r j) * (g (ix2 r j) * (one - g (ix2 r j))) := by
  pointwise
theorem dga_at : (mulf (mulf (res_main_v166 V0) (res_main_v35 V0)) (mulf (res_main_v31 V0) (subf (broadcastInDim S4096x1024 ![] bcast_S_S4096x1024 (constant S_ .f32 0x3F800000#32)) (res_main_v31 V0))) (ix2 r j) : EReal)
    = dga ((args V0).row r) (args V0).wts j := by
  unfold dga
  rw [← v31_at, ← v166_at, ← v35_at]
  exact gate_back _ _ _ r j
theorem dgb_at : (mulf (mulf (res_main_v166 V0) (res_main_v46 V0)) (mulf (res_main_v42 V0) (subf (broadcastInDim S4096x1024 ![] bcast_S_S4096x1024 (constant S_ .f32 0x3F800000#32)) (res_main_v42 V0))) (ix2 r j) : EReal)
    = dgb ((args V0).row r) (args V0).wts j := by
  unfold dgb
  rw [← v42_at, ← v166_at, ← v46_at]
  exact gate_back _ _ _ r j
theorem sides (u v : FVec Ideal S4096x1024 .f32) (r : Fin 4096) (l : Fin 2048) :
    (truncf .bf16 (concatenate S4096x2048 1 [⟨S4096x1024, u⟩, ⟨S4096x1024, v⟩] concatenates_S4096x1024_S4096x1024_S4096x2048_d1) bitsLt_bf16_f32 (ix2 r l) : EReal)
      = if h : l.val < 1024 then u (ix2 r ⟨l.val, h⟩) else v (ix2 r ⟨l.val - 1024, by omega⟩) := by
  pointwise

theorem turned (q : FVec Ideal S1024x1024 .f32) (k : Fin 8) (i : Fin 128) (l : Fin 1024) :
    (shapeCast S8x128x1024 (transpose S1024x1024 [1, 0] q transposes_S1024x1024_S1024x1024_1_0) shapeCasts_S1024x1024_S8x128x1024 (ix3 k i l) : EReal)
      = q (ix2 l ⟨k.val * 128 + i.val, by omega⟩) := by
  pointwise
theorem turned512 (q : FVec Ideal S1024x512 .f32) (k : Fin 8) (i : Fin 512) (l : Fin 128) :
    (transpose S8x512x128 [1, 0, 2] (shapeCast S512x8x128 (transpose S512x1024 [1, 0] q transposes_S1024x512_S512x1024_1_0) shapeCasts_S512x1024_S512x8x128) transposes_S512x8x128_S8x512x128_1_0_2 (ix3 k i l) : EReal)
      = q (ix2 ⟨k.val * 128 + l.val, by omega⟩ i) := by
  pointwise
theorem turned256 (q : FVec Ideal S1024x256 .f32) (k : Fin 8) (i : Fin 256) (l : Fin 128) :
    (transpose S8x256x128 [1, 0, 2] (shapeCast S256x8x128 (transpose S256x1024 [1, 0] q transposes_S1024x256_S256x1024_1_0) shapeCasts_S256x1024_S256x8x128) transposes_S256x8x128_S8x256x128_1_0_2 (ix3 k i l) : EReal)
      = q (ix2 ⟨k.val * 128 + l.val, by omega⟩ i) := by
  pointwise

theorem pl_at (k l : Fin 1024) : (Host.dotGeneral (F := Ideal) (φ₁ := .f32) (φ₂ := .f32) dot_S4096x1024_S4096x1024_S1024x1024_0_0_1_1_n_n none (res_main_v173 V0) (res_main_v22 V0) (ix2 l k) : EReal) = (args V0).sumPl k l := by
  unfold Args.sumPl toPl
  simp only [← v173_at]
  unfold Args.row args
  pointwise [res_main_v22]
  exact Finset.sum_congr rfl fun i _ => mul_comm (G := EReal) _ _
theorem pp_at (k : Fin 512) (l : Fin 1024) : (Host.dotGeneral (F := Ideal) (φ₁ := .f32) (φ₂ := .f32) dot_S4096x1024_S4096x512_S1024x512_0_0_1_1_n_n none (res_main_v167 V0) (res_main_v23 V0) (ix2 l k) : EReal) = (args V0).sumPp k l := by
  unfold Args.sumPp toPp
  simp only [← v167_at]
  unfold Args.row args
  pointwise [res_main_v23]
  exact Finset.sum_congr rfl fun i _ => mul_comm (G := EReal) _ _
theorem out_at (k l : Fin 1024) : (Host.dotGeneral (F := Ideal) (φ₁ := .f32) (φ₂ := .f32) dot_S4096x1024_S4096x1024_S1024x1024_0_0_1_1_n_n none (res_main_v162 V0) (res_main_v48 V0) (ix2 l k) : EReal) = (args V0).sumOut k l := by
  unfold Args.sumOut toOut
  simp only [← v162_at, ← v48_at]
  pointwise
  exact Finset.sum_congr rfl fun i _ => mul_comm (G := EReal) _ _
theorem pg_at (k l : Fin 1024) : (Host.dotGeneral (F := Ideal) (φ₁ := .f32) (φ₂ := .f32) dot_S4096x1024_S4096x1024_S1024x1024_0_0_1_1_n_n none (res_main_v138 V0) (res_main_v67 V0) (ix2 l k) : EReal) = (args V0).sumPg k l := by
  unfold Args.sumPg toPg
  simp only [← v138_at, ← v67_at]
  pointwise
  exact Finset.sum_congr rfl fun i _ => mul_comm (G := EReal) _ _
theorem pe_at (k : Fin 256) (l : Fin 1024) : (Host.dotGeneral (F := Ideal) (φ₁ := .f32) (φ₂ := .f32) dot_S4096x1024_S4096x256_S1024x256_0_0_1_1_n_n none (mulf (res_main_v74 V0) (res_main_v132 V0)) (V0 (Proc.devRef .tc main_arg5)) (ix2 l k) : EReal) = (args V0).sumPe k l := by
  unfold Args.sumPe toPe
  simp only [← v132_at, ← v74_at]
  unfold Args.row args
  pointwise
  refine Finset.sum_congr rfl fun i _ => ?_
  have swap : ∀ a b c : EReal, a * b * c = c * (b * a) := fun a b c => (mul_comm _ _).trans (congrArg (c * ·) (mul_comm a b))
  exact swap _ _ _

theorem g1_at (k : Fin 8) (l : Fin 128) : (shapeCast S8x128 (broadcastInDim S1x1024 ![1] bcast_S1024_S1x1024_1 (Host.reduceAdd (shapeCast S1x1024 (Host.reduceAdd (mulf (res_main_v64 V0) (res_main_v141 V0)) (constant S_ .f32 0x00000000#32) reducesTo_S4096x1024_S1024_d0 h_S_) shapeCasts_S1024_S1x1024) (constant S_ .f32 0x00000000#32) reducesTo_S1x1024_S1024_d0 h_S_)) shapeCasts_S1x1024_S8x128 (ix2 k l) : EReal)
    = (args V0).sumG1 ⟨k.val * 128 + l.val, by omega⟩ := by
  unfold Args.sumG1 toG1
  simp only [← v64_at, ← v141_at]
  pointwise
  refine (Fin.sum_univ_one (M := EReal) _).trans (Finset.sum_congr rfl fun i _ => ?_)
  exact mul_comm (G := EReal) _ _
theorem gf_at (k : Fin 8) (l : Fin 128) : (shapeCast S8x128 (broadcastInDim S1x1024 ![1] bcast_S1024_S1x1024_1 (Host.reduceAdd (shapeCast S1x1024 (Host.reduceAdd (mulf (res_main_v94 V0) (res_main_v112 V0)) (constant S_ .f32 0x00000000#32) reducesTo_S4096x1024_S1024_d0 h_S_) shapeCasts_S1024_S1x1024) (constant S_ .f32 0x00000000#32) reducesTo_S1x1024_S1024_d0 h_S_)) shapeCasts_S1x1024_S8x128 (ix2 k l) : EReal)
    = (args V0).sumGf ⟨k.val * 128 + l.val, by omega⟩ := by
  unfold Args.sumGf toGf
  simp only [← v94_at, ← v112_at]
  pointwise
  refine (Fin.sum_univ_one (M := EReal) _).trans (Finset.sum_congr rfl fun i _ => ?_)
  exact mul_comm (G := EReal) _ _
theorem loss_at (l : Fin 128) : (broadcastInDim S1x128 ![] bcast_S_S1x128 (mulf (constant S_ .f32 0x3F000000#32) (Host.reduceAdd (Host.divf (Host.reduceAdd (mulf (res_main_v98 V0) (res_main_v98 V0)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) (ix2 0 l) : EReal)
    = (args V0).loss := by
  unfold Args.loss
  rw [← loss_eq]
  unfold HeadRow.sq
  simp only [← v98_at]
  pointwise

/-- The pack's four parts, one below the other. -/
theorem stacked (a b : FVec Ideal S8x128 .f32) (e : FVec Ideal S1x128 .f32) (k : Fin 24) (l : Fin 128) :
    (concatenate S24x128 0 [⟨S8x128, a⟩, ⟨S8x128, b⟩, ⟨S1x128, e⟩, ⟨S7x128, broadcastInDim S7x128 ![] bcast_S_S7x128 (constant (F := Ideal) S_ .f32 0x00000000#32)⟩] concatenates_S8x128_S8x128_S1x128_S7x128_S24x128_d0 (ix2 k l) : EReal)
      = if h : k.val < 8 then a (ix2 ⟨k.val, h⟩ l) else if h : k.val < 16 then b (ix2 ⟨k.val - 8, by omega⟩ l)
        else if k.val = 16 then e (ix2 0 l) else 0 := by
  pointwise
  by_cases h : k.val < 8
  · rw [dif_pos h, dif_pos h]
  · rw [dif_neg h, dif_neg h]
    by_cases h1 : k.val < 16
    · rw [dif_pos h1, dif_pos (show k.val - 8 < 8 by omega)]
    · rw [dif_neg h1, dif_neg (show ¬ k.val - 8 < 8 by omega)]
      by_cases h3 : k.val = 16
      · rw [if_pos h3, dif_pos (show k.val - 8 - 8 < 1 by omega)]
        exact congrArg (fun t => e (ix2 t l)) (Fin.ext (show k.val - 8 - 8 = 0 by omega))
      · rw [if_neg h3, dif_neg (show ¬ k.val - 8 - 8 < 1 by omega)]

theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v177) = (args (launchContents m c)).outYa
      ∧ r.2.mem ((c.tc : Thread nD τ).loc main_v171) = (args (launchContents m c)).outYb
      ∧ r.2.mem ((c.tc : Thread nD τ).loc main_v185) = (args (launchContents m c)).outGates
      ∧ r.2.mem ((c.tc : Thread nD τ).loc main_v162) = (args (launchContents m c)).outX
      ∧ r.2.mem ((c.tc : Thread nD τ).loc main_v186) = byRows (args (launchContents m c)).sumPl
      ∧ r.2.mem ((c.tc : Thread nD τ).loc main_v188) = byCols (args (launchContents m c)).sumPp
      ∧ r.2.mem ((c.tc : Thread nD τ).loc main_v189) = byRows (args (launchContents m c)).sumOut
      ∧ r.2.mem ((c.tc : Thread nD τ).loc main_v190) = byRows (args (launchContents m c)).sumPg
      ∧ r.2.mem ((c.tc : Thread nD τ).loc main_v192) = byCols (args (launchContents m c)).sumPe
      ∧ r.2.mem ((c.tc : Thread nD τ).loc main_v183) = (args (launchContents m c)).outPack)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono (fun r h c => ?_) (run m ρ)
  obtain ⟨h0, h1, h2, h3, h4, h5, h6, h7, h8, h9, hrest⟩ := h c
  refine ⟨⟨h0.trans (ya_eq _), h1.trans (yb_eq _), h2.trans ?_, h3.trans (x_eq _), h4.trans ?_, h5.trans ?_, h6.trans ?_, h7.trans ?_,
    h8.trans ?_, h9.trans ?_⟩, hrest⟩
  · funext i
    idx_vars i
    refine (sides _ _ i0 i1).trans ?_
    exact dite_congr rfl (fun _ => dga_at _ _ _) (fun _ => dgb_at _ _ _)
  · funext i
    idx_vars i
    exact (turned _ i0 i1 i2).trans (pl_at _ _ _)
  · funext i
    idx_vars i
    exact (turned512 _ i0 i1 i2).trans (pp_at _ _ _)
  · funext i
    idx_vars i
    exact (turned _ i0 i1 i2).trans (out_at _ _ _)
  · funext i
    idx_vars i
    exact (turned _ i0 i1 i2).trans (pg_at _ _ _)
  · funext i
    idx_vars i
    exact (turned256 _ i0 i1 i2).trans (pe_at _ _ _)
  · funext i
    idx_vars i
    refine (stacked _ _ _ i0 i1).trans ?_
    exact dite_congr rfl (fun _ => g1_at _ _ _) (fun _ => dite_congr rfl (fun _ => gf_at _ _ _)
      (fun _ => ite_congr rfl (fun _ => loss_at _ _) (fun _ => rfl)))

end Cert.Reference2Ideal.HeadV

end
-- ==== Proof.SeqRing.lean ====
/- The activations' blocks, fetched by hand: block `t` of the array goes into slot `t mod 3` two points before point `t` reads it, the
   blocks taken from the sequence's end to its start. Names for the slots, the blocks and the counters, the body's own names brought to
   them, and what the launch hands the copies and takes back. -/
module

public import proofs.«01_k».proof.Proof.Gen.Kernel3Ideal.Launch
public import proofs.«01_k».proof.Proof.Gen.Kernel3Ideal.Points
public import proofs.«01_k».proof.Proof.Gen.Kernel3Ideal.Skeleton
public import proofs.«01_k».proof.Proof.Gen.Kernel3Ideal.Loops
public import Idealize.ShloMosaic.Lib.Pipeline.FrameBody
public import Idealize.ShloMosaic.Lib.Pipeline.FrameValue
public import Idealize.ShloMosaic.Lib.Pipeline.FrameSuffixR
public import Idealize.ShloMosaic.Lib.Ring
public import Idealize.ShloMosaic.Lib.Tactic
public import Idealize.ShloMosaic.Lib.WordCmp

@[expose] public section
set_option maxRecDepth 16384
noncomputable section

namespace Cert.Seq
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The array fetched from, and the scratch fetched into. -/
abbrev zAll : Memref sig .tc .hbm S2x2048x3072 .f32 := Memref.whole main_arg0
abbrev zRing : Memref sig .tc .vmem S3x256x3072 .f32 := Memref.whole cc0_scratch7

theorem slot_inb (s : Fin 3) : ∀ a, (![s.val, 0, 0] : Fin 3 → ℕ) a + S1x256x3072.size a ≤ S3x256x3072.size a := by revert s; decide
theorem block_inb (b : Fin 16) : ∀ a, (![b.val / 8, 256 * (7 - b.val % 8), 0] : Fin 3 → ℕ) a + S1x256x3072.size a ≤ S2x2048x3072.size a := by
  revert b; decide
theorem count_inb (s : Fin 3) : ∀ a, (![s.val] : Fin 1 → ℕ) a + S1.size a ≤ S3.size a := by revert s; decide

/-- Slot `s`; the block read at step `b`; counter `s`. -/
def slot (s : Fin 3) : Memref sig .tc .vmem S256x3072 .f32 :=
  (zRing.slice (Rect.unit (s := S3x256x3072) ![s.val, 0, 0] S1x256x3072.size (slot_inb s)) (fun _ => rfl)).squeeze S256x3072 squeezes_S1x256x3072_S256x3072
def block (b : Fin 16) : Memref sig .tc .hbm S256x3072 .f32 :=
  (zAll.slice (Rect.unit (s := S2x2048x3072) ![b.val / 8, 256 * (7 - b.val % 8), 0] S1x256x3072.size (block_inb b)) (fun _ => rfl)).squeeze S256x3072
    squeezes_S1x256x3072_S256x3072
def count (s : Fin 3) : DmaSems sig S_ := (cc0_scratch8.slice (Rect.unit (s := S3) ![s.val] S1.size (count_inb s))).squeeze S_ squeezes_S1_S_
abbrev countLoc (s : Fin 3) : SemLoc sig := SemLoc.dma (count s).sem

/-! ## The copies' state -/

section Held
variable (c : Dev nD)
/-- A core's contents of a buffer. -/
abbrev Whole {sp : Space} {S : Shape} {e : EltTy} (M : Memref sig .tc sp S e) : Type := Buf (Elt F) (M.view.loc (c : Thread nD τ))
variable (Z : Whole (F := F) c zAll)
/-- Each slot borrows from a share of the array of its own, the three making up the whole. -/
abbrev part (s : Fin 3) : PosShare TreeShare := if s.val = 0 then fullShare.left else if s.val = 1 then fullShare.right.left else fullShare.right.right
abbrev SlotAt (s : Fin 3) (f : Whole (F := F) c (slot s)) : sProp 𝕄 := (slot s).view.loc (c : Thread nD τ) ↦[(slot s).view.set]{fullShare} f
abbrev Quiet (s : Fin 3) : sProp 𝕄 := semVal ((c : Thread nD τ), countLoc s) 0
abbrev Lent (s : Fin 3) (b : Fin 16) : sProp 𝕄 := (block b).view.loc (c : Thread nD τ) ↦[(block b).view.set]{part s} Z
/-- The rest of a slot's share, beside the block lent. -/
def Unlent (s : Fin 3) (b : Fin 16) : sProp 𝕄 := ((c : Thread nD τ).loc main_arg0) ↦[Finset.univ \ (block b).view.set]{part s} Z
abbrev Share (s : Fin 3) : sProp 𝕄 := ((c : Thread nD τ).loc main_arg0) ↦[Finset.univ]{part s} Z
/-- A slot's contents once a block has landed, and the copy of the block in flight. -/
abbrev landed (s : Fin 3) (b : Fin 16) (f : Whole (F := F) c (slot s)) : Whole (F := F) c (slot s) :=
  (slot s).view.writes (Elt F) f [⟨Rect.whole S256x3072, ReadAs.same.apply ((block b).view.read (Elt F) Z)⟩]
abbrev Coming (s : Fin 3) (b : Fin 16) (f : Whole (F := F) c (slot s)) : sProp 𝕄 :=
  Transfers.Flight countersEmb (c : Thread nD τ) (countLoc s) default ((slot s).view.amount (countLoc s)) iprop(SlotAt c s (landed c Z s b f) ∗ Lent c Z s b)
abbrev Spare (s : Fin 3) (f : Whole (F := F) c (slot s)) : sProp 𝕄 := iprop(SlotAt c s f ∗ Share c Z s)
abbrev Flying (s : Fin 3) (b : Fin 16) (f : Whole (F := F) c (slot s)) : sProp 𝕄 := iprop(Coming c Z s b f ∗ Unlent c Z s b)
abbrev nothing (b : Fin 16) : sProp 𝕄 := iprop(emp)
/-- The copies before point `k`. -/
def copies (k : ℕ) : sProp 𝕄 :=
  if k = 0 then Ring.At₀ (Quiet c) (Spare c Z) nothing else Ring.At 2 (Quiet c) (Spare c Z) nothing (Flying c Z) k

theorem quiet_0 : Quiet (F := F) c 0 = semVal ((c : Thread nD τ), SemLoc.dma 32) 0 :=
  congrArg (fun x => (semVal ((c : Thread nD τ), x) 0 : sProp 𝕄)) (by decide : countLoc 0 = SemLoc.dma 32)
theorem quiet_1 : Quiet (F := F) c 1 = semVal ((c : Thread nD τ), SemLoc.dma 33) 0 :=
  congrArg (fun x => (semVal ((c : Thread nD τ), x) 0 : sProp 𝕄)) (by decide : countLoc 1 = SemLoc.dma 33)
theorem quiet_2 : Quiet (F := F) c 2 = semVal ((c : Thread nD τ), SemLoc.dma 34) 0 :=
  congrArg (fun x => (semVal ((c : Thread nD τ), x) 0 : sProp 𝕄)) (by decide : countLoc 2 = SemLoc.dma 34)

theorem share_split (s : Fin 3) (b : Fin 16) : Share (F := F) c Z s ⊣⊢ iprop(Lent c Z s b ∗ Unlent c Z s b) := by
  unfold Unlent; exact pointsTo_split_subset (Finset.subset_univ _)

/-- The array whole is the three slots' shares of it. -/
theorem array_shares : ((c : Thread nD τ).loc main_arg0 ↦{fullShare} Z : sProp 𝕄) ⊣⊢ iprop(Share c Z 0 ∗ Share c Z 1 ∗ Share c Z 2) := by
  have one := pointsTo_share (Ix := Unit) (Name := ℕ) (U := Pipeline.UD sig nD τ) (Lvl := ℕ) (ℓ := (c : Thread nD τ).loc main_arg0) (I := Finset.univ) (f := Z) (PosShare.mem_left_op_right fullShare)
  have two := pointsTo_share (Ix := Unit) (Name := ℕ) (U := Pipeline.UD sig nD τ) (Lvl := ℕ) (ℓ := (c : Thread nD τ).loc main_arg0) (I := Finset.univ) (f := Z) (PosShare.mem_left_op_right fullShare.right)
  exact ⟨one.1.trans (BIClass.sep_mono .rfl two.1), (BIClass.sep_mono .rfl two.2).trans one.2⟩
end Held

/-- The slots' elements: disjoint, and all of the scratch. -/
abbrev slotSet (s : Fin 3) : Finset S3x256x3072.Idx := (Rect.unit (s := S3x256x3072) ![s.val, 0, 0] S1x256x3072.size (slot_inb s)).set
theorem slot_set (s : Fin 3) : (slot s).view.set = slotSet s := by
  simp only [slot, Memref.view_squeeze, View.set_reshape]; exact View.set_slice_whole _ _
theorem slots_apart (s s' : Fin 3) (h : s ≠ s') : Disjoint (slotSet s) (slotSet s') :=
  Ring.lead_disjoint (s := S3x256x3072) (0 : Fin 3) 1 (fun s : Fin 3 => (![s.val, 0, 0] : Fin 3 → ℕ)) S1x256x3072.size slot_inb (fun s => by simp) rfl s s' h
theorem slots_all : Finset.univ.biUnion slotSet = Finset.univ :=
  Ring.lead_cover (s := S3x256x3072) (0 : Fin 3) 1 (fun s : Fin 3 => (![s.val, 0, 0] : Fin 3 → ℕ)) S1x256x3072.size slot_inb (fun s => by simp)
    (fun s a ha => by fin_cases a <;> first | exact absurd rfl ha | rfl) rfl (fun a ha => by fin_cases a <;> first | exact absurd rfl ha | rfl) rfl

section Launch
variable (c : Dev nD) (Z : Whole (F := F) c zAll)
theorem slotAt_eq (s : Fin 3) (f) : SlotAt (F := F) c s f = (((c : Thread nD τ).loc cc0_scratch7) ↦[slotSet s]{fullShare} f : sProp 𝕄) := by
  unfold SlotAt; rw [slot_set]; rfl
/-- The three slots, each at something. -/
def Slots : sProp 𝕄 := iprop((∃ f, SlotAt (F := F) c 0 f) ∗ (∃ f, SlotAt (F := F) c 1 f) ∗ ∃ f, SlotAt (F := F) c 2 f)
set_option maxHeartbeats 1000000 in
theorem slots_of_ring : iprop(∃ d, owns (c : Thread nD τ) zRing fullShare d) ⊢ (Slots c : sProp 𝕄) := by
  simp only [zRing, owns_whole]
  exact Ring.slots3_split (U := Pipeline.UD sig nD τ) (ℓ := (c : Thread nD τ).loc cc0_scratch7) (q := fullShare) slotSet slots_apart slots_all _ _ _ (slotAt_eq c 0) (slotAt_eq c 1) (slotAt_eq c 2)
set_option maxHeartbeats 1000000 in
theorem ring_of_slots : (Slots c : sProp 𝕄) ⊢ iprop(∃ d, owns (c : Thread nD τ) zRing fullShare d) := by
  simp only [zRing, owns_whole]
  exact Ring.slots3_join (U := Pipeline.UD sig nD τ) (ℓ := (c : Thread nD τ).loc cc0_scratch7) (q := fullShare) slotSet slots_apart slots_all _ _ _ (slotAt_eq c 0) (slotAt_eq c 1) (slotAt_eq c 2)

/-- The counters at zero. -/
def Zeros : sProp 𝕄 := iprop(semVal ((c : Thread nD τ), SemLoc.dma 32) 0 ∗ semVal ((c : Thread nD τ), SemLoc.dma 33) 0 ∗ semVal ((c : Thread nD τ), SemLoc.dma 34) 0)

/-- What the launch hands over is the copies before the first point, -/
theorem copies_start :
    iprop((∃ d, owns (c : Thread nD τ) zRing fullShare d) ∗ Zeros c ∗ ((c : Thread nD τ).loc main_arg0 ↦{fullShare} Z)) ⊢ (copies c Z 0 : sProp 𝕄) := by
  unfold copies; rw [if_pos rfl]; unfold Ring.At₀ Zeros
  rw [Ring.bigSep_fin3]
  simp only [Ring.free, quiet_0, quiet_1, quiet_2]
  iintro ⟨HS, ⟨K0, K1, K2⟩, HZ⟩
  ihave HS' := (slots_of_ring (F := F) c) $$ HS
  ihave HZ' := (array_shares (F := F) c Z).1 $$ HZ
  unfold Slots
  icases HS' with ⟨⟨%f0, S0⟩, ⟨%f1, S1⟩, ⟨%f2, S2⟩⟩
  icases HZ' with ⟨Z0, Z1, Z2⟩
  iapply Ring.with_homes₀
  isplitl [K0 S0 Z0]
  · isplitl [K0]; · iexact K0
    iexists f0; isplitl [S0]; · iexact S0
    iexact Z0
  isplitl [K1 S1 Z1]
  · isplitl [K1]; · iexact K1
    iexists f1; isplitl [S1]; · iexact S1
    iexact Z1
  isplitl [K2]; · iexact K2
  iexists f2; isplitl [S2]; · iexact S2
  iexact Z2

/-- and the copies after the last point give it back. -/
theorem copies_end :
    (copies c Z 16 : sProp 𝕄) ⊢ iprop((∃ d, owns (c : Thread nD τ) zRing fullShare d) ∗ Zeros c ∗ ((c : Thread nD τ).loc main_arg0 ↦{fullShare} Z)) := by
  unfold copies; rw [if_neg (by decide)]
  iintro H
  ihave H' := (Ring.free3_of_At_last _ _ _ _) $$ H
  simp only [Ring.free, quiet_0, quiet_1, quiet_2]
  icases H' with ⟨-, ⟨K0, ⟨%f0, S0, Z0⟩⟩, ⟨K1, ⟨%f1, S1, Z1⟩⟩, ⟨K2, ⟨%f2, S2, Z2⟩⟩⟩
  isplitl [S0 S1 S2]
  · iapply (ring_of_slots (F := F) c); unfold Slots
    isplitl [S0]; · iexists f0; iexact S0
    isplitl [S1]; · iexists f1; iexact S1
    iexists f2; iexact S2
  isplitl [K0 K1 K2]
  · unfold Zeros
    isplitl [K0]; · iexact K0
    isplitl [K1]; · iexact K1
    iexact K2
  iapply (array_shares (F := F) c Z).2
  isplitl [Z0]; · iexact Z0
  isplitl [Z1]; · iexact Z1
  iexact Z2
end Launch

/-! ## The body's tests, and its names for slots, blocks and counters -/

instance : NeZero grid0.N := ⟨by rw [N_0]; decide⟩

abbrev starts (i : grid0.Coords) : Prop := k0_cond1 i = 1#1
abbrev fetches (i : grid0.Coords) : Prop := k0_cond2 i = 1#1
abbrev clears (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev opens (i : grid0.Coords) : Prop := (Scalar.cmpi .ne (Scalar.extui (Scalar.cmpi .eq (BitVec.ofNat 32 (i 1).val) 0#32)) 0#32) = 1#1
abbrev closes (i : grid0.Coords) : Prop := (Scalar.cmpi .ne (Scalar.extui (Scalar.andi (Scalar.cmpi .eq (BitVec.ofNat 32 (i 0).val) 1#32) (Scalar.cmpi .eq (BitVec.ofNat 32 (i 1).val) 7#32))) 0#32) = 1#1

set_option synthInstance.maxSize 4096 in
theorem tests : ∀ t : Fin grid0.N, (starts (grid0.coords t) ↔ t.val = 0) ∧ (fetches (grid0.coords t) ↔ t.val < 14) ∧ (clears (grid0.coords t) ↔ t.val = 0)
    ∧ (opens (grid0.coords t) ↔ t.val % 8 = 0) ∧ (closes (grid0.coords t) ↔ t.val = 15) := by decide +kernel

section Names
variable (t : Fin grid0.N)
theorem slot_named {o : Fin 3 → ℕ} (s : Fin 3) (e : o = ![s.val, 0, 0]) (h : ∀ a, o a + S1x256x3072.size a ≤ S3x256x3072.size a) :
    (zRing.slice (Rect.unit (s := S3x256x3072) o S1x256x3072.size h) (fun _ => rfl)).squeeze S256x3072 squeezes_S1x256x3072_S256x3072 = slot s := by
  subst e; rfl
theorem block_named {o : Fin 3 → ℕ} (b : Fin 16) (e : o = ![b.val / 8, 256 * (7 - b.val % 8), 0]) (h : ∀ a, o a + S1x256x3072.size a ≤ S2x2048x3072.size a) :
    (zAll.slice (Rect.unit (s := S2x2048x3072) o S1x256x3072.size h) (fun _ => rfl)).squeeze S256x3072 squeezes_S1x256x3072_S256x3072 = block b := by
  subst e; rfl
theorem count_named {o : Fin 1 → ℕ} (s : Fin 3) (e : o = ![s.val]) (h : ∀ a, o a + S1.size a ≤ S3.size a) :
    (cc0_scratch8.slice (Rect.unit (s := S3) o S1.size h)).squeeze S_ squeezes_S1_S_ = count s := by
  subst e; rfl

set_option synthInstance.maxSize 4096 in
theorem offs_here : ∀ t : Fin grid0.N, k0_off2 (grid0.coords t) = ![(Ring.sl 3 t.val).val, 0, 0] ∧ k0_off1 (grid0.coords t) = ![(Ring.sl 3 t.val).val]
    ∧ k0_off3 (grid0.coords t) = ![(Ring.bk 16 t.val).val / 8, 256 * (7 - (Ring.bk 16 t.val).val % 8), 0]
    ∧ k0_off11 (grid0.coords t) = ![(Ring.sl 3 t.val).val, 0, 0] ∧ k0_off10 (grid0.coords t) = ![(Ring.sl 3 t.val).val]
    ∧ k0_off12 (grid0.coords t) = ![(Ring.bk 16 t.val).val / 8, 256 * (7 - (Ring.bk 16 t.val).val % 8), 0] := by decide +kernel
set_option synthInstance.maxSize 4096 in
theorem offs_next : ∀ t : Fin grid0.N, k0_off5 (grid0.coords t) = ![(Ring.sl 3 (t.val + 1)).val, 0, 0] ∧ k0_off4 (grid0.coords t) = ![(Ring.sl 3 (t.val + 1)).val]
    ∧ (starts (grid0.coords t) → k0_off6 (grid0.coords t) = ![(Ring.bk 16 (t.val + 1)).val / 8, 256 * (7 - (Ring.bk 16 (t.val + 1)).val % 8), 0]) := by decide +kernel
set_option synthInstance.maxSize 4096 in
theorem offs_ahead : ∀ t : Fin grid0.N, k0_off8 (grid0.coords t) = ![(Ring.sl 3 (t.val + 2)).val, 0, 0] ∧ k0_off7 (grid0.coords t) = ![(Ring.sl 3 (t.val + 2)).val]
    ∧ (fetches (grid0.coords t) → k0_off9 (grid0.coords t) = ![(Ring.bk 16 (t.val + 2)).val / 8, 256 * (7 - (Ring.bk 16 (t.val + 2)).val % 8), 0]) := by decide +kernel

@[sl_canon] theorem first_slot (h : starts (grid0.coords t)) :
    (zRing.slice (Rect.unit (s := S3x256x3072) (k0_off2 (grid0.coords t)) S1x256x3072.size (k0_off2_inb (grid0.coords t) h)) (fun _ => rfl)).squeeze S256x3072 squeezes_S1x256x3072_S256x3072 = slot (Ring.sl 3 t.val) :=
  slot_named _ (offs_here t).1 _
@[sl_canon] theorem first_count (h : starts (grid0.coords t)) :
    (cc0_scratch8.slice (Rect.unit (s := S3) (k0_off1 (grid0.coords t)) S1.size (k0_off1_inb (grid0.coords t) h))).squeeze S_ squeezes_S1_S_ = count (Ring.sl 3 t.val) :=
  count_named _ (offs_here t).2.1 _
@[sl_canon] theorem first_block (h : starts (grid0.coords t)) :
    (zAll.slice (Rect.unit (s := S2x2048x3072) (k0_off3 (grid0.coords t)) S1x256x3072.size (k0_off3_inb (grid0.coords t) h)) (fun _ => rfl)).squeeze S256x3072 squeezes_S1x256x3072_S256x3072 = block (Ring.bk 16 t.val) :=
  block_named _ (offs_here t).2.2.1 _
@[sl_canon] theorem second_slot (h : starts (grid0.coords t)) :
    (zRing.slice (Rect.unit (s := S3x256x3072) (k0_off5 (grid0.coords t)) S1x256x3072.size (k0_off5_inb (grid0.coords t) h)) (fun _ => rfl)).squeeze S256x3072 squeezes_S1x256x3072_S256x3072 = slot (Ring.sl 3 (t.val + 1)) :=
  slot_named _ (offs_next t).1 _
@[sl_canon] theorem second_count (h : starts (grid0.coords t)) :
    (cc0_scratch8.slice (Rect.unit (s := S3) (k0_off4 (grid0.coords t)) S1.size (k0_off4_inb (grid0.coords t) h))).squeeze S_ squeezes_S1_S_ = count (Ring.sl 3 (t.val + 1)) :=
  count_named _ (offs_next t).2.1 _
@[sl_canon] theorem second_block (h : starts (grid0.coords t)) :
    (zAll.slice (Rect.unit (s := S2x2048x3072) (k0_off6 (grid0.coords t)) S1x256x3072.size (k0_off6_inb (grid0.coords t) h)) (fun _ => rfl)).squeeze S256x3072 squeezes_S1x256x3072_S256x3072 = block (Ring.bk 16 (t.val + 1)) :=
  block_named _ ((offs_next t).2.2 h) _
@[sl_canon] theorem ahead_slot (h : fetches (grid0.coords t)) :
    (zRing.slice (Rect.unit (s := S3x256x3072) (k0_off8 (grid0.coords t)) S1x256x3072.size (k0_off8_inb (grid0.coords t) h)) (fun _ => rfl)).squeeze S256x3072 squeezes_S1x256x3072_S256x3072 = slot (Ring.sl 3 (t.val + 2)) :=
  slot_named _ (offs_ahead t).1 _
@[sl_canon] theorem ahead_count (h : fetches (grid0.coords t)) :
    (cc0_scratch8.slice (Rect.unit (s := S3) (k0_off7 (grid0.coords t)) S1.size (k0_off7_inb (grid0.coords t) h))).squeeze S_ squeezes_S1_S_ = count (Ring.sl 3 (t.val + 2)) :=
  count_named _ (offs_ahead t).2.1 _
@[sl_canon] theorem ahead_block (h : fetches (grid0.coords t)) :
    (zAll.slice (Rect.unit (s := S2x2048x3072) (k0_off9 (grid0.coords t)) S1x256x3072.size (k0_off9_inb (grid0.coords t) h)) (fun _ => rfl)).squeeze S256x3072 squeezes_S1x256x3072_S256x3072 = block (Ring.bk 16 (t.val + 2)) :=
  block_named _ ((offs_ahead t).2.2 h) _
@[sl_canon] theorem here_slot :
    (zRing.slice (Rect.unit (s := S3x256x3072) (k0_off11 (grid0.coords t)) S1x256x3072.size (k0_off11_inb (grid0.coords t))) (fun _ => rfl)).squeeze S256x3072 squeezes_S1x256x3072_S256x3072 = slot (Ring.sl 3 t.val) :=
  slot_named _ (offs_here t).2.2.2.1 _
@[sl_canon] theorem here_count :
    (cc0_scratch8.slice (Rect.unit (s := S3) (k0_off10 (grid0.coords t)) S1.size (k0_off10_inb (grid0.coords t)))).squeeze S_ squeezes_S1_S_ = count (Ring.sl 3 t.val) :=
  count_named _ (offs_here t).2.2.2.2.1 _
end Names

end Cert.Seq

end
-- ==== Proof.SeqHost.lean ====
/- The host lines around the backward call's one region: they touch only host buffers, allocate nothing, leave the arguments and the
   arrays the region works on alone. -/
module

public import proofs.«01_k».proof.Proof.SeqRing

@[expose] public section
set_option maxRecDepth 16384
noncomputable section

namespace Cert.Seq
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-- The host lines before the region. -/
abbrev lines : List (List (HloOp τ sig (Elt F))) := [hostOps0, hostOps0_1, hostOps0_2, hostOps0_3, hostOps0_4]
/-- A core's buffers when the region is entered, and its arrays then. -/
def memAt (c : Dev nD) : Valuation τ sig (Elt F) := StableHlo.after (List.flatten (lines (F := F))) (fun b => m (c, b))
abbrev at0 (c : Dev nD) (b : Ref sig .tc) : Buf (Elt F) ((c : Thread nD τ).loc b) := memAt m c (Proc.devRef .tc b)

/-- The program's arguments. -/
abbrev args : List (Ref sig .tc) := [main_arg0, main_arg1, main_arg2, main_arg3, main_arg4, main_arg5, main_arg6, main_arg7, main_arg8, main_arg9, main_arg10, main_arg11, main_arg12, main_arg13]
/-- A line that allocates nothing and writes one buffer, no argument of the program. -/
abbrev Tame (op : HloOp τ sig (Elt F)) : Prop := op.fresh = ∅ ∧ ∃ r : Ref sig .tc, op.writes = {Proc.devRef .tc r} ∧ r ∉ args

theorem tame0 : (hostOps0 : List (HloOp τ sig (Elt F))).Forall Tame := by
  simp only [List.Forall]; repeat' first | exact ⟨rfl, _, rfl, by decide⟩ | apply And.intro
theorem tame1 : (hostOps0_1 : List (HloOp τ sig (Elt F))).Forall Tame := by
  simp only [List.Forall]; repeat' first | exact ⟨rfl, _, rfl, by decide⟩ | apply And.intro
set_option maxHeartbeats 4000000 in
theorem tame2 : (hostOps0_2 : List (HloOp τ sig (Elt F))).Forall Tame := by
  simp only [List.Forall]; repeat' first | exact ⟨rfl, _, rfl, by decide⟩ | apply And.intro
theorem tame3 : (hostOps0_3 : List (HloOp τ sig (Elt F))).Forall Tame := by
  simp only [List.Forall]; repeat' first | exact ⟨rfl, _, rfl, by decide⟩ | apply And.intro
theorem tame4 : (hostOps0_4 : List (HloOp τ sig (Elt F))).Forall Tame := by
  simp only [List.Forall]; repeat' first | exact ⟨rfl, _, rfl, by decide⟩ | apply And.intro
theorem tame_last : (hostOps1 : List (HloOp τ sig (Elt F))).Forall Tame := by
  simp only [List.Forall]; repeat' first | exact ⟨rfl, _, rfl, by decide⟩ | apply And.intro

end Cert.Seq

end
-- ==== Proof.SeqAround.lean ====
/- A run of host lines, one pipelined region and host lines after it, where the region's outputs are known by a relation only: what
   the later lines leave is their value at SOME contents the relation allows the region's arrays. -/
module

public import Idealize.ShloMosaic.Lib.Pipeline.FrameSuffixR

@[expose] public section
noncomputable section

namespace Cert.Seq.Around
open Idealize.ShloMosaic Idealize.ShloMosaic.Pipeline Idealize.ShloMosaic.Rounds
open Idealize.SL
open Idealize.SL.BI (sProp bigSep bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Λ₀ : Idealize.SL.Sem.Labels} {P : Type} [Fintype P] [DecidableEq P] [∀ e, Nonempty (Val e)] {K : Type} [Fintype K]

local notation "𝕄" => MT nD τ sig Unit Val ℕ (UD sig nD τ) ℕ

section Parts
variable {Λ : Idealize.SL.Sem.Labels} (cfg : Cfg sig Λ) (c : Dev nD) (rd : RDat τ Val Unit ℕ (UD sig nD τ) ℕ cfg c)
  (V₀ : Valuation τ sig Val) (ops : List (HloOp τ sig Val))

/-- Contents of the region's arrays the relation allows at the end. -/
abbrev Allowed (A : (w : Fin cfg.W) → Buf Val ((cfg.spec w).arr.view.loc (c.tc : Thread nD τ))) : Prop := ∀ w, rd.ArrAt w cfg.N (A w)
/-- The buffers after the later lines, from the region's arrays at `A`. -/
abbrev leftAt (A : (w : Fin cfg.W) → Buf Val ((cfg.spec w).arr.view.loc (c.tc : Thread nD τ))) (b : Ref sig .tc) : Buf Val ((c.tc : Thread nD τ).loc b) :=
  StableHlo.after ops (withArrays cfg.spec c V₀ A) (Proc.devRef .tc b)

/-- The arrays at the end are the arrays at some allowed contents. -/
theorem arrays_open : (rd.arraysAt cfg.N : sProp 𝕄) ⊣⊢ iprop(∃ A, ⌜Allowed cfg c rd A⌝ ∗ rd.arrays A) := by
  constructor
  · unfold RDat.arraysAt RDat.arrays
    refine (BI.bigSep_exists_pi Finset.univ fun w F => iprop(⌜rd.ArrAt w cfg.N F⌝ ∗ (cfg.win w).arr.view.loc (c.tc : Thread nD τ) ↦[(cfg.win w).arr.view.set]{rd.share w} F)).trans ?_
    iintro ⟨%A, H⟩
    ihave H' := (BI.bigSep_pure_sep Finset.univ (fun w => rd.ArrAt w cfg.N (A w))
      fun w => (cfg.win w).arr.view.loc (c.tc : Thread nD τ) ↦[(cfg.win w).arr.view.set]{rd.share w} A w) $$ H
    icases H' with ⟨%h, H⟩
    iexists A
    isplitr; · ipureintro; exact fun w => h w (Finset.mem_univ w)
    iexact H
  · iintro ⟨%A, %h, H⟩
    iapply (show (rd.arrays A : sProp 𝕄) ⊢ rd.arraysAt cfg.N from ?_) $$ H
    unfold RDat.arraysAt RDat.arrays
    refine BI.bigSep_mono fun w _ => ?_
    show ((cfg.win w).arr.view.loc (c.tc : Thread nD τ) ↦[(cfg.win w).arr.view.set]{rd.share w} A w : sProp 𝕄)
      ⊢ iprop(∃ F, ⌜rd.ArrAt w cfg.N F⌝ ∗ (cfg.win w).arr.view.loc (c.tc : Thread nD τ) ↦[(cfg.win w).arr.view.set]{rd.share w} F)
    iintro H
    iexists A w
    isplitr; · ipureintro; exact h w
    iexact H
end Parts

variable (cfgs : P → Cfg sig Λ₀) (p : P) (kit : LaunchFacts₀ (nD := nD) (τ := τ) cfgs p)
  (osem : K → SemLoc sig) (defs₀ : Defs nD τ sig Val Λ₀) (𝒱₀ : Variants)

/-- What a run leaves: the region's arrays at contents the relation allows, every other buffer as the later lines leave it from SOME
    allowed contents of the arrays, and every counter at zero. -/
def Ends (rdat : (c : Dev nD) → RDat τ Val Unit ℕ (UD sig nD τ) ℕ (cfgs p) c) (V₀ : Dev nD → Valuation τ sig Val) (ops : List (HloOp τ sig Val))
    (r : PUnit × MemSt nD τ sig Val) : Prop :=
  (∀ c : Dev nD, Allowed (cfgs p) c (rdat c) (fun w => r.2.mem (((cfgs p).spec w).arr.view.loc (c.tc : Thread nD τ)))
    ∧ ∃ A, Allowed (cfgs p) c (rdat c) A ∧ ∀ b ∈ restRefs sig (cfgs p).spec, r.2.mem ((c.tc : Thread nD τ).loc b) = leftAt (cfgs p) c (V₀ c) ops A b)
  ∧ r.2.sem = fun _ => 0

set_option maxHeartbeats 1000000 in
include kit in
theorem run_ends (rdat : (c : Dev nD) → RDat τ Val Unit ℕ (UD sig nD τ) ℕ (cfgs p) c) (ho : OwnSemFacts (cfgs p).spec osem) (H : Finset (Ref sig .tc))
    (hH : H ⊆ restRefs sig (cfgs p).spec) (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdat c).BodyObligation defs₀ 𝒱₀ () Set.univ)
    (hq : ∀ c w, ((cfgs p).spec w).isOut = false → (rdat c).q w = shareOf (cfgs p).spec w) (howed : ∀ c t, (rdat c).owed t = 0)
    (V₀ : Dev nD → Valuation τ sig Val) (ops : List (HloOp τ sig Val))
    (hsub : ∀ op ∈ ops, op.bufs ⊆ tailRefs sig Prefetch.none (cfgs p).spec) (hfresh : ∀ op ∈ ops, op.fresh = ∅)
    (hkeep : ∀ op ∈ ops, ∀ w, Proc.devRef .tc (arrRef (cfgs p).spec w) ∉ op.writes)
    (hmain : HMainK (Ix := Unit) (Name := ℕ) (U := UD sig nD τ) (Lvl := ℕ) cfgs p defs₀ 𝒱₀ m main
      (fun c b => V₀ c (Proc.devRef .tc b)) (fun _ => chain ([ops].map StableHlo.seq)))
    (hA : ∀ c w, (rdat c).A w = V₀ c (Proc.devRef .tc (arrRef (cfgs p).spec w)))
    (hin : ∀ c, ΦD osem (cfgs p).spec H (fun c b => V₀ c (Proc.devRef .tc b)) c ⊢ (rdat c).Φ 0)
    (hout : ∀ c, (rdat c).Φ (Fin.last (cfgs p).N) ⊢ ΦD osem (cfgs p).spec H (fun c b => V₀ c (Proc.devRef .tc b)) c) :
    θ_run (Pipeline.defs (fun q => (cfgs q).toPCfg (Val := Val)) defs₀) (onTc main) (s₀ m g) (Ends cfgs p rdat V₀ ops) := by
  classical
  have wide : restRefs sig (cfgs p).spec ⊆ restRefsP sig Prefetch.none (cfgs p).spec := fun b hb =>
    Finset.mem_sdiff.mpr ⟨hb, fun h => (Finset.mem_image.mp h).elim fun k _ => k.elim0⟩
  let pcs := fun q => (cfgs q).toPCfg (Val := Val)
  let a : (q : P) → (pcs q).Adm := fun q => (cfgs q).toPCfg_adm
  have kt : PLaunchFacts₀ (nD := nD) (τ := τ) pcs p := kit.toP
  let rest := restRefsP sig (Prefetch.none (sig := sig)) (cfgs p).spec
  let V : (c : Dev nD) → (b : Ref sig .tc) → Buf Val ((c.tc : Thread nD τ).loc b) := fun c b => V₀ c (Proc.devRef .tc b)
  have split : ∀ c, (unscopedRestP (Ix := Unit) (Name := ℕ) (U := UD sig nD τ) (Lvl := ℕ) Prefetch.none (cfgs p).spec c (V c) : sProp 𝕄) = _ :=
    fun c => unscopedRestP_sdiff Prefetch.none (cfgs p).spec H (hH.trans wide) c (V c)
  exact RDat.θ_run_region_pf_tail'_quiescent pcs a (RDat.familyOf pcs a p rdat) () (kt.cellOf_inj a) p kt.win ho kt.pre embL defs₀ 𝒱₀ m g main
    (fun _ => chain ([ops].map StableHlo.seq)) (fun c => by rw [RDat.familyOf_self]; exact hbody c)
    kt.block_pos kt.arr_whole kt.stage_whole (fun c t => by rw [RDat.familyOf_self]; exact howed c t)
    (G := fun _ => iprop(emp)) (u₀ := (initOf (cells (pin pcs a) (kt.cellOf_inj a)) (launchToks (pin pcs a) (kt.cellOf_inj a)), 1))
    (hu₀ := by
      iintro Hu
      ihave Hu' := (ownU_pair _ _) $$ Hu
      icases Hu' with ⟨Hc, -⟩
      imodintro
      isplitl [Hc]; · iexact Hc
      iapply (show (BI.emp : sProp 𝕄) ⊢ bigSep Finset.univ (fun _ : Dev nD => (BI.emp : sProp 𝕄)) from Entails.of_eq (BI.bigSep_emp_const _).symm)
      iempintro)
    (V := V) (hmain := hmain)
    (hsplit := fun c => by rw [RDat.familyOf_self]; exact (rdat c).arrays_split_shared kt.sharedIn kt.arr_whole (hq c) (V c) _ (hA c))
    (hpf := fun _ k => k.elim0)
    (X := fun c => iprop((∃ r, prngReg c r) ∗ ownSems0 (Ix := Unit) (Name := ℕ) (U := UD sig nD τ) (Lvl := ℕ) (Val := Val) (τ := τ) osem c
      ∗ bigSep H fun b => ((c.tc : Thread nD τ).loc b) ↦{fullShare} V c b))
    (Y := fun c => iprop((∃ r, prngReg c r) ∗ bigSep H fun b => ((c.tc : Thread nD τ).loc b) ↦{fullShare} V c b))
    (Z := fun c => bigSep (rest \ H) fun b => ((c.tc : Thread nD τ).loc b) ↦{fullShare} V c b)
    (Y' := fun _ => iprop(emp))
    (Z' := fun c => iprop(∃ A, ⌜Allowed (cfgs p) c (rdat c) A⌝ ∗ bigSep rest fun b => ((c.tc : Thread nD τ).loc b) ↦{fullShare} leftAt (cfgs p) c (V₀ c) ops A b))
    (hX := fun c => by
      iintro ⟨HU, Ho, -, Hp, -⟩; imodintro
      ihave HU' := (Entails.of_eq (split c)) $$ HU
      icases HU' with ⟨HH, HZ⟩
      isplitr [HZ]
      · isplitl [Hp]; · iexists _; iexact Hp
        isplitl [Ho]; · iexact Ho
        iexact HH
      · iexact HZ)
    (hin := fun c => by
      rw [RDat.familyOf_self]
      exact (show _ ⊢ ΦD osem (cfgs p).spec H V c by
        rw [ΦD_eq]; iintro ⟨⟨Hp, Ho, HH⟩, -, Hr⟩
        isplitl [Hr]; · iexact Hr
        isplitl [Hp]; · iexact Hp
        isplitl [Ho]; · iexact Ho
        iexact HH).trans (hin c))
    (hout := fun c => by
      rw [RDat.familyOf_self]
      exact (hout c).trans (by
        rw [ΦD_eq]
        iintro ⟨Hr, Hp, Ho, HH⟩
        isplitl [Hp HH]
        · isplitl [Hp]; · iexact Hp
          iexact HH
        isplitl [Ho]; · iexact Ho
        iexact Hr))
    (htail := fun c Q' => by
      rw [RDat.familyOf_self]
      iintro ⟨Hk, Hb, Ha, ⟨-, HH⟩, HZ⟩
      ihave Ha' := (arrays_open (cfgs p) c (rdat c)).1 $$ Ha
      icases Ha' with ⟨%A, %hA', Ha⟩
      have same : ∀ w w', w ≠ w' → arrRef (cfgs p).spec w = arrRef (cfgs p).spec w' → A w = V₀ c (Proc.devRef .tc (arrRef (cfgs p).spec w)) := fun w w' hne e =>
        (rdat c).ArrAt_sharedIn kt.sharedIn (V₀ c) (hA c) (cfgs p).N A hA' w w' hne e
      have behind : (rdat c).arrays A = arrBufs (cfgs p).spec c (fun b => withArrays (cfgs p).spec c (V₀ c) A (Proc.devRef .tc b)) :=
        ((rdat c).arrBufs_eq_arrays kt.sharedIn kt.arr_whole (hq c) _ A fun w => (withArrays_arr_shared (cfgs p).spec c _ A same w).symm).symm
      have whole : (StableHlo.held (c.tc : Thread nD τ) (tailRefs sig Prefetch.none (cfgs p).spec) (withArrays (cfgs p).spec c (V₀ c) A) : sProp 𝕄)
          = iprop((rdat c).arrays A ∗ (bigSep H fun b => ((c.tc : Thread nD τ).loc b) ↦{fullShare} V c b)
              ∗ bigSep (rest \ H) fun b => ((c.tc : Thread nD τ).loc b) ↦{fullShare} V c b) := by
        rw [held_tailRefs_bufs Prefetch.none (cfgs p).spec c, unscopedRestP_withArrays, behind, split c]
      ihave Hheld := (show iprop(boundary (c.tc : Thread nD τ) ∗ (rdat c).arrays A ∗ (bigSep H fun b => ((c.tc : Thread nD τ).loc b) ↦{fullShare} V c b)
            ∗ bigSep (rest \ H) fun b => ((c.tc : Thread nD τ).loc b) ↦{fullShare} V c b)
          ⊢ iprop(boundary (c.tc : Thread nD τ) ∗ (StableHlo.held (c.tc : Thread nD τ) (tailRefs sig Prefetch.none (cfgs p).spec) (withArrays (cfgs p).spec c (V₀ c) A) : sProp 𝕄))
          from by rw [whole]) $$ [Hb Ha HH HZ]
      · isplitl [Hb]; · iexact Hb
        isplitl [Ha]; · iexact Ha
        isplitl [HH]; · iexact HH
        iexact HZ
      rw [← List.append_nil ([ops].map StableHlo.seq)]
      iapply (wp_seqs_then pcs defs₀ 𝒱₀ c (tailRefs sig Prefetch.none (cfgs p).spec) [] [ops] (by simpa using hsub) (by simpa using hfresh) (withArrays (cfgs p).spec c (V₀ c) A)) $$ Hheld
      · rw [chain_nil, wp_pure, held_tailRefs_bufs Prefetch.none (cfgs p).spec c,
          arrBufs_after (Ix := Unit) (Name := ℕ) (U := UD sig nD τ) (Lvl := ℕ) (cfgs p).spec c (withArrays (cfgs p).spec c (V₀ c) A) [ops] (by simpa using hkeep), ← behind]
        iintro ⟨Hb, Ha, Hu⟩
        imodintro
        iapply Hk
        isplitl [Hb]; · iexact Hb
        isplitl [Ha]
        · iapply (arrays_open (cfgs p) c (rdat c)).2
          iexists A
          isplitr; · ipureintro; exact hA'
          iexact Ha
        isplitr
        · iempintro
        · iexists A
          isplitr; · ipureintro; exact hA'
          iapply (show (unscopedRestP (Ix := Unit) (Name := ℕ) (U := UD sig nD τ) (Lvl := ℕ) Prefetch.none (cfgs p).spec c
              (fun b => StableHlo.after [ops].flatten (withArrays (cfgs p).spec c (V₀ c) A) (Proc.devRef .tc b)) : sProp 𝕄)
            ⊢ bigSep rest fun b => ((c.tc : Thread nD τ).loc b) ↦{fullShare} leftAt (cfgs p) c (V₀ c) ops A b from by
              rw [List.flatten_cons, List.flatten_nil, List.append_nil]; exact .rfl) $$ Hu)
    (QY := fun c s => ∃ A, Allowed (cfgs p) c (rdat c) A ∧ ∀ b ∈ rest, s.mem ((c.tc : Thread nD τ).loc b) = leftAt (cfgs p) c (V₀ c) ops A b)
    (hY := fun c s' => by
      iintro ⟨-, ⟨%A, %hA', HZ⟩, HSI⟩
      ihave HZ' := (pointsTo_read_all rest (fun b => (c.tc : Thread nD τ).loc b) (leftAt (cfgs p) c (V₀ c) ops A) s') $$ [HZ HSI]
      · isplitl [HZ] <;> iassumption
      icases HZ' with ⟨%hZ, HSI⟩
      imodintro
      isplitr
      · ipureintro; exact ⟨A, hA', hZ⟩
      · iexact HSI)
    (hQ := fun s h hz => ⟨fun c => ⟨fun w => by simpa only [RDat.familyOf_self] using (h c).1 w,
      (h c).2.2.elim fun A hA' => ⟨A, hA'.1, fun b hb => hA'.2 b (wide hb)⟩⟩, hz⟩)

end Cert.Seq.Around

end
-- ==== Proof.SeqLaunch.lean ====
/- The backward call's launch: its own counters, what the region is entered and left with, the lines around it, and the arguments as
   launched. -/
module

public import proofs.«01_k».proof.Proof.SeqHost
public import proofs.«01_k».proof.Proof.SeqAround

@[expose] public section
set_option maxRecDepth 16384
noncomputable section

namespace Cert.Seq
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-! ## The lines before and after -/

theorem tame_all : ∀ op ∈ List.flatten (lines (F := F)), Tame op := by
  intro op h
  simp only [lines, List.flatten_cons, List.flatten_nil, List.append_nil, List.mem_append] at h
  rcases h with h | h | h | h | h
  · exact (List.forall_iff_forall_mem.mp tame0) op h
  · exact (List.forall_iff_forall_mem.mp tame1) op h
  · exact (List.forall_iff_forall_mem.mp tame2) op h
  · exact (List.forall_iff_forall_mem.mp tame3) op h
  · exact (List.forall_iff_forall_mem.mp tame4) op h

/-- An argument is as launched when the region is entered. -/
theorem at0_arg (c : Dev nD) (b : Ref sig .tc) (h : b ∈ args) : at0 m c b = m ((c : Thread nD τ).loc b) :=
  StableHlo.after_of_forall_not_mem (b := Proc.devRef .tc b) _ _ fun op hop hw => by
    obtain ⟨-, r, hr, hn⟩ := tame_all op hop
    rw [hr, Finset.mem_singleton] at hw
    exact StableHlo.devRef_ne_of_ne (x := b) (y := r) (by rintro rfl; exact hn h) hw

theorem main_around : Pipeline.HMainK (Ix := Unit) (Name := ℕ) (U := Pipeline.UD sig nD τ) (Lvl := ℕ) cfgs 0 defs₀ Variants.none m (main (F := F)) (at0 m)
    (fun _ => Pipeline.chain ([hostOps1].map StableHlo.seq)) :=
  Pipeline.hmain_around cfgs 0 defs₀ Variants.none m main lines [hostOps1]
    (by simp only [List.Forall]; exact ⟨hostOps0_sub, hostOps0_1_sub, hostOps0_2_sub, hostOps0_3_sub, hostOps0_4_sub⟩)
    (List.forall_iff_forall_mem.mpr fun l hl => List.forall_iff_forall_mem.mpr fun op hop => (tame_all op (List.mem_flatten.mpr ⟨l, hl, hop⟩)).1)
    main_chain

theorem last_sub : ∀ op ∈ (hostOps1 : List (HloOp τ sig (Elt F))), op.bufs ⊆ Pipeline.tailRefs sig Pipeline.Prefetch.none spec0 := fun op h =>
  Pipeline.sub_tailRefs Pipeline.Prefetch.none spec0 op ((List.forall_iff_forall_mem.mp hostOps1_sub) op h) (fun j => j.elim0)
theorem last_fresh : ∀ op ∈ (hostOps1 : List (HloOp τ sig (Elt F))), op.fresh = ∅ := fun op h => ((List.forall_iff_forall_mem.mp tame_last) op h).1
theorem last_keeps : ∀ op ∈ (hostOps1 : List (HloOp τ sig (Elt F))), ∀ w, Proc.devRef .tc (Pipeline.arrRef spec0 w) ∉ op.writes := by
  intro op hop w
  simp only [hostOps1, List.mem_cons, List.mem_nil_iff, or_false] at hop
  rcases hop with rfl | rfl <;> rw [StableHlo.unary_writes, Finset.mem_singleton] <;> refine StableHlo.devRef_ne_of_ne ?_ <;> revert w <;> decide

/-! ## The launch's invariant, opened -/

/-- The three copies' counters. -/
abbrev ownCells : Fin 3 → SemLoc sig := fun j => (![SemLoc.dma 32, SemLoc.dma 33, SemLoc.dma 34] : Fin 3 → SemLoc sig) j
theorem ownCells_facts : Pipeline.OwnSemFacts spec0 ownCells := by decide
/-- The array the body reads by copies of its own. -/
def copiedRefs : Finset (Ref sig .tc) := {main_arg0}
theorem copiedRefs_sub : copiedRefs ⊆ Pipeline.restRefs sig spec0 := by decide

variable (G : (c : Dev nD) → (b : Ref sig .tc) → Buf (Elt F) ((c : Thread nD τ).loc b))

/-- The scratch the body takes whole, at anything. -/
def scratch (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f))
/-- Before point `k`: the scratch, the generator's register, the copies. -/
def before (c : Dev nD) (k : ℕ) : sProp 𝕄 := iprop(scratch c ∗ (∃ r, prngReg c r) ∗ copies c (G c main_arg0) k)

theorem launch_eq (c : Dev nD) : (Pipeline.ΦD ownCells spec0 copiedRefs G c : sProp 𝕄)
    = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ d, owns (c : Thread nD τ) zRing fullShare d)) ∗ (∃ r, prngReg c r) ∗ Zeros c ∗ ((c : Thread nD τ).loc main_arg0 ↦{fullShare} G c main_arg0)) := by
  rw [Pipeline.ΦD_eq, scopedRest0_eq, Pipeline.ownSems0_eq_of_list c ownCells [0, 1, 2] (by decide) (by decide),
    BI.bigSep_eq_bigSepL_of_eq (S := copiedRefs) [main_arg0] (by decide) (by decide)]
  simp only [zRing, owns_whole]
  rfl

theorem launch_start (c : Dev nD) : Pipeline.ΦD ownCells spec0 copiedRefs G c ⊢ before G c 0 := by
  rw [launch_eq]; unfold before scratch
  iintro ⟨⟨S0, S1, S2, S3, S4, S5, S6, HR⟩, Hg, HK, HZ⟩
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  isplitl [Hg]; · iexact Hg
  iapply (copies_start c (G c main_arg0))
  isplitl [HR]; · iexact HR
  isplitl [HK]; · iexact HK
  iexact HZ

theorem launch_end (c : Dev nD) : before G c 16 ⊢ Pipeline.ΦD ownCells spec0 copiedRefs G c := by
  rw [launch_eq]; unfold before scratch
  iintro ⟨⟨S0, S1, S2, S3, S4, S5, S6⟩, Hg, HC⟩
  ihave HC' := (copies_end c (G c main_arg0)) $$ HC
  icases HC' with ⟨HR, HK, HZ⟩
  isplitl [S0 S1 S2 S3 S4 S5 S6 HR]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact HR
  isplitl [Hg]; · iexact Hg
  isplitl [HK]; · iexact HK
  iexact HZ

end Cert.Seq

end
-- ==== Proof.SeqRun.lean ====
/- One point of the backward call, as assertions: the buffers it works in, what it is given and what it leaves. -/
module

public import proofs.«01_k».proof.Proof.SeqRing

@[expose] public section
set_option maxRecDepth 16384
noncomputable section

namespace Cert.Seq
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The buffers a point works in: its inputs' staging, its two outputs', and the scratch carried from point to point. -/
structure Stage where
  m3 : Memref sig .tc .vmem S1x256x1024 .f32
  w3 : m3.IsWhole
  m4 : Memref sig .tc .vmem S1x8x1024 .f32
  w4 : m4.IsWhole
  m5 : Memref sig .tc .vmem S1x256x1024 .f32
  w5 : m5.IsWhole
  m6 : Memref sig .tc .vmem S1x256x1024 .f32
  w6 : m6.IsWhole
  m7 : Memref sig .tc .vmem S1x256x1024 .f32
  w7 : m7.IsWhole
  m8 : Memref sig .tc .vmem S1x256x1024 .f32
  w8 : m8.IsWhole
  m9 : Memref sig .tc .vmem S1x256x512 .bf16
  w9 : m9.IsWhole
  m10 : Memref sig .tc .vmem S1x256x512 .f32
  w10 : m10.IsWhole
  m11 : Memref sig .tc .vmem S1x256x1024 .f32
  w11 : m11.IsWhole
  m12 : Memref sig .tc .vmem S1x256x512 .f32
  w12 : m12.IsWhole
  m13 : Memref sig .tc .vmem S1x256x2048 .bf16
  w13 : m13.IsWhole
  m14 : Memref sig .tc .vmem S4x1024 .f32
  w14 : m14.IsWhole
  m15 : Memref sig .tc .vmem S8x128x128 .bf16
  w15 : m15.IsWhole
  m16 : Memref sig .tc .vmem S8x128x128 .bf16
  w16 : m16.IsWhole
  m17 : Memref sig .tc .vmem S1x1024 .f32
  w17 : m17.IsWhole
  m18 : Memref sig .tc .vmem S4x128x128 .bf16
  w18 : m18.IsWhole
  m19 : Memref sig .tc .vmem S1x512 .f32
  w19 : m19.IsWhole
  m20 : Memref sig .tc .vmem S24x128 .f32
  w20 : m20.IsWhole
  m21 : Memref sig .tc .vmem S1x256x5120 .bf16
  w21 : m21.IsWhole
  m22 : Memref sig .tc .vmem S3072x128 .f32
  w22 : m22.IsWhole
  m23 : Memref sig .tc .vmem S264x1024 .f32
  w23 : m23.IsWhole
  m24 : Memref sig .tc .vmem S256x1024 .f32
  w24 : m24.IsWhole
  m25 : Memref sig .tc .vmem S264x1024 .f32
  w25 : m25.IsWhole
  m26 : Memref sig .tc .vmem S256x1024 .f32
  w26 : m26.IsWhole
  m27 : Memref sig .tc .vmem S272x1024 .f32
  w27 : m27.IsWhole
  m28 : Memref sig .tc .vmem S272x512 .f32
  w28 : m28.IsWhole
  m29 : Memref sig .tc .vmem S8x1024 .f32
  w29 : m29.IsWhole

/-- A point's input blocks. -/
structure Ins (F : FTy → Type) where
  x3 : Vec F S1x256x1024 .f32
  x4 : Vec F S1x8x1024 .f32
  x5 : Vec F S1x256x1024 .f32
  x6 : Vec F S1x256x1024 .f32
  x7 : Vec F S1x256x1024 .f32
  x8 : Vec F S1x256x1024 .f32
  x9 : Vec F S1x256x512 .bf16
  x10 : Vec F S1x256x512 .f32
  x11 : Vec F S1x256x1024 .f32
  x12 : Vec F S1x256x512 .f32
  x13 : Vec F S1x256x2048 .bf16
  x14 : Vec F S4x1024 .f32
  x15 : Vec F S8x128x128 .bf16
  x16 : Vec F S8x128x128 .bf16
  x17 : Vec F S1x1024 .f32
  x18 : Vec F S4x128x128 .bf16
  x19 : Vec F S1x512 .f32
  x20 : Vec F S24x128 .f32

section Parts
variable (c : Dev nD) (s : Stage)
/-- A buffer held whole, at given contents. -/
abbrev Full {S : Shape} {e : EltTy} (M : Memref sig .tc .vmem S e) (f : Whole (F := F) c M) : sProp 𝕄 := M.view.loc (c : Thread nD τ) ↦[M.view.set]{fullShare} f
/-- The inputs at their blocks. -/
def Given (x : Ins F) : sProp 𝕄 :=
  iprop(Full c s.m3 (s.w3.unread x.x3) ∗ Full c s.m4 (s.w4.unread x.x4) ∗ Full c s.m5 (s.w5.unread x.x5) ∗ Full c s.m6 (s.w6.unread x.x6) ∗ Full c s.m7 (s.w7.unread x.x7) ∗ Full c s.m8 (s.w8.unread x.x8) ∗ Full c s.m9 (s.w9.unread x.x9) ∗ Full c s.m10 (s.w10.unread x.x10) ∗ Full c s.m11 (s.w11.unread x.x11) ∗ Full c s.m12 (s.w12.unread x.x12) ∗ Full c s.m13 (s.w13.unread x.x13) ∗ Full c s.m14 (s.w14.unread x.x14) ∗ Full c s.m15 (s.w15.unread x.x15) ∗ Full c s.m16 (s.w16.unread x.x16) ∗ Full c s.m17 (s.w17.unread x.x17) ∗ Full c s.m18 (s.w18.unread x.x18) ∗ Full c s.m19 (s.w19.unread x.x19) ∗ Full c s.m20 (s.w20.unread x.x20))
/-- The first output's buffer and the scratch, at anything. -/
def Loose : sProp 𝕄 :=
  iprop((∃ f, Full (F := F) c s.m21 f) ∗ (∃ f, Full (F := F) c s.m23 f) ∗ (∃ f, Full (F := F) c s.m24 f) ∗ (∃ f, Full (F := F) c s.m25 f) ∗ (∃ f, Full (F := F) c s.m26 f) ∗ (∃ f, Full (F := F) c s.m27 f) ∗ (∃ f, Full (F := F) c s.m28 f) ∗ (∃ f, Full (F := F) c s.m29 f))
/-- The body of point `t`, run from one assertion to another, whatever waits are on record. -/
def Runs (t : Fin grid0.N) (pre post : sProp 𝕄) : Prop :=
  ∀ (W : Waits sig Unit) (K : PUnit → sProp 𝕄),
    iprop(pre ∗ owes (c : Thread nD τ) 0 W ∗ (iprop(post ∗ (∃ W', owes (c : Thread nD τ) 0 W')) -∗ K ⟨⟩))
      ⊢ wp frame (wpE (defs₀ (F := F)) Variants.none c none) Set.univ (cc0_bwd_seq (grid0.coords t) zAll (Memref.isWhole_whole _) s.m3 s.w3 s.m4 s.w4 s.m5 s.w5 s.m6 s.w6 s.m7 s.w7 s.m8 s.w8 s.m9 s.w9 s.m10 s.w10 s.m11 s.w11 s.m12 s.w12 s.m13 s.w13 s.m14 s.w14 s.m15 s.w15 s.m16 s.w16 s.m17 s.w17 s.m18 s.w18 s.m19 s.w19 s.m20 s.w20 s.m21 s.w21 s.m22 s.w22 s.m23 s.w23 s.m24 s.w24 s.m25 s.w25 s.m26 s.w26 s.m27 s.w27 s.m28 s.w28 s.m29 s.w29 zRing (Memref.isWhole_whole _) cc0_scratch8) K
end Parts

/-! ## What a point adds to the pool's rows of the pack -/

/-- A group's weights' sums with one block's added: differences times the gated, scaled cotangent. -/
def weightsPlus (d : Vec F S1x256x128 .bf16) (s : Vec F S1x128 .f32) (z : Vec F S256x128 .f32) (y : Vec F S1x256x128 .f32) (o : Vec F S128x128 .f32) : FVec F S128x128 .f32 :=
  k0_pay379 (k0_pay370 d) s (k0_pay373 y) (k0_pay374 z) o
/-- A group's scales' sums with one block's added: the gated cotangent times the pooled product, column by column. -/
def scalesPlus (v : Vec F S1x256x128 .f32) (z : Vec F S256x128 .f32) (y : Vec F S1x256x128 .f32) (o : Vec F S1x128 .f32) : FVec F S1x128 .f32 :=
  k0_pay377 (k0_pay371 v) (k0_pay373 y) (k0_pay374 z) o

/-- The pack's rows of the pool, from what a point finds to what it leaves: group by group. -/
structure Gained (x : Ins F) (z : Vec F S256x3072 .f32) (o n : Vec F S3072x128 .f32) : Prop where
  w0 : View.ld n (Rect.unit (s := S3072x128) ![2048, 0] S128x128.size inb_S3072x128_S128x128_2048_0) = weightsPlus (View.ld x.x9 (Rect.unit (s := S1x256x512) ![0, 0, 0] S1x256x128.size inb_S1x256x512_S1x256x128_0_0_0)) (View.ld x.x19 (Rect.unit (s := S1x512) ![0, 0] S1x128.size inb_S1x512_S1x128_0_0)) (View.ld z (Rect.unit (s := S256x3072) ![0, 2560] S256x128.size inb_S256x3072_S256x128_0_2560)) (View.ld x.x12 (Rect.unit (s := S1x256x512) ![0, 0, 0] S1x256x128.size inb_S1x256x512_S1x256x128_0_0_0)) (View.ld o (Rect.unit (s := S3072x128) ![2048, 0] S128x128.size inb_S3072x128_S128x128_2048_0))
  s0 : View.ld n (Rect.unit (s := S3072x128) ![2624, 0] S1x128.size inb_S3072x128_S1x128_2624_0) = scalesPlus (View.ld x.x10 (Rect.unit (s := S1x256x512) ![0, 0, 0] S1x256x128.size inb_S1x256x512_S1x256x128_0_0_0)) (View.ld z (Rect.unit (s := S256x3072) ![0, 2560] S256x128.size inb_S256x3072_S256x128_0_2560)) (View.ld x.x12 (Rect.unit (s := S1x256x512) ![0, 0, 0] S1x256x128.size inb_S1x256x512_S1x256x128_0_0_0)) (View.ld o (Rect.unit (s := S3072x128) ![2624, 0] S1x128.size inb_S3072x128_S1x128_2624_0))
  w1 : View.ld n (Rect.unit (s := S3072x128) ![2176, 0] S128x128.size inb_S3072x128_S128x128_2176_0) = weightsPlus (View.ld x.x9 (Rect.unit (s := S1x256x512) ![0, 0, 128] S1x256x128.size inb_S1x256x512_S1x256x128_0_0_128)) (View.ld x.x19 (Rect.unit (s := S1x512) ![0, 128] S1x128.size inb_S1x512_S1x128_0_128)) (View.ld z (Rect.unit (s := S256x3072) ![0, 2688] S256x128.size inb_S256x3072_S256x128_0_2688)) (View.ld x.x12 (Rect.unit (s := S1x256x512) ![0, 0, 128] S1x256x128.size inb_S1x256x512_S1x256x128_0_0_128)) (View.ld o (Rect.unit (s := S3072x128) ![2176, 0] S128x128.size inb_S3072x128_S128x128_2176_0))
  s1 : View.ld n (Rect.unit (s := S3072x128) ![2625, 0] S1x128.size inb_S3072x128_S1x128_2625_0) = scalesPlus (View.ld x.x10 (Rect.unit (s := S1x256x512) ![0, 0, 128] S1x256x128.size inb_S1x256x512_S1x256x128_0_0_128)) (View.ld z (Rect.unit (s := S256x3072) ![0, 2688] S256x128.size inb_S256x3072_S256x128_0_2688)) (View.ld x.x12 (Rect.unit (s := S1x256x512) ![0, 0, 128] S1x256x128.size inb_S1x256x512_S1x256x128_0_0_128)) (View.ld o (Rect.unit (s := S3072x128) ![2625, 0] S1x128.size inb_S3072x128_S1x128_2625_0))
  w2 : View.ld n (Rect.unit (s := S3072x128) ![2304, 0] S128x128.size inb_S3072x128_S128x128_2304_0) = weightsPlus (View.ld x.x9 (Rect.unit (s := S1x256x512) ![0, 0, 256] S1x256x128.size inb_S1x256x512_S1x256x128_0_0_256)) (View.ld x.x19 (Rect.unit (s := S1x512) ![0, 256] S1x128.size inb_S1x512_S1x128_0_256)) (View.ld z (Rect.unit (s := S256x3072) ![0, 2816] S256x128.size inb_S256x3072_S256x128_0_2816)) (View.ld x.x12 (Rect.unit (s := S1x256x512) ![0, 0, 256] S1x256x128.size inb_S1x256x512_S1x256x128_0_0_256)) (View.ld o (Rect.unit (s := S3072x128) ![2304, 0] S128x128.size inb_S3072x128_S128x128_2304_0))
  s2 : View.ld n (Rect.unit (s := S3072x128) ![2626, 0] S1x128.size inb_S3072x128_S1x128_2626_0) = scalesPlus (View.ld x.x10 (Rect.unit (s := S1x256x512) ![0, 0, 256] S1x256x128.size inb_S1x256x512_S1x256x128_0_0_256)) (View.ld z (Rect.unit (s := S256x3072) ![0, 2816] S256x128.size inb_S256x3072_S256x128_0_2816)) (View.ld x.x12 (Rect.unit (s := S1x256x512) ![0, 0, 256] S1x256x128.size inb_S1x256x512_S1x256x128_0_0_256)) (View.ld o (Rect.unit (s := S3072x128) ![2626, 0] S1x128.size inb_S3072x128_S1x128_2626_0))
  w3 : View.ld n (Rect.unit (s := S3072x128) ![2432, 0] S128x128.size inb_S3072x128_S128x128_2432_0) = weightsPlus (View.ld x.x9 (Rect.unit (s := S1x256x512) ![0, 0, 384] S1x256x128.size inb_S1x256x512_S1x256x128_0_0_384)) (View.ld x.x19 (Rect.unit (s := S1x512) ![0, 384] S1x128.size inb_S1x512_S1x128_0_384)) (View.ld z (Rect.unit (s := S256x3072) ![0, 2944] S256x128.size inb_S256x3072_S256x128_0_2944)) (View.ld x.x12 (Rect.unit (s := S1x256x512) ![0, 0, 384] S1x256x128.size inb_S1x256x512_S1x256x128_0_0_384)) (View.ld o (Rect.unit (s := S3072x128) ![2432, 0] S128x128.size inb_S3072x128_S128x128_2432_0))
  s3 : View.ld n (Rect.unit (s := S3072x128) ![2627, 0] S1x128.size inb_S3072x128_S1x128_2627_0) = scalesPlus (View.ld x.x10 (Rect.unit (s := S1x256x512) ![0, 0, 384] S1x256x128.size inb_S1x256x512_S1x256x128_0_0_384)) (View.ld z (Rect.unit (s := S256x3072) ![0, 2944] S256x128.size inb_S256x3072_S256x128_0_2944)) (View.ld x.x12 (Rect.unit (s := S1x256x512) ![0, 0, 384] S1x256x128.size inb_S1x256x512_S1x256x128_0_0_384)) (View.ld o (Rect.unit (s := S3072x128) ![2627, 0] S1x128.size inb_S3072x128_S1x128_2627_0))

section Reads
variable {κ : Kind} {sp : Space} {S : Shape} {e : EltTy} {Val : EltTy → Type}
/-- What the latest store left is read back; -/
theorem read_here (v : View sig κ sp S e) (f : v.ty.Contents Val) (r : Rect S) (w : r.shape.Idx → Val e) (L : List (View.Piece Val S e)) :
    v.readAt Val r.toLoadRect (v.writes Val f (⟨r, w⟩ :: L)) = w := by
  rw [View.readAt_rect, View.writes_cons]; exact View.read_write_univ _ _
/-- a store elsewhere is passed over. -/
theorem read_past (v : View sig κ sp S e) (f : v.ty.Contents Val) (r : Rect S) (w : r.shape.Idx → Val e) (L : List (View.Piece Val S e)) (B : LoadRect S)
    (h : LoadRect.disj r B = true) : v.readAt Val B (v.writes Val f (⟨r, w⟩ :: L)) = v.readAt Val B (v.writes Val f L) := by
  funext j
  rw [View.readAt_apply, View.readAt_apply, View.writes_cons]
  exact View.read_slice_write_of_not_mem _ _ _ _ (fun hm => LoadRect.idx_not_mem_of_disj h j (by rwa [Rect.map_emb_univ] at hm))
/-- What fills a buffer is what a load reads of it. -/
theorem read_fill [∀ e, Nonempty (Val e)] (v : View sig κ sp S e) (z : S.Idx → Val e) (r : Rect S) :
    v.readCov [⟨Rect.whole S, z⟩] r.toLoadRect = View.ld z r := by
  have one : ∀ y, View.canon [(⟨Rect.whole S, z⟩ : View.Piece Val S e)] y = z y := fun y => by
    have h := View.canon_cons_emb (Rect.whole S) z [] y
    rwa [Rect.emb_whole_apply] at h
  rw [View.readCov_eq_canon']; funext j; exact one _
end Reads

/-- The rows' gain from the loads as the body makes them. -/
theorem gained {c : Dev nD} (s : Stage) (x : Ins F) (k : Fin 3) (z : Vec F S256x3072 .f32) (o : Vec F S3072x128 .f32) (f : Whole (F := F) c s.m22)
    {a0 a1 a2 a3 : Vec F S128x128 .f32} {b0 b1 b2 b3 : Vec F S1x128 .f32}
    (w0 : s.m22.view.readAt (Elt F) (Rect.unit (s := S3072x128) ![2048, 0] S128x128.size inb_S3072x128_S128x128_2048_0).toLoadRect f = weightsPlus (s.m9.view.readAt (Elt F) (Rect.unit (s := S1x256x512) ![0, 0, 0] S1x256x128.size inb_S1x256x512_S1x256x128_0_0_0).toLoadRect (s.w9.unread x.x9)) (s.m19.view.readAt (Elt F) (Rect.unit (s := S1x512) ![0, 0] S1x128.size inb_S1x512_S1x128_0_0).toLoadRect (s.w19.unread x.x19)) ((slot k).view.readCov [⟨Rect.whole S256x3072, ReadAs.same.apply z⟩] (Rect.unit (s := S256x3072) ![0, 2560] S256x128.size inb_S256x3072_S256x128_0_2560).toLoadRect) (s.m12.view.readAt (Elt F) (Rect.unit (s := S1x256x512) ![0, 0, 0] S1x256x128.size inb_S1x256x512_S1x256x128_0_0_0).toLoadRect (s.w12.unread x.x12)) a0)
    (s0 : s.m22.view.readAt (Elt F) (Rect.unit (s := S3072x128) ![2624, 0] S1x128.size inb_S3072x128_S1x128_2624_0).toLoadRect f = scalesPlus (s.m10.view.readAt (Elt F) (Rect.unit (s := S1x256x512) ![0, 0, 0] S1x256x128.size inb_S1x256x512_S1x256x128_0_0_0).toLoadRect (s.w10.unread x.x10)) ((slot k).view.readCov [⟨Rect.whole S256x3072, ReadAs.same.apply z⟩] (Rect.unit (s := S256x3072) ![0, 2560] S256x128.size inb_S256x3072_S256x128_0_2560).toLoadRect) (s.m12.view.readAt (Elt F) (Rect.unit (s := S1x256x512) ![0, 0, 0] S1x256x128.size inb_S1x256x512_S1x256x128_0_0_0).toLoadRect (s.w12.unread x.x12)) b0)
    (ha0 : a0 = View.ld o (Rect.unit (s := S3072x128) ![2048, 0] S128x128.size inb_S3072x128_S128x128_2048_0)) (hb0 : b0 = View.ld o (Rect.unit (s := S3072x128) ![2624, 0] S1x128.size inb_S3072x128_S1x128_2624_0))
    (w1 : s.m22.view.readAt (Elt F) (Rect.unit (s := S3072x128) ![2176, 0] S128x128.size inb_S3072x128_S128x128_2176_0).toLoadRect f = weightsPlus (s.m9.view.readAt (Elt F) (Rect.unit (s := S1x256x512) ![0, 0, 128] S1x256x128.size inb_S1x256x512_S1x256x128_0_0_128).toLoadRect (s.w9.unread x.x9)) (s.m19.view.readAt (Elt F) (Rect.unit (s := S1x512) ![0, 128] S1x128.size inb_S1x512_S1x128_0_128).toLoadRect (s.w19.unread x.x19)) ((slot k).view.readCov [⟨Rect.whole S256x3072, ReadAs.same.apply z⟩] (Rect.unit (s := S256x3072) ![0, 2688] S256x128.size inb_S256x3072_S256x128_0_2688).toLoadRect) (s.m12.view.readAt (Elt F) (Rect.unit (s := S1x256x512) ![0, 0, 128] S1x256x128.size inb_S1x256x512_S1x256x128_0_0_128).toLoadRect (s.w12.unread x.x12)) a1)
    (s1 : s.m22.view.readAt (Elt F) (Rect.unit (s := S3072x128) ![2625, 0] S1x128.size inb_S3072x128_S1x128_2625_0).toLoadRect f = scalesPlus (s.m10.view.readAt (Elt F) (Rect.unit (s := S1x256x512) ![0, 0, 128] S1x256x128.size inb_S1x256x512_S1x256x128_0_0_128).toLoadRect (s.w10.unread x.x10)) ((slot k).view.readCov [⟨Rect.whole S256x3072, ReadAs.same.apply z⟩] (Rect.unit (s := S256x3072) ![0, 2688] S256x128.size inb_S256x3072_S256x128_0_2688).toLoadRect) (s.m12.view.readAt (Elt F) (Rect.unit (s := S1x256x512) ![0, 0, 128] S1x256x128.size inb_S1x256x512_S1x256x128_0_0_128).toLoadRect (s.w12.unread x.x12)) b1)
    (ha1 : a1 = View.ld o (Rect.unit (s := S3072x128) ![2176, 0] S128x128.size inb_S3072x128_S128x128_2176_0)) (hb1 : b1 = View.ld o (Rect.unit (s := S3072x128) ![2625, 0] S1x128.size inb_S3072x128_S1x128_2625_0))
    (w2 : s.m22.view.readAt (Elt F) (Rect.unit (s := S3072x128) ![2304, 0] S128x128.size inb_S3072x128_S128x128_2304_0).toLoadRect f = weightsPlus (s.m9.view.readAt (Elt F) (Rect.unit (s := S1x256x512) ![0, 0, 256] S1x256x128.size inb_S1x256x512_S1x256x128_0_0_256).toLoadRect (s.w9.unread x.x9)) (s.m19.view.readAt (Elt F) (Rect.unit (s := S1x512) ![0, 256] S1x128.size inb_S1x512_S1x128_0_256).toLoadRect (s.w19.unread x.x19)) ((slot k).view.readCov [⟨Rect.whole S256x3072, ReadAs.same.apply z⟩] (Rect.unit (s := S256x3072) ![0, 2816] S256x128.size inb_S256x3072_S256x128_0_2816).toLoadRect) (s.m12.view.readAt (Elt F) (Rect.unit (s := S1x256x512) ![0, 0, 256] S1x256x128.size inb_S1x256x512_S1x256x128_0_0_256).toLoadRect (s.w12.unread x.x12)) a2)
    (s2 : s.m22.view.readAt (Elt F) (Rect.unit (s := S3072x128) ![2626, 0] S1x128.size inb_S3072x128_S1x128_2626_0).toLoadRect f = scalesPlus (s.m10.view.readAt (Elt F) (Rect.unit (s := S1x256x512) ![0, 0, 256] S1x256x128.size inb_S1x256x512_S1x256x128_0_0_256).toLoadRect (s.w10.unread x.x10)) ((slot k).view.readCov [⟨Rect.whole S256x3072, ReadAs.same.apply z⟩] (Rect.unit (s := S256x3072) ![0, 2816] S256x128.size inb_S256x3072_S256x128_0_2816).toLoadRect) (s.m12.view.readAt (Elt F) (Rect.unit (s := S1x256x512) ![0, 0, 256] S1x256x128.size inb_S1x256x512_S1x256x128_0_0_256).toLoadRect (s.w12.unread x.x12)) b2)
    (ha2 : a2 = View.ld o (Rect.unit (s := S3072x128) ![2304, 0] S128x128.size inb_S3072x128_S128x128_2304_0)) (hb2 : b2 = View.ld o (Rect.unit (s := S3072x128) ![2626, 0] S1x128.size inb_S3072x128_S1x128_2626_0))
    (w3 : s.m22.view.readAt (Elt F) (Rect.unit (s := S3072x128) ![2432, 0] S128x128.size inb_S3072x128_S128x128_2432_0).toLoadRect f = weightsPlus (s.m9.view.readAt (Elt F) (Rect.unit (s := S1x256x512) ![0, 0, 384] S1x256x128.size inb_S1x256x512_S1x256x128_0_0_384).toLoadRect (s.w9.unread x.x9)) (s.m19.view.readAt (Elt F) (Rect.unit (s := S1x512) ![0, 384] S1x128.size inb_S1x512_S1x128_0_384).toLoadRect (s.w19.unread x.x19)) ((slot k).view.readCov [⟨Rect.whole S256x3072, ReadAs.same.apply z⟩] (Rect.unit (s := S256x3072) ![0, 2944] S256x128.size inb_S256x3072_S256x128_0_2944).toLoadRect) (s.m12.view.readAt (Elt F) (Rect.unit (s := S1x256x512) ![0, 0, 384] S1x256x128.size inb_S1x256x512_S1x256x128_0_0_384).toLoadRect (s.w12.unread x.x12)) a3)
    (s3 : s.m22.view.readAt (Elt F) (Rect.unit (s := S3072x128) ![2627, 0] S1x128.size inb_S3072x128_S1x128_2627_0).toLoadRect f = scalesPlus (s.m10.view.readAt (Elt F) (Rect.unit (s := S1x256x512) ![0, 0, 384] S1x256x128.size inb_S1x256x512_S1x256x128_0_0_384).toLoadRect (s.w10.unread x.x10)) ((slot k).view.readCov [⟨Rect.whole S256x3072, ReadAs.same.apply z⟩] (Rect.unit (s := S256x3072) ![0, 2944] S256x128.size inb_S256x3072_S256x128_0_2944).toLoadRect) (s.m12.view.readAt (Elt F) (Rect.unit (s := S1x256x512) ![0, 0, 384] S1x256x128.size inb_S1x256x512_S1x256x128_0_0_384).toLoadRect (s.w12.unread x.x12)) b3)
    (ha3 : a3 = View.ld o (Rect.unit (s := S3072x128) ![2432, 0] S128x128.size inb_S3072x128_S128x128_2432_0)) (hb3 : b3 = View.ld o (Rect.unit (s := S3072x128) ![2627, 0] S1x128.size inb_S3072x128_S1x128_2627_0)) :
    Gained x z o (s.m22.view.read (Elt F) f) := by
  have hz : ReadAs.same.apply z = z := rfl
  subst ha0 ha1 ha2 ha3 hb0 hb1 hb2 hb3
  simp only [hz, read_fill, View.readAt_eq_ld, Memref.IsWhole.read_unread] at w0 w1 w2 w3 s0 s1 s2 s3
  exact ⟨w0, s0, w1, s1, w2, s2, w3, s3⟩

end Cert.Seq

end
-- ==== Proof.SeqData.lean ====
/- What each point of the backward call finds and may leave: the blocks its inputs hold, and the relation between the buffers before and after it. -/
module

public import proofs.«01_k».proof.Proof.SeqLaunch
public import proofs.«01_k».proof.Proof.SeqRun

@[expose] public section
set_option maxRecDepth 16384
noncomputable section

namespace Cert.Seq
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (G : (c : Dev nD) → (b : Ref sig .tc) → Buf (Elt F) ((c : Thread nD τ).loc b))

/-! ## Blocks and buffers -/

/-- The buffers of point `t`. -/
def stageAt (t : Fin cfg0.N) : Stage := ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), win0_13.stage (cfg0.slots t 13), hstage0_13 ((cfg0.slots t 13).cast nbuf0_13), win0_14.stage (cfg0.slots t 14), hstage0_14 ((cfg0.slots t 14).cast nbuf0_14), win0_15.stage (cfg0.slots t 15), hstage0_15 ((cfg0.slots t 15).cast nbuf0_15), win0_16.stage (cfg0.slots t 16), hstage0_16 ((cfg0.slots t 16).cast nbuf0_16), win0_17.stage (cfg0.slots t 17), hstage0_17 ((cfg0.slots t 17).cast nbuf0_17), win0_18.stage (cfg0.slots t 18), hstage0_18 ((cfg0.slots t 18).cast nbuf0_18), win0_19.stage (cfg0.slots t 19), hstage0_19 ((cfg0.slots t 19).cast nbuf0_19), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _⟩
/-- Window `w`'s block of its array at point `t`. -/
def blockAt (c : Dev nD) (w : Fin cfg0.W) (t : Fin cfg0.N) : ((cfg0.win w).xblock (cfg0.grid.coords t)).Idx → Elt F (cfg0.win w).elt :=
  ((cfg0.win w).blk t).view.read (Elt F) (G c (Pipeline.arrRef spec0 w))
/-- A point's inputs. -/
def insAt (c : Dev nD) (t : Fin cfg0.N) : Ins F := ⟨blockAt G c 0 t, blockAt G c 1 t, blockAt G c 2 t, blockAt G c 3 t, blockAt G c 4 t, blockAt G c 5 t, blockAt G c 6 t, blockAt G c 7 t, blockAt G c 8 t, blockAt G c 9 t, blockAt G c 10 t, blockAt G c 11 t, blockAt G c 12 t, blockAt G c 13 t, blockAt G c 14 t, blockAt G c 15 t, blockAt G c 16 t, blockAt G c 17 t⟩
/-- The activations' rows a point reads. -/
def rowsAt (c : Dev nD) (t : Fin cfg0.N) : Vec F S256x3072 .f32 := (block (Ring.bk 16 t.val)).view.read (Elt F) (G c main_arg0)
/-- The pack's buffer as a point takes it: cleared at the first. -/
def oldAt (t : Fin cfg0.N) (o : Vec F S3072x128 .f32) : Vec F S3072x128 .f32 := if t.val = 0 then (fun _ => Scalar.ofBits .f32 0x00000000#32) else o

/-- The pack's window's contents as a pack. -/
def asPack : (w : Fin cfg0.W) → w = 19 → ((cfg0.win w).block.Idx → Elt F (cfg0.win w).elt) → Vec F S3072x128 .f32
  | _, rfl, Y => Y
/-- What a point may leave in window `w`'s buffer, from what it found there: an input's block as it was, the pack with the block's rows gained. -/
def leavesAt (c : Dev nD) (w : Fin cfg0.W) (t : Fin cfg0.N) (Y X : (cfg0.win w).block.Idx → Elt F (cfg0.win w).elt) : Prop :=
  (w.val < 18 → X = Y) ∧ ∀ h : w = 19, Gained (insAt G c t) (rowsAt G c t) (oldAt t (asPack w h Y)) (asPack w h X)

/-- The data of the one call. -/
def dat (c : Dev nD) : Pipeline.RDat τ (Elt F) Unit ℕ (Pipeline.UD sig nD τ) ℕ cfg0 c where
  A w := G c (Pipeline.arrRef spec0 w)
  after := leavesAt G c
  Φ t := before G c t.val
  q w := Pipeline.shareOf spec0 w
  owed _ := 0

theorem found0 (c : Dev nD) (t : Fin cfg0.N) (Y) (h : (dat G c).Finds 0 t Y) : Y = blockAt G c 0 t := by
  obtain ⟨d, rfl⟩ := (dat G c).finds_in_eq_fetched 0 rfl (fun _ _ _ => rfl) (fun _ _ _ h => h.1 (by decide)) t Y h; rfl
theorem found1 (c : Dev nD) (t : Fin cfg0.N) (Y) (h : (dat G c).Finds 1 t Y) : Y = blockAt G c 1 t := by
  obtain ⟨d, rfl⟩ := (dat G c).finds_in_eq_fetched 1 rfl (fun _ _ _ => rfl) (fun _ _ _ h => h.1 (by decide)) t Y h; rfl
theorem found2 (c : Dev nD) (t : Fin cfg0.N) (Y) (h : (dat G c).Finds 2 t Y) : Y = blockAt G c 2 t := by
  obtain ⟨d, rfl⟩ := (dat G c).finds_in_eq_fetched 2 rfl (fun _ _ _ => rfl) (fun _ _ _ h => h.1 (by decide)) t Y h; rfl
theorem found3 (c : Dev nD) (t : Fin cfg0.N) (Y) (h : (dat G c).Finds 3 t Y) : Y = blockAt G c 3 t := by
  obtain ⟨d, rfl⟩ := (dat G c).finds_in_eq_fetched 3 rfl (fun _ _ _ => rfl) (fun _ _ _ h => h.1 (by decide)) t Y h; rfl
theorem found4 (c : Dev nD) (t : Fin cfg0.N) (Y) (h : (dat G c).Finds 4 t Y) : Y = blockAt G c 4 t := by
  obtain ⟨d, rfl⟩ := (dat G c).finds_in_eq_fetched 4 rfl (fun _ _ _ => rfl) (fun _ _ _ h => h.1 (by decide)) t Y h; rfl
theorem found5 (c : Dev nD) (t : Fin cfg0.N) (Y) (h : (dat G c).Finds 5 t Y) : Y = blockAt G c 5 t := by
  obtain ⟨d, rfl⟩ := (dat G c).finds_in_eq_fetched 5 rfl (fun _ _ _ => rfl) (fun _ _ _ h => h.1 (by decide)) t Y h; rfl
theorem found6 (c : Dev nD) (t : Fin cfg0.N) (Y) (h : (dat G c).Finds 6 t Y) : Y = blockAt G c 6 t := by
  obtain ⟨d, rfl⟩ := (dat G c).finds_in_eq_fetched 6 rfl (fun _ _ _ => rfl) (fun _ _ _ h => h.1 (by decide)) t Y h; rfl
theorem found7 (c : Dev nD) (t : Fin cfg0.N) (Y) (h : (dat G c).Finds 7 t Y) : Y = blockAt G c 7 t := by
  obtain ⟨d, rfl⟩ := (dat G c).finds_in_eq_fetched 7 rfl (fun _ _ _ => rfl) (fun _ _ _ h => h.1 (by decide)) t Y h; rfl
theorem found8 (c : Dev nD) (t : Fin cfg0.N) (Y) (h : (dat G c).Finds 8 t Y) : Y = blockAt G c 8 t := by
  obtain ⟨d, rfl⟩ := (dat G c).finds_in_eq_fetched 8 rfl (fun _ _ _ => rfl) (fun _ _ _ h => h.1 (by decide)) t Y h; rfl
theorem found9 (c : Dev nD) (t : Fin cfg0.N) (Y) (h : (dat G c).Finds 9 t Y) : Y = blockAt G c 9 t := by
  obtain ⟨d, rfl⟩ := (dat G c).finds_in_eq_fetched 9 rfl (fun _ _ _ => rfl) (fun _ _ _ h => h.1 (by decide)) t Y h; rfl
theorem found10 (c : Dev nD) (t : Fin cfg0.N) (Y) (h : (dat G c).Finds 10 t Y) : Y = blockAt G c 10 t := by
  obtain ⟨d, rfl⟩ := (dat G c).finds_in_eq_fetched 10 rfl (fun _ _ _ => rfl) (fun _ _ _ h => h.1 (by decide)) t Y h; rfl
theorem found11 (c : Dev nD) (t : Fin cfg0.N) (Y) (h : (dat G c).Finds 11 t Y) : Y = blockAt G c 11 t := by
  obtain ⟨d, rfl⟩ := (dat G c).finds_in_eq_fetched 11 rfl (fun _ _ _ => rfl) (fun _ _ _ h => h.1 (by decide)) t Y h; rfl
theorem found12 (c : Dev nD) (t : Fin cfg0.N) (Y) (h : (dat G c).Finds 12 t Y) : Y = blockAt G c 12 t := by
  obtain ⟨d, rfl⟩ := (dat G c).finds_in_eq_fetched 12 rfl (fun _ _ _ => rfl) (fun _ _ _ h => h.1 (by decide)) t Y h; rfl
theorem found13 (c : Dev nD) (t : Fin cfg0.N) (Y) (h : (dat G c).Finds 13 t Y) : Y = blockAt G c 13 t := by
  obtain ⟨d, rfl⟩ := (dat G c).finds_in_eq_fetched 13 rfl (fun _ _ _ => rfl) (fun _ _ _ h => h.1 (by decide)) t Y h; rfl
theorem found14 (c : Dev nD) (t : Fin cfg0.N) (Y) (h : (dat G c).Finds 14 t Y) : Y = blockAt G c 14 t := by
  obtain ⟨d, rfl⟩ := (dat G c).finds_in_eq_fetched 14 rfl (fun _ _ _ => rfl) (fun _ _ _ h => h.1 (by decide)) t Y h; rfl
theorem found15 (c : Dev nD) (t : Fin cfg0.N) (Y) (h : (dat G c).Finds 15 t Y) : Y = blockAt G c 15 t := by
  obtain ⟨d, rfl⟩ := (dat G c).finds_in_eq_fetched 15 rfl (fun _ _ _ => rfl) (fun _ _ _ h => h.1 (by decide)) t Y h; rfl
theorem found16 (c : Dev nD) (t : Fin cfg0.N) (Y) (h : (dat G c).Finds 16 t Y) : Y = blockAt G c 16 t := by
  obtain ⟨d, rfl⟩ := (dat G c).finds_in_eq_fetched 16 rfl (fun _ _ _ => rfl) (fun _ _ _ h => h.1 (by decide)) t Y h; rfl
theorem found17 (c : Dev nD) (t : Fin cfg0.N) (Y) (h : (dat G c).Finds 17 t Y) : Y = blockAt G c 17 t := by
  obtain ⟨d, rfl⟩ := (dat G c).finds_in_eq_fetched 17 rfl (fun _ _ _ => rfl) (fun _ _ _ h => h.1 (by decide)) t Y h; rfl

/-- An input's buffer left as found. -/
theorem kept_at (c : Dev nD) (t : Fin cfg0.N) (w : Fin cfg0.W) (hw : w.val < 18) (X) : (dat G c).after w t X X :=
  ⟨fun _ => rfl, fun h => absurd hw (by rw [h]; decide)⟩

section Buffers
variable {S : Shape} {e : EltTy} (c : Dev nD) (M : Memref sig .tc .vmem S e)
theorem full_of_owns (h : M.IsWhole) (X : S.Idx → Elt F e) : (owns (c : Thread nD τ) M fullShare X : sProp 𝕄) ⊢ Full c M (h.unread X) := by
  unfold owns
  iintro ⟨%f, %hf, H⟩
  obtain rfl := h.eq_unread hf
  iexact H
theorem owns_of_full (f : Whole (F := F) c M) : (Full c M f : sProp 𝕄) ⊢ owns (c : Thread nD τ) M fullShare (M.view.read (Elt F) f) := by
  unfold owns
  iintro H
  iexists f; isplitr; · ipureintro; rfl
  iexact H
theorem owns_of_unread (h : M.IsWhole) (X : S.Idx → Elt F e) : (Full c M (h.unread X) : sProp 𝕄) ⊢ owns (c : Thread nD τ) M fullShare X := by
  have := owns_of_full c M (h.unread X)
  rwa [h.read_unread] at this
end Buffers

end Cert.Seq

end
-- ==== Proof.SeqFirst.lean ====
/- The first point of all: it starts the first two fetches and clears the sums. -/
module

public import proofs.«01_k».proof.Proof.SeqRun

@[expose] public section
set_option maxRecDepth 16384
noncomputable section

namespace Cert.Seq
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 8000000 in
theorem runFirst (c : Dev nD) (t : Fin grid0.N) (s : Stage) (Z : Whole (F := F) c zAll) (ha : starts (grid0.coords t)) (hf : fetches (grid0.coords t)) (hz : clears (grid0.coords t)) (ho : opens (grid0.coords t)) (hl : ¬closes (grid0.coords t)) (x : Ins F) (p : Whole (F := F) c s.m22) :
    Runs c s t iprop(Given c s x ∗ Loose c s ∗ Full c s.m22 p ∗ Ring.free (Quiet c) (Spare c Z) (Ring.sl 3 t.val) ∗ Ring.free (Quiet c) (Spare c Z) (Ring.sl 3 (t.val + 1)) ∗ Ring.free (Quiet c) (Spare c Z) (Ring.sl 3 (t.val + 2)))
      iprop(Given c s x ∗ Loose c s ∗ (∃ f, Full c s.m22 f ∗ ⌜Gained x ((block (Ring.bk 16 t.val)).view.read (Elt F) Z) (fun _ => Scalar.ofBits .f32 0x00000000#32) (s.m22.view.read (Elt F) f)⌝) ∗ Ring.inflight (Flying c Z) (Ring.sl 3 (t.val + 1)) (Ring.bk 16 (t.val + 1)) ∗ Ring.inflight (Flying c Z) (Ring.sl 3 (t.val + 2)) (Ring.bk 16 (t.val + 2)) ∗ Ring.free (Quiet c) (Spare c Z) (Ring.sl 3 t.val)) := by
  obtain ⟨m3, w3, m4, w4, m5, w5, m6, w6, m7, w7, m8, w8, m9, w9, m10, w10, m11, w11, m12, w12, m13, w13, m14, w14, m15, w15, m16, w16, m17, w17, m18, w18, m19, w19, m20, w20, m21, w21, m22, w22, m23, w23, m24, w24, m25, w25, m26, w26, m27, w27, m28, w28, m29, w29⟩ := s
  obtain ⟨x3, x4, x5, x6, x7, x8, x9, x10, x11, x12, x13, x14, x15, x16, x17, x18, x19, x20⟩ := x
  unfold Runs Given Loose Full
  dsimp only
  intro W K
  haveI : Fact (starts (grid0.coords t)) := ⟨ha⟩
  haveI : Fact (fetches (grid0.coords t)) := ⟨hf⟩
  haveI : Fact (clears (grid0.coords t)) := ⟨hz⟩
  haveI : Fact (opens (grid0.coords t)) := ⟨ho⟩
  haveI : Fact (¬closes (grid0.coords t)) := ⟨hl⟩
  simp only [cc0_bwd_seq_eq_skeleton]; unfold cc0_bwd_seq_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
  have hcanon := here_slot t
  unfold Ring.free Ring.inflight
  iintro ⟨⟨⟨H3, H4, H5, H6, H7, H8, H9, H10, H11, H12, H13, H14, H15, H16, H17, H18, H19, H20⟩, ⟨⟨%f21, H21⟩, ⟨%f23, H23⟩, ⟨%f24, H24⟩, ⟨%f25, H25⟩, ⟨%f26, H26⟩, ⟨%f27, H27⟩, ⟨%f28, H28⟩, ⟨%f29, H29⟩⟩, H22, ⟨Q0, ⟨%g0, S0, A0⟩⟩, ⟨Q1, ⟨%g1, S1, A1⟩⟩, ⟨Q2, ⟨%g2, S2, A2⟩⟩⟩, HW, Hk⟩
  ihave A0 := (share_split c Z (Ring.sl 3 t.val) (Ring.bk 16 t.val)).1 $$ A0
  icases A0 with ⟨L0, U0⟩
  ihave A1 := (share_split c Z (Ring.sl 3 (t.val + 1)) (Ring.bk 16 (t.val + 1))).1 $$ A1
  icases A1 with ⟨L1, U1⟩
  ihave A2 := (share_split c Z (Ring.sl 3 (t.val + 2)) (Ring.bk 16 (t.val + 2))).1 $$ A2
  icases A2 with ⟨L2, U2⟩
  sl_exec (disch := first | sl_exact ha | sl_exact hf | sl_exact hz | sl_exact ho | sl_exact hl)
  sl_step
  iapply Hk
  isplitr [HW]
  · isplitl [H3 H4 H5 H6 H7 H8 H9 H10 H11 H12 H13 H14 H15 H16 H17 H18 H19 H20]
    · iframe
    isplitl [H21 H23 H24 H25 H26 H27 H28 H29]
    · isplitl [H21]; · iexists _; iexact H21
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      iexists _; iexact H29
    isplitl [H22]
    · iexists _; isplitl [H22]; · iexact H22
      ipureintro
      refine gained (c := c) (a0 := ?a0) (a1 := ?a1) (a2 := ?a2) (a3 := ?a3) (b0 := ?b0) (b1 := ?b1) (b2 := ?b2) (b3 := ?b3) ⟨m3, w3, m4, w4, m5, w5, m6, w6, m7, w7, m8, w8, m9, w9, m10, w10, m11, w11, m12, w12, m13, w13, m14, w14, m15, w15, m16, w16, m17, w17, m18, w18, m19, w19, m20, w20, m21, w21, m22, w22, m23, w23, m24, w24, m25, w25, m26, w26, m27, w27, m28, w28, m29, w29⟩ ⟨x3, x4, x5, x6, x7, x8, x9, x10, x11, x12, x13, x14, x15, x16, x17, x18, x19, x20⟩ (Ring.sl 3 t.val) _ _ _ ?_ ?_ ?_ ?_ ?_ ?_ ?_ ?_ ?_ ?_ ?_ ?_ ?_ ?_ ?_ ?_
      all_goals try (try delta runFirst.sl.H22_88; try delta runFirst.sl.H22_87; try delta runFirst.sl.H22_86; try delta runFirst.sl.H22_85; try delta runFirst.sl.H22_84; try delta runFirst.sl.H22_83; try delta runFirst.sl.H22_82; try delta runFirst.sl.H22_81; simp (disch := decide) only [↓ read_past, ↓ read_here]; rfl)
      · refine View.readAt_writes_const_of_hit m22.view m22.view.junk _ _ 81 ?_ _ ?_ ?_; · exact Rect.unit (s := S3072x128) ![0, 0] S3072x128.size inb_S3072x128_S3072x128_0_0
        · rfl
        rfl
      · refine View.readAt_writes_const_of_hit m22.view m22.view.junk _ _ 80 ?_ _ ?_ ?_; · exact Rect.unit (s := S3072x128) ![0, 0] S3072x128.size inb_S3072x128_S3072x128_0_0
        · rfl
        rfl
      · refine View.readAt_writes_const_of_hit m22.view m22.view.junk _ _ 83 ?_ _ ?_ ?_; · exact Rect.unit (s := S3072x128) ![0, 0] S3072x128.size inb_S3072x128_S3072x128_0_0
        · rfl
        rfl
      · refine View.readAt_writes_const_of_hit m22.view m22.view.junk _ _ 82 ?_ _ ?_ ?_; · exact Rect.unit (s := S3072x128) ![0, 0] S3072x128.size inb_S3072x128_S3072x128_0_0
        · rfl
        rfl
      · refine View.readAt_writes_const_of_hit m22.view m22.view.junk _ _ 85 ?_ _ ?_ ?_; · exact Rect.unit (s := S3072x128) ![0, 0] S3072x128.size inb_S3072x128_S3072x128_0_0
        · rfl
        rfl
      · refine View.readAt_writes_const_of_hit m22.view m22.view.junk _ _ 84 ?_ _ ?_ ?_; · exact Rect.unit (s := S3072x128) ![0, 0] S3072x128.size inb_S3072x128_S3072x128_0_0
        · rfl
        rfl
      · refine View.readAt_writes_const_of_hit m22.view m22.view.junk _ _ 87 ?_ _ ?_ ?_; · exact Rect.unit (s := S3072x128) ![0, 0] S3072x128.size inb_S3072x128_S3072x128_0_0
        · rfl
        rfl
      · refine View.readAt_writes_const_of_hit m22.view m22.view.junk _ _ 86 ?_ _ ?_ ?_; · exact Rect.unit (s := S3072x128) ![0, 0] S3072x128.size inb_S3072x128_S3072x128_0_0
        · rfl
        rfl
    isplitl [Q1 U1]
    · iexists _; isplitl [Q1]; · iexact Q1
      iexact U1
    isplitl [Q2 U2]
    · iexists _; isplitl [Q2]; · iexact Q2
      iexact U2
    isplitl [Q0]; · iexact Q0
    iexists _; isplitl [S0]; · iexact S0
    iapply (share_split c Z (Ring.sl 3 t.val) (Ring.bk 16 t.val)).2
    isplitl [L0]; · iexact L0
    iexact U0
  iexists _; iexact HW

end Cert.Seq

end
-- ==== Proof.SeqRow.lean ====
/- The first point of the second sequence. -/
module

public import proofs.«01_k».proof.Proof.SeqRun

@[expose] public section
set_option maxRecDepth 16384
noncomputable section

namespace Cert.Seq
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 8000000 in
theorem runRow (c : Dev nD) (t : Fin grid0.N) (s : Stage) (Z : Whole (F := F) c zAll) (ha : ¬starts (grid0.coords t)) (hf : fetches (grid0.coords t)) (hz : ¬clears (grid0.coords t)) (ho : opens (grid0.coords t)) (hl : ¬closes (grid0.coords t)) (x : Ins F) (p : Whole (F := F) c s.m22) :
    Runs c s t iprop(Given c s x ∗ Loose c s ∗ Full c s.m22 p ∗ Ring.inflight (Flying c Z) (Ring.sl 3 t.val) (Ring.bk 16 t.val) ∗ Ring.inflight (Flying c Z) (Ring.sl 3 (t.val + 1)) (Ring.bk 16 (t.val + 1)) ∗ Ring.free (Quiet c) (Spare c Z) (Ring.sl 3 (t.val + 2)))
      iprop(Given c s x ∗ Loose c s ∗ (∃ f, Full c s.m22 f ∗ ⌜Gained x ((block (Ring.bk 16 t.val)).view.read (Elt F) Z) (s.m22.view.read (Elt F) p) (s.m22.view.read (Elt F) f)⌝) ∗ Ring.inflight (Flying c Z) (Ring.sl 3 (t.val + 1)) (Ring.bk 16 (t.val + 1)) ∗ Ring.inflight (Flying c Z) (Ring.sl 3 (t.val + 2)) (Ring.bk 16 (t.val + 2)) ∗ Ring.free (Quiet c) (Spare c Z) (Ring.sl 3 t.val)) := by
  obtain ⟨m3, w3, m4, w4, m5, w5, m6, w6, m7, w7, m8, w8, m9, w9, m10, w10, m11, w11, m12, w12, m13, w13, m14, w14, m15, w15, m16, w16, m17, w17, m18, w18, m19, w19, m20, w20, m21, w21, m22, w22, m23, w23, m24, w24, m25, w25, m26, w26, m27, w27, m28, w28, m29, w29⟩ := s
  obtain ⟨x3, x4, x5, x6, x7, x8, x9, x10, x11, x12, x13, x14, x15, x16, x17, x18, x19, x20⟩ := x
  unfold Runs Given Loose Full
  dsimp only
  intro W K
  haveI : Fact (¬starts (grid0.coords t)) := ⟨ha⟩
  haveI : Fact (fetches (grid0.coords t)) := ⟨hf⟩
  haveI : Fact (¬clears (grid0.coords t)) := ⟨hz⟩
  haveI : Fact (opens (grid0.coords t)) := ⟨ho⟩
  haveI : Fact (¬closes (grid0.coords t)) := ⟨hl⟩
  simp only [cc0_bwd_seq_eq_skeleton]; unfold cc0_bwd_seq_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
  have hcanon := here_slot t
  unfold Ring.free Ring.inflight
  iintro ⟨⟨⟨H3, H4, H5, H6, H7, H8, H9, H10, H11, H12, H13, H14, H15, H16, H17, H18, H19, H20⟩, ⟨⟨%f21, H21⟩, ⟨%f23, H23⟩, ⟨%f24, H24⟩, ⟨%f25, H25⟩, ⟨%f26, H26⟩, ⟨%f27, H27⟩, ⟨%f28, H28⟩, ⟨%f29, H29⟩⟩, H22, ⟨%g0, C0, U0⟩, ⟨%g1, C1, U1⟩, ⟨Q2, ⟨%g2, S2, A2⟩⟩⟩, HW, Hk⟩
  ihave A2 := (share_split c Z (Ring.sl 3 (t.val + 2)) (Ring.bk 16 (t.val + 2))).1 $$ A2
  icases A2 with ⟨L2, U2⟩
  sl_exec (disch := first | sl_exact ha | sl_exact hf | sl_exact hz | sl_exact ho | sl_exact hl)
  sl_step
  iapply Hk
  isplitr [HW]
  · isplitl [H3 H4 H5 H6 H7 H8 H9 H10 H11 H12 H13 H14 H15 H16 H17 H18 H19 H20]
    · iframe
    isplitl [H21 H23 H24 H25 H26 H27 H28 H29]
    · isplitl [H21]; · iexists _; iexact H21
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      iexists _; iexact H29
    isplitl [H22]
    · iexists _; isplitl [H22]; · iexact H22
      ipureintro
      refine gained (c := c) (a0 := ?a0) (a1 := ?a1) (a2 := ?a2) (a3 := ?a3) (b0 := ?b0) (b1 := ?b1) (b2 := ?b2) (b3 := ?b3) ⟨m3, w3, m4, w4, m5, w5, m6, w6, m7, w7, m8, w8, m9, w9, m10, w10, m11, w11, m12, w12, m13, w13, m14, w14, m15, w15, m16, w16, m17, w17, m18, w18, m19, w19, m20, w20, m21, w21, m22, w22, m23, w23, m24, w24, m25, w25, m26, w26, m27, w27, m28, w28, m29, w29⟩ ⟨x3, x4, x5, x6, x7, x8, x9, x10, x11, x12, x13, x14, x15, x16, x17, x18, x19, x20⟩ (Ring.sl 3 t.val) _ _ _ ?_ ?_ ?_ ?_ ?_ ?_ ?_ ?_ ?_ ?_ ?_ ?_ ?_ ?_ ?_ ?_
      all_goals try (simp (disch := decide) only [↓ read_past, ↓ read_here]; rfl)
      all_goals rfl
    isplitl [C1 U1]
    · iexists g1; isplitl [C1]; · iexact C1
      iexact U1
    isplitl [Q2 U2]
    · iexists _; isplitl [Q2]; · iexact Q2
      iexact U2
    isplitl [C0]; · iexact C0
    iexists _; isplitl [C0_dst]; · iexact C0_dst
    iapply (share_split c Z (Ring.sl 3 t.val) (Ring.bk 16 t.val)).2
    isplitl [C0_src]; · iexact C0_src
    iexact U0
  iexists _; iexact HW

end Cert.Seq

end
-- ==== Proof.SeqBetween.lean ====
/- A point that is neither the first nor the last of its sequence's pass, nor among the last two of all. -/
module

public import proofs.«01_k».proof.Proof.SeqRun

@[expose] public section
set_option maxRecDepth 16384
noncomputable section

namespace Cert.Seq
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 8000000 in
theorem runBetween (c : Dev nD) (t : Fin grid0.N) (s : Stage) (Z : Whole (F := F) c zAll) (ha : ¬starts (grid0.coords t)) (hf : fetches (grid0.coords t)) (hz : ¬clears (grid0.coords t)) (ho : ¬opens (grid0.coords t)) (hl : ¬closes (grid0.coords t)) (x : Ins F) (p : Whole (F := F) c s.m22) :
    Runs c s t iprop(Given c s x ∗ Loose c s ∗ Full c s.m22 p ∗ Ring.inflight (Flying c Z) (Ring.sl 3 t.val) (Ring.bk 16 t.val) ∗ Ring.inflight (Flying c Z) (Ring.sl 3 (t.val + 1)) (Ring.bk 16 (t.val + 1)) ∗ Ring.free (Quiet c) (Spare c Z) (Ring.sl 3 (t.val + 2)))
      iprop(Given c s x ∗ Loose c s ∗ (∃ f, Full c s.m22 f ∗ ⌜Gained x ((block (Ring.bk 16 t.val)).view.read (Elt F) Z) (s.m22.view.read (Elt F) p) (s.m22.view.read (Elt F) f)⌝) ∗ Ring.inflight (Flying c Z) (Ring.sl 3 (t.val + 1)) (Ring.bk 16 (t.val + 1)) ∗ Ring.inflight (Flying c Z) (Ring.sl 3 (t.val + 2)) (Ring.bk 16 (t.val + 2)) ∗ Ring.free (Quiet c) (Spare c Z) (Ring.sl 3 t.val)) := by
  obtain ⟨m3, w3, m4, w4, m5, w5, m6, w6, m7, w7, m8, w8, m9, w9, m10, w10, m11, w11, m12, w12, m13, w13, m14, w14, m15, w15, m16, w16, m17, w17, m18, w18, m19, w19, m20, w20, m21, w21, m22, w22, m23, w23, m24, w24, m25, w25, m26, w26, m27, w27, m28, w28, m29, w29⟩ := s
  obtain ⟨x3, x4, x5, x6, x7, x8, x9, x10, x11, x12, x13, x14, x15, x16, x17, x18, x19, x20⟩ := x
  unfold Runs Given Loose Full
  dsimp only
  intro W K
  haveI : Fact (¬starts (grid0.coords t)) := ⟨ha⟩
  haveI : Fact (fetches (grid0.coords t)) := ⟨hf⟩
  haveI : Fact (¬clears (grid0.coords t)) := ⟨hz⟩
  haveI : Fact (¬opens (grid0.coords t)) := ⟨ho⟩
  haveI : Fact (¬closes (grid0.coords t)) := ⟨hl⟩
  simp only [cc0_bwd_seq_eq_skeleton]; unfold cc0_bwd_seq_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
  have hcanon := here_slot t
  unfold Ring.free Ring.inflight
  iintro ⟨⟨⟨H3, H4, H5, H6, H7, H8, H9, H10, H11, H12, H13, H14, H15, H16, H17, H18, H19, H20⟩, ⟨⟨%f21, H21⟩, ⟨%f23, H23⟩, ⟨%f24, H24⟩, ⟨%f25, H25⟩, ⟨%f26, H26⟩, ⟨%f27, H27⟩, ⟨%f28, H28⟩, ⟨%f29, H29⟩⟩, H22, ⟨%g0, C0, U0⟩, ⟨%g1, C1, U1⟩, ⟨Q2, ⟨%g2, S2, A2⟩⟩⟩, HW, Hk⟩
  ihave A2 := (share_split c Z (Ring.sl 3 (t.val + 2)) (Ring.bk 16 (t.val + 2))).1 $$ A2
  icases A2 with ⟨L2, U2⟩
  sl_exec (disch := first | sl_exact ha | sl_exact hf | sl_exact hz | sl_exact ho | sl_exact hl)
  sl_step
  iapply Hk
  isplitr [HW]
  · isplitl [H3 H4 H5 H6 H7 H8 H9 H10 H11 H12 H13 H14 H15 H16 H17 H18 H19 H20]
    · iframe
    isplitl [H21 H23 H24 H25 H26 H27 H28 H29]
    · isplitl [H21]; · iexists _; iexact H21
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      iexists _; iexact H29
    isplitl [H22]
    · iexists _; isplitl [H22]; · iexact H22
      ipureintro
      refine gained (c := c) (a0 := ?a0) (a1 := ?a1) (a2 := ?a2) (a3 := ?a3) (b0 := ?b0) (b1 := ?b1) (b2 := ?b2) (b3 := ?b3) ⟨m3, w3, m4, w4, m5, w5, m6, w6, m7, w7, m8, w8, m9, w9, m10, w10, m11, w11, m12, w12, m13, w13, m14, w14, m15, w15, m16, w16, m17, w17, m18, w18, m19, w19, m20, w20, m21, w21, m22, w22, m23, w23, m24, w24, m25, w25, m26, w26, m27, w27, m28, w28, m29, w29⟩ ⟨x3, x4, x5, x6, x7, x8, x9, x10, x11, x12, x13, x14, x15, x16, x17, x18, x19, x20⟩ (Ring.sl 3 t.val) _ _ _ ?_ ?_ ?_ ?_ ?_ ?_ ?_ ?_ ?_ ?_ ?_ ?_ ?_ ?_ ?_ ?_
      all_goals try (simp (disch := decide) only [↓ read_past, ↓ read_here]; rfl)
      all_goals rfl
    isplitl [C1 U1]
    · iexists g1; isplitl [C1]; · iexact C1
      iexact U1
    isplitl [Q2 U2]
    · iexists _; isplitl [Q2]; · iexact Q2
      iexact U2
    isplitl [C0]; · iexact C0
    iexists _; isplitl [C0_dst]; · iexact C0_dst
    iapply (share_split c Z (Ring.sl 3 t.val) (Ring.bk 16 t.val)).2
    isplitl [C0_src]; · iexact C0_src
    iexact U0
  iexists _; iexact HW

end Cert.Seq

end
-- ==== Proof.SeqTail.lean ====
/- The last point but one: nothing more to fetch. -/
module

public import proofs.«01_k».proof.Proof.SeqRun

@[expose] public section
set_option maxRecDepth 16384
noncomputable section

namespace Cert.Seq
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 8000000 in
theorem runTail (c : Dev nD) (t : Fin grid0.N) (s : Stage) (Z : Whole (F := F) c zAll) (ha : ¬starts (grid0.coords t)) (hf : ¬fetches (grid0.coords t)) (hz : ¬clears (grid0.coords t)) (ho : ¬opens (grid0.coords t)) (hl : ¬closes (grid0.coords t)) (x : Ins F) (p : Whole (F := F) c s.m22) :
    Runs c s t iprop(Given c s x ∗ Loose c s ∗ Full c s.m22 p ∗ Ring.inflight (Flying c Z) (Ring.sl 3 t.val) (Ring.bk 16 t.val))
      iprop(Given c s x ∗ Loose c s ∗ (∃ f, Full c s.m22 f ∗ ⌜Gained x ((block (Ring.bk 16 t.val)).view.read (Elt F) Z) (s.m22.view.read (Elt F) p) (s.m22.view.read (Elt F) f)⌝) ∗ Ring.free (Quiet c) (Spare c Z) (Ring.sl 3 t.val)) := by
  obtain ⟨m3, w3, m4, w4, m5, w5, m6, w6, m7, w7, m8, w8, m9, w9, m10, w10, m11, w11, m12, w12, m13, w13, m14, w14, m15, w15, m16, w16, m17, w17, m18, w18, m19, w19, m20, w20, m21, w21, m22, w22, m23, w23, m24, w24, m25, w25, m26, w26, m27, w27, m28, w28, m29, w29⟩ := s
  obtain ⟨x3, x4, x5, x6, x7, x8, x9, x10, x11, x12, x13, x14, x15, x16, x17, x18, x19, x20⟩ := x
  unfold Runs Given Loose Full
  dsimp only
  intro W K
  haveI : Fact (¬starts (grid0.coords t)) := ⟨ha⟩
  haveI : Fact (¬fetches (grid0.coords t)) := ⟨hf⟩
  haveI : Fact (¬clears (grid0.coords t)) := ⟨hz⟩
  haveI : Fact (¬opens (grid0.coords t)) := ⟨ho⟩
  haveI : Fact (¬closes (grid0.coords t)) := ⟨hl⟩
  simp only [cc0_bwd_seq_eq_skeleton]; unfold cc0_bwd_seq_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
  have hcanon := here_slot t
  unfold Ring.free Ring.inflight
  iintro ⟨⟨⟨H3, H4, H5, H6, H7, H8, H9, H10, H11, H12, H13, H14, H15, H16, H17, H18, H19, H20⟩, ⟨⟨%f21, H21⟩, ⟨%f23, H23⟩, ⟨%f24, H24⟩, ⟨%f25, H25⟩, ⟨%f26, H26⟩, ⟨%f27, H27⟩, ⟨%f28, H28⟩, ⟨%f29, H29⟩⟩, H22, ⟨%g0, C0, U0⟩⟩, HW, Hk⟩
  sl_exec (disch := first | sl_exact ha | sl_exact hf | sl_exact hz | sl_exact ho | sl_exact hl)
  sl_step
  iapply Hk
  isplitr [HW]
  · isplitl [H3 H4 H5 H6 H7 H8 H9 H10 H11 H12 H13 H14 H15 H16 H17 H18 H19 H20]
    · iframe
    isplitl [H21 H23 H24 H25 H26 H27 H28 H29]
    · isplitl [H21]; · iexists _; iexact H21
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      iexists _; iexact H29
    isplitl [H22]
    · iexists _; isplitl [H22]; · iexact H22
      ipureintro
      refine gained (c := c) (a0 := ?a0) (a1 := ?a1) (a2 := ?a2) (a3 := ?a3) (b0 := ?b0) (b1 := ?b1) (b2 := ?b2) (b3 := ?b3) ⟨m3, w3, m4, w4, m5, w5, m6, w6, m7, w7, m8, w8, m9, w9, m10, w10, m11, w11, m12, w12, m13, w13, m14, w14, m15, w15, m16, w16, m17, w17, m18, w18, m19, w19, m20, w20, m21, w21, m22, w22, m23, w23, m24, w24, m25, w25, m26, w26, m27, w27, m28, w28, m29, w29⟩ ⟨x3, x4, x5, x6, x7, x8, x9, x10, x11, x12, x13, x14, x15, x16, x17, x18, x19, x20⟩ (Ring.sl 3 t.val) _ _ _ ?_ ?_ ?_ ?_ ?_ ?_ ?_ ?_ ?_ ?_ ?_ ?_ ?_ ?_ ?_ ?_
      all_goals try (simp (disch := decide) only [↓ read_past, ↓ read_here]; rfl)
      all_goals rfl
    isplitl [C0]; · iexact C0
    iexists _; isplitl [C0_dst]; · iexact C0_dst
    iapply (share_split c Z (Ring.sl 3 t.val) (Ring.bk 16 t.val)).2
    isplitl [C0_src]; · iexact C0_src
    iexact U0
  iexists _; iexact HW

end Cert.Seq

end
-- ==== Proof.SeqLast.lean ====
/- The last point. -/
module

public import proofs.«01_k».proof.Proof.SeqRun

@[expose] public section
set_option maxRecDepth 16384
noncomputable section

namespace Cert.Seq
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 8000000 in
theorem runLast (c : Dev nD) (t : Fin grid0.N) (s : Stage) (Z : Whole (F := F) c zAll) (ha : ¬starts (grid0.coords t)) (hf : ¬fetches (grid0.coords t)) (hz : ¬clears (grid0.coords t)) (ho : ¬opens (grid0.coords t)) (hl : closes (grid0.coords t)) (x : Ins F) (p : Whole (F := F) c s.m22) :
    Runs c s t iprop(Given c s x ∗ Loose c s ∗ Full c s.m22 p ∗ Ring.inflight (Flying c Z) (Ring.sl 3 t.val) (Ring.bk 16 t.val))
      iprop(Given c s x ∗ Loose c s ∗ (∃ f, Full c s.m22 f ∗ ⌜Gained x ((block (Ring.bk 16 t.val)).view.read (Elt F) Z) (s.m22.view.read (Elt F) p) (s.m22.view.read (Elt F) f)⌝) ∗ Ring.free (Quiet c) (Spare c Z) (Ring.sl 3 t.val)) := by
  obtain ⟨m3, w3, m4, w4, m5, w5, m6, w6, m7, w7, m8, w8, m9, w9, m10, w10, m11, w11, m12, w12, m13, w13, m14, w14, m15, w15, m16, w16, m17, w17, m18, w18, m19, w19, m20, w20, m21, w21, m22, w22, m23, w23, m24, w24, m25, w25, m26, w26, m27, w27, m28, w28, m29, w29⟩ := s
  obtain ⟨x3, x4, x5, x6, x7, x8, x9, x10, x11, x12, x13, x14, x15, x16, x17, x18, x19, x20⟩ := x
  unfold Runs Given Loose Full
  dsimp only
  intro W K
  haveI : Fact (¬starts (grid0.coords t)) := ⟨ha⟩
  haveI : Fact (¬fetches (grid0.coords t)) := ⟨hf⟩
  haveI : Fact (¬clears (grid0.coords t)) := ⟨hz⟩
  haveI : Fact (¬opens (grid0.coords t)) := ⟨ho⟩
  haveI : Fact (closes (grid0.coords t)) := ⟨hl⟩
  simp only [cc0_bwd_seq_eq_skeleton]; unfold cc0_bwd_seq_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
  have hcanon := here_slot t
  unfold Ring.free Ring.inflight
  iintro ⟨⟨⟨H3, H4, H5, H6, H7, H8, H9, H10, H11, H12, H13, H14, H15, H16, H17, H18, H19, H20⟩, ⟨⟨%f21, H21⟩, ⟨%f23, H23⟩, ⟨%f24, H24⟩, ⟨%f25, H25⟩, ⟨%f26, H26⟩, ⟨%f27, H27⟩, ⟨%f28, H28⟩, ⟨%f29, H29⟩⟩, H22, ⟨%g0, C0, U0⟩⟩, HW, Hk⟩
  sl_exec (disch := first | sl_exact ha | sl_exact hf | sl_exact hz | sl_exact ho | sl_exact hl)
  sl_step
  iapply Hk
  isplitr [HW]
  · isplitl [H3 H4 H5 H6 H7 H8 H9 H10 H11 H12 H13 H14 H15 H16 H17 H18 H19 H20]
    · iframe
    isplitl [H21 H23 H24 H25 H26 H27 H28 H29]
    · isplitl [H21]; · iexists _; iexact H21
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      iexists _; iexact H29
    isplitl [H22]
    · iexists _; isplitl [H22]; · iexact H22
      ipureintro
      refine gained (c := c) (a0 := ?a0) (a1 := ?a1) (a2 := ?a2) (a3 := ?a3) (b0 := ?b0) (b1 := ?b1) (b2 := ?b2) (b3 := ?b3) ⟨m3, w3, m4, w4, m5, w5, m6, w6, m7, w7, m8, w8, m9, w9, m10, w10, m11, w11, m12, w12, m13, w13, m14, w14, m15, w15, m16, w16, m17, w17, m18, w18, m19, w19, m20, w20, m21, w21, m22, w22, m23, w23, m24, w24, m25, w25, m26, w26, m27, w27, m28, w28, m29, w29⟩ ⟨x3, x4, x5, x6, x7, x8, x9, x10, x11, x12, x13, x14, x15, x16, x17, x18, x19, x20⟩ (Ring.sl 3 t.val) _ _ _ ?_ ?_ ?_ ?_ ?_ ?_ ?_ ?_ ?_ ?_ ?_ ?_ ?_ ?_ ?_ ?_
      all_goals try (simp (disch := decide) only [↓ read_past, ↓ read_here]; rfl)
      all_goals rfl
    isplitl [C0]; · iexact C0
    iexists _; isplitl [C0_dst]; · iexact C0_dst
    iapply (share_split c Z (Ring.sl 3 t.val) (Ring.bk 16 t.val)).2
    isplitl [C0_src]; · iexact C0_src
    iexact U0
  iexists _; iexact HW

end Cert.Seq

end
-- ==== Proof.SeqPoint.lean ====
/- The backward call's body at every point. -/
module

public import proofs.«01_k».proof.Proof.SeqData
public import proofs.«01_k».proof.Proof.SeqFirst
public import proofs.«01_k».proof.Proof.SeqRow
public import proofs.«01_k».proof.Proof.SeqBetween
public import proofs.«01_k».proof.Proof.SeqTail
public import proofs.«01_k».proof.Proof.SeqLast

@[expose] public section
set_option maxRecDepth 16384
noncomputable section

namespace Cert.Seq
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (G : (c : Dev nD) → (b : Ref sig .tc) → Buf (Elt F) ((c : Thread nD τ).loc b))

/-! ## A point -/

set_option maxHeartbeats 4000000 in
/-- The body at a point, from the inputs, the scratch and the copies' share it works on. -/
theorem point_sound (c : Dev nD) (t : Fin cfg0.N) (s : Stage) (hs : Loose (F := F) c s = iprop((∃ f, Full (F := F) c s.m21 f) ∗ scratch c)) (Y : (w : Fin cfg0.W) → (cfg0.win w).block.Idx → Elt F (cfg0.win w).elt) (hY : ∀ w, (dat G c).Finds w t (Y w))
    (pre post : sProp 𝕄)
    (hr : ∀ p, Runs c s t iprop(Given c s (insAt G c t) ∗ Loose c s ∗ Full c s.m22 p ∗ pre)
      iprop(Given c s (insAt G c t) ∗ Loose c s
        ∗ (∃ f, Full c s.m22 f ∗ ⌜Gained (insAt G c t) (rowsAt G c t) (oldAt t (s.m22.view.read (Elt F) p)) (s.m22.view.read (Elt F) f)⌝) ∗ post))
    (hpre : ∃ rest, copies c (G c main_arg0) t.val ⊢ iprop(rest ∗ pre)) (hpost : post ⊢ copies c (G c main_arg0) (t.val + 1)) :
    iprop((dat G c).Φ t.castSucc ∗ (dat G c).owesAt () t.castSucc ∗ owns (c : Thread nD τ) s.m3 fullShare (Y 0) ∗ owns (c : Thread nD τ) s.m4 fullShare (Y 1) ∗ owns (c : Thread nD τ) s.m5 fullShare (Y 2) ∗ owns (c : Thread nD τ) s.m6 fullShare (Y 3) ∗ owns (c : Thread nD τ) s.m7 fullShare (Y 4) ∗ owns (c : Thread nD τ) s.m8 fullShare (Y 5) ∗ owns (c : Thread nD τ) s.m9 fullShare (Y 6) ∗ owns (c : Thread nD τ) s.m10 fullShare (Y 7) ∗ owns (c : Thread nD τ) s.m11 fullShare (Y 8) ∗ owns (c : Thread nD τ) s.m12 fullShare (Y 9) ∗ owns (c : Thread nD τ) s.m13 fullShare (Y 10) ∗ owns (c : Thread nD τ) s.m14 fullShare (Y 11) ∗ owns (c : Thread nD τ) s.m15 fullShare (Y 12) ∗ owns (c : Thread nD τ) s.m16 fullShare (Y 13) ∗ owns (c : Thread nD τ) s.m17 fullShare (Y 14) ∗ owns (c : Thread nD τ) s.m18 fullShare (Y 15) ∗ owns (c : Thread nD τ) s.m19 fullShare (Y 16) ∗ owns (c : Thread nD τ) s.m20 fullShare (Y 17) ∗ owns (c : Thread nD τ) s.m21 fullShare (Y 18) ∗ owns (c : Thread nD τ) s.m22 fullShare (Y 19))
      ⊢ wp frame (wpE (defs₀ (F := F)) Variants.none c none) Set.univ (cc0_bwd_seq (grid0.coords t) zAll (Memref.isWhole_whole _) s.m3 s.w3 s.m4 s.w4 s.m5 s.w5 s.m6 s.w6 s.m7 s.w7 s.m8 s.w8 s.m9 s.w9 s.m10 s.w10 s.m11 s.w11 s.m12 s.w12 s.m13 s.w13 s.m14 s.w14 s.m15 s.w15 s.m16 s.w16 s.m17 s.w17 s.m18 s.w18 s.m19 s.w19 s.m20 s.w20 s.m21 s.w21 s.m22 s.w22 s.m23 s.w23 s.m24 s.w24 s.m25 s.w25 s.m26 s.w26 s.m27 s.w27 s.m28 s.w28 s.m29 s.w29 zRing (Memref.isWhole_whole _) cc0_scratch8) fun _ =>
          iprop((dat G c).Φ t.succ ∗ (dat G c).owesAt () t.succ ∗ (∃ X, ⌜(dat G c).after 0 t (Y 0) X⌝ ∗ owns (c : Thread nD τ) s.m3 fullShare X) ∗ (∃ X, ⌜(dat G c).after 1 t (Y 1) X⌝ ∗ owns (c : Thread nD τ) s.m4 fullShare X) ∗ (∃ X, ⌜(dat G c).after 2 t (Y 2) X⌝ ∗ owns (c : Thread nD τ) s.m5 fullShare X) ∗ (∃ X, ⌜(dat G c).after 3 t (Y 3) X⌝ ∗ owns (c : Thread nD τ) s.m6 fullShare X) ∗ (∃ X, ⌜(dat G c).after 4 t (Y 4) X⌝ ∗ owns (c : Thread nD τ) s.m7 fullShare X) ∗ (∃ X, ⌜(dat G c).after 5 t (Y 5) X⌝ ∗ owns (c : Thread nD τ) s.m8 fullShare X) ∗ (∃ X, ⌜(dat G c).after 6 t (Y 6) X⌝ ∗ owns (c : Thread nD τ) s.m9 fullShare X) ∗ (∃ X, ⌜(dat G c).after 7 t (Y 7) X⌝ ∗ owns (c : Thread nD τ) s.m10 fullShare X) ∗ (∃ X, ⌜(dat G c).after 8 t (Y 8) X⌝ ∗ owns (c : Thread nD τ) s.m11 fullShare X) ∗ (∃ X, ⌜(dat G c).after 9 t (Y 9) X⌝ ∗ owns (c : Thread nD τ) s.m12 fullShare X) ∗ (∃ X, ⌜(dat G c).after 10 t (Y 10) X⌝ ∗ owns (c : Thread nD τ) s.m13 fullShare X) ∗ (∃ X, ⌜(dat G c).after 11 t (Y 11) X⌝ ∗ owns (c : Thread nD τ) s.m14 fullShare X) ∗ (∃ X, ⌜(dat G c).after 12 t (Y 12) X⌝ ∗ owns (c : Thread nD τ) s.m15 fullShare X) ∗ (∃ X, ⌜(dat G c).after 13 t (Y 13) X⌝ ∗ owns (c : Thread nD τ) s.m16 fullShare X) ∗ (∃ X, ⌜(dat G c).after 14 t (Y 14) X⌝ ∗ owns (c : Thread nD τ) s.m17 fullShare X) ∗ (∃ X, ⌜(dat G c).after 15 t (Y 15) X⌝ ∗ owns (c : Thread nD τ) s.m18 fullShare X) ∗ (∃ X, ⌜(dat G c).after 16 t (Y 16) X⌝ ∗ owns (c : Thread nD τ) s.m19 fullShare X) ∗ (∃ X, ⌜(dat G c).after 17 t (Y 17) X⌝ ∗ owns (c : Thread nD τ) s.m20 fullShare X) ∗ (∃ X, ⌜(dat G c).after 18 t (Y 18) X⌝ ∗ owns (c : Thread nD τ) s.m21 fullShare X) ∗ (∃ X, ⌜(dat G c).after 19 t (Y 19) X⌝ ∗ owns (c : Thread nD τ) s.m22 fullShare X)) := by
  obtain ⟨rest, hpre⟩ := hpre
  rw [found0 G c t _ (hY 0)]
  rw [found1 G c t _ (hY 1)]
  rw [found2 G c t _ (hY 2)]
  rw [found3 G c t _ (hY 3)]
  rw [found4 G c t _ (hY 4)]
  rw [found5 G c t _ (hY 5)]
  rw [found6 G c t _ (hY 6)]
  rw [found7 G c t _ (hY 7)]
  rw [found8 G c t _ (hY 8)]
  rw [found9 G c t _ (hY 9)]
  rw [found10 G c t _ (hY 10)]
  rw [found11 G c t _ (hY 11)]
  rw [found12 G c t _ (hY 12)]
  rw [found13 G c t _ (hY 13)]
  rw [found14 G c t _ (hY 14)]
  rw [found15 G c t _ (hY 15)]
  rw [found16 G c t _ (hY 16)]
  rw [found17 G c t _ (hY 17)]
  rw [show (dat G c).Φ t.castSucc = before G c t.val from rfl, show (dat G c).Φ t.succ = before G c (t.val + 1) from rfl]
  unfold before Pipeline.RDat.owesAt Pipeline.owesWithin
  rw [show (dat G c).owed t.castSucc = 0 from rfl, show (dat G c).owed t.succ = 0 from rfl]
  iintro ⟨⟨HS, Hg, HC⟩, ⟨%W, -, HW⟩, I0, I1, I2, I3, I4, I5, I6, I7, I8, I9, I10, I11, I12, I13, I14, I15, I16, I17, I18, I19⟩
  ihave HC' := hpre $$ HC
  icases HC' with ⟨-, HC⟩
  ihave I18' := (full_of_owns c s.m21 s.w21 (Y 18)) $$ I18
  ihave I19' := (full_of_owns c s.m22 s.w22 (Y 19)) $$ I19
  iapply (hr (s.w22.unread (Y 19)) W _)
  isplitl [I0 I1 I2 I3 I4 I5 I6 I7 I8 I9 I10 I11 I12 I13 I14 I15 I16 I17 I18' I19' HS HC]
  · isplitl [I0 I1 I2 I3 I4 I5 I6 I7 I8 I9 I10 I11 I12 I13 I14 I15 I16 I17]
    · unfold Given
      isplitl [I0]; · iapply (full_of_owns c s.m3 s.w3 _); iexact I0
      isplitl [I1]; · iapply (full_of_owns c s.m4 s.w4 _); iexact I1
      isplitl [I2]; · iapply (full_of_owns c s.m5 s.w5 _); iexact I2
      isplitl [I3]; · iapply (full_of_owns c s.m6 s.w6 _); iexact I3
      isplitl [I4]; · iapply (full_of_owns c s.m7 s.w7 _); iexact I4
      isplitl [I5]; · iapply (full_of_owns c s.m8 s.w8 _); iexact I5
      isplitl [I6]; · iapply (full_of_owns c s.m9 s.w9 _); iexact I6
      isplitl [I7]; · iapply (full_of_owns c s.m10 s.w10 _); iexact I7
      isplitl [I8]; · iapply (full_of_owns c s.m11 s.w11 _); iexact I8
      isplitl [I9]; · iapply (full_of_owns c s.m12 s.w12 _); iexact I9
      isplitl [I10]; · iapply (full_of_owns c s.m13 s.w13 _); iexact I10
      isplitl [I11]; · iapply (full_of_owns c s.m14 s.w14 _); iexact I11
      isplitl [I12]; · iapply (full_of_owns c s.m15 s.w15 _); iexact I12
      isplitl [I13]; · iapply (full_of_owns c s.m16 s.w16 _); iexact I13
      isplitl [I14]; · iapply (full_of_owns c s.m17 s.w17 _); iexact I14
      isplitl [I15]; · iapply (full_of_owns c s.m18 s.w18 _); iexact I15
      isplitl [I16]; · iapply (full_of_owns c s.m19 s.w19 _); iexact I16
      iapply (full_of_owns c s.m20 s.w20 _); iexact I17
    isplitl [I18' HS]
    · rw [hs]
      isplitl [I18']; · iexists _; iexact I18'
      iexact HS
    isplitl [I19']; · iexact I19'
    iexact HC
  isplitl [HW]; · iexact HW
  rw [hs]; unfold Given
  iintro ⟨⟨⟨J0, J1, J2, J3, J4, J5, J6, J7, J8, J9, J10, J11, J12, J13, J14, J15, J16, J17⟩, ⟨⟨%f18, J18⟩, HS⟩, ⟨%f19, J19, %hg⟩, HP⟩, ⟨%W', HW'⟩⟩
  isplitl [HS Hg HP]
  · isplitl [HS]; · iexact HS
    isplitl [Hg]; · iexact Hg
    iapply hpost; iexact HP
  isplitl [HW']
  · iexists W'; isplitr; · ipureintro; exact fun _ _ => Or.inl trivial
    iexact HW'
  isplitl [J0]
  · iexists _; isplitr; · ipureintro; exact kept_at G c t 0 (by decide) _
    iapply (owns_of_unread c s.m3 s.w3 _); iexact J0
  isplitl [J1]
  · iexists _; isplitr; · ipureintro; exact kept_at G c t 1 (by decide) _
    iapply (owns_of_unread c s.m4 s.w4 _); iexact J1
  isplitl [J2]
  · iexists _; isplitr; · ipureintro; exact kept_at G c t 2 (by decide) _
    iapply (owns_of_unread c s.m5 s.w5 _); iexact J2
  isplitl [J3]
  · iexists _; isplitr; · ipureintro; exact kept_at G c t 3 (by decide) _
    iapply (owns_of_unread c s.m6 s.w6 _); iexact J3
  isplitl [J4]
  · iexists _; isplitr; · ipureintro; exact kept_at G c t 4 (by decide) _
    iapply (owns_of_unread c s.m7 s.w7 _); iexact J4
  isplitl [J5]
  · iexists _; isplitr; · ipureintro; exact kept_at G c t 5 (by decide) _
    iapply (owns_of_unread c s.m8 s.w8 _); iexact J5
  isplitl [J6]
  · iexists _; isplitr; · ipureintro; exact kept_at G c t 6 (by decide) _
    iapply (owns_of_unread c s.m9 s.w9 _); iexact J6
  isplitl [J7]
  · iexists _; isplitr; · ipureintro; exact kept_at G c t 7 (by decide) _
    iapply (owns_of_unread c s.m10 s.w10 _); iexact J7
  isplitl [J8]
  · iexists _; isplitr; · ipureintro; exact kept_at G c t 8 (by decide) _
    iapply (owns_of_unread c s.m11 s.w11 _); iexact J8
  isplitl [J9]
  · iexists _; isplitr; · ipureintro; exact kept_at G c t 9 (by decide) _
    iapply (owns_of_unread c s.m12 s.w12 _); iexact J9
  isplitl [J10]
  · iexists _; isplitr; · ipureintro; exact kept_at G c t 10 (by decide) _
    iapply (owns_of_unread c s.m13 s.w13 _); iexact J10
  isplitl [J11]
  · iexists _; isplitr; · ipureintro; exact kept_at G c t 11 (by decide) _
    iapply (owns_of_unread c s.m14 s.w14 _); iexact J11
  isplitl [J12]
  · iexists _; isplitr; · ipureintro; exact kept_at G c t 12 (by decide) _
    iapply (owns_of_unread c s.m15 s.w15 _); iexact J12
  isplitl [J13]
  · iexists _; isplitr; · ipureintro; exact kept_at G c t 13 (by decide) _
    iapply (owns_of_unread c s.m16 s.w16 _); iexact J13
  isplitl [J14]
  · iexists _; isplitr; · ipureintro; exact kept_at G c t 14 (by decide) _
    iapply (owns_of_unread c s.m17 s.w17 _); iexact J14
  isplitl [J15]
  · iexists _; isplitr; · ipureintro; exact kept_at G c t 15 (by decide) _
    iapply (owns_of_unread c s.m18 s.w18 _); iexact J15
  isplitl [J16]
  · iexists _; isplitr; · ipureintro; exact kept_at G c t 16 (by decide) _
    iapply (owns_of_unread c s.m19 s.w19 _); iexact J16
  isplitl [J17]
  · iexists _; isplitr; · ipureintro; exact kept_at G c t 17 (by decide) _
    iapply (owns_of_unread c s.m20 s.w20 _); iexact J17
  isplitl [J18]
  · iexists (s.m21.view.read (Elt F) f18); isplitr; · ipureintro; exact ⟨fun h => absurd h (by decide), fun h => absurd h (by decide)⟩
    iapply (owns_of_full c s.m21 f18); iexact J18
  iexists (s.m22.view.read (Elt F) f19); isplitr
  · ipureintro
    rw [s.w22.read_unread] at hg
    exact ⟨fun h => absurd h (by decide), fun h => hg⟩
  iapply (owns_of_full c s.m22 f19); iexact J19

theorem any_whole (c : Dev nD) (b : Ref sig .tc) : (iprop(∃ f : Whole (F := F) c (Memref.whole b), (Memref.whole b).view.loc (c : Thread nD τ) ↦[(Memref.whole b).view.set]{fullShare} f) : sProp 𝕄)
    = iprop(∃ f : Buf (Elt F) ((c : Thread nD τ).loc b), ((c : Thread nD τ).loc b) ↦{fullShare} f) := by
  simp only [Memref.view_whole, View.set_whole]
theorem loose_eq (c : Dev nD) (t : Fin cfg0.N) : Loose (F := F) c (stageAt t) = iprop((∃ f, Full (F := F) c (stageAt t).m21 f) ∗ scratch c) := by
  unfold Loose scratch
  exact congrArg₂ BIBase.sep rfl (congrArg₂ BIBase.sep (any_whole c cc0_scratch0) (congrArg₂ BIBase.sep (any_whole c cc0_scratch1) (congrArg₂ BIBase.sep (any_whole c cc0_scratch2)
    (congrArg₂ BIBase.sep (any_whole c cc0_scratch3) (congrArg₂ BIBase.sep (any_whole c cc0_scratch4) (congrArg₂ BIBase.sep (any_whole c cc0_scratch5) (any_whole c cc0_scratch6)))))))

theorem body_row (t : Fin cfg0.N) : defs₀ (F := F) .tc cfg0.body (cfg0.bodyArgs t (cfg0.slots t)) = bodyAt0 t := by
  unfold defs₀; rw [Defs.onTc_tc]

/-- A run beside what it leaves alone. -/
theorem around (c : Dev nD) (s : Stage) (t : Fin grid0.N) {G L P G' L' P' a a' b d : sProp 𝕄} (h : Runs c s t iprop(G ∗ L ∗ P ∗ a) iprop(G' ∗ L' ∗ P' ∗ a')) :
    Runs c s t iprop(G ∗ L ∗ P ∗ a ∗ b ∗ d) iprop(G' ∗ L' ∗ P' ∗ b ∗ d ∗ a') := fun W K => by
  iintro ⟨⟨HG, HL, HP, Ha, Hb, Hd⟩, HW, HK⟩
  iapply (h W K)
  isplitl [HG HL HP Ha]
  · isplitl [HG]; · iexact HG
    isplitl [HL]; · iexact HL
    isplitl [HP]; · iexact HP
    iexact Ha
  isplitl [HW]; · iexact HW
  iintro ⟨⟨HG, HL, HP, Ha⟩, HW⟩
  iapply HK
  isplitr [HW]
  · isplitl [HG]; · iexact HG
    isplitl [HL]; · iexact HL
    isplitl [HP]; · iexact HP
    isplitl [Hb]; · iexact Hb
    isplitl [Hd]; · iexact Hd
    iexact Ha
  iexact HW

/-- The whole of a point, as the loop states it. -/
def Kept (c : Dev nD) (t : Fin cfg0.N) : Prop := ∀ Y : (w : Fin cfg0.W) → (cfg0.win w).block.Idx → Elt F (cfg0.win w).elt, (∀ w, (dat G c).Finds w t (Y w)) →
    iprop((dat G c).Φ t.castSucc ∗ (dat G c).owesAt () t.castSucc ∗ bigSep Finset.univ fun w => owns (c : Thread nD τ) ((cfg0.win w).stage (cfg0.slots t w)) fullShare (Y w))
      ⊢ wp frame (wpE (defs₀ (F := F)) Variants.none c none) Set.univ (bodyAt0 t) fun _ =>
          iprop((dat G c).Φ t.succ ∗ (dat G c).owesAt () t.succ
            ∗ bigSep Finset.univ fun w => iprop(∃ X, ⌜(dat G c).after w t (Y w) X⌝ ∗ owns (c : Thread nD τ) ((cfg0.win w).stage (cfg0.slots t w)) fullShare X))
theorem kept (c : Dev nD) (t : Fin cfg0.N) (pre post : sProp 𝕄)
    (hr : ∀ p, Runs c (stageAt t) t iprop(Given c (stageAt t) (insAt G c t) ∗ Loose c (stageAt t) ∗ Full c (stageAt t).m22 p ∗ pre)
      iprop(Given c (stageAt t) (insAt G c t) ∗ Loose c (stageAt t)
        ∗ (∃ f, Full c (stageAt t).m22 f ∗ ⌜Gained (insAt G c t) (rowsAt G c t) (oldAt t ((stageAt t).m22.view.read (Elt F) p)) ((stageAt t).m22.view.read (Elt F) f)⌝) ∗ post))
    (hpre : ∃ rest, copies c (G c main_arg0) t.val ⊢ iprop(rest ∗ pre)) (hpost : post ⊢ copies c (G c main_arg0) (t.val + 1)) : Kept G c t := fun Y hY => by
  rw [bigSep_W0, bigSep_W0]
  exact point_sound G c t (stageAt t) (loose_eq c t) Y hY pre post hr hpre hpost

theorem kept_first (c : Dev nD) (t : Fin cfg0.N) (h0 : t.val = 0) : Kept G c t := by
  obtain ⟨ha, hf, hz, ho, hl⟩ := tests t
  refine kept G c t iprop(Ring.free (Quiet c) (Spare c (G c main_arg0)) (Ring.sl 3 t.val) ∗ Ring.free (Quiet c) (Spare c (G c main_arg0)) (Ring.sl 3 (t.val + 1)) ∗ Ring.free (Quiet c) (Spare c (G c main_arg0)) (Ring.sl 3 (t.val + 2))) iprop(Ring.inflight (Flying c (G c main_arg0)) (Ring.sl 3 (t.val + 1)) (Ring.bk 16 (t.val + 1)) ∗ Ring.inflight (Flying c (G c main_arg0)) (Ring.sl 3 (t.val + 2)) (Ring.bk 16 (t.val + 2)) ∗ Ring.free (Quiet c) (Spare c (G c main_arg0)) (Ring.sl 3 t.val)) (fun p => ?_) ?_ ?_
  · have e : oldAt (F := F) t ((stageAt t).m22.view.read (Elt F) p) = fun _ => Scalar.ofBits .f32 0x00000000#32 := if_pos h0
    rw [e]
    exact runFirst c t (stageAt t) (G c main_arg0) (ha.mpr h0) (hf.mpr (by omega)) (hz.mpr h0) (ho.mpr (by omega)) (fun h => by have := hl.mp h; omega) (insAt G c t) p
  · unfold copies
    rw [if_pos h0, Ring.At₀_eq3' _ _ _ t.val h0 (by decide : 3 ≤ 16)]
    exact ⟨_, Idealize.SL.BI.Entails.refl _⟩
  · unfold copies
    rw [if_neg (show ¬t.val + 1 = 0 by omega), Ring.At3_one' _ _ _ _ t.val h0 (by decide : 3 ≤ 16)]
    exact Ring.with_homes (Idealize.SL.BI.Entails.refl _)

theorem kept_mid (c : Dev nD) (t : Fin cfg0.N) (h0 : ¬t.val = 0) (h14 : t.val < 14) : Kept G c t := by
  obtain ⟨ha, hf, hz, ho, hl⟩ := tests t
  have hl' : ¬closes (grid0.coords t) := fun h => by have := hl.mp h; omega
  have hKB : t.val + 2 < 16 := by omega
  refine kept G c t iprop(Ring.inflight (Flying c (G c main_arg0)) (Ring.sl 3 t.val) (Ring.bk 16 t.val) ∗ Ring.inflight (Flying c (G c main_arg0)) (Ring.sl 3 (t.val + 1)) (Ring.bk 16 (t.val + 1)) ∗ Ring.free (Quiet c) (Spare c (G c main_arg0)) (Ring.sl 3 (t.val + 2))) iprop(Ring.inflight (Flying c (G c main_arg0)) (Ring.sl 3 (t.val + 1)) (Ring.bk 16 (t.val + 1)) ∗ Ring.inflight (Flying c (G c main_arg0)) (Ring.sl 3 (t.val + 2)) (Ring.bk 16 (t.val + 2)) ∗ Ring.free (Quiet c) (Spare c (G c main_arg0)) (Ring.sl 3 t.val)) (fun p => ?_) ?_ ?_
  · have e : oldAt (F := F) t ((stageAt t).m22.view.read (Elt F) p) = _ := if_neg h0
    rw [e]
    by_cases h8 : t.val % 8 = 0
    · exact runRow c t (stageAt t) (G c main_arg0) (fun h => h0 (ha.mp h)) (hf.mpr h14) (fun h => h0 (hz.mp h)) (ho.mpr h8) hl' (insAt G c t) p
    · exact runBetween c t (stageAt t) (G c main_arg0) (fun h => h0 (ha.mp h)) (hf.mpr h14) (fun h => h0 (hz.mp h)) (fun h => h8 (ho.mp h)) hl' (insAt G c t) p
  · unfold copies
    rw [if_neg h0, Ring.At3_here _ _ _ _ t.val hKB]
    exact ⟨_, Idealize.SL.BI.Entails.refl _⟩
  · unfold copies
    rw [if_neg (show ¬t.val + 1 = 0 by omega), Ring.At3_next _ _ _ _ t.val hKB, Ring.slotAt3_next0 _ _ _ t.val (by omega), Ring.slotAt3_next1 _ _ _ t.val hKB]
    exact Ring.with_homes (Idealize.SL.BI.Entails.refl _)

theorem kept_late (c : Dev nD) (t : Fin cfg0.N) (h14 : ¬t.val < 14) : Kept G c t := by
  obtain ⟨ha, hf, hz, ho, hl⟩ := tests t
  have hN : t.val < 16 := Nat.lt_of_lt_of_eq t.isLt N_0
  have h0 : ¬t.val = 0 := by omega
  have h8 : ¬t.val % 8 = 0 := by omega
  have hKB : 16 ≤ t.val + 2 := by omega
  refine kept G c t iprop(Ring.inflight (Flying c (G c main_arg0)) (Ring.sl 3 t.val) (Ring.bk 16 t.val) ∗ Ring.slotAt 2 (Quiet c) (Spare c (G c main_arg0)) (Flying c (G c main_arg0)) t.val 1 ∗ Ring.free (Quiet c) (Spare c (G c main_arg0)) (Ring.sl 3 (t.val + 2))) iprop(Ring.slotAt 2 (Quiet c) (Spare c (G c main_arg0)) (Flying c (G c main_arg0)) t.val 1 ∗ Ring.free (Quiet c) (Spare c (G c main_arg0)) (Ring.sl 3 (t.val + 2)) ∗ Ring.free (Quiet c) (Spare c (G c main_arg0)) (Ring.sl 3 t.val)) (fun p => ?_) ?_ ?_
  · have e : oldAt (F := F) t ((stageAt t).m22.view.read (Elt F) p) = _ := if_neg h0
    rw [e]
    by_cases h15 : t.val = 15
    · exact around c (stageAt t) t (runLast c t (stageAt t) (G c main_arg0) (fun h => h0 (ha.mp h)) (fun h => h14 (hf.mp h)) (fun h => h0 (hz.mp h)) (fun h => h8 (ho.mp h)) (hl.mpr h15) (insAt G c t) p)
    · exact around c (stageAt t) t (runTail c t (stageAt t) (G c main_arg0) (fun h => h0 (ha.mp h)) (fun h => h14 (hf.mp h)) (fun h => h0 (hz.mp h)) (fun h => h8 (ho.mp h)) (fun h => h15 (hl.mp h)) (insAt G c t) p)
  · unfold copies
    rw [if_neg h0, Ring.At3_here_tail _ _ _ _ t.val hN]
    exact ⟨_, Idealize.SL.BI.Entails.refl _⟩
  · unfold copies
    rw [if_neg (show ¬t.val + 1 = 0 by omega), Ring.At3_next_tail _ _ _ _ t.val hKB hN, Ring.slotAt3_tail_role _ _ _ t.val]
    exact Ring.with_homes (Idealize.SL.BI.Entails.refl _)

/-- The body keeps its contract at every point. -/
theorem body_sound (c : Dev nD) : (dat G c).BodyObligation (defs₀ (F := F)) Variants.none () Set.univ := fun t Y hY => by
  rw [body_row]
  by_cases h0 : t.val = 0
  · exact kept_first G c t h0 Y hY
  by_cases h14 : t.val < 14
  · exact kept_mid G c t h0 h14 Y hY
  · exact kept_late G c t h14 Y hY

end Cert.Seq

end
-- ==== Proof.SeqFrame.lean ====
/- The backward call's run, and the arguments it keeps. -/
module

public import proofs.«01_k».proof.Proof.SeqPoint

@[expose] public section
set_option maxRecDepth 16384
noncomputable section

namespace Cert.Seq
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-! ## The run -/

set_option backward.isDefEq.respectTransparency.types false in
set_option maxHeartbeats 4000000 in
/-- Every run ends with the arrays at contents the points allow, the other buffers as the last lines leave them, and every counter at zero. -/
theorem ends_at (m : (ℓ : Loc nD τ sig) → Buf (Elt F) ℓ) (ρ : Dev nD → PrngReg) :
    θ_run defs (onTc (τ := τ) (main (F := F))) (s₀ m ρ) (Around.Ends cfgs 0 (dat (at0 m)) (memAt m) hostOps1) :=
  Around.run_ends cfgs (0 : Fin 1) launch₀0 ownCells defs₀ Variants.none (dat (at0 m)) ownCells_facts copiedRefs copiedRefs_sub m ρ main
    (body_sound (at0 m)) (fun _ _ _ => rfl) (fun _ _ => rfl) (memAt m) hostOps1 last_sub last_fresh last_keeps (main_around m) (fun _ _ => rfl)
    (fun c => launch_start (at0 m) c) (fun c => by
      rw [show (dat (at0 m) c).Φ (Fin.last cfg0.N) = before (at0 m) c (Fin.last cfg0.N).val from rfl, show (Fin.last cfg0.N).val = 16 from N_0]
      exact launch_end (at0 m) c)

set_option backward.isDefEq.respectTransparency.types false in
set_option maxHeartbeats 4000000 in
/-- An argument a window stages is as launched. -/
theorem kept_window (c : Dev nD) (r : PUnit.{1} × MemSt nD τ sig (Elt F)) (h : Around.Ends cfgs 0 (dat (at0 m)) (memAt m) hostOps1 r) (w : Fin cfg0.W)
    (hw : (cfg0.win w).isOut = false) (hb : Pipeline.arrRef spec0 w ∈ args) :
    r.2.mem ((c : Thread nD τ).loc (Pipeline.arrRef spec0 w)) = m ((c : Thread nD τ).loc (Pipeline.arrRef spec0 w)) := by
  have h1 := (h.1 c).1 w
  rw [(dat (at0 m) c).ArrAt_in w hw cfg0.N] at h1
  exact h1.trans (at0_arg m c _ hb)
theorem not_array (b : Ref sig .tc) (hr : b ∈ Pipeline.restRefs sig spec0) (w : Fin 20) : Pipeline.arrRef spec0 w ≠ b := by
  rintro rfl
  exact absurd hr (by revert w; decide)
set_option backward.isDefEq.respectTransparency.types false in
set_option maxHeartbeats 4000000 in
/-- An argument the last lines could reach is as launched. -/
theorem kept_rest (c : Dev nD) (r : PUnit.{1} × MemSt nD τ sig (Elt F)) (h : Around.Ends cfgs 0 (dat (at0 m)) (memAt m) hostOps1 r) (b : Ref sig .tc)
    (hb : b ∈ args) (hr : b ∈ Pipeline.restRefs sig spec0) : r.2.mem ((c : Thread nD τ).loc b) = m ((c : Thread nD τ).loc b) := by
  obtain ⟨-, A, -, hA⟩ := h.1 c
  rw [hA b hr]
  refine Eq.trans (StableHlo.after_of_forall_not_mem (b := Proc.devRef .tc b) _ _ fun op hop hw => ?_) ?_
  · obtain ⟨-, r, hr, hn⟩ := (List.forall_iff_forall_mem.mp tame_last) op hop
    rw [hr, Finset.mem_singleton] at hw
    exact StableHlo.devRef_ne_of_ne (x := b) (y := r) (by rintro rfl; exact hn hb) hw
  · refine (Pipeline.withArrays_of_ne _ _ _ _ b ?_).trans (at0_arg m c b hb)
    intro w e
    exact not_array b hr w e

set_option backward.isDefEq.respectTransparency.types false in
set_option maxHeartbeats 4000000 in
/-- Each argument is as launched. -/
theorem kept_all (r : PUnit.{1} × MemSt nD τ sig (Elt F)) (h : Around.Ends cfgs 0 (dat (at0 m)) (memAt m) hostOps1 r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨kept_rest m c r h main_arg0 (by decide) (by decide),
    kept_window m c r h 11 rfl (by decide),
    kept_rest m c r h main_arg2 (by decide) (by decide),
    kept_window m c r h 12 rfl (by decide),
    kept_rest m c r h main_arg4 (by decide) (by decide),
    kept_window m c r h 13 rfl (by decide),
    kept_rest m c r h main_arg6 (by decide) (by decide),
    kept_window m c r h 14 rfl (by decide),
    kept_window m c r h 15 rfl (by decide),
    kept_window m c r h 16 rfl (by decide),
    kept_window m c r h 8 rfl (by decide),
    kept_window m c r h 9 rfl (by decide),
    kept_window m c r h 10 rfl (by decide),
    kept_window m c r h 17 rfl (by decide)⟩

/-- The run keeps its arguments. -/
theorem frame_holds (m : (ℓ : Loc nD τ sig) → Buf (Elt F) ℓ) (ρ : Dev nD → PrngReg) :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r h => ⟨kept_all m r h, h.2⟩) (ends_at m ρ)

end Cert.Seq

end
-- ==== Proof.SeqSum.lean ====
/- The pool's part of the backward call in exact arithmetic: what one block of rows adds to the two gradients, and its inputs read off
   the arrays. -/
module

public import proofs.«01_k».proof.Proof.SeqData
public import proofs.«01_k».proof.Proof.HeadRow
public import Idealize.ShloMosaic.Lib.Pipeline.ValueKit
public import Idealize.ShloMosaic.Lib.Pointwise
public import Idealize.ShloMosaic.Lib.VecWindow

@[expose] public section
set_option maxRecDepth 16384
noncomputable section

namespace Cert.Seq.Value
open Cert.Kernel3Ideal Cert.Kernel3Ideal.Gen
open Idealize.ShloMosaic Idealize.ShloMosaic.TcCoe
open scoped BigOperators

/-- The arrays the two gradients depend on: the activations, the pool's differences and what the heads' weights make of them, the
    cotangent of the pool's output and the columns' scales. -/
structure Arrs where
  z : FVec Ideal S2x2048x3072 .f32
  d : FVec Ideal S2x2048x512 .f32
  v : FVec Ideal S2x2048x512 .f32
  y : FVec Ideal S2x2048x512 .f32
  s : FVec Ideal S1x512 .f32

/-- Column `j` of head `g`, and the gate's column beside it. -/
def col (g : Fin 4) (j : Fin 128) : Fin 512 := ⟨128 * g.val + j.val, by omega⟩
def gateCol (k : Fin 512) : Fin 3072 := ⟨2560 + k.val, by omega⟩

namespace Arrs
variable (A : Arrs)
/-- The cotangent through the gate. -/
def dy (b : Fin 2) (r : Fin 2048) (k : Fin 512) : EReal :=
  A.y (ix3 b r k) * (A.z (ix3 b r (gateCol k)) * HeadRow.sig (A.z (ix3 b r (gateCol k))))
/-- What position `b, r` adds to the weights' gradient, and to the scales'. -/
def weight (g : Fin 4) (i j : Fin 128) (b : Fin 2) (r : Fin 2048) : EReal :=
  A.d (ix3 b r (col g i)) * (A.dy b r (col g j) * A.s (ix2 0 (col g j)))
def scale (g : Fin 4) (j : Fin 128) (b : Fin 2) (r : Fin 2048) : EReal := A.dy b r (col g j) * A.v (ix3 b r (col g j))
end Arrs

/-! ## One block's share -/

theorem gate_pay (z : Vec Ideal S256x128 .f32) (r : Fin 256) (j : Fin 128) :
    k0_pay374 z (ix2 r j) = z (ix2 r j) * HeadRow.sig (z (ix2 r j)) := by
  rw [← HeadRow.tanh_eq_sig]
  pointwise [k0_pay374, k0_pay372]

theorem weights_pay (d : Vec Ideal S1x256x128 .bf16) (s : Vec Ideal S1x128 .f32) (z : Vec Ideal S256x128 .f32) (y : Vec Ideal S1x256x128 .f32)
    (o : Vec Ideal S128x128 .f32) (i j : Fin 128) :
    weightsPlus d s z y o (ix2 i j)
      = o (ix2 i j) + ∑ r : Fin 256, d (ix3 0 r i) * ((y (ix3 0 r j) * (z (ix2 r j) * HeadRow.sig (z (ix2 r j)))) * s (ix2 0 j)) := by
  have h : ∀ q : FVec Ideal S256x128 .f32, k0_pay379 (k0_pay370 d) s (k0_pay373 y) q o (ix2 i j)
      = o (ix2 i j) + ∑ r : Fin 256, d (ix3 0 r i) * ((y (ix3 0 r j) * q (ix2 r j)) * s (ix2 0 j)) := fun q => by
    pointwise [k0_pay379, k0_pay378, k0_pay375, k0_pay370, k0_pay373]
  refine (h _).trans ?_
  simp only [gate_pay]

theorem scales_pay (v : Vec Ideal S1x256x128 .f32) (z : Vec Ideal S256x128 .f32) (y : Vec Ideal S1x256x128 .f32) (o : Vec Ideal S1x128 .f32) (j : Fin 128) :
    scalesPlus v z y o (ix2 0 j)
      = o (ix2 0 j) + ∑ r : Fin 256, (y (ix3 0 r j) * (z (ix2 r j) * HeadRow.sig (z (ix2 r j)))) * v (ix3 0 r j) := by
  have h : ∀ q : FVec Ideal S256x128 .f32, k0_pay377 (k0_pay371 v) (k0_pay373 y) q o (ix2 0 j)
      = o (ix2 0 j) + ∑ r : Fin 256, (y (ix3 0 r j) * q (ix2 r j)) * v (ix3 0 r j) := fun q => by
    pointwise [k0_pay377, k0_pay375, k0_pay371, k0_pay373]
  refine (h _).trans ?_
  simp only [gate_pay]

/-! ## The block's inputs -/

/-- Where point `t`'s rows lie: the sequences in order, each from its last block to its first. -/
def batch (t : Fin cfg0.N) : Fin 2 := ⟨t.val / 8, by have := lt_of_lt_of_eq t.isLt N_0; omega⟩
def line (t : Fin cfg0.N) (r : Fin 256) : Fin 2048 := ⟨256 * (7 - t.val % 8) + r.val, by omega⟩

theorem idx : ∀ t : Fin cfg0.N, win0_6.index t = ![t.val / 8, 7 - t.val % 8, 0] ∧ win0_7.index t = ![t.val / 8, 7 - t.val % 8, 0]
    ∧ win0_9.index t = ![t.val / 8, 7 - t.val % 8, 0] ∧ win0_16.index t = ![0, 0] ∧ win0_19.index t = ![0, 0] :=
  (by decide +kernel : ∀ t : Fin grid0.N, win0_6.index t = ![t.val / 8, 7 - t.val % 8, 0] ∧ win0_7.index t = ![t.val / 8, 7 - t.val % 8, 0]
    ∧ win0_9.index t = ![t.val / 8, 7 - t.val % 8, 0] ∧ win0_16.index t = ![0, 0] ∧ win0_19.index t = ![0, 0])

variable (G : (c : Dev nD) → (b : Ref sig .tc) → Buf (Elt Ideal) ((c : Thread nD τ).loc b)) (c : Dev nD) (t : Fin cfg0.N)

theorem block6 (r : Fin 256) (k : Fin 512) : (insAt G c t).x9 (ix3 0 r k) = (G c main_v406 : FVec Ideal S2x2048x512 .bf16) (ix3 (batch t) (line t r) k) := by
  show blockAt G c 6 t (ix3 0 r k) = _
  blk_ext [blockAt, idx t, batch, line]
theorem block7 (r : Fin 256) (k : Fin 512) : (insAt G c t).x10 (ix3 0 r k) = (G c main_v402 : FVec Ideal S2x2048x512 .f32) (ix3 (batch t) (line t r) k) := by
  show blockAt G c 7 t (ix3 0 r k) = _
  blk_ext [blockAt, idx t, batch, line]
theorem block9 (r : Fin 256) (k : Fin 512) : (insAt G c t).x12 (ix3 0 r k) = (G c main_arg11 : FVec Ideal S2x2048x512 .f32) (ix3 (batch t) (line t r) k) := by
  show blockAt G c 9 t (ix3 0 r k) = _
  blk_ext [blockAt, idx t, batch, line]
theorem block16 (k : Fin 512) : (insAt G c t).x19 (ix2 0 k) = (G c main_arg9 : FVec Ideal S1x512 .f32) (ix2 0 k) := by
  show blockAt G c 16 t (ix2 0 k) = _
  blk_ext [blockAt, idx t]
theorem rows_at (r : Fin 256) (k : Fin 3072) : rowsAt G c t (ix2 r k) = (G c main_arg0 : FVec Ideal S2x2048x3072 .f32) (ix3 (batch t) (line t r) k) := by
  have hc : S1x256x3072.ShapeCasts S256x3072 := by decide
  have e : ∀ q : S1x256x3072.Idx → EReal, shapeCast S256x3072 q hc (ix2 r k) = q (ix3 0 r k) := fun q => by pointwise
  have ht : t.val < 16 := lt_of_lt_of_eq t.isLt N_0
  refine (e (View.readAt (Elt Ideal) zAll.view (Rect.unit (s := S2x2048x3072) ![(Ring.bk 16 t.val).val / 8, 256 * (7 - (Ring.bk 16 t.val).val % 8), 0] S1x256x3072.size
    (block_inb _)).toLoadRect (G c main_arg0))).trans ?_
  refine congrArg (G c main_arg0) (funext fun a => Fin.ext ?_)
  have hb : (Ring.bk 16 t.val).val = t.val := by show t.val % 16 = t.val; omega
  fin_cases a
  · show (Ring.bk 16 t.val).val / 8 + 1 * 0 = t.val / 8; omega
  · show 256 * (7 - (Ring.bk 16 t.val).val % 8) + 1 * r.val = 256 * (7 - t.val % 8) + r.val; omega
  · show 0 + 1 * k.val = k.val; omega

end Cert.Seq.Value

end
-- ==== Proof.SeqPack.lean ====
/- The pack after every block: its rows of the pool hold the two gradients, summed over all positions of both sequences. -/
module

public import proofs.«01_k».proof.Proof.SeqSum
public import Idealize.ShloMosaic.Lib.Pipeline.ArrRel

@[expose] public section
set_option maxRecDepth 16384
noncomputable section

namespace Cert.Seq.Value
open Cert.Kernel3Ideal Cert.Kernel3Ideal.Gen
open Idealize.ShloMosaic Idealize.ShloMosaic.TcCoe
open scoped BigOperators

variable (A : Arrs) (G : (c : Dev nD) → (b : Ref sig .tc) → Buf (Elt Ideal) ((c : Thread nD τ).loc b)) (c : Dev nD)

/-- The buffers hold the arrays. -/
structure Holds : Prop where
  z : ∀ i, (G c main_arg0 : FVec Ideal S2x2048x3072 .f32) i = A.z i
  d : ∀ i, (G c main_v406 : FVec Ideal S2x2048x512 .bf16) i = A.d i
  v : ∀ i, (G c main_v402 : FVec Ideal S2x2048x512 .f32) i = A.v i
  y : ∀ i, (G c main_arg11 : FVec Ideal S2x2048x512 .f32) i = A.y i
  s : ∀ i, (G c main_arg9 : FVec Ideal S1x512 .f32) i = A.s i

/-- The pack's row of head `g`'s row `i`, and its row of scales. -/
def weightRow (g : Fin 4) (i : Fin 128) : Fin 3072 := ⟨2048 + 128 * g.val + i.val, by omega⟩
def scaleRow (g : Fin 4) : Fin 3072 := ⟨2624 + g.val, by omega⟩

variable {A G c}

/-- One block's share of the weights' gradient, over any earlier sums; -/
theorem weights_block (h : Holds A G c) (t : Fin cfg0.N) (g : Fin 4) (o : Vec Ideal S128x128 .f32) (i j : Fin 128) (ib is iz) :
    weightsPlus (View.ld (insAt G c t).x9 (Rect.unit (s := S1x256x512) ![0, 0, 128 * g.val] S1x256x128.size ib))
        (View.ld (insAt G c t).x19 (Rect.unit (s := S1x512) ![0, 128 * g.val] S1x128.size is))
        (View.ld (rowsAt G c t) (Rect.unit (s := S256x3072) ![0, 2560 + 128 * g.val] S256x128.size iz))
        (View.ld (insAt G c t).x12 (Rect.unit (s := S1x256x512) ![0, 0, 128 * g.val] S1x256x128.size ib)) o (ix2 i j)
      = o (ix2 i j) + ∑ r : Fin 256, A.weight g i j (batch t) (line t r) := by
  rw [weights_pay]
  refine congrArg (fun s : EReal => o (ix2 i j) + s) (Finset.sum_congr rfl fun r _ => ?_)
  have e9 : ∀ k : Fin 128, View.ld (insAt G c t).x9 (Rect.unit (s := S1x256x512) ![0, 0, 128 * g.val] S1x256x128.size ib) (ix3 0 r k) = A.d (ix3 (batch t) (line t r) (col g k)) :=
    fun k => by
      rw [← h.d, ← block6 G c t r (col g k)]
      exact congrArg (insAt G c t).x9 (funext fun a => Fin.ext (by fin_cases a <;> simp [col, ix3]))
  have e12 : View.ld (insAt G c t).x12 (Rect.unit (s := S1x256x512) ![0, 0, 128 * g.val] S1x256x128.size ib) (ix3 0 r j) = A.y (ix3 (batch t) (line t r) (col g j)) := by
    rw [← h.y, ← block9 G c t r (col g j)]
    exact congrArg (insAt G c t).x12 (funext fun a => Fin.ext (by fin_cases a <;> simp [col, ix3]))
  have e19 : View.ld (insAt G c t).x19 (Rect.unit (s := S1x512) ![0, 128 * g.val] S1x128.size is) (ix2 0 j) = A.s (ix2 0 (col g j)) := by
    rw [← h.s, ← block16 G c t (col g j)]
    exact congrArg (insAt G c t).x19 (funext fun a => Fin.ext (by fin_cases a <;> simp [col, ix2]))
  have ez : View.ld (rowsAt G c t) (Rect.unit (s := S256x3072) ![0, 2560 + 128 * g.val] S256x128.size iz) (ix2 r j) = A.z (ix3 (batch t) (line t r) (gateCol (col g j))) := by
    rw [← h.z, ← rows_at G c t r (gateCol (col g j))]
    exact congrArg (rowsAt G c t) (funext fun a => Fin.ext (by fin_cases a <;> simp [col, gateCol, ix2] <;> omega))
  rw [e9, e12, e19, ez]
  rfl

/-- and of the scales' gradient. -/
theorem scales_block (h : Holds A G c) (t : Fin cfg0.N) (g : Fin 4) (o : Vec Ideal S1x128 .f32) (j : Fin 128) (ib iz) :
    scalesPlus (View.ld (insAt G c t).x10 (Rect.unit (s := S1x256x512) ![0, 0, 128 * g.val] S1x256x128.size ib))
        (View.ld (rowsAt G c t) (Rect.unit (s := S256x3072) ![0, 2560 + 128 * g.val] S256x128.size iz))
        (View.ld (insAt G c t).x12 (Rect.unit (s := S1x256x512) ![0, 0, 128 * g.val] S1x256x128.size ib)) o (ix2 0 j)
      = o (ix2 0 j) + ∑ r : Fin 256, A.scale g j (batch t) (line t r) := by
  rw [scales_pay]
  refine congrArg (fun s : EReal => o (ix2 0 j) + s) (Finset.sum_congr rfl fun r _ => ?_)
  have e10 : View.ld (insAt G c t).x10 (Rect.unit (s := S1x256x512) ![0, 0, 128 * g.val] S1x256x128.size ib) (ix3 0 r j) = A.v (ix3 (batch t) (line t r) (col g j)) := by
    rw [← h.v, ← block7 G c t r (col g j)]
    exact congrArg (insAt G c t).x10 (funext fun a => Fin.ext (by fin_cases a <;> simp [col, ix3]))
  have e12 : View.ld (insAt G c t).x12 (Rect.unit (s := S1x256x512) ![0, 0, 128 * g.val] S1x256x128.size ib) (ix3 0 r j) = A.y (ix3 (batch t) (line t r) (col g j)) := by
    rw [← h.y, ← block9 G c t r (col g j)]
    exact congrArg (insAt G c t).x12 (funext fun a => Fin.ext (by fin_cases a <;> simp [col, ix3]))
  have ez : View.ld (rowsAt G c t) (Rect.unit (s := S256x3072) ![0, 2560 + 128 * g.val] S256x128.size iz) (ix2 r j) = A.z (ix3 (batch t) (line t r) (gateCol (col g j))) := by
    rw [← h.z, ← rows_at G c t r (gateCol (col g j))]
    exact congrArg (rowsAt G c t) (funext fun a => Fin.ext (by fin_cases a <;> simp [col, gateCol, ix2] <;> omega))
  rw [e10, e12, ez]
  rfl

/-- A load of rows of the pack at a position. -/
theorem ld_weights (n : Vec Ideal S3072x128 .f32) (g : Fin 4) (i j : Fin 128) (inb) :
    View.ld n (Rect.unit (s := S3072x128) ![2048 + 128 * g.val, 0] S128x128.size inb) (ix2 i j) = n (ix2 (weightRow g i) j) :=
  congrArg n (funext fun a => Fin.ext (by fin_cases a <;> simp [weightRow, ix2]))
theorem ld_scales (n : Vec Ideal S3072x128 .f32) (g : Fin 4) (j : Fin 128) (inb) :
    View.ld n (Rect.unit (s := S3072x128) ![2624 + g.val, 0] S1x128.size inb) (ix2 0 j) = n (ix2 (scaleRow g) j) :=
  congrArg n (funext fun a => Fin.ext (by fin_cases a <;> simp [scaleRow, ix2]))

/-- What a point adds to the pack. -/
theorem gained_weights (h : Holds A G c) (t : Fin cfg0.N) (o n : Vec Ideal S3072x128 .f32) (hg : Gained (insAt G c t) (rowsAt G c t) o n)
    (g : Fin 4) (i j : Fin 128) :
    n (ix2 (weightRow g i) j) = o (ix2 (weightRow g i) j) + ∑ r : Fin 256, A.weight g i j (batch t) (line t r) := by
  rw [← ld_weights n g i j (by revert g; decide), ← ld_weights o g i j (by revert g; decide), ← weights_block h t g _ i j (by revert g; decide) (by revert g; decide) (by revert g; decide)]
  fin_cases g
  · exact congrFun hg.w0 (ix2 i j)
  · exact congrFun hg.w1 (ix2 i j)
  · exact congrFun hg.w2 (ix2 i j)
  · exact congrFun hg.w3 (ix2 i j)

theorem gained_scales (h : Holds A G c) (t : Fin cfg0.N) (o n : Vec Ideal S3072x128 .f32) (hg : Gained (insAt G c t) (rowsAt G c t) o n)
    (g : Fin 4) (j : Fin 128) :
    n (ix2 (scaleRow g) j) = o (ix2 (scaleRow g) j) + ∑ r : Fin 256, A.scale g j (batch t) (line t r) := by
  rw [← ld_scales n g j (by revert g; decide), ← ld_scales o g j (by revert g; decide), ← scales_block h t g _ j (by revert g; decide) (by revert g; decide)]
  fin_cases g
  · exact congrFun hg.s0 (ix2 0 j)
  · exact congrFun hg.s1 (ix2 0 j)
  · exact congrFun hg.s2 (ix2 0 j)
  · exact congrFun hg.s3 (ix2 0 j)

/-! ## All the points -/

/-- A quantity of every point, by the points' numbers. -/
def byNumber (f : Fin cfg0.N → EReal) (k : ℕ) : EReal := if h : k < cfg0.N then f ⟨k, h⟩ else 0

theorem zero_eq : (Scalar.ofBits (F := Ideal) .f32 0x00000000#32 : EReal) = 0 := by
  show Ideal.ofBits .f32 0x00000000#32 = 0
  simp [Ideal.ofBits, Ideal.ieee]

/-- An entry that gains a quantity at every point, from zero, holds the sum of those of the points so far. -/
theorem leaves_sum (x : S3072x128.Idx) (f : Fin cfg0.N → EReal)
    (hstep : ∀ (t : Fin cfg0.N) (o n : Vec Ideal S3072x128 .f32), Gained (insAt G c t) (rowsAt G c t) o n → n x = o x + f t) :
    ∀ (k : ℕ) (hk : k < cfg0.N) (X), (dat G c).Leaves 19 ⟨k, hk⟩ X → asPack 19 rfl X x = ∑ l ∈ Finset.range (k + 1), byNumber f l := by
  intro k
  induction k with
  | zero =>
    intro hk X ⟨Y, hY, hX⟩
    rw [hstep _ _ _ (hX.2 rfl)]
    unfold oldAt
    rw [if_pos rfl]
    simp only [Finset.range_one, Finset.sum_singleton, zero_add, byNumber, dif_pos hk]
    rw [zero_eq, zero_add]
  | succ k ih =>
    intro hk X ⟨Y, hY, hX⟩
    rw [hstep _ _ _ (hX.2 rfl), Finset.sum_range_succ]
    unfold oldAt
    rw [if_neg (Nat.succ_ne_zero k)]
    rw [(dat G c).finds_of_pos rfl (Nat.succ_ne_zero k)] at hY
    rcases hY with hY | hY
    · exfalso
      rw [flush0_19] at hY
      have := lt_of_lt_of_eq hk N_0
      have hh : (k + 1 - 1) % 16 = 15 := hY
      omega
    · rw [ih (Nat.lt_of_succ_lt hk) Y hY]
      refine congrArg (fun s : EReal => _ + s) ?_
      unfold byNumber
      rw [dif_pos hk]

/-- All blocks' rows are all positions of both sequences. -/
theorem sum_blocks (f : Fin 2 → Fin 2048 → EReal) :
    (∑ l ∈ Finset.range 16, byNumber (fun t => ∑ r : Fin 256, f (batch t) (line t r)) l) = ∑ b : Fin 2, ∑ r : Fin 2048, f b r := by
  rw [Finset.sum_range]
  have e : ∀ l : Fin 16, byNumber (fun t => ∑ r : Fin 256, f (batch t) (line t r)) l
      = ∑ r : Fin 256, f ⟨l.val / 8, by omega⟩ ⟨256 * (7 - l.val % 8) + r.val, by omega⟩ := fun l => by
    unfold byNumber
    rw [dif_pos (lt_of_lt_of_eq l.isLt N_0.symm)]
    rfl
  rw [Finset.sum_congr rfl fun l _ => e l]
  rw [← Fintype.sum_prod_type', ← Fintype.sum_prod_type']
  refine Finset.sum_bij' (fun p _ => (⟨p.1.val / 8, by omega⟩, ⟨256 * (7 - p.1.val % 8) + p.2.val, by omega⟩))
    (fun q _ => (⟨8 * q.1.val + (7 - q.2.val / 256), by omega⟩, ⟨q.2.val % 256, by omega⟩)) (fun _ _ => Finset.mem_univ _) (fun _ _ => Finset.mem_univ _)
    (fun p _ => ?_) (fun q _ => ?_) (fun p _ => rfl)
  · refine Prod.ext (Fin.ext ?_) (Fin.ext ?_)
    · show 8 * (p.1.val / 8) + (7 - (256 * (7 - p.1.val % 8) + p.2.val) / 256) = p.1.val
      omega
    · show (256 * (7 - p.1.val % 8) + p.2.val) % 256 = p.2.val
      omega
  · refine Prod.ext (Fin.ext ?_) (Fin.ext ?_)
    · show (8 * q.1.val + (7 - q.2.val / 256)) / 8 = q.1.val
      omega
    · show 256 * (7 - (8 * q.1.val + (7 - q.2.val / 256)) % 8) + q.2.val % 256 = q.2.val
      omega

/-- The pack's array at the end. -/
theorem whole_19 : (cfg0.win 19).WholeAt (⟨15, lt_of_lt_of_eq (by decide : 15 < 16) N_0.symm⟩ : Fin cfg0.N) :=
  (by decide +kernel : win0_19.WholeAt (⟨15, lt_of_lt_of_eq (by decide : 15 < 16) N_0.symm⟩ : Fin grid0.N))

theorem pack_weights (h : Holds A G c) (B : Buf (Elt Ideal) ((cfg0.win 19).arr.view.loc (c : Thread nD τ))) (hB : (dat G c).ArrAt 19 cfg0.N B) (g : Fin 4) (i j : Fin 128) :
    (B : FVec Ideal S3072x128 .f32) (ix2 (weightRow g i) j) = ∑ b : Fin 2, ∑ r : Fin 2048, A.weight g i j b r := by
  obtain ⟨X, hX, hj⟩ := hB.emb_eq_of_wholeAt whole_19
  have e := leaves_sum (ix2 (weightRow g i) j) _ (fun t o n hg => gained_weights h t o n hg g i j) 15 _ X hX
  rw [← sum_blocks]
  exact (hj (ix2 (weightRow g i) j)).trans e

theorem pack_scales (h : Holds A G c) (B : Buf (Elt Ideal) ((cfg0.win 19).arr.view.loc (c : Thread nD τ))) (hB : (dat G c).ArrAt 19 cfg0.N B) (g : Fin 4) (j : Fin 128) :
    (B : FVec Ideal S3072x128 .f32) (ix2 (scaleRow g) j) = ∑ b : Fin 2, ∑ r : Fin 2048, A.scale g j b r := by
  obtain ⟨X, hX, hj⟩ := hB.emb_eq_of_wholeAt whole_19
  have e := leaves_sum (ix2 (scaleRow g) j) _ (fun t o n hg => gained_scales h t o n hg g j) 15 _ X hX
  rw [← sum_blocks]
  exact (hj (ix2 (scaleRow g) j)).trans e

end Cert.Seq.Value

end
-- ==== Proof.SeqPool.lean ====
/- The pooled columns the host prepares for the backward call: running sums of the pooled columns, their differences over the four
   windows, and the four heads' weights applied to them. The version and the host's own gradient write them alike. -/
module

public import proofs.«01_k».proof.Proof.SeqHost
public import proofs.«01_k».proof.Proof.Gen.Reference3Ideal.Run
public import Idealize.ShloMosaic.Lib.StableHlo.RunRead
public import Idealize.ShloMosaic.Lib.Pipeline.Frame

@[expose] public section
set_option maxRecDepth 65536
noncomputable section

namespace Cert.Seq.Pool
open Cert.Kernel3Ideal Cert.Kernel3Ideal.Gen
open Idealize.ShloMosaic Idealize.ShloMosaic.TcCoe Idealize.SL.Sem
open Idealize.ShloMosaic.StableHlo

variable {F : FTy → Type} [FloatOps F]

/-- Four windows' columns side by side, less the columns themselves. -/
abbrev joined (p q r s : FVec F S2x2048x128 .f32) (x : FVec F S2x2048x512 .f32) : FVec F S2x2048x512 .f32 :=
  subf (concatenate S2x2048x512 2 [⟨S2x2048x128, p⟩, ⟨S2x2048x128, q⟩, ⟨S2x2048x128, r⟩, ⟨S2x2048x128, s⟩]
    concatenates_S2x2048x128_S2x2048x128_S2x2048x128_S2x2048x128_S2x2048x512_d2) x

/-- Rows of zeros ahead of columns. -/
abbrev under (z : FVec F S2x16x512 .f32) (y : FVec F S2x2048x512 .f32) : FVec F S2x2064x512 .f32 :=
  concatenate S2x2064x512 1 [⟨S2x16x512, z⟩, ⟨S2x2048x512, y⟩] concatenates_S2x16x512_S2x2048x512_S2x2064x512_d1

/-- The pooled columns. -/
def cols (a0 : FVec F S2x2048x3072 .f32) : FVec F S2x2048x512 .f32 :=
  extractStridedSlice S2x2048x512 ![0, 0, 2048] a0 slices_S2x2048x3072_S2x2048x512_0_0_2048

/-- Their running sums over the sequence, sixteen rows of zeros ahead of them. -/
def sums (a0 : FVec F S2x2048x3072 .f32) : FVec F S2x2064x512 .f32 :=
  concatenate S2x2064x512 1 [⟨S2x16x512, (broadcastInDim S2x16x512 ![] bcast_S_S2x16x512 (constant S_ .f32 0x00000000#32))⟩, ⟨S2x2048x512, (Host.reduceWindowAdd ![1, 2048, 1] ![1, 1, 1] ![0, 2047, 0] ![0, 0, 0] (cols a0) (broadcastInDim S_ ![] bcast_S_S_ (constant S_ .f32 0x00000000#32)) reduceWindows_S2x2048x512_S2x2048x512_w1s1p0_0_w2048s1p2047_0_w1s1p0_0 h_S_)⟩] concatenates_S2x16x512_S2x2048x512_S2x2064x512_d1

/-- The means over the four windows, less the columns themselves. -/
def diff (a0 : FVec F S2x2048x3072 .f32) : FVec F S2x2048x512 .f32 :=
  joined
    (Host.divf (subf (extractStridedSlice S2x2048x128 ![0, 16, 0] (extractStridedSlice S2x2064x128 ![0, 0, 0] (sums a0) slices_S2x2064x512_S2x2064x128_0_0_0) slices_S2x2064x128_S2x2048x128_0_16_0) (extractStridedSlice S2x2048x128 ![0, 14, 0] (extractStridedSlice S2x2064x128 ![0, 0, 0] (sums a0) slices_S2x2064x512_S2x2064x128_0_0_0) slices_S2x2064x128_S2x2048x128_0_14_0)) (broadcastInDim S2x2048x128 ![0, 1, 2] bcast_S1x2048x1_S2x2048x128_0_1_2 (broadcastInDim S1x2048x1 ![1] bcast_S2048_S1x2048x1_1 (sitofp .f32 (minsi (addi (iotaInDim S2048 32 0) (broadcastInDim S2048 ![] bcast_S_S2048 (constantI S_ 32 1#32))) (broadcastInDim S2048 ![] bcast_S_S2048 (constantI S_ 32 2#32)))))))
    (Host.divf (subf (extractStridedSlice S2x2048x128 ![0, 16, 0] (extractStridedSlice S2x2064x128 ![0, 0, 128] (sums a0) slices_S2x2064x512_S2x2064x128_0_0_128) slices_S2x2064x128_S2x2048x128_0_16_0) (extractStridedSlice S2x2048x128 ![0, 12, 0] (extractStridedSlice S2x2064x128 ![0, 0, 128] (sums a0) slices_S2x2064x512_S2x2064x128_0_0_128) slices_S2x2064x128_S2x2048x128_0_12_0)) (broadcastInDim S2x2048x128 ![0, 1, 2] bcast_S1x2048x1_S2x2048x128_0_1_2 (broadcastInDim S1x2048x1 ![1] bcast_S2048_S1x2048x1_1 (sitofp .f32 (minsi (addi (iotaInDim S2048 32 0) (broadcastInDim S2048 ![] bcast_S_S2048 (constantI S_ 32 1#32))) (broadcastInDim S2048 ![] bcast_S_S2048 (constantI S_ 32 4#32)))))))
    (Host.divf (subf (extractStridedSlice S2x2048x128 ![0, 16, 0] (extractStridedSlice S2x2064x128 ![0, 0, 256] (sums a0) slices_S2x2064x512_S2x2064x128_0_0_256) slices_S2x2064x128_S2x2048x128_0_16_0) (extractStridedSlice S2x2048x128 ![0, 8, 0] (extractStridedSlice S2x2064x128 ![0, 0, 256] (sums a0) slices_S2x2064x512_S2x2064x128_0_0_256) slices_S2x2064x128_S2x2048x128_0_8_0)) (broadcastInDim S2x2048x128 ![0, 1, 2] bcast_S1x2048x1_S2x2048x128_0_1_2 (broadcastInDim S1x2048x1 ![1] bcast_S2048_S1x2048x1_1 (sitofp .f32 (minsi (addi (iotaInDim S2048 32 0) (broadcastInDim S2048 ![] bcast_S_S2048 (constantI S_ 32 1#32))) (broadcastInDim S2048 ![] bcast_S_S2048 (constantI S_ 32 8#32)))))))
    (Host.divf (subf (extractStridedSlice S2x2048x128 ![0, 16, 0] (extractStridedSlice S2x2064x128 ![0, 0, 384] (sums a0) slices_S2x2064x512_S2x2064x128_0_0_384) slices_S2x2064x128_S2x2048x128_0_16_0) (extractStridedSlice S2x2048x128 ![0, 0, 0] (extractStridedSlice S2x2064x128 ![0, 0, 384] (sums a0) slices_S2x2064x512_S2x2064x128_0_0_384) slices_S2x2064x128_S2x2048x128_0_0_0)) (broadcastInDim S2x2048x128 ![0, 1, 2] bcast_S1x2048x1_S2x2048x128_0_1_2 (broadcastInDim S1x2048x1 ![1] bcast_S2048_S1x2048x1_1 (sitofp .f32 (minsi (addi (iotaInDim S2048 32 0) (broadcastInDim S2048 ![] bcast_S_S2048 (constantI S_ 32 1#32))) (broadcastInDim S2048 ![] bcast_S_S2048 (constantI S_ 32 16#32)))))))
    (cols a0)

/-- Columns through the four heads' weights. -/
def through (w : FVec F S4x128x128 .f32) (d : FVec F S2x2048x512 .f32) : FVec F S2x2048x512 .f32 :=
  shapeCast _ (transpose S2x2048x4x128 [2, 3, 0, 1] (Host.dotGeneral dot_S4x128x128_S2x2048x4x128_S4x128x2x2048_1_3_2_01_0_2 none
    w (shapeCast S2x2048x4x128 d shapeCasts_S2x2048x512_S2x2048x4x128))
    transposes_S4x128x2x2048_S2x2048x4x128_2_3_0_1) shapeCasts_S2x2048x4x128_S2x2048x512

variable (m : (ℓ : Loc nD τ sig) → Buf (Elt F) ℓ) (c : Dev nD)

/-- The contents before the last stretch of host lines. -/
theorem memAt_eq : memAt m c = after hostOps0_4 (after hostOps0_3 (after hostOps0_2 (after hostOps0_1 (after hostOps0 (fun b => m (c, b)))))) := by
  unfold memAt lines
  rw [show List.flatten [hostOps0, hostOps0_1, hostOps0_2, hostOps0_3, hostOps0_4] = (hostOps0 ++ (hostOps0_1 ++ (hostOps0_2 ++ (hostOps0_3 ++ hostOps0_4))) : List (HloOp τ sig (Elt F))) by
    simp only [List.flatten_cons, List.flatten_nil, List.append_nil]]
  simp only [StableHlo.after_append]

/-- The zeros and the running sums stand before the last stretch's third line. -/
theorem sums_upto (V : Valuation τ sig (Elt F)) (a0 : FVec F S2x2048x3072 .f32) (h : V (Proc.devRef .tc main_v342) = cols a0) :
    concatenate S2x2064x512 1 [⟨S2x16x512, (upto hostOps0_4 (after hostOps0_3 V) 2 (Proc.devRef .tc main_v346) : FVec F S2x16x512 .f32)⟩, ⟨S2x2048x512, (upto hostOps0_4 (after hostOps0_3 V) 2 (Proc.devRef .tc main_v345) : FVec F S2x2048x512 .f32)⟩] concatenates_S2x16x512_S2x2048x512_S2x2064x512_d1 = sums a0 := by
  change under (upto hostOps0_4 (after hostOps0_3 V) 2 (Proc.devRef .tc main_v346) : FVec F S2x16x512 .f32) (upto hostOps0_4 (after hostOps0_3 V) 2 (Proc.devRef .tc main_v345) : FVec F S2x2048x512 .f32) = _
  after_reads_simp
  rw [h]
  rfl

set_option maxHeartbeats 4000000 in
/-- What the last stretch leaves of the differences and of their products, from any contents before it. -/
theorem diff_from (V : Valuation τ sig (Elt F)) (a0 : FVec F S2x2048x3072 .f32) (h : V (Proc.devRef .tc main_v342) = cols a0) :
    after hostOps0_4 (after hostOps0_3 V) (Proc.devRef .tc main_v398) = diff a0 := by
  after_reads_simp
  rw [h]
  change joined (upto hostOps0_4 (after hostOps0_3 V) 60 (Proc.devRef .tc main_v360)) (upto hostOps0_4 (after hostOps0_3 V) 60 (Proc.devRef .tc main_v372)) (upto hostOps0_4 (after hostOps0_3 V) 60 (Proc.devRef .tc main_v384)) (upto hostOps0_4 (after hostOps0_3 V) 60 (Proc.devRef .tc main_v396)) (cols a0) = _
  after_reads_simp
  rw [sums_upto V a0 h]
  rfl

set_option maxHeartbeats 4000000 in
theorem mixed_from (V : Valuation τ sig (Elt F)) (a0 : FVec F S2x2048x3072 .f32) (a8 : FVec F S4x128x128 .bf16)
    (h : V (Proc.devRef .tc main_v342) = cols a0) (h8 : V (Proc.devRef .tc main_v343) = extf .f32 a8 bitsLt_bf16_f32) :
    after hostOps0_4 (after hostOps0_3 V) (Proc.devRef .tc main_v402) = through (extf .f32 a8 bitsLt_bf16_f32) (diff a0) := by
  after_reads_simp
  rw [h, h8]
  change through (extf .f32 a8 bitsLt_bf16_f32) (joined (upto hostOps0_4 (after hostOps0_3 V) 60 (Proc.devRef .tc main_v360)) (upto hostOps0_4 (after hostOps0_3 V) 60 (Proc.devRef .tc main_v372)) (upto hostOps0_4 (after hostOps0_3 V) 60 (Proc.devRef .tc main_v384)) (upto hostOps0_4 (after hostOps0_3 V) 60 (Proc.devRef .tc main_v396)) (cols a0)) = _
  after_reads_simp
  rw [sums_upto V a0 h]
  rfl

set_option maxHeartbeats 4000000 in
theorem low_from (V : Valuation τ sig (Elt F)) (a0 : FVec F S2x2048x3072 .f32) (h : V (Proc.devRef .tc main_v342) = cols a0) :
    after hostOps0_4 (after hostOps0_3 V) (Proc.devRef .tc main_v406) = truncf .bf16 (diff a0) bitsLt_bf16_f32 := by
  after_reads_simp
  rw [h]
  change truncf .bf16 (joined (upto hostOps0_4 (after hostOps0_3 V) 60 (Proc.devRef .tc main_v360)) (upto hostOps0_4 (after hostOps0_3 V) 60 (Proc.devRef .tc main_v372)) (upto hostOps0_4 (after hostOps0_3 V) 60 (Proc.devRef .tc main_v384)) (upto hostOps0_4 (after hostOps0_3 V) 60 (Proc.devRef .tc main_v396)) (cols a0)) bitsLt_bf16_f32 = _
  after_reads_simp
  rw [sums_upto V a0 h]
  rfl

set_option maxHeartbeats 4000000 in
theorem cols_at : (after hostOps0_2 (after hostOps0_1 (after hostOps0 (fun b => m (c, b)))) : Valuation τ sig (Elt F)) (Proc.devRef .tc main_v342) = cols (m ((c : Thread nD τ).loc main_arg0)) := by
  after_reads_simp
  rfl
set_option maxHeartbeats 4000000 in
theorem heads_at : (after hostOps0_2 (after hostOps0_1 (after hostOps0 (fun b => m (c, b)))) : Valuation τ sig (Elt F)) (Proc.devRef .tc main_v343) = extf .f32 (m ((c : Thread nD τ).loc main_arg8) : FVec F S4x128x128 .bf16) bitsLt_bf16_f32 := by
  after_reads_simp

theorem low_at : at0 m c main_v406 = truncf .bf16 (diff (m ((c : Thread nD τ).loc main_arg0) : FVec F S2x2048x3072 .f32)) bitsLt_bf16_f32 :=
  (congrFun (memAt_eq m c) _).trans (low_from _ _ (cols_at m c))

theorem mixed_at : at0 m c main_v402 = through (extf .f32 (m ((c : Thread nD τ).loc main_arg8) : FVec F S4x128x128 .bf16) bitsLt_bf16_f32) (diff (m ((c : Thread nD τ).loc main_arg0) : FVec F S2x2048x3072 .f32)) :=
  (congrFun (memAt_eq m c) _).trans (mixed_from _ _ _ (cols_at m c) (heads_at m c))

end Cert.Seq.Pool

end
-- ==== Proof.SeqValue.lean ====
/- What a run of the backward call leaves in its two results: the pool's two gradients, entry by entry. -/
module

public import proofs.«01_k».proof.Proof.SeqFrame
public import proofs.«01_k».proof.Proof.SeqPack
public import proofs.«01_k».proof.Proof.SeqPool

@[expose] public section
set_option maxRecDepth 16384
noncomputable section

namespace Cert.Seq.Value
open Cert.Kernel3Ideal Cert.Kernel3Ideal.Gen
open Idealize.ShloMosaic Idealize.ShloMosaic.TcCoe Idealize.SL.Sem
open scoped BigOperators

/-- The arrays the gradients depend on, from the program's arguments. -/
def made (a0 : FVec Ideal S2x2048x3072 .f32) (a8 : FVec Ideal S4x128x128 .bf16) (a9 : FVec Ideal S1x512 .f32) (a11 : FVec Ideal S2x2048x512 .f32) : Arrs where
  z := a0
  d := Pool.diff a0
  v := Pool.through (extf .f32 a8 bitsLt_bf16_f32) (Pool.diff a0)
  y := a11
  s := a9

namespace Arrs
variable (A : Arrs)
/-- The weights' gradient, the heads' rows one under another, and the scales'. -/
def weights : FVec Ideal S512x128 .f32 := fun x =>
  ∑ b : Fin 2, ∑ r : Fin 2048, A.weight ⟨(x 0).val / 128, by have := (x 0).isLt; have e : S512x128.size 0 = 512 := rfl; omega⟩
    ⟨(x 0).val % 128, by omega⟩ (x 1) b r
def scales : FVec Ideal S4x128 .f32 := fun x => ∑ b : Fin 2, ∑ r : Fin 2048, A.scale (x 0) (x 1) b r
end Arrs

variable (m : (ℓ : Loc nD τ sig) → Buf (Elt Ideal) ℓ) (c : Dev nD)

def args : Arrs := made (m ((c : Thread nD τ).loc main_arg0)) (m ((c : Thread nD τ).loc main_arg8)) (m ((c : Thread nD τ).loc main_arg9)) (m ((c : Thread nD τ).loc main_arg11))

theorem holds : Holds (args m c) (at0 m) c where
  z i := congrFun (at0_arg m c main_arg0 (by decide)) i
  d i := congrFun (Pool.low_at m c) i
  v i := congrFun (Pool.mixed_at m c) i
  y i := congrFun (at0_arg m c main_arg11 (by decide)) i
  s i := congrFun (at0_arg m c main_arg9 (by decide)) i

/-- The pack's array is no other window's, so what the region leaves there is read back. -/
theorem pack_read (V : Valuation τ sig (Elt Ideal)) (A : (w : Fin 20) → Buf (Elt Ideal) ((spec0 w).arr.view.loc (c.tc : Thread nD τ))) :
    Pipeline.withArrays spec0 c V A (Proc.devRef .tc main_v407_1) = A 19 := by
  unfold Pipeline.withArrays
  have h : ∃ w, Proc.devRef .tc (Pipeline.arrRef spec0 w) = Proc.devRef (τ := τ) .tc main_v407_1 := ⟨19, rfl⟩
  rw [dif_pos h]
  suffices ∀ (w : Fin 20) (e : Proc.devRef .tc (Pipeline.arrRef spec0 w) = Proc.devRef (τ := τ) .tc main_v407_1),
      cast (congrArg (fun b' : DevRef τ sig => b'.ty.Contents (Elt Ideal)) e) (A w) = A 19 from this _ h.choose_spec
  intro w e
  obtain rfl : w = 19 := by
    by_contra hw
    exact StableHlo.devRef_ne_of_ne (x := Pipeline.arrRef spec0 w) (y := main_v407_1) ((by decide : ∀ w : Fin 20, w ≠ 19 → Pipeline.arrRef spec0 w ≠ main_v407_1) w hw) e
  rfl

theorem last_weights (V : Valuation τ sig (Elt Ideal)) : StableHlo.after hostOps1 V (Proc.devRef .tc main_v408)
    = extractStridedSlice S512x128 ![2048, 0] (V (Proc.devRef .tc main_v407_1) : FVec Ideal S3072x128 .f32) slices_S3072x128_S512x128_2048_0 := by
  after_reads_simp
theorem last_scales (V : Valuation τ sig (Elt Ideal)) : StableHlo.after hostOps1 V (Proc.devRef .tc main_v409)
    = extractStridedSlice S4x128 ![2624, 0] (V (Proc.devRef .tc main_v407_1) : FVec Ideal S3072x128 .f32) slices_S3072x128_S4x128_2624_0 := by
  after_reads_simp

set_option backward.isDefEq.respectTransparency.types false in
set_option maxHeartbeats 4000000 in
/-- The two results are the pack's rows of the pool. -/
theorem results (r : PUnit.{1} × MemSt nD τ sig (Elt Ideal)) (h : Around.Ends cfgs 0 (dat (at0 m)) (memAt m) hostOps1 r) :
    r.2.mem ((c : Thread nD τ).loc main_v408) = (args m c).weights ∧ r.2.mem ((c : Thread nD τ).loc main_v409) = (args m c).scales := by
  obtain ⟨-, A, hA, hb⟩ := h.1 c
  have e19 := pack_read c (memAt m c) A
  have hw := pack_weights (holds m c) (A 19) (hA 19)
  have hs := pack_scales (holds m c) (A 19) (hA 19)
  constructor
  · rw [hb main_v408 (by decide)]
    refine (last_weights _).trans ?_
    rw [show Pipeline.withArrays (cfgs 0).spec c (memAt m c) A (Proc.devRef .tc main_v407_1) = A 19 from e19]
    funext x
    refine Eq.trans (congrArg (A 19 : FVec Ideal S3072x128 .f32) (funext fun a => Fin.ext ?_)) (hw _ _ _)
    have e0 := (x 0).isLt
    fin_cases a
    · show 2048 + (x 0).val = 2048 + 128 * ((x 0).val / 128) + (x 0).val % 128
      omega
    · show 0 + (x 1).val = (x 1).val
      omega
  · rw [hb main_v409 (by decide)]
    refine (last_scales _).trans ?_
    rw [show Pipeline.withArrays (cfgs 0).spec c (memAt m c) A (Proc.devRef .tc main_v407_1) = A 19 from e19]
    funext x
    refine Eq.trans (congrArg (A 19 : FVec Ideal S3072x128 .f32) (funext fun a => Fin.ext ?_)) (hs (x 0) (x 1))
    fin_cases a
    · show 2624 + (x 0).val = 2624 + (x 0).val
      omega
    · show 0 + (x 1).val = (x 1).val
      omega

/-- A run's results and arguments. -/
theorem run_vals (ρ : Dev nD → PrngReg) : θ_run defs (onTc (τ := τ) (main (F := Ideal))) (s₀ m ρ) (fun r => ∀ c : Dev nD,
    r.2.mem ((c.tc : Thread nD τ).loc main_v408) = (args m c).weights ∧ r.2.mem ((c.tc : Thread nD τ).loc main_v409) = (args m c).scales ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) ∧
    r.2.mem ((c.tc : Thread nD τ).loc main_arg6) = m ((c.tc : Thread nD τ).loc main_arg6) ∧
    r.2.mem ((c.tc : Thread nD τ).loc main_arg7) = m ((c.tc : Thread nD τ).loc main_arg7) ∧
    r.2.mem ((c.tc : Thread nD τ).loc main_arg8) = m ((c.tc : Thread nD τ).loc main_arg8) ∧
    r.2.mem ((c.tc : Thread nD τ).loc main_arg9) = m ((c.tc : Thread nD τ).loc main_arg9) ∧
    r.2.mem ((c.tc : Thread nD τ).loc main_arg10) = m ((c.tc : Thread nD τ).loc main_arg10) ∧
    r.2.mem ((c.tc : Thread nD τ).loc main_arg11) = m ((c.tc : Thread nD τ).loc main_arg11) ∧
    r.2.mem ((c.tc : Thread nD τ).loc main_arg12) = m ((c.tc : Thread nD τ).loc main_arg12) ∧
    r.2.mem ((c.tc : Thread nD τ).loc main_arg13) = m ((c.tc : Thread nD τ).loc main_arg13)) :=
  (θ_run defs _ _).mono (fun r h c => ⟨(results m c r h).1, (results m c r h).2, kept_all m r h c⟩) (ends_at m ρ)

end Cert.Seq.Value

end
-- ==== Proof.SeqReference.lean ====
/- What the host's gradient of the pool leaves in its two results: the same sums over all positions. -/
module

public import proofs.«01_k».proof.Proof.SeqValue
public import proofs.«01_k».proof.Proof.Gen.Reference3Ideal.Run

@[expose] public section
set_option maxRecDepth 65536
noncomputable section

namespace Cert.Reference3Ideal.SeqV
open Cert.Reference3Ideal Cert.Reference3Ideal.Gen Cert.Reference3Ideal.Value
open Idealize.ShloMosaic Idealize.ShloMosaic.TcCoe Idealize.SL.Sem
open Cert.Seq.Value (Arrs made col gateCol)
open scoped BigOperators

theorem ix2_all {p q : ℕ} (x : (⟨2, ![p, q]⟩ : Shape).Idx) : ∃ i j, x = ix2 i j :=
  ⟨x 0, x 1, funext fun a => match a with | ⟨0, _⟩ => rfl | ⟨1, _⟩ => rfl⟩

/-- The cotangent through the gate, as the host writes it. -/
def gated (a0 : FVec Ideal S2x2048x3072 .f32) (a11 : FVec Ideal S2x2048x512 .f32) : FVec Ideal S2x2048x512 .f32 :=
  mulf a11 (mulf (extractStridedSlice S2x2048x512 ![0, 0, 2560] a0 slices_S2x2048x3072_S2x2048x512_0_0_2560)
    (Host.divf (broadcastInDim S2x2048x512 ![] bcast_S_S2x2048x512 (constant S_ .f32 0x3F800000#32)) (addf (broadcastInDim S2x2048x512 ![] bcast_S_S2x2048x512 (constant S_ .f32 0x3F800000#32))
      (Host.exp (Host.negf (extractStridedSlice S2x2048x512 ![0, 0, 2560] a0 slices_S2x2048x3072_S2x2048x512_0_0_2560))))))

/-- The weights' gradient over the pool's differences, and the scales' over what the heads' weights make of them. -/
def weights (g : FVec Ideal S2x2048x512 .f32) (s : FVec Ideal S1x512 .f32) (d : FVec Ideal S2x2048x512 .f32) : FVec Ideal S512x128 .f32 :=
  shapeCast _ (transpose S4x128x128 [0, 2, 1] (Host.dotGeneral (F := Ideal) (φ₁ := .f32) (φ₂ := .f32) dot_S4x128x2x2048_S2x2048x4x128_S4x128x128_23_01_1_3_0_2 none
    (transpose S4x128x2x2048 [2, 3, 0, 1] (shapeCast S2x2048x4x128 (mulf g (broadcastInDim S2x2048x512 ![0, 1, 2] bcast_S1x1x512_S2x2048x512_0_1_2
      (broadcastInDim S1x1x512 ![2] bcast_S512_S1x1x512_2 (shapeCast S512 s shapeCasts_S1x512_S512)))) shapeCasts_S2x2048x512_S2x2048x4x128) transposes_S2x2048x4x128_S4x128x2x2048_2_3_0_1)
    (shapeCast S2x2048x4x128 d shapeCasts_S2x2048x512_S2x2048x4x128)) transposes_S4x128x128_S4x128x128_0_2_1) shapeCasts_S4x128x128_S512x128
def scales (g v : FVec Ideal S2x2048x512 .f32) : FVec Ideal S4x128 .f32 :=
  shapeCast _ (Host.reduceAdd (shapeCast S1x1x512 (Host.reduceAdd (mulf v g) (constant S_ .f32 0x00000000#32) reducesTo_S2x2048x512_S512_d0_1 h_S_) shapeCasts_S512_S1x1x512)
    (constant S_ .f32 0x00000000#32) reducesTo_S1x1x512_S512_d0_1 h_S_) shapeCasts_S512_S4x128

theorem gated_at (a0 : FVec Ideal S2x2048x3072 .f32) (a8 : FVec Ideal S4x128x128 .bf16) (a9 : FVec Ideal S1x512 .f32) (a11 : FVec Ideal S2x2048x512 .f32)
    (b : Fin 2) (r : Fin 2048) (k : Fin 512) : gated a0 a11 (ix3 b r k) = (made a0 a8 a9 a11).dy b r k := by
  show _ = a11 (ix3 b r k) * (a0 (ix3 b r (gateCol k)) * HeadRow.sig (a0 (ix3 b r (gateCol k))))
  unfold HeadRow.sig gateCol
  pointwise [gated]

/-- A sum over the two leading axes of three, by its last coordinate. -/
theorem sum_leading {p q n : ℕ} (h : (⟨3, ![p, q, n]⟩ : Shape).ReducesTo [0, 1] ⟨1, ![n]⟩) (v : (⟨3, ![p, q, n]⟩ : Shape).Idx → EReal) (init : EReal) (k : Fin n) :
    Ideal.hostReduceAdd h v init (ix1 k) = init + ∑ b : Fin p, ∑ r : Fin q, v (ix3 b r k) := by
  refine congrArg (init + ·) ?_
  refine (Finset.sum_filter_eq_sum_of_fiber _ (fun x : Fin p × Fin q => (ix3 x.1 x.2 k : (⟨3, ![p, q, n]⟩ : Shape).Idx))
    (fun _ _ e => Prod.ext (congrFun e 0) (congrFun e 1)) (fun i => ⟨fun e => ⟨(i 0, i 1), ?_⟩, ?_⟩) v).trans ?_
  · funext a
    match a with
    | ⟨0, _⟩ => rfl
    | ⟨1, _⟩ => rfl
    | ⟨2, _⟩ => exact Fin.ext (congrArg Fin.val (congrFun e 0)).symm
  · rintro ⟨x, rfl⟩
    funext a
    match a with
    | ⟨0, _⟩ => exact Fin.ext rfl
  · simp only [Fintype.sum_prod_type]

theorem weights_at (A : Arrs) (g : FVec Ideal S2x2048x512 .f32) (hg : ∀ b r k, g (ix3 b r k) = A.dy b r k) (i : Fin 512) (j : Fin 128) :
    weights g A.s A.d (ix2 i j) = A.weights (ix2 i j) := by
  have e : A.weights (ix2 i j) = ∑ b : Fin 2, ∑ r : Fin 2048, A.weight ⟨i.val / 128, by omega⟩ ⟨i.val % 128, by omega⟩ j b r := rfl
  rw [e]
  unfold Arrs.weight
  simp only [← hg]
  pointwise [weights, col]
  refine Finset.sum_congr rfl fun b _ => Finset.sum_congr rfl fun r _ => ?_
  refine (mul_comm (G := EReal) _ _).trans ?_
  have hi : (⟨128 * (i.val / 128) + i.val % 128, by omega⟩ : Fin 512) = i := Fin.ext (Nat.div_add_mod _ _)
  simp only [Nat.mul_comm _ 128, hi]

theorem scales_at (A : Arrs) (g : FVec Ideal S2x2048x512 .f32) (hg : ∀ b r k, g (ix3 b r k) = A.dy b r k) (i : Fin 4) (j : Fin 128) :
    scales g A.v (ix2 i j) = A.scales (ix2 i j) := by
  have e : A.scales (ix2 i j) = ∑ b : Fin 2, ∑ r : Fin 2048, A.scale i j b r := rfl
  rw [e]
  unfold Arrs.scale
  simp only [← hg]
  pointwise [scales, col]
  refine (sum_leading _ _ _ _).trans ?_
  pointwise
  simp only [Fin.sum_univ_one, Nat.mul_comm 128]
  refine (sum_leading _ _ _ _).trans ((zero_add (M := EReal) _).trans ?_)
  exact Finset.sum_congr rfl fun b _ => Finset.sum_congr rfl fun r _ => mul_comm (G := EReal) _ _

variable (m : (ℓ : Loc nD τ sig) → Buf (Elt Ideal) ℓ) (c : Dev nD)

theorem weights_text : res_main_v78 m c = weights (gated (m ((c.tc : Thread nD τ).loc main_arg0)) (m ((c.tc : Thread nD τ).loc main_arg11))) (m ((c.tc : Thread nD τ).loc main_arg9)) (Cert.Seq.Pool.diff ((m ((c.tc : Thread nD τ).loc main_arg0)) : FVec Ideal S2x2048x3072 .f32)) := rfl
theorem scales_text : res_main_v79 m c = scales (gated (m ((c.tc : Thread nD τ).loc main_arg0)) (m ((c.tc : Thread nD τ).loc main_arg11)))
    (Cert.Seq.Pool.through (extf .f32 ((m ((c.tc : Thread nD τ).loc main_arg8)) : FVec Ideal S4x128x128 .bf16) bitsLt_bf16_f32) (Cert.Seq.Pool.diff ((m ((c.tc : Thread nD τ).loc main_arg0)) : FVec Ideal S2x2048x3072 .f32))) := rfl

/-- The host's gradient ends with the two arrays of sums, its arguments kept. -/
theorem weights_end : res_main_v78 m c = (made (m ((c.tc : Thread nD τ).loc main_arg0)) (m ((c.tc : Thread nD τ).loc main_arg8)) (m ((c.tc : Thread nD τ).loc main_arg9)) (m ((c.tc : Thread nD τ).loc main_arg11))).weights := by
  rw [weights_text]
  funext x
  obtain ⟨i, j, rfl⟩ := ix2_all x
  exact weights_at _ _ (gated_at _ _ _ _) i j
theorem scales_end : res_main_v79 m c = (made (m ((c.tc : Thread nD τ).loc main_arg0)) (m ((c.tc : Thread nD τ).loc main_arg8)) (m ((c.tc : Thread nD τ).loc main_arg9)) (m ((c.tc : Thread nD τ).loc main_arg11))).scales := by
  rw [scales_text]
  funext x
  obtain ⟨i, j, rfl⟩ := ix2_all x
  exact scales_at _ _ (gated_at _ _ _ _) i j

end Cert.Reference3Ideal.SeqV

end
-- ==== Proof.PreValue.lean ====
/- The first norm: every row is scaled by its inverse root mean square and weighted, and the result is kept both as it is and with its
   rows turned into columns, by the kernel's sixteen tiles and by the host alike. -/
module

public import proofs.«01_k».proof.Defs
public import proofs.«01_k».proof.Proof.Gen.Kernel4Ideal.Value
public import proofs.«01_k».proof.Proof.Gen.Reference4Ideal.Run
public import proofs.«01_k».proof.Proof.RmsGrad
public import Idealize.ShloMosaic.Lib.Pipeline.ValueKit
public import Idealize.ShloMosaic.Lib.Pipeline.ReadBack
public import Idealize.ShloMosaic.Lib.Pointwise
public import Idealize.ShloMosaic.Lib.VecWindow

@[expose] public section
set_option maxRecDepth 16384
noncomputable section

namespace Cert.Pre
open Idealize.ShloMosaic Idealize.ShloMosaic.TcCoe Idealize.SL.Sem
open Cert.Rms
open scoped BigOperators

/-- One entry of the normalized and weighted array. -/
def entry (x : FVec Ideal Cert.Kernel4Ideal.S2x2048x1024 .f32) (g : FVec Ideal Cert.Kernel4Ideal.S1x1024 .f32) (b : Fin 2) (r : Fin 2048) (k : Fin 1024) : EReal :=
  x (ix3 b r k) * scale (fun l : Fin 1024 => x (ix3 b r l)) * g (ix2 0 k)

/-- The array, and the same with rows and columns exchanged. -/
def byRow (x : FVec Ideal Cert.Kernel4Ideal.S2x2048x1024 .f32) (g : FVec Ideal Cert.Kernel4Ideal.S1x1024 .f32) : FVec Ideal Cert.Kernel4Ideal.S2x2048x1024 .bf16 :=
  fun i => entry x g (i 0) (i 1) (i 2)
def byCol (x : FVec Ideal Cert.Kernel4Ideal.S2x2048x1024 .f32) (g : FVec Ideal Cert.Kernel4Ideal.S1x1024 .f32) : FVec Ideal Cert.Kernel4Ideal.S2x1024x2048 .bf16 :=
  fun i => entry x g (i 0) (i 2) (i 1)

section Tiles
open Cert.Kernel4Ideal Cert.Kernel4Ideal.Gen Cert.Kernel4Ideal.Value
variable (m : (ℓ : Loc nD τ sig) → Buf (Elt Ideal) ℓ) (ρ : Dev nD → PrngReg)

abbrev argX (c : Dev nD) : FVec Ideal S2x2048x1024 .f32 := m ((c : Thread nD τ).loc main_arg0)
abbrev argG (c : Dev nD) : FVec Ideal S1x1024 .f32 := m ((c : Thread nD τ).loc main_arg1)

theorem idx : ∀ t : Fin cfg0.N, win0_0.index t = ![t.val / 8, t.val % 8, 0] ∧ win0_1.index t = ![0, 0] ∧ win0_2.index t = ![t.val / 8, t.val % 8, 0]
    ∧ win0_3.index t = ![t.val / 8, 0, t.val % 8] :=
  (by decide +kernel : ∀ t : Fin grid0.N, win0_0.index t = ![t.val / 8, t.val % 8, 0] ∧ win0_1.index t = ![0, 0] ∧ win0_2.index t = ![t.val / 8, t.val % 8, 0]
    ∧ win0_3.index t = ![t.val / 8, 0, t.val % 8])

/-- The example and the row in it that a tile's row is. -/
def ex (t : Fin cfg0.N) : Fin 2 := ⟨t.val / 8, by have := lt_of_lt_of_eq t.isLt N_0; omega⟩
def row (t : Fin cfg0.N) (r : Fin 256) : Fin 2048 := ⟨t.val % 8 * 256 + r.val, by omega⟩

theorem tile_x (c : Dev nD) (t : Fin cfg0.N) (r : Fin 256) (k : Fin 1024) : iblk m c 0 t (ix3 0 r k) = argX m c (ix3 (ex t) (row t r) k) := by
  blk_ext [iblk, V, idx t, row, ex]
theorem tile_g (c : Dev nD) (t : Fin cfg0.N) (k : Fin 1024) : iblk m c 1 t (ix2 0 k) = argG m c (ix2 0 k) := by
  blk_ext [iblk, V, idx t]

theorem pay_row (x : Vec Ideal S1x256x1024 .f32) (g : Vec Ideal S1x1024 .f32) (r : Fin 256) (k : Fin 1024) :
    k0_pay2 x g (ix3 0 r k) = x (ix3 0 r k) * scale (fun l : Fin 1024 => x (ix3 0 r l)) * g (ix2 0 k) := by
  unfold scale ms
  pointwise [k0_pay2, k0_pay1]
theorem pay_col (x : Vec Ideal S1x256x1024 .f32) (g : Vec Ideal S1x1024 .f32) (r : Fin 256) (k : Fin 1024) :
    k0_pay3 x g (ix3 0 k r) = x (ix3 0 r k) * scale (fun l : Fin 1024 => x (ix3 0 r l)) * g (ix2 0 k) := by
  unfold scale ms
  pointwise [k0_pay3, k0_pay1]

theorem rows_end (c : Dev nD) : (dats m 0 c).arrAt 2 cfg0.N = byRow (argX m c) (argG m c) := by
  refine (dats m 0 c).arrAt_eq_of_covers 2 _ (by decide +kernel) fun t hf y => ?_
  blk_simp
  rw [after0_2]
  frame_out
  idx_vars y
  obtain rfl := Fin.fin_one_eq_zero y0
  have e : ((win0_2.blk t).view.emb (ix3 0 y1 y2) : S2x2048x1024.Idx) = ix3 (ex t) (row t y1) y2 := by blk_ext [idx t, row, ex]
  rw [e, pay_row]
  simp only [tile_x, tile_g]
  rfl

theorem cols_end (c : Dev nD) : (dats m 0 c).arrAt 3 cfg0.N = byCol (argX m c) (argG m c) := by
  refine (dats m 0 c).arrAt_eq_of_covers 3 _ (by decide +kernel) fun t hf y => ?_
  blk_simp
  rw [after0_3]
  frame_out
  idx_vars y
  obtain rfl := Fin.fin_one_eq_zero y0
  have e : ((win0_3.blk t).view.emb (ix3 0 y1 y2) : S2x1024x2048.Idx) = ix3 (ex t) y1 (row t y2) := by blk_ext [idx t, row, ex]
  rw [e, pay_col]
  simp only [tile_x, tile_g]
  rfl

/-- What the tiles leave, the arguments as they were. -/
theorem run : θ_run defs (onTc (τ := τ) (main (F := Ideal))) ⟨m, fun _ => 0, ρ⟩ fun r => ∀ c : Dev nD,
      r.2.mem ((c : Thread nD τ).loc main_v0_0) = byRow (argX m c) (argG m c)
      ∧ r.2.mem ((c : Thread nD τ).loc main_v0_1) = byCol (argX m c) (argG m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (rows_end m c), (h c).2.1.trans (cols_end m c), (h c).2.2⟩) (run_blocks m ρ)
end Tiles

section Host
open Cert.Reference4Ideal Cert.Reference4Ideal.Gen
variable (m : (ℓ : Loc nD τ sig) → Buf (Elt Ideal) ℓ) (ρ : Dev nD → PrngReg)

/-- What the host leaves is the same two arrays. -/
theorem host : θ_run defs (onTc (τ := τ) (main (F := Ideal))) ⟨m, fun _ => 0, ρ⟩ fun r => ∀ c : Dev nD,
      r.2.mem ((c : Thread nD τ).loc main_v14) = byRow (m ((c : Thread nD τ).loc main_arg0)) (m ((c : Thread nD τ).loc main_arg1))
      ∧ r.2.mem ((c : Thread nD τ).loc main_v16) = byCol (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    obtain ⟨p, q, k⟩ := h c
    refine ⟨p.trans ?_, q.trans ?_, k⟩
    · funext y
      unfold byRow entry scale ms
      idx_vars y
      pointwise
    · funext y
      unfold byCol entry scale ms
      idx_vars y
      pointwise) (Value.run m ρ)
end Host

end Cert.Pre

end
-- ==== Proof.lean ====
/- The claims of four calls, each with both its programs' frames, the reference's, and that the kernel and the host's own
   program end equal in exact arithmetic: the gradient through the normalization and its projection, the output layers with the
   loss, the sequence layers' gradient in the pool's weights and scales, and the normalization the forward step starts with. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Loops
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Loops
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.AdamTable
public import proofs.«01_k».proof.Proof.AdamValue
public import proofs.«01_k».proof.Proof.DxKernel
public import proofs.«01_k».proof.Proof.DxReference
public import proofs.«01_k».proof.Proof.HeadKernel
public import proofs.«01_k».proof.Proof.HeadReference
public import proofs.«01_k».proof.Proof.SeqFrame
public import proofs.«01_k».proof.Proof.SeqValue
public import proofs.«01_k».proof.Proof.SeqReference
public import proofs.«01_k».proof.Proof.PreValue
public import Idealize.ShloMosaic.Adequacy
public import Idealize.ShloMosaic.Init

@[expose] public section

set_option maxRecDepth 65536

noncomputable section

namespace Cert.Proof

open Idealize.ShloMosaic Idealize.SL.Sem Cert.Kernel

/-- The reference declares no semaphore, and its run keeps the arguments. -/
theorem reference_frame : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.DxV.run_vals m ρ)

/-- Agreeing arguments have one gradient: what the reference ends with is what the kernel ends with. -/
theorem same_values : Cert.algebraic_KernelIdeal_ReferenceIdeal := by
  intro m ρ m' ρ' _ hag
  refine ⟨Cert.KernelIdeal.DxV.gx m, Cert.KernelIdeal.DxV.gg m, Cert.KernelIdeal.DxV.run m ρ, ?_⟩
  refine (θ_run Cert.ReferenceIdeal.defs _ _).mono (fun r h c => ⟨(h c).1.trans ?_, (h c).2.1.trans ?_, (h c).2.2⟩)
    (Cert.ReferenceIdeal.DxV.run_vals m' ρ')
  · obtain ⟨h0, h1, h2, h3, h4⟩ := hag c
    unfold Cert.ReferenceIdeal.DxV.gx Cert.ReferenceIdeal.DxV.aDz Cert.ReferenceIdeal.DxV.aX Cert.ReferenceIdeal.DxV.aDx
      Cert.ReferenceIdeal.DxV.aW Cert.ReferenceIdeal.DxV.aG
    rw [h0, h1, h2, h3, h4]
    rfl
  · obtain ⟨h0, h1, -, h3, -⟩ := hag c
    unfold Cert.ReferenceIdeal.DxV.gg Cert.ReferenceIdeal.DxV.aDz Cert.ReferenceIdeal.DxV.aX Cert.ReferenceIdeal.DxV.aW
    rw [h0, h1, h3]
    rfl

/-- The two printed texts of the output layers' kernel are one program, so a run of the one is a run of the other. -/
theorem head_text : Cert.quiescent_Kernel2 = (∀ (m : (ℓ : Loc Cert.Kernel2Ideal.nD Cert.Kernel2Ideal.τ Cert.Kernel2Ideal.sig) → Buf (Elt Bits) ℓ)
    (ρ : Dev Cert.Kernel2Ideal.nD → PrngReg), True →
    θ_run (Cert.Kernel2Ideal.defs (F := Bits)) (onTc (τ := Cert.Kernel2Ideal.τ) (Cert.Kernel2Ideal.main (F := Bits))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0) ∧
      r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1) ∧
      r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2) ∧
      r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3) ∧
      r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4) ∧
      r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5) ∧
      r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6) ∧
      r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7) ∧
      r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8) ∧
      r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9) ∧
      r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10) ∧
      r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11) ∧
      r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12) ∧
      r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)) ∧ r.2.sem = fun _ => 0)) := by
  sl_kernel_rfl

theorem head_frame : Cert.quiescent_Kernel2 := head_text.mpr fun m ρ _ => Cert.Head.frame_holds m ρ

theorem head_reference_frame : Cert.quiescent_Reference2Ideal := fun m ρ _ =>
  (θ_run Cert.Reference2Ideal.defs _ _).mono
    (fun r h => ⟨fun c => (h c).2, sem_eq_zero_of_no_sems (by decide) r.2⟩)
    (Cert.Reference2Ideal.HeadV.run_vals m ρ)

/-- Agreeing arguments are the same arrays to both programs. -/
theorem head_args (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (h8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8))
    (h9 : m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9))
    (h10 : m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10))
    (h11 : m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11))
    (h12 : m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12))
    (h13 : m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) :
    Cert.Reference2Ideal.HeadV.args (StableHlo.launchContents m' c) = Cert.Head.args m c := by
  unfold Cert.Reference2Ideal.HeadV.args Cert.Head.args
  congr 1

theorem head_values : Cert.algebraic_Kernel2Ideal_Reference2Ideal := by
  intro m ρ m' ρ' _ hag
  refine ⟨fun c => (Cert.Head.args m c).outYa, fun c => (Cert.Head.args m c).outYb, fun c => (Cert.Head.args m c).outGates,
    fun c => (Cert.Head.args m c).outX, fun c => HeadRow.byRows (Cert.Head.args m c).sumPl, fun c => HeadRow.byCols (Cert.Head.args m c).sumPp,
    fun c => HeadRow.byRows (Cert.Head.args m c).sumOut, fun c => HeadRow.byRows (Cert.Head.args m c).sumPg,
    fun c => HeadRow.byCols (Cert.Head.args m c).sumPe, fun c => (Cert.Head.args m c).outPack, Cert.Head.run_vals m ρ, ?_⟩
  refine (θ_run Cert.Reference2Ideal.defs _ _).mono (fun r h c => ?_) (Cert.Reference2Ideal.HeadV.run_vals m' ρ')
  obtain ⟨h0, h1, h2, h3, h4, h5, h6, h7, h8, h9, h10, h11, h12, h13⟩ := hag c
  have e := head_args m m' c h0 h1 h2 h3 h4 h5 h6 h7 h8 h9 h10 h11 h12 h13
  obtain ⟨⟨r0, r1, r2, r3, r4, r5, r6, r7, r8, r9⟩, hr⟩ := h c
  rw [e] at r0 r1 r2 r3 r4 r5 r6 r7 r8 r9
  exact ⟨r0, r1, r2, r3, r4, r5, r6, r7, r8, r9, hr⟩

/-- The two printed texts of the sequence layers' kernel are one program too. -/
theorem seq_text : Cert.quiescent_Kernel3 = (∀ (m : (ℓ : Loc Cert.Kernel3Ideal.nD Cert.Kernel3Ideal.τ Cert.Kernel3Ideal.sig) → Buf (Elt Bits) ℓ)
    (ρ : Dev Cert.Kernel3Ideal.nD → PrngReg), True →
    θ_run (Cert.Kernel3Ideal.defs (F := Bits)) (onTc (τ := Cert.Kernel3Ideal.τ) (Cert.Kernel3Ideal.main (F := Bits))) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0) ∧
      r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1) ∧
      r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2) ∧
      r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3) ∧
      r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4) ∧
      r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5) ∧
      r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6) ∧
      r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7) ∧
      r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8) ∧
      r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9) ∧
      r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10) ∧
      r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11) ∧
      r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12) ∧
      r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)) ∧ r.2.sem = fun _ => 0)) := by
  sl_kernel_rfl

theorem seq_frame : Cert.quiescent_Kernel3 := seq_text.mpr fun m ρ _ => Cert.Seq.frame_holds m ρ

theorem seq_reference_frame : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run m ρ)

theorem seq_values : Cert.algebraic_Kernel3Ideal_Reference3Ideal := by
  intro m ρ m' ρ' _ hag
  refine ⟨fun c => (Cert.Seq.Value.args m c).weights, fun c => (Cert.Seq.Value.args m c).scales, Cert.Seq.Value.run_vals m ρ, ?_⟩
  refine (θ_run Cert.Reference3Ideal.defs _ _).mono (fun r h c => ?_) (Cert.Reference3Ideal.Value.run m' ρ')
  obtain ⟨h0, -, -, -, -, -, -, -, h8, h9, -, h11, -, -⟩ := hag c
  obtain ⟨r0, r1, hr⟩ := h c
  rw [Cert.Reference3Ideal.SeqV.weights_end, h0, h8, h9, h11] at r0
  rw [Cert.Reference3Ideal.SeqV.scales_end, h0, h8, h9, h11] at r1
  exact ⟨r0, r1, hr⟩

theorem pre_reference_frame : Cert.quiescent_Reference4Ideal := fun m ρ _ =>
  (θ_run Cert.Reference4Ideal.defs _ _).mono
    (fun r h => ⟨fun c => (h c).2.2, sem_eq_zero_of_no_sems (by decide) r.2⟩)
    (Cert.Pre.host m ρ)

theorem pre_values : Cert.algebraic_Kernel4Ideal_Reference4Ideal := by
  intro m ρ m' ρ' _ hag
  refine ⟨fun c => Cert.Pre.byRow (Cert.Pre.argX m c) (Cert.Pre.argG m c), fun c => Cert.Pre.byCol (Cert.Pre.argX m c) (Cert.Pre.argG m c), Cert.Pre.run m ρ, ?_⟩
  refine (θ_run Cert.Reference4Ideal.defs _ _).mono (fun r h c => ?_) (Cert.Pre.host m' ρ')
  obtain ⟨h0, h1⟩ := hag c
  obtain ⟨r0, r1, hr⟩ := h c
  rw [h0, h1] at r0 r1
  exact ⟨r0, r1, hr⟩

theorem adam_reference_frame : Cert.quiescent_Reference5Ideal := fun m ρ _ =>
  (θ_run Cert.Reference5Ideal.defs _ _).mono
    (fun r h => ⟨fun c => (h c).2.2.2.2, sem_eq_zero_of_no_sems (by decide) r.2⟩)
    (Cert.Adam.host m ρ)

theorem adam_values : Cert.algebraic_Kernel5Ideal_Reference5Ideal := by
  intro m ρ m' ρ' _ hag
  refine ⟨fun c => Cert.Adam.grads (Cert.Adam.argG m c) (Cert.Adam.argS m c) (Cert.Adam.argC m c) (Cert.Adam.argW m c) (Cert.Adam.argM m c) (Cert.Adam.argV m c), fun c => Cert.Adam.updates (Cert.Adam.argG m c) (Cert.Adam.argS m c) (Cert.Adam.argC m c) (Cert.Adam.argW m c) (Cert.Adam.argM m c) (Cert.Adam.argV m c),
    fun c => Cert.Adam.firsts (Cert.Adam.argG m c) (Cert.Adam.argS m c) (Cert.Adam.argC m c) (Cert.Adam.argW m c) (Cert.Adam.argM m c) (Cert.Adam.argV m c), fun c => Cert.Adam.seconds (Cert.Adam.argG m c) (Cert.Adam.argS m c) (Cert.Adam.argC m c) (Cert.Adam.argW m c) (Cert.Adam.argM m c) (Cert.Adam.argV m c), Cert.Adam.run m ρ, ?_⟩
  refine (θ_run Cert.Reference5Ideal.defs _ _).mono (fun r h c => ?_) (Cert.Adam.host m' ρ')
  obtain ⟨h0, h1, h2, h3, h4, h5⟩ := hag c
  obtain ⟨r0, r1, r2, r3, hr⟩ := h c
  rw [h0, h1, h2, h3, h4, h5] at r0 r1 r2 r3
  exact ⟨r0, r1, r2, r3, hr⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  fun m ρ _ => Cert.Kernel.Gen.frame m ρ, fun m ρ _ => Cert.KernelIdeal.Gen.frame m ρ, reference_frame,
  head_frame, fun m ρ _ => Cert.Head.frame_holds m ρ, head_reference_frame,
  seq_frame, fun m ρ _ => Cert.Seq.frame_holds m ρ, seq_reference_frame,
  fun m ρ _ => Cert.Kernel4.Gen.frame m ρ, fun m ρ _ => Cert.Kernel4Ideal.Gen.frame m ρ, pre_reference_frame,
  fun m ρ _ => Cert.Kernel5.Gen.frame m ρ (Cert.Kernel5.Adam.ok m), fun m ρ _ => Cert.Kernel5Ideal.Gen.frame m ρ (Cert.Kernel5Ideal.Adam.ok m), adam_reference_frame,
  trivial, same_values, trivial, head_values, trivial, seq_values, trivial, pre_values, trivial, adam_values⟩

end Cert.Proof

end
